-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_nonnegative [hPre_weights_nonnegative : Cert.Pre_weights_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_weights_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_weights_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_nonnegative [hPre_weights_nonnegative : Cert.Pre_weights_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_weights_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_weights_nonnegative [hKernelIdeal : Cert.KernelIdeal.Facts] [hPre_weights_nonnegative : Cert.Pre_weights_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_weights_nonnegative [hReferenceIdeal : Cert.ReferenceIdeal.Facts] [hPre_weights_nonnegative : Cert.Pre_weights_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11))
      ∧ r.2.sem = fun _ => 0)

def preserves_Kernel_KernelIdeal : Prop :=
  True

def algebraic_KernelIdeal_ReferenceIdeal_pre_weights_nonnegative [hKernelIdeal : Cert.KernelIdeal.Facts] [hReferenceIdeal : Cert.ReferenceIdeal.Facts] [hPre_weights_nonnegative : Cert.Pre_weights_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v29) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v44) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v12)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v41) = v0 c
          ∧ r.2.mem ((c.tc : Thread Cert.Reference8Ideal.nD Cert.Reference8Ideal.τ).loc Cert.Reference8Ideal.main_v43) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)) →
    ∃ (v0 : (c : Dev Cert.Kernel9Ideal.nD) → Buf (Elt Ideal) ((c.tc : Thread Cert.Kernel9Ideal.nD Cert.Kernel9Ideal.τ).loc Cert.Kernel9Ideal.main_v23_0)) (v1 : (c : Dev Cert.Kernel9Ideal.nD) → Buf (Elt Ideal) ((c.tc : Thread Cert.Kernel9Ideal.nD Cert.Kernel9Ideal.τ).loc Cert.Kernel9Ideal.main_v23_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v23_0) = v0 c
          ∧ r.2.mem ((c.tc : Thread Cert.Kernel9Ideal.nD Cert.Kernel9Ideal.τ).loc Cert.Kernel9Ideal.main_v23_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v76) = v0 c
          ∧ r.2.mem ((c.tc : Thread Cert.Reference9Ideal.nD Cert.Reference9Ideal.τ).loc Cert.Reference9Ideal.main_v78) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_weights_nonnegative : Cert.Pre_weights_nonnegative.Facts),
    quiescent_Kernel (hKernel := hKernel)
    ∧ quiescent_KernelIdeal (hKernelIdeal := hKernelIdeal)
    ∧ quiescent_KernelIdeal_pre_weights_nonnegative (hKernelIdeal := hKernelIdeal) (hPre_weights_nonnegative := hPre_weights_nonnegative)
    ∧ quiescent_ReferenceIdeal (hReferenceIdeal := hReferenceIdeal)
    ∧ quiescent_ReferenceIdeal_pre_weights_nonnegative (hReferenceIdeal := hReferenceIdeal) (hPre_weights_nonnegative := hPre_weights_nonnegative)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_weights_nonnegative (hKernelIdeal := hKernelIdeal) (hReferenceIdeal := hReferenceIdeal) (hPre_weights_nonnegative := hPre_weights_nonnegative)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_weights_nonnegative.lean ====
abbrev S32768x1024 : Shape := ⟨2, ![32768, 1024]⟩
abbrev S32768x128 : Shape := ⟨2, ![32768, 128]⟩
abbrev S8x1024x7168 : Shape := ⟨3, ![8, 1024, 7168]⟩
abbrev S8x3584x1024 : Shape := ⟨3, ![8, 3584, 1024]⟩
abbrev S32768x8 : Shape := ⟨2, ![32768, 8]⟩
abbrev S_ : Shape := ⟨0, ![]⟩

class Facts : Prop where
  slices_S32768x128_S32768x8_0_0 : S32768x128.Slices ![0, 0] S32768x8
  bcast_S_S32768x8 : S_.BroadcastsInDim S32768x8 (![] : Fin 0 → Fin S32768x8.rank)

variable [Facts]

def fn {F : FTy → Type} [FloatOps F] (main_arg0 : FVec F S32768x1024 .bf16) (main_arg1 : FVec F S32768x128 .f32) (main_arg2 : FVec F S8x1024x7168 .f32) (main_arg3 : FVec F S8x3584x1024 .f32) : IVec S32768x8 1 × IVec S32768x8 1 :=
  let main_v0 : FVec F S32768x8 .f32 := (extractStridedSlice S32768x8 ![0, 0] · slices_S32768x128_S32768x8_0_0) main_arg1
  let main_cst : FVec F S_ .f32 := constant S_ .f32 0x00000000#32
  let main_v1 : FVec F S32768x8 .f32 := broadcastInDim S32768x8 ![] bcast_S_S32768x8 main_cst
  let main_v2 : IVec S32768x8 1 := cmpf .oge main_v0 main_v1
  let main_v3 : FVec F S32768x8 .f32 := (extractStridedSlice S32768x8 ![0, 0] · slices_S32768x128_S32768x8_0_0) main_arg1
  let main_cst_0 : FVec F S_ .f32 := constant S_ .f32 0x7F800000#32
  let main_v4 : FVec F S32768x8 .f32 := broadcastInDim S32768x8 ![] bcast_S_S32768x8 main_cst_0
  let main_v5 : IVec S32768x8 1 := cmpf .olt main_v3 main_v4
  (main_v2, main_v5)
-- ==== Kernel.lean ====
abbrev S32768x1024 : Shape := ⟨2, ![32768, 1024]⟩
abbrev S32768x128 : Shape := ⟨2, ![32768, 128]⟩
abbrev S8x1024x7168 : Shape := ⟨3, ![8, 1024, 7168]⟩
abbrev S8x3584x1024 : Shape := ⟨3, ![8, 3584, 1024]⟩
abbrev S32768x8 : Shape := ⟨2, ![32768, 8]⟩
abbrev S_ : Shape := ⟨0, ![]⟩
abbrev S32x1024x8 : Shape := ⟨3, ![32, 1024, 8]⟩
abbrev S32x8 : Shape := ⟨2, ![32, 8]⟩
abbrev S32x8x1024 : Shape := ⟨3, ![32, 8, 1024]⟩
abbrev S1024x1024 : Shape := ⟨2, ![1024, 1024]⟩
abbrev S1024x128 : Shape := ⟨2, ![1024, 128]⟩
abbrev S1x8x1024 : Shape := ⟨3, ![1, 8, 1024]⟩
abbrev S1x1024x1792 : Shape := ⟨3, ![1, 1024, 1792]⟩
abbrev S1x1792x1024 : Shape := ⟨3, ![1, 1792, 1024]⟩
abbrev S1x1 : Shape := ⟨2, ![1, 1]⟩
abbrev S256x128 : Shape := ⟨2, ![256, 128]⟩
abbrev S1x1x1024 : Shape := ⟨3, ![1, 1, 1024]⟩
abbrev S1x1024 : Shape := ⟨2, ![1, 1024]⟩
abbrev S256x1024 : Shape := ⟨2, ![256, 1024]⟩
abbrev S1024x1792 : Shape := ⟨2, ![1024, 1792]⟩
abbrev S256x1792 : Shape := ⟨2, ![256, 1792]⟩
abbrev S256 : Shape := ⟨1, ![256]⟩
abbrev S256x1 : Shape := ⟨2, ![256, 1]⟩
abbrev S1792x1024 : Shape := ⟨2, ![1792, 1024]⟩
abbrev S1024 : Shape := ⟨1, ![1024]⟩
abbrev S1024x1 : Shape := ⟨2, ![1024, 1]⟩
abbrev S1024x256 : Shape := ⟨2, ![1024, 256]⟩

abbrev nBuf : Space → Nat
  | .hbm => 31
  | .vmem => 19
  | .smem => 1
  | _ => 0

abbrev bufTy : (tb : Table) → Fin (tcTables nBuf tb) → BufTy
  | .hbm, ⟨0, _⟩ => ⟨S32768x1024, .bf16⟩
  | .hbm, ⟨1, _⟩ => ⟨S32768x128, .f32⟩
  | .hbm, ⟨2, _⟩ => ⟨S8x1024x7168, .f32⟩
  | .hbm, ⟨3, _⟩ => ⟨S8x3584x1024, .f32⟩
  | .hbm, ⟨4, _⟩ => ⟨S8x1024x7168, .bf16⟩
  | .hbm, ⟨5, _⟩ => ⟨S8x3584x1024, .bf16⟩
  | .hbm, ⟨6, _⟩ => ⟨S32768x8, .f32⟩
  | .hbm, ⟨7, _⟩ => ⟨S_, .f32⟩
  | .hbm, ⟨8, _⟩ => ⟨S32768x8, .f32⟩
  | .hbm, ⟨9, _⟩ => ⟨S32768x8, .i1⟩
  | .hbm, ⟨10, _⟩ => ⟨S32768x8, .i32⟩
  | .hbm, ⟨11, _⟩ => ⟨S32x1024x8, .i32⟩
  | .hbm, ⟨12, _⟩ => ⟨S_, .i32⟩
  | .hbm, ⟨13, _⟩ => ⟨S32x1024x8, .i32⟩
  | .hbm, ⟨14, _⟩ => ⟨S32x1024x8, .i1⟩
  | .hbm, ⟨15, _⟩ => ⟨S_, .i32⟩
  | .hbm, ⟨16, _⟩ => ⟨S_, .i32⟩
  | .hbm, ⟨17, _⟩ => ⟨S32x1024x8, .i32⟩
  | .hbm, ⟨18, _⟩ => ⟨S32x1024x8, .i32⟩
  | .hbm, ⟨19, _⟩ => ⟨S_, .i32⟩
  | .hbm, ⟨20, _⟩ => ⟨S_, .i32⟩
  | .hbm, ⟨21, _⟩ => ⟨S32x1024x8, .i32⟩
  | .hbm, ⟨22, _⟩ => ⟨S32x1024x8, .i32⟩
  | .hbm, ⟨23, _⟩ => ⟨S32x1024x8, .f32⟩
  | .hbm, ⟨24, _⟩ => ⟨S_, .i32⟩
  | .hbm, ⟨25, _⟩ => ⟨S32768x8, .f32⟩
  | .hbm, ⟨26, _⟩ => ⟨S_, .f32⟩
  | .hbm, ⟨27, _⟩ => ⟨S_, .f32⟩
  | .hbm, ⟨28, _⟩ => ⟨S32768x128, .f32⟩
  | .hbm, ⟨29, _⟩ => ⟨S32x8x1024, .f32⟩
  | .hbm, ⟨30, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1x8x1024, .f32⟩
  | .local _ .vmem, ⟨7, _⟩ => ⟨S1x8x1024, .f32⟩
  | .local _ .vmem, ⟨8, _⟩ => ⟨S1x1024x1792, .bf16⟩
  | .local _ .vmem, ⟨9, _⟩ => ⟨S1x1024x1792, .bf16⟩
  | .local _ .vmem, ⟨10, _⟩ => ⟨S1x1024x1792, .bf16⟩
  | .local _ .vmem, ⟨11, _⟩ => ⟨S1x1024x1792, .bf16⟩
  | .local _ .vmem, ⟨12, _⟩ => ⟨S1x1792x1024, .bf16⟩
  | .local _ .vmem, ⟨13, _⟩ => ⟨S1x1792x1024, .bf16⟩
  | .local _ .vmem, ⟨14, _⟩ => ⟨S1024x1024, .f32⟩
  | .local _ .vmem, ⟨15, _⟩ => ⟨S1024x1024, .f32⟩
  | .local _ .vmem, ⟨16, _⟩ => ⟨S1024x1024, .bf16⟩
  | .local _ .vmem, ⟨17, _⟩ => ⟨S1024x1024, .f32⟩
  | .local _ .vmem, ⟨18, _⟩ => ⟨S1024x128, .f32⟩
  | .local _ .smem, ⟨0, _⟩ => ⟨S32x8, .i32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_call0_call0_c : Ref sig .tc := ⟨.hbm, 15, rfl⟩
abbrev main_call0_call0_v0 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_call1_v0 : Ref sig .tc := ⟨.hbm, 20, rfl⟩
abbrev main_call1_v1 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v14 : Ref sig .tc := ⟨.hbm, 25, rfl⟩
abbrev main_cst_2 : Ref sig .tc := ⟨.hbm, 26, rfl⟩
abbrev main_call2_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v13 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![32, 8, 2], ![false, false, false]⟩

abbrev pre0 : Pipeline.Prefetch sig := ⟨1, ![main_v13.idx], fun | 0 => main_v13.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def k0_cond2 (i : grid0.Coords) : BitVec 1 :=
  let arg2 : BitVec 32 := BitVec.ofNat 32 (i 2).val
  let c0_i32_2 : BitVec 32 := 0#32
  let v11 : BitVec 1 := Scalar.cmpi .eq arg2 c0_i32_2
  let v12 : BitVec 32 := Scalar.extui v11
  let c0_i32_3 : BitVec 32 := 0#32
  let v13 : BitVec 1 := Scalar.cmpi .ne v12 c0_i32_3
  v13

def k0_off2 (i : grid0.Coords) : Fin 3 → Nat :=
  let c0 : Index := 0#32
  let arg1 : BitVec 32 := BitVec.ofNat 32 (i 1).val
  let v22 : Index := Scalar.indexCast arg1
  let c0_10 : Index := 0#32
  ![0, v22.toNat, 0]
@[reducible] def k0_t1_loop (v2 : BitVec 32) : Scf.Loop 32 :=
  let c0_i32_14 : BitVec 32 := 0#32
  let c255_i32 : BitVec 32 := 255#32
  let v3 : BitVec 32 := Scalar.addi v2 c255_i32
  let c256_i32 : BitVec 32 := 256#32
  let v4 : BitVec 32 := Scalar.divsi v3 c256_i32
  let v32 : BitVec 32 := Scalar.subi v4 c0_i32_14
  let c1_i32_15 : BitVec 32 := 1#32
  let v34 : BitVec 32 := Scalar.divsi v32 c1_i32_15
  let v35 : BitVec 32 := Scalar.muli v34 c1_i32_15
  let v36 : BitVec 32 := Scalar.addi c0_i32_14 v35
  let c1_i32_16 : BitVec 32 := 1#32
  ⟨c0_i32_14, v36, c1_i32_16⟩

def k0_mult1 (v2 : BitVec 32) (k0_t1 : Fin (k0_t1_loop v2).trips) : BitVec 32 :=
  let c0_i32_14 : BitVec 32 := 0#32
  let c1_i32_16 : BitVec 32 := 1#32
  let arg15 : BitVec 32 := Scf.iv c0_i32_14 c1_i32_16 k0_t1
  let c256_i32_18 : BitVec 32 := 256#32
  let v37 : BitVec 32 := Scalar.muli arg15 c256_i32_18
  v37
def k0_off3 (v2 : BitVec 32) (k0_t1 : Fin (k0_t1_loop v2).trips) : Fin 2 → Nat :=
  let c0_i32_14 : BitVec 32 := 0#32
  let c1_i32_16 : BitVec 32 := 1#32
  let arg15 : BitVec 32 := Scf.iv c0_i32_14 c1_i32_16 k0_t1
  let c256_i32_18 : BitVec 32 := 256#32
  let v37 : BitVec 32 := Scalar.muli arg15 c256_i32_18
  let v38 : BitVec 32 := v37
  let v51 : Index := Scalar.indexCast v38
  let c0_22 : Index := 0#32
  ![v51.toNat, 0]
def k0_off4 (v2 : BitVec 32) (k0_t1 : Fin (k0_t1_loop v2).trips) : Fin 2 → Nat :=
  let c0_i32_14 : BitVec 32 := 0#32
  let c1_i32_16 : BitVec 32 := 1#32
  let arg15 : BitVec 32 := Scf.iv c0_i32_14 c1_i32_16 k0_t1
  let c256_i32_18 : BitVec 32 := 256#32
  let v37 : BitVec 32 := Scalar.muli arg15 c256_i32_18
  let v38 : BitVec 32 := v37
  let v58 : Index := Scalar.indexCast v38
  let c0_25 : Index := 0#32
  ![v58.toNat, 0]
@[reducible] def k0_t2_loop (v2 : BitVec 32) : Scf.Loop 32 :=
  let c0_i32_14 : BitVec 32 := 0#32
  let c255_i32 : BitVec 32 := 255#32
  let v3 : BitVec 32 := Scalar.addi v2 c255_i32
  let c256_i32 : BitVec 32 := 256#32
  let v4 : BitVec 32 := Scalar.divsi v3 c256_i32
  let v32 : BitVec 32 := Scalar.subi v4 c0_i32_14
  let c1_i32_15 : BitVec 32 := 1#32
  let v34 : BitVec 32 := Scalar.divsi v32 c1_i32_15
  let v35 : BitVec 32 := Scalar.muli v34 c1_i32_15
  let v36 : BitVec 32 := Scalar.addi c0_i32_14 v35
  let v33 : BitVec 32 := Scalar.addi c0_i32_14 v32
  let c1_i32_17 : BitVec 32 := 1#32
  ⟨v36, v33, c1_i32_17⟩
def k0_mult2 (v2 : BitVec 32) (k0_t2 : Fin (k0_t2_loop v2).trips) : BitVec 32 :=
  let c0_i32_14 : BitVec 32 := 0#32
  let c255_i32 : BitVec 32 := 255#32
  let v3 : BitVec 32 := Scalar.addi v2 c255_i32
  let c256_i32 : BitVec 32 := 256#32
  let v4 : BitVec 32 := Scalar.divsi v3 c256_i32
  let v32 : BitVec 32 := Scalar.subi v4 c0_i32_14
  let c1_i32_15 : BitVec 32 := 1#32
  let v34 : BitVec 32 := Scalar.divsi v32 c1_i32_15
  let v35 : BitVec 32 := Scalar.muli v34 c1_i32_15
  let v36 : BitVec 32 := Scalar.addi c0_i32_14 v35
  let c1_i32_17 : BitVec 32 := 1#32
  let arg15 : BitVec 32 := Scf.iv v36 c1_i32_17 k0_t2
  let c256_i32_18 : BitVec 32 := 256#32
  let v37 : BitVec 32 := Scalar.muli arg15 c256_i32_18
  v37
def k0_off5 (v2 : BitVec 32) (k0_t2 : Fin (k0_t2_loop v2).trips) : Fin 2 → Nat :=
  let c0_i32_14 : BitVec 32 := 0#32
  let c255_i32 : BitVec 32 := 255#32
  let v3 : BitVec 32 := Scalar.addi v2 c255_i32
  let c256_i32 : BitVec 32 := 256#32
  let v4 : BitVec 32 := Scalar.divsi v3 c256_i32
  let v32 : BitVec 32 := Scalar.subi v4 c0_i32_14
  let c1_i32_15 : BitVec 32 := 1#32
  let v34 : BitVec 32 := Scalar.divsi v32 c1_i32_15
  let v35 : BitVec 32 := Scalar.muli v34 c1_i32_15
  let v36 : BitVec 32 := Scalar.addi c0_i32_14 v35
  let c1_i32_17 : BitVec 32 := 1#32
  let arg15 : BitVec 32 := Scf.iv v36 c1_i32_17 k0_t2
  let c256_i32_18 : BitVec 32 := 256#32
  let v37 : BitVec 32 := Scalar.muli arg15 c256_i32_18
  let v38 : BitVec 32 := v37
  let v51 : Index := Scalar.indexCast v38
  let c0_22 : Index := 0#32
  ![v51.toNat, 0]
def k0_off6 (v2 : BitVec 32) (k0_t2 : Fin (k0_t2_loop v2).trips) : Fin 2 → Nat :=
  let c0_i32_14 : BitVec 32 := 0#32
  let c255_i32 : BitVec 32 := 255#32
  let v3 : BitVec 32 := Scalar.addi v2 c255_i32
  let c256_i32 : BitVec 32 := 256#32
  let v4 : BitVec 32 := Scalar.divsi v3 c256_i32
  let v32 : BitVec 32 := Scalar.subi v4 c0_i32_14
  let c1_i32_15 : BitVec 32 := 1#32
  let v34 : BitVec 32 := Scalar.divsi v32 c1_i32_15
  let v35 : BitVec 32 := Scalar.muli v34 c1_i32_15
  let v36 : BitVec 32 := Scalar.addi c0_i32_14 v35
  let c1_i32_17 : BitVec 32 := 1#32
  let arg15 : BitVec 32 := Scf.iv v36 c1_i32_17 k0_t2
  let c256_i32_18 : BitVec 32 := 256#32
  let v37 : BitVec 32 := Scalar.muli arg15 c256_i32_18
  let v38 : BitVec 32 := v37
  let v58 : Index := Scalar.indexCast v38
  let c0_25 : Index := 0#32
  ![v58.toNat, 0]
@[reducible] def k0_t3_loop (v2 : BitVec 32) : Scf.Loop 32 :=
  let c0_i32_5 : BitVec 32 := 0#32
  let c255_i32 : BitVec 32 := 255#32
  let v3 : BitVec 32 := Scalar.addi v2 c255_i32
  let c256_i32 : BitVec 32 := 256#32
  let v4 : BitVec 32 := Scalar.divsi v3 c256_i32
  let v14 : BitVec 32 := Scalar.subi v4 c0_i32_5
  let c1_i32 : BitVec 32 := 1#32
  let v16 : BitVec 32 := Scalar.divsi v14 c1_i32
  let v17 : BitVec 32 := Scalar.muli v16 c1_i32
  let v18 : BitVec 32 := Scalar.addi c0_i32_5 v17
  let c1_i32_6 : BitVec 32 := 1#32
  ⟨c0_i32_5, v18, c1_i32_6⟩
def k0_mult3 (v2 : BitVec 32) (k0_t3 : Fin (k0_t3_loop v2).trips) : BitVec 32 :=
  let c0_i32_5 : BitVec 32 := 0#32
  let c1_i32_6 : BitVec 32 := 1#32
  let arg15 : BitVec 32 := Scf.iv c0_i32_5 c1_i32_6 k0_t3
  let c256_i32_10 : BitVec 32 := 256#32
  let v22 : BitVec 32 := Scalar.muli arg15 c256_i32_10
  v22
def k0_off7 (v2 : BitVec 32) (k0_t3 : Fin (k0_t3_loop v2).trips) : Fin 2 → Nat :=
  let c0_i32_5 : BitVec 32 := 0#32
  let c1_i32_6 : BitVec 32 := 1#32
  let arg15 : BitVec 32 := Scf.iv c0_i32_5 c1_i32_6 k0_t3
  let c256_i32_10 : BitVec 32 := 256#32
  let v22 : BitVec 32 := Scalar.muli arg15 c256_i32_10
  let v23 : BitVec 32 := v22
  let v24 : Index := Scalar.indexCast v23
  let c0 : Index := 0#32
  ![v24.toNat, 0]
def k0_off8 (v2 : BitVec 32) (k0_t3 : Fin (k0_t3_loop v2).trips) : Fin 2 → Nat :=
  let c0_i32_5 : BitVec 32 := 0#32
  let c1_i32_6 : BitVec 32 := 1#32
  let arg15 : BitVec 32 := Scf.iv c0_i32_5 c1_i32_6 k0_t3
  let c256_i32_10 : BitVec 32 := 256#32
  let v22 : BitVec 32 := Scalar.muli arg15 c256_i32_10
  let v23 : BitVec 32 := v22
  let v37 : Index := Scalar.indexCast v23
  let c0_18 : Index := 0#32
  ![v37.toNat, 0]
@[reducible] def k0_t4_loop (v2 : BitVec 32) : Scf.Loop 32 :=
  let c0_i32_5 : BitVec 32 := 0#32
  let c255_i32 : BitVec 32 := 255#32
  let v3 : BitVec 32 := Scalar.addi v2 c255_i32
  let c256_i32 : BitVec 32 := 256#32
  let v4 : BitVec 32 := Scalar.divsi v3 c256_i32
  let v14 : BitVec 32 := Scalar.subi v4 c0_i32_5
  let c1_i32 : BitVec 32 := 1#32
  let v16 : BitVec 32 := Scalar.divsi v14 c1_i32
  let v17 : BitVec 32 := Scalar.muli v16 c1_i32
  let v18 : BitVec 32 := Scalar.addi c0_i32_5 v17
  let v15 : BitVec 32 := Scalar.addi c0_i32_5 v14
  let c1_i32_7 : BitVec 32 := 1#32
  ⟨v18, v15, c1_i32_7⟩
def k0_mult4 (v2 : BitVec 32) (k0_t4 : Fin (k0_t4_loop v2).trips) : BitVec 32 :=
  let c0_i32_5 : BitVec 32 := 0#32
  let c255_i32 : BitVec 32 := 255#32
  let v3 : BitVec 32 := Scalar.addi v2 c255_i32
  let c256_i32 : BitVec 32 := 256#32
  let v4 : BitVec 32 := Scalar.divsi v3 c256_i32
  let v14 : BitVec 32 := Scalar.subi v4 c0_i32_5
  let c1_i32 : BitVec 32 := 1#32
  let v16 : BitVec 32 := Scalar.divsi v14 c1_i32
  let v17 : BitVec 32 := Scalar.muli v16 c1_i32
  let v18 : BitVec 32 := Scalar.addi c0_i32_5 v17
  let c1_i32_7 : BitVec 32 := 1#32
  let arg15 : BitVec 32 := Scf.iv v18 c1_i32_7 k0_t4
  let c256_i32_10 : BitVec 32 := 256#32
  let v22 : BitVec 32 := Scalar.muli arg15 c256_i32_10
  v22
def k0_off9 (v2 : BitVec 32) (k0_t4 : Fin (k0_t4_loop v2).trips) : Fin 2 → Nat :=
  let c0_i32_5 : BitVec 32 := 0#32
  let c255_i32 : BitVec 32 := 255#32
  let v3 : BitVec 32 := Scalar.addi v2 c255_i32
  let c256_i32 : BitVec 32 := 256#32
  let v4 : BitVec 32 := Scalar.divsi v3 c256_i32
  let v14 : BitVec 32 := Scalar.subi v4 c0_i32_5
  let c1_i32 : BitVec 32 := 1#32
  let v16 : BitVec 32 := Scalar.divsi v14 c1_i32
  let v17 : BitVec 32 := Scalar.muli v16 c1_i32
  let v18 : BitVec 32 := Scalar.addi c0_i32_5 v17
  let c1_i32_7 : BitVec 32 := 1#32
  let arg15 : BitVec 32 := Scf.iv v18 c1_i32_7 k0_t4
  let c256_i32_10 : BitVec 32 := 256#32
  let v22 : BitVec 32 := Scalar.muli arg15 c256_i32_10
  let v23 : BitVec 32 := v22
  let v24 : Index := Scalar.indexCast v23
  let c0 : Index := 0#32
  ![v24.toNat, 0]
def k0_off10 (v2 : BitVec 32) (k0_t4 : Fin (k0_t4_loop v2).trips) : Fin 2 → Nat :=
  let c0_i32_5 : BitVec 32 := 0#32
  let c255_i32 : BitVec 32 := 255#32
  let v3 : BitVec 32 := Scalar.addi v2 c255_i32
  let c256_i32 : BitVec 32 := 256#32
  let v4 : BitVec 32 := Scalar.divsi v3 c256_i32
  let v14 : BitVec 32 := Scalar.subi v4 c0_i32_5
  let c1_i32 : BitVec 32 := 1#32
  let v16 : BitVec 32 := Scalar.divsi v14 c1_i32
  let v17 : BitVec 32 := Scalar.muli v16 c1_i32
  let v18 : BitVec 32 := Scalar.addi c0_i32_5 v17
  let c1_i32_7 : BitVec 32 := 1#32
  let arg15 : BitVec 32 := Scf.iv v18 c1_i32_7 k0_t4
  let c256_i32_10 : BitVec 32 := 256#32
  let v22 : BitVec 32 := Scalar.muli arg15 c256_i32_10
  let v23 : BitVec 32 := v22
  let v37 : Index := Scalar.indexCast v23
  let c0_18 : Index := 0#32
  ![v37.toNat, 0]
def k0_cond3 (i : grid0.Coords) : BitVec 1 :=
  let arg2 : BitVec 32 := BitVec.ofNat 32 (i 2).val
  let c1_i32_8 : BitVec 32 := 1#32
  let v19 : BitVec 1 := Scalar.cmpi .eq arg2 c1_i32_8
  let v20 : BitVec 32 := Scalar.extui v19
  let c0_i32_9 : BitVec 32 := 0#32
  let v21 : BitVec 1 := Scalar.cmpi .ne v20 c0_i32_9
  v21

@[reducible] def k0_t5_loop (v2 : BitVec 32) : Scf.Loop 32 :=
  let c0_i32_13 : BitVec 32 := 0#32
  let c255_i32 : BitVec 32 := 255#32
  let v3 : BitVec 32 := Scalar.addi v2 c255_i32
  let c256_i32 : BitVec 32 := 256#32
  let v4 : BitVec 32 := Scalar.divsi v3 c256_i32
  let v33 : BitVec 32 := Scalar.subi v4 c0_i32_13
  let c1_i32_14 : BitVec 32 := 1#32
  let v35 : BitVec 32 := Scalar.divsi v33 c1_i32_14
  let v36 : BitVec 32 := Scalar.muli v35 c1_i32_14
  let v37 : BitVec 32 := Scalar.addi c0_i32_13 v36
  let c1_i32_15 : BitVec 32 := 1#32
  ⟨c0_i32_13, v37, c1_i32_15⟩
def k0_mult5 (v2 : BitVec 32) (k0_t5 : Fin (k0_t5_loop v2).trips) : BitVec 32 :=
  let c0_i32_13 : BitVec 32 := 0#32
  let c1_i32_15 : BitVec 32 := 1#32
  let arg15 : BitVec 32 := Scf.iv c0_i32_13 c1_i32_15 k0_t5
  let c256_i32_17 : BitVec 32 := 256#32
  let v38 : BitVec 32 := Scalar.muli arg15 c256_i32_17
  v38
def k0_off11 (v2 : BitVec 32) (k0_t5 : Fin (k0_t5_loop v2).trips) : Fin 2 → Nat :=
  let c0_i32_13 : BitVec 32 := 0#32
  let c1_i32_15 : BitVec 32 := 1#32
  let arg15 : BitVec 32 := Scf.iv c0_i32_13 c1_i32_15 k0_t5
  let c256_i32_17 : BitVec 32 := 256#32
  let v38 : BitVec 32 := Scalar.muli arg15 c256_i32_17
  let v39 : BitVec 32 := v38
  let v51 : Index := Scalar.indexCast v39
  let c0_21 : Index := 0#32
  ![v51.toNat, 0]
@[reducible] def k0_t6_loop (v2 : BitVec 32) : Scf.Loop 32 :=
  let c0_i32_13 : BitVec 32 := 0#32
  let c255_i32 : BitVec 32 := 255#32
  let v3 : BitVec 32 := Scalar.addi v2 c255_i32
  let c256_i32 : BitVec 32 := 256#32
  let v4 : BitVec 32 := Scalar.divsi v3 c256_i32
  let v33 : BitVec 32 := Scalar.subi v4 c0_i32_13
  let c1_i32_14 : BitVec 32 := 1#32
  let v35 : BitVec 32 := Scalar.divsi v33 c1_i32_14
  let v36 : BitVec 32 := Scalar.muli v35 c1_i32_14
  let v37 : BitVec 32 := Scalar.addi c0_i32_13 v36
  let v34 : BitVec 32 := Scalar.addi c0_i32_13 v33
  let c1_i32_16 : BitVec 32 := 1#32
  ⟨v37, v34, c1_i32_16⟩
def k0_mult6 (v2 : BitVec 32) (k0_t6 : Fin (k0_t6_loop v2).trips) : BitVec 32 :=
  let c0_i32_13 : BitVec 32 := 0#32
  let c255_i32 : BitVec 32 := 255#32
  let v3 : BitVec 32 := Scalar.addi v2 c255_i32
  let c256_i32 : BitVec 32 := 256#32
  let v4 : BitVec 32 := Scalar.divsi v3 c256_i32
  let v33 : BitVec 32 := Scalar.subi v4 c0_i32_13
  let c1_i32_14 : BitVec 32 := 1#32
  let v35 : BitVec 32 := Scalar.divsi v33 c1_i32_14
  let v36 : BitVec 32 := Scalar.muli v35 c1_i32_14
  let v37 : BitVec 32 := Scalar.addi c0_i32_13 v36
  let c1_i32_16 : BitVec 32 := 1#32
  let arg15 : BitVec 32 := Scf.iv v37 c1_i32_16 k0_t6
  let c256_i32_17 : BitVec 32 := 256#32
  let v38 : BitVec 32 := Scalar.muli arg15 c256_i32_17
  v38
def k0_off12 (v2 : BitVec 32) (k0_t6 : Fin (k0_t6_loop v2).trips) : Fin 2 → Nat :=
  let c0_i32_13 : BitVec 32 := 0#32
  let c255_i32 : BitVec 32 := 255#32
  let v3 : BitVec 32 := Scalar.addi v2 c255_i32
  let c256_i32 : BitVec 32 := 256#32
  let v4 : BitVec 32 := Scalar.divsi v3 c256_i32
  let v33 : BitVec 32 := Scalar.subi v4 c0_i32_13
  let c1_i32_14 : BitVec 32 := 1#32
  let v35 : BitVec 32 := Scalar.divsi v33 c1_i32_14
  let v36 : BitVec 32 := Scalar.muli v35 c1_i32_14
  let v37 : BitVec 32 := Scalar.addi c0_i32_13 v36
  let c1_i32_16 : BitVec 32 := 1#32
  let arg15 : BitVec 32 := Scf.iv v37 c1_i32_16 k0_t6
  let c256_i32_17 : BitVec 32 := 256#32
  let v38 : BitVec 32 := Scalar.muli arg15 c256_i32_17
  let v39 : BitVec 32 := v38
  let v51 : Index := Scalar.indexCast v39
  let c0_21 : Index := 0#32
  ![v51.toNat, 0]

def k0_chk1 (i : grid0.Coords) (v2 : BitVec 32) : Prop :=
  (∀ (k0_h2 : k0_cond2 i = 1#1), (k0_t1_loop v2).OK) ∧
  (∀ k0_t1 : Fin (k0_t1_loop v2).trips, ∀ (k0_h2 : k0_cond2 i = 1#1), 32 ∣ (k0_mult1 v2 k0_t1).toNat) ∧
  (∀ k0_t1 : Fin (k0_t1_loop v2).trips, ∀ (k0_h2 : k0_cond2 i = 1#1), ∀ a, (k0_off3 v2 k0_t1) a + S256x1024.size a ≤ S1024x1024.size a) ∧
  (∀ k0_t1 : Fin (k0_t1_loop v2).trips, ∀ (k0_h2 : k0_cond2 i = 1#1), ∀ (hinb : ∀ a, (k0_off3 v2 k0_t1) a + S256x1024.size a ≤ S1024x1024.size a), (Rect.unit (s := S1024x1024) (k0_off3 v2 k0_t1) S256x1024.size hinb).PackedRows (EltTy.packing .bf16)) ∧
  (∀ k0_t1 : Fin (k0_t1_loop v2).trips, ∀ (k0_h2 : k0_cond2 i = 1#1), ∀ a, (k0_off4 v2 k0_t1) a + S256x128.size a ≤ S1024x128.size a) ∧
  (∀ (k0_h2 : k0_cond2 i = 1#1), (k0_t2_loop v2).OK) ∧
  (∀ k0_t2 : Fin (k0_t2_loop v2).trips, ∀ (k0_h2 : k0_cond2 i = 1#1), 32 ∣ (k0_mult2 v2 k0_t2).toNat) ∧
  (∀ k0_t2 : Fin (k0_t2_loop v2).trips, ∀ (k0_h2 : k0_cond2 i = 1#1), ∀ a, (k0_off5 v2 k0_t2) a + S256x1024.size a ≤ S1024x1024.size a) ∧
  (∀ k0_t2 : Fin (k0_t2_loop v2).trips, ∀ (k0_h2 : k0_cond2 i = 1#1), ∀ (hinb : ∀ a, (k0_off5 v2 k0_t2) a + S256x1024.size a ≤ S1024x1024.size a), (Rect.unit (s := S1024x1024) (k0_off5 v2 k0_t2) S256x1024.size hinb).PackedRows (EltTy.packing .bf16)) ∧
  (∀ k0_t2 : Fin (k0_t2_loop v2).trips, ∀ (k0_h2 : k0_cond2 i = 1#1), ∀ a, (k0_off6 v2 k0_t2) a + S256x128.size a ≤ S1024x128.size a) ∧
  ((k0_t3_loop v2).OK) ∧
  (∀ k0_t3 : Fin (k0_t3_loop v2).trips, 32 ∣ (k0_mult3 v2 k0_t3).toNat) ∧
  (∀ k0_t3 : Fin (k0_t3_loop v2).trips, ∀ a, (k0_off7 v2 k0_t3) a + S256x1024.size a ≤ S1024x1024.size a) ∧
  (∀ k0_t3 : Fin (k0_t3_loop v2).trips, ∀ a, (k0_off8 v2 k0_t3) a + S256x128.size a ≤ S1024x128.size a) ∧
  ((k0_t4_loop v2).OK) ∧
  (∀ k0_t4 : Fin (k0_t4_loop v2).trips, 32 ∣ (k0_mult4 v2 k0_t4).toNat) ∧
  (∀ k0_t4 : Fin (k0_t4_loop v2).trips, ∀ a, (k0_off9 v2 k0_t4) a + S256x1024.size a ≤ S1024x1024.size a) ∧
  (∀ k0_t4 : Fin (k0_t4_loop v2).trips, ∀ a, (k0_off10 v2 k0_t4) a + S256x128.size a ≤ S1024x128.size a) ∧
  (∀ (k0_h3 : k0_cond3 i = 1#1), (k0_t5_loop v2).OK) ∧
  (∀ k0_t5 : Fin (k0_t5_loop v2).trips, ∀ (k0_h3 : k0_cond3 i = 1#1), 32 ∣ (k0_mult5 v2 k0_t5).toNat) ∧
  (∀ k0_t5 : Fin (k0_t5_loop v2).trips, ∀ (k0_h3 : k0_cond3 i = 1#1), ∀ a, (k0_off11 v2 k0_t5) a + S256x1024.size a ≤ S1024x1024.size a) ∧
  (∀ (k0_h3 : k0_cond3 i = 1#1), (k0_t6_loop v2).OK) ∧
  (∀ k0_t6 : Fin (k0_t6_loop v2).trips, ∀ (k0_h3 : k0_cond3 i = 1#1), 32 ∣ (k0_mult6 v2 k0_t6).toNat) ∧
  (∀ k0_t6 : Fin (k0_t6_loop v2).trips, ∀ (k0_h3 : k0_cond3 i = 1#1), ∀ a, (k0_off12 v2 k0_t6) a + S256x1024.size a ≤ S1024x1024.size a)
theorem k0_t1_ok : ∀ (i : grid0.Coords) (v2 : BitVec 32) (k0_hw1 : k0_chk1 i v2), ∀ (k0_h2 : k0_cond2 i = 1#1), (k0_t1_loop v2).OK := fun i v2 k0_hw1 k0_h2 => k0_hw1.1 k0_h2
theorem k0_mult1_dvd : ∀ (i : grid0.Coords) (v2 : BitVec 32) (k0_hw1 : k0_chk1 i v2) (k0_t1 : Fin (k0_t1_loop v2).trips), ∀ (k0_h2 : k0_cond2 i = 1#1), 32 ∣ (k0_mult1 v2 k0_t1).toNat := fun i v2 k0_hw1 k0_t1 k0_h2 => k0_hw1.2.1 k0_t1 k0_h2
theorem k0_off3_inb : ∀ (i : grid0.Coords) (v2 : BitVec 32) (k0_hw1 : k0_chk1 i v2) (k0_t1 : Fin (k0_t1_loop v2).trips), ∀ (k0_h2 : k0_cond2 i = 1#1), ∀ a, (k0_off3 v2 k0_t1) a + S256x1024.size a ≤ S1024x1024.size a := fun i v2 k0_hw1 k0_t1 k0_h2 => k0_hw1.2.2.1 k0_t1 k0_h2
theorem k0_off3_packedbf16 : ∀ (i : grid0.Coords) (v2 : BitVec 32) (k0_hw1 : k0_chk1 i v2) (k0_t1 : Fin (k0_t1_loop v2).trips), ∀ (k0_h2 : k0_cond2 i = 1#1), (Rect.unit (s := S1024x1024) (k0_off3 v2 k0_t1) S256x1024.size (k0_off3_inb i v2 k0_hw1 k0_t1 k0_h2)).PackedRows (EltTy.packing .bf16) := fun i v2 k0_hw1 k0_t1 k0_h2 => k0_hw1.2.2.2.1 k0_t1 k0_h2 (k0_off3_inb i v2 k0_hw1 k0_t1 k0_h2)
theorem k0_off4_inb : ∀ (i : grid0.Coords) (v2 : BitVec 32) (k0_hw1 : k0_chk1 i v2) (k0_t1 : Fin (k0_t1_loop v2).trips), ∀ (k0_h2 : k0_cond2 i = 1#1), ∀ a, (k0_off4 v2 k0_t1) a + S256x128.size a ≤ S1024x128.size a := fun i v2 k0_hw1 k0_t1 k0_h2 => k0_hw1.2.2.2.2.1 k0_t1 k0_h2
theorem k0_t2_ok : ∀ (i : grid0.Coords) (v2 : BitVec 32) (k0_hw1 : k0_chk1 i v2), ∀ (k0_h2 : k0_cond2 i = 1#1), (k0_t2_loop v2).OK := fun i v2 k0_hw1 k0_h2 => k0_hw1.2.2.2.2.2.1 k0_h2
theorem k0_mult2_dvd : ∀ (i : grid0.Coords) (v2 : BitVec 32) (k0_hw1 : k0_chk1 i v2) (k0_t2 : Fin (k0_t2_loop v2).trips), ∀ (k0_h2 : k0_cond2 i = 1#1), 32 ∣ (k0_mult2 v2 k0_t2).toNat := fun i v2 k0_hw1 k0_t2 k0_h2 => k0_hw1.2.2.2.2.2.2.1 k0_t2 k0_h2
theorem k0_off5_inb : ∀ (i : grid0.Coords) (v2 : BitVec 32) (k0_hw1 : k0_chk1 i v2) (k0_t2 : Fin (k0_t2_loop v2).trips), ∀ (k0_h2 : k0_cond2 i = 1#1), ∀ a, (k0_off5 v2 k0_t2) a + S256x1024.size a ≤ S1024x1024.size a := fun i v2 k0_hw1 k0_t2 k0_h2 => k0_hw1.2.2.2.2.2.2.2.1 k0_t2 k0_h2
theorem k0_off5_packedbf16 : ∀ (i : grid0.Coords) (v2 : BitVec 32) (k0_hw1 : k0_chk1 i v2) (k0_t2 : Fin (k0_t2_loop v2).trips), ∀ (k0_h2 : k0_cond2 i = 1#1), (Rect.unit (s := S1024x1024) (k0_off5 v2 k0_t2) S256x1024.size (k0_off5_inb i v2 k0_hw1 k0_t2 k0_h2)).PackedRows (EltTy.packing .bf16) := fun i v2 k0_hw1 k0_t2 k0_h2 => k0_hw1.2.2.2.2.2.2.2.2.1 k0_t2 k0_h2 (k0_off5_inb i v2 k0_hw1 k0_t2 k0_h2)
theorem k0_off6_inb : ∀ (i : grid0.Coords) (v2 : BitVec 32) (k0_hw1 : k0_chk1 i v2) (k0_t2 : Fin (k0_t2_loop v2).trips), ∀ (k0_h2 : k0_cond2 i = 1#1), ∀ a, (k0_off6 v2 k0_t2) a + S256x128.size a ≤ S1024x128.size a := fun i v2 k0_hw1 k0_t2 k0_h2 => k0_hw1.2.2.2.2.2.2.2.2.2.1 k0_t2 k0_h2
theorem k0_t3_ok : ∀ (i : grid0.Coords) (v2 : BitVec 32) (k0_hw1 : k0_chk1 i v2), (k0_t3_loop v2).OK := fun i v2 k0_hw1 => k0_hw1.2.2.2.2.2.2.2.2.2.2.1
theorem k0_mult3_dvd : ∀ (i : grid0.Coords) (v2 : BitVec 32) (k0_hw1 : k0_chk1 i v2) (k0_t3 : Fin (k0_t3_loop v2).trips), 32 ∣ (k0_mult3 v2 k0_t3).toNat := fun i v2 k0_hw1 k0_t3 => k0_hw1.2.2.2.2.2.2.2.2.2.2.2.1 k0_t3
theorem k0_off7_inb : ∀ (i : grid0.Coords) (v2 : BitVec 32) (k0_hw1 : k0_chk1 i v2) (k0_t3 : Fin (k0_t3_loop v2).trips), ∀ a, (k0_off7 v2 k0_t3) a + S256x1024.size a ≤ S1024x1024.size a := fun i v2 k0_hw1 k0_t3 => k0_hw1.2.2.2.2.2.2.2.2.2.2.2.2.1 k0_t3
theorem k0_off8_inb : ∀ (i : grid0.Coords) (v2 : BitVec 32) (k0_hw1 : k0_chk1 i v2) (k0_t3 : Fin (k0_t3_loop v2).trips), ∀ a, (k0_off8 v2 k0_t3) a + S256x128.size a ≤ S1024x128.size a := fun i v2 k0_hw1 k0_t3 => k0_hw1.2.2.2.2.2.2.2.2.2.2.2.2.2.1 k0_t3
theorem k0_t4_ok : ∀ (i : grid0.Coords) (v2 : BitVec 32) (k0_hw1 : k0_chk1 i v2), (k0_t4_loop v2).OK := fun i v2 k0_hw1 => k0_hw1.2.2.2.2.2.2.2.2.2.2.2.2.2.2.1
theorem k0_mult4_dvd : ∀ (i : grid0.Coords) (v2 : BitVec 32) (k0_hw1 : k0_chk1 i v2) (k0_t4 : Fin (k0_t4_loop v2).trips), 32 ∣ (k0_mult4 v2 k0_t4).toNat := fun i v2 k0_hw1 k0_t4 => k0_hw1.2.2.2.2.2.2.2.2.2.2.2.2.2.2.2.1 k0_t4
theorem k0_off9_inb : ∀ (i : grid0.Coords) (v2 : BitVec 32) (k0_hw1 : k0_chk1 i v2) (k0_t4 : Fin (k0_t4_loop v2).trips), ∀ a, (k0_off9 v2 k0_t4) a + S256x1024.size a ≤ S1024x1024.size a := fun i v2 k0_hw1 k0_t4 => k0_hw1.2.2.2.2.2.2.2.2.2.2.2.2.2.2.2.2.1 k0_t4
theorem k0_off10_inb : ∀ (i : grid0.Coords) (v2 : BitVec 32) (k0_hw1 : k0_chk1 i v2) (k0_t4 : Fin (k0_t4_loop v2).trips), ∀ a, (k0_off10 v2 k0_t4) a + S256x128.size a ≤ S1024x128.size a := fun i v2 k0_hw1 k0_t4 => k0_hw1.2.2.2.2.2.2.2.2.2.2.2.2.2.2.2.2.2.1 k0_t4
theorem k0_t5_ok : ∀ (i : grid0.Coords) (v2 : BitVec 32) (k0_hw1 : k0_chk1 i v2), ∀ (k0_h3 : k0_cond3 i = 1#1), (k0_t5_loop v2).OK := fun i v2 k0_hw1 k0_h3 => k0_hw1.2.2.2.2.2.2.2.2.2.2.2.2.2.2.2.2.2.2.1 k0_h3
theorem k0_mult5_dvd : ∀ (i : grid0.Coords) (v2 : BitVec 32) (k0_hw1 : k0_chk1 i v2) (k0_t5 : Fin (k0_t5_loop v2).trips), ∀ (k0_h3 : k0_cond3 i = 1#1), 32 ∣ (k0_mult5 v2 k0_t5).toNat := fun i v2 k0_hw1 k0_t5 k0_h3 => k0_hw1.2.2.2.2.2.2.2.2.2.2.2.2.2.2.2.2.2.2.2.1 k0_t5 k0_h3
theorem k0_off11_inb : ∀ (i : grid0.Coords) (v2 : BitVec 32) (k0_hw1 : k0_chk1 i v2) (k0_t5 : Fin (k0_t5_loop v2).trips), ∀ (k0_h3 : k0_cond3 i = 1#1), ∀ a, (k0_off11 v2 k0_t5) a + S256x1024.size a ≤ S1024x1024.size a := fun i v2 k0_hw1 k0_t5 k0_h3 => k0_hw1.2.2.2.2.2.2.2.2.2.2.2.2.2.2.2.2.2.2.2.2.1 k0_t5 k0_h3
theorem k0_t6_ok : ∀ (i : grid0.Coords) (v2 : BitVec 32) (k0_hw1 : k0_chk1 i v2), ∀ (k0_h3 : k0_cond3 i = 1#1), (k0_t6_loop v2).OK := fun i v2 k0_hw1 k0_h3 => k0_hw1.2.2.2.2.2.2.2.2.2.2.2.2.2.2.2.2.2.2.2.2.2.1 k0_h3
theorem k0_mult6_dvd : ∀ (i : grid0.Coords) (v2 : BitVec 32) (k0_hw1 : k0_chk1 i v2) (k0_t6 : Fin (k0_t6_loop v2).trips), ∀ (k0_h3 : k0_cond3 i = 1#1), 32 ∣ (k0_mult6 v2 k0_t6).toNat := fun i v2 k0_hw1 k0_t6 k0_h3 => k0_hw1.2.2.2.2.2.2.2.2.2.2.2.2.2.2.2.2.2.2.2.2.2.2.1 k0_t6 k0_h3
theorem k0_off12_inb : ∀ (i : grid0.Coords) (v2 : BitVec 32) (k0_hw1 : k0_chk1 i v2) (k0_t6 : Fin (k0_t6_loop v2).trips), ∀ (k0_h3 : k0_cond3 i = 1#1), ∀ a, (k0_off12 v2 k0_t6) a + S256x1024.size a ≤ S1024x1024.size a := fun i v2 k0_hw1 k0_t6 k0_h3 => k0_hw1.2.2.2.2.2.2.2.2.2.2.2.2.2.2.2.2.2.2.2.2.2.2.2 k0_t6 k0_h3

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let arg2 : BitVec 32 := BitVec.ofNat 32 (i 2).val
  let c0_i32_0 : BitVec 32 := 0#32
  let v7 : BitVec 1 := Scalar.cmpi .eq arg2 c0_i32_0
  let v8 : BitVec 1 := Scalar.andi v6 v7
  let v9 : BitVec 32 := Scalar.extui v8
  let c0_i32_1 : BitVec 32 := 0#32
  let v10 : BitVec 1 := Scalar.cmpi .ne v9 c0_i32_1
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![arg1.toNat, c0_i32.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1x1024x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1024x1792 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x1792x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== ReferenceIdeal.lean ====
abbrev S32768x1024 : Shape := ⟨2, ![32768, 1024]⟩
abbrev S32768x128 : Shape := ⟨2, ![32768, 128]⟩
abbrev S8x1024x7168 : Shape := ⟨3, ![8, 1024, 7168]⟩
abbrev S8x3584x1024 : Shape := ⟨3, ![8, 3584, 1024]⟩
abbrev S_ : Shape := ⟨0, ![]⟩
abbrev S1x1024x7168 : Shape := ⟨3, ![1, 1024, 7168]⟩
abbrev S1024x7168 : Shape := ⟨2, ![1024, 7168]⟩
abbrev S32768x7168 : Shape := ⟨2, ![32768, 7168]⟩
abbrev S32768x3584 : Shape := ⟨2, ![32768, 3584]⟩
abbrev S32768x1 : Shape := ⟨2, ![32768, 1]⟩
abbrev S1x3584x1024 : Shape := ⟨3, ![1, 3584, 1024]⟩
abbrev S3584x1024 : Shape := ⟨2, ![3584, 1024]⟩

abbrev nBuf : Space → Nat
  | .hbm => 183
  | .vmem => 0
  | .smem => 0
  | _ => 0

abbrev hbmTy0_0 (i : Nat) : BufTy := match i % 128 with
  | 0 => ⟨S32768x1024, .bf16⟩
  | 1 => ⟨S32768x128, .f32⟩
  | 2 => ⟨S8x1024x7168, .f32⟩
  | 3 => ⟨S8x3584x1024, .f32⟩
  | 4 => ⟨S32768x1024, .f32⟩
  | 5 => ⟨S_, .f32⟩
  | 6 => ⟨S32768x1024, .f32⟩
  | 7 => ⟨S1x1024x7168, .f32⟩
  | 8 => ⟨S1024x7168, .f32⟩
  | 9 => ⟨S32768x7168, .f32⟩
  | 10 => ⟨S32768x3584, .f32⟩
  | 11 => ⟨S32768x3584, .f32⟩
  | 12 => ⟨S32768x1, .f32⟩
  | 13 => ⟨S32768x3584, .f32⟩
  | 14 => ⟨S32768x3584, .f32⟩
  | 15 => ⟨S_, .f32⟩
  | 16 => ⟨S32768x3584, .f32⟩
  | 17 => ⟨S32768x3584, .f32⟩
  | 18 => ⟨S_, .f32⟩
  | 19 => ⟨S32768x3584, .f32⟩
  | 20 => ⟨S32768x3584, .f32⟩
  | 21 => ⟨S32768x3584, .f32⟩
  | 22 => ⟨S32768x3584, .f32⟩
  | 23 => ⟨S1x3584x1024, .f32⟩
  | 24 => ⟨S3584x1024, .f32⟩
  | 25 => ⟨S32768x1024, .f32⟩
  | 26 => ⟨S32768x1024, .f32⟩
  | 27 => ⟨S32768x1024, .f32⟩
  | 28 => ⟨S32768x1024, .f32⟩
  | 29 => ⟨S1x1024x7168, .f32⟩
  | 30 => ⟨S1024x7168, .f32⟩
  | 31 => ⟨S32768x7168, .f32⟩
  | 32 => ⟨S32768x3584, .f32⟩
  | 33 => ⟨S32768x3584, .f32⟩
  | 34 => ⟨S32768x1, .f32⟩
  | 35 => ⟨S32768x3584, .f32⟩
  | 36 => ⟨S32768x3584, .f32⟩
  | 37 => ⟨S_, .f32⟩
  | 38 => ⟨S32768x3584, .f32⟩
  | 39 => ⟨S32768x3584, .f32⟩
  | 40 => ⟨S_, .f32⟩
  | 41 => ⟨S32768x3584, .f32⟩
  | 42 => ⟨S32768x3584, .f32⟩
  | 43 => ⟨S32768x3584, .f32⟩
  | 44 => ⟨S32768x3584, .f32⟩
  | 45 => ⟨S1x3584x1024, .f32⟩
  | 46 => ⟨S3584x1024, .f32⟩
  | 47 => ⟨S32768x1024, .f32⟩
  | 48 => ⟨S32768x1024, .f32⟩
  | 49 => ⟨S32768x1024, .f32⟩
  | 50 => ⟨S32768x1024, .f32⟩
  | 51 => ⟨S1x1024x7168, .f32⟩
  | 52 => ⟨S1024x7168, .f32⟩
  | 53 => ⟨S32768x7168, .f32⟩
  | 54 => ⟨S32768x3584, .f32⟩
  | 55 => ⟨S32768x3584, .f32⟩
  | 56 => ⟨S32768x1, .f32⟩
  | 57 => ⟨S32768x3584, .f32⟩
  | 58 => ⟨S32768x3584, .f32⟩
  | 59 => ⟨S_, .f32⟩
  | 60 => ⟨S32768x3584, .f32⟩
  | 61 => ⟨S32768x3584, .f32⟩
  | 62 => ⟨S_, .f32⟩
  | 63 => ⟨S32768x3584, .f32⟩
  | 64 => ⟨S32768x3584, .f32⟩
  | 65 => ⟨S32768x3584, .f32⟩
  | 66 => ⟨S32768x3584, .f32⟩
  | 67 => ⟨S1x3584x1024, .f32⟩
  | 68 => ⟨S3584x1024, .f32⟩
  | 69 => ⟨S32768x1024, .f32⟩
  | 70 => ⟨S32768x1024, .f32⟩
  | 71 => ⟨S32768x1024, .f32⟩
  | 72 => ⟨S32768x1024, .f32⟩
  | 73 => ⟨S1x1024x7168, .f32⟩
  | 74 => ⟨S1024x7168, .f32⟩
  | 75 => ⟨S32768x7168, .f32⟩
  | 76 => ⟨S32768x3584, .f32⟩
  | 77 => ⟨S32768x3584, .f32⟩
  | 78 => ⟨S32768x1, .f32⟩
  | 79 => ⟨S32768x3584, .f32⟩
  | 80 => ⟨S32768x3584, .f32⟩
  | 81 => ⟨S_, .f32⟩
  | 82 => ⟨S32768x3584, .f32⟩
  | 83 => ⟨S32768x3584, .f32⟩
  | 84 => ⟨S_, .f32⟩
  | 85 => ⟨S32768x3584, .f32⟩
  | 86 => ⟨S32768x3584, .f32⟩
  | 87 => ⟨S32768x3584, .f32⟩
  | 88 => ⟨S32768x3584, .f32⟩
  | 89 => ⟨S1x3584x1024, .f32⟩
  | 90 => ⟨S3584x1024, .f32⟩
  | 91 => ⟨S32768x1024, .f32⟩
  | 92 => ⟨S32768x1024, .f32⟩
  | 93 => ⟨S32768x1024, .f32⟩
  | 94 => ⟨S32768x1024, .f32⟩
  | 95 => ⟨S1x1024x7168, .f32⟩
  | 96 => ⟨S1024x7168, .f32⟩
  | 97 => ⟨S32768x7168, .f32⟩
  | 98 => ⟨S32768x3584, .f32⟩
  | 99 => ⟨S32768x3584, .f32⟩
  | 100 => ⟨S32768x1, .f32⟩
  | 101 => ⟨S32768x3584, .f32⟩
  | 102 => ⟨S32768x3584, .f32⟩
  | 103 => ⟨S_, .f32⟩
  | 104 => ⟨S32768x3584, .f32⟩
  | 105 => ⟨S32768x3584, .f32⟩
  | 106 => ⟨S_, .f32⟩
  | 107 => ⟨S32768x3584, .f32⟩
  | 108 => ⟨S32768x3584, .f32⟩
  | 109 => ⟨S32768x3584, .f32⟩
  | 110 => ⟨S32768x3584, .f32⟩
  | 111 => ⟨S1x3584x1024, .f32⟩
  | 112 => ⟨S3584x1024, .f32⟩
  | 113 => ⟨S32768x1024, .f32⟩
  | 114 => ⟨S32768x1024, .f32⟩
  | 115 => ⟨S32768x1024, .f32⟩
  | 116 => ⟨S32768x1024, .f32⟩
  | 117 => ⟨S1x1024x7168, .f32⟩
  | 118 => ⟨S1024x7168, .f32⟩
  | 119 => ⟨S32768x7168, .f32⟩
  | 120 => ⟨S32768x3584, .f32⟩
  | 121 => ⟨S32768x3584, .f32⟩
  | 122 => ⟨S32768x1, .f32⟩
  | 123 => ⟨S32768x3584, .f32⟩
  | 124 => ⟨S32768x3584, .f32⟩
  | 125 => ⟨S_, .f32⟩
  | 126 => ⟨S32768x3584, .f32⟩
  | 127 => ⟨S32768x3584, .f32⟩
  | _ => ⟨S32768x1024, .bf16⟩

abbrev hbmTy0_1 (i : Nat) : BufTy := match i % 128 with
  | 0 => ⟨S_, .f32⟩
  | 1 => ⟨S32768x3584, .f32⟩
  | 2 => ⟨S32768x3584, .f32⟩
  | 3 => ⟨S32768x3584, .f32⟩
  | 4 => ⟨S32768x3584, .f32⟩
  | 5 => ⟨S1x3584x1024, .f32⟩
  | 6 => ⟨S3584x1024, .f32⟩
  | 7 => ⟨S32768x1024, .f32⟩
  | 8 => ⟨S32768x1024, .f32⟩
  | 9 => ⟨S32768x1024, .f32⟩
  | 10 => ⟨S32768x1024, .f32⟩
  | 11 => ⟨S1x1024x7168, .f32⟩
  | 12 => ⟨S1024x7168, .f32⟩
  | 13 => ⟨S32768x7168, .f32⟩
  | 14 => ⟨S32768x3584, .f32⟩
  | 15 => ⟨S32768x3584, .f32⟩
  | 16 => ⟨S32768x1, .f32⟩
  | 17 => ⟨S32768x3584, .f32⟩
  | 18 => ⟨S32768x3584, .f32⟩
  | 19 => ⟨S_, .f32⟩
  | 20 => ⟨S32768x3584, .f32⟩
  | 21 => ⟨S32768x3584, .f32⟩
  | 22 => ⟨S_, .f32⟩
  | 23 => ⟨S32768x3584, .f32⟩
  | 24 => ⟨S32768x3584, .f32⟩
  | 25 => ⟨S32768x3584, .f32⟩
  | 26 => ⟨S32768x3584, .f32⟩
  | 27 => ⟨S1x3584x1024, .f32⟩
  | 28 => ⟨S3584x1024, .f32⟩
  | 29 => ⟨S32768x1024, .f32⟩
  | 30 => ⟨S32768x1024, .f32⟩
  | 31 => ⟨S32768x1024, .f32⟩
  | 32 => ⟨S32768x1024, .f32⟩
  | 33 => ⟨S1x1024x7168, .f32⟩
  | 34 => ⟨S1024x7168, .f32⟩
  | 35 => ⟨S32768x7168, .f32⟩
  | 36 => ⟨S32768x3584, .f32⟩
  | 37 => ⟨S32768x3584, .f32⟩
  | 38 => ⟨S32768x1, .f32⟩
  | 39 => ⟨S32768x3584, .f32⟩
  | 40 => ⟨S32768x3584, .f32⟩
  | 41 => ⟨S_, .f32⟩
  | 42 => ⟨S32768x3584, .f32⟩
  | 43 => ⟨S32768x3584, .f32⟩
  | 44 => ⟨S_, .f32⟩
  | 45 => ⟨S32768x3584, .f32⟩
  | 46 => ⟨S32768x3584, .f32⟩
  | 47 => ⟨S32768x3584, .f32⟩
  | 48 => ⟨S32768x3584, .f32⟩
  | 49 => ⟨S1x3584x1024, .f32⟩
  | 50 => ⟨S3584x1024, .f32⟩
  | 51 => ⟨S32768x1024, .f32⟩
  | 52 => ⟨S32768x1024, .f32⟩
  | 53 => ⟨S32768x1024, .f32⟩
  | 54 => ⟨S32768x1024, .f32⟩
  | _ => ⟨S32768x1024, .bf16⟩

abbrev hbmTy (i : Nat) : BufTy := match i / 128 with
  | 0 => hbmTy0_0 i
  | 1 => hbmTy0_1 i
  | _ => ⟨S32768x1024, .bf16⟩

abbrev bufTy : (tb : Table) → Fin (tcTables nBuf tb) → BufTy
  | .hbm, ⟨i, _⟩ => hbmTy i
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call2_v0 : Ref sig .tc := ⟨.hbm, 57, rfl⟩
abbrev main_call2_v1 : Ref sig .tc := ⟨.hbm, 58, rfl⟩
abbrev main_call2_cst : Ref sig .tc := ⟨.hbm, 59, rfl⟩
abbrev main_call2_v2 : Ref sig .tc := ⟨.hbm, 60, rfl⟩
abbrev main_call2_v3 : Ref sig .tc := ⟨.hbm, 61, rfl⟩
abbrev main_call2_cst_0 : Ref sig .tc := ⟨.hbm, 62, rfl⟩
abbrev main_call2_v4 : Ref sig .tc := ⟨.hbm, 63, rfl⟩
abbrev main_call2_v5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_call3_v0 : Ref sig .tc := ⟨.hbm, 79, rfl⟩
abbrev main_call3_v1 : Ref sig .tc := ⟨.hbm, 80, rfl⟩
abbrev main_call3_cst : Ref sig .tc := ⟨.hbm, 81, rfl⟩
abbrev main_call3_v2 : Ref sig .tc := ⟨.hbm, 82, rfl⟩
abbrev main_call3_v3 : Ref sig .tc := ⟨.hbm, 83, rfl⟩
abbrev main_call3_cst_0 : Ref sig .tc := ⟨.hbm, 84, rfl⟩
abbrev main_call3_v4 : Ref sig .tc := ⟨.hbm, 85, rfl⟩
abbrev main_call3_v5 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_call4_v0 : Ref sig .tc := ⟨.hbm, 101, rfl⟩
abbrev main_call4_v1 : Ref sig .tc := ⟨.hbm, 102, rfl⟩
abbrev main_call4_cst : Ref sig .tc := ⟨.hbm, 103, rfl⟩
abbrev main_call4_v2 : Ref sig .tc := ⟨.hbm, 104, rfl⟩
abbrev main_call4_v3 : Ref sig .tc := ⟨.hbm, 105, rfl⟩
abbrev main_call4_cst_0 : Ref sig .tc := ⟨.hbm, 106, rfl⟩
abbrev main_call4_v4 : Ref sig .tc := ⟨.hbm, 107, rfl⟩
abbrev main_call4_v5 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_call5_v0 : Ref sig .tc := ⟨.hbm, 123, rfl⟩
abbrev main_call5_v1 : Ref sig .tc := ⟨.hbm, 124, rfl⟩
abbrev main_call5_cst : Ref sig .tc := ⟨.hbm, 125, rfl⟩
abbrev main_call5_v2 : Ref sig .tc := ⟨.hbm, 126, rfl⟩
abbrev main_call5_v3 : Ref sig .tc := ⟨.hbm, 127, rfl⟩
abbrev main_call5_cst_0 : Ref sig .tc := ⟨.hbm, 128, rfl⟩
abbrev main_call5_v4 : Ref sig .tc := ⟨.hbm, 129, rfl⟩
abbrev main_call5_v5 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_call6_v0 : Ref sig .tc := ⟨.hbm, 145, rfl⟩
abbrev main_call6_v1 : Ref sig .tc := ⟨.hbm, 146, rfl⟩
abbrev main_call6_cst : Ref sig .tc := ⟨.hbm, 147, rfl⟩
abbrev main_call6_v2 : Ref sig .tc := ⟨.hbm, 148, rfl⟩
abbrev main_call6_v3 : Ref sig .tc := ⟨.hbm, 149, rfl⟩
abbrev main_call6_cst_0 : Ref sig .tc := ⟨.hbm, 150, rfl⟩
abbrev main_call6_v4 : Ref sig .tc := ⟨.hbm, 151, rfl⟩
abbrev main_call6_v5 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_call7_v0 : Ref sig .tc := ⟨.hbm, 167, rfl⟩
abbrev main_call7_v1 : Ref sig .tc := ⟨.hbm, 168, rfl⟩
abbrev main_call7_cst : Ref sig .tc := ⟨.hbm, 169, rfl⟩
abbrev main_call7_v2 : Ref sig .tc := ⟨.hbm, 170, rfl⟩
abbrev main_call7_v3 : Ref sig .tc := ⟨.hbm, 171, rfl⟩
abbrev main_call7_cst_0 : Ref sig .tc := ⟨.hbm, 172, rfl⟩
abbrev main_call7_v4 : Ref sig .tc := ⟨.hbm, 173, rfl⟩
abbrev main_call7_v5 : Ref sig .tc := ⟨.hbm, 174, rfl⟩
abbrev main_v106 : Ref sig .tc := ⟨.hbm, 175, rfl⟩
abbrev main_v107 : Ref sig .tc := ⟨.hbm, 176, rfl⟩
abbrev main_v108 : Ref sig .tc := ⟨.hbm, 177, rfl⟩
abbrev main_v109 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩

abbrev nD : Nat := 1
abbrev τ : Topo := Topo.v7x

variable {F : FTy → Type} [FloatOps F]
-- ==== Kernel2.lean ====
abbrev S32768x1024 : Shape := ⟨2, ![32768, 1024]⟩
abbrev S8x1x1024 : Shape := ⟨3, ![8, 1, 1024]⟩
abbrev S1024 : Shape := ⟨1, ![1024]⟩
abbrev S1x1024 : Shape := ⟨2, ![1, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S8x1x1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x1024 : Shape := ⟨2, ![32768, 1024]⟩
abbrev S8x1x1024 : Shape := ⟨3, ![8, 1, 1024]⟩
abbrev S1024 : Shape := ⟨1, ![1024]⟩
abbrev S8x4096x1024 : Shape := ⟨3, ![8, 4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S8x1x1024, .f32⟩
  | .hbm, ⟨3, _⟩ => ⟨S1024, .f32⟩
  | .hbm, ⟨4, _⟩ => ⟨S1024, .f32⟩
  | .hbm, ⟨5, _⟩ => ⟨S8x4096x1024, .f32⟩
  | .hbm, ⟨6, _⟩ => ⟨S8x4096x1024, .f32⟩
  | .hbm, ⟨7, _⟩ => ⟨S_, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1, .f32⟩
  | .hbm, ⟨32, _⟩ => ⟨S8x4096x1024, .f32⟩
  | .hbm, ⟨33, _⟩ => ⟨S8x4096x1024, .f32⟩
  | .hbm, ⟨34, _⟩ => ⟨S1x1x1024, .f32⟩
  | .hbm, ⟨35, _⟩ => ⟨S8x4096x1024, .f32⟩
  | .hbm, ⟨36, _⟩ => ⟨S8x4096x1024, .f32⟩
  | .hbm, ⟨37, _⟩ => ⟨S1x1x1024, .f32⟩
  | .hbm, ⟨38, _⟩ => ⟨S8x4096x1024, .f32⟩
  | .hbm, ⟨39, _⟩ => ⟨S8x4096x1024, .f32⟩
  | .hbm, ⟨40, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Kernel3.lean ====
abbrev S32768x1024 : Shape := ⟨2, ![32768, 1024]⟩
abbrev S1024x5632 : Shape := ⟨2, ![1024, 5632]⟩
abbrev S2816x1024 : Shape := ⟨2, ![2816, 1024]⟩
abbrev S8x1x1024 : Shape := ⟨3, ![8, 1, 1024]⟩
abbrev S1024 : Shape := ⟨1, ![1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S1x1x1024 : Shape := ⟨3, ![1, 1, 1024]⟩
abbrev S512x1408 : Shape := ⟨2, ![512, 1408]⟩
abbrev S512 : Shape := ⟨1, ![512]⟩
abbrev S512x1 : Shape := ⟨2, ![512, 1]⟩

abbrev nBuf : Space → Nat
  | .hbm => 15
  | .vmem => 23
  | .smem => 0
  | _ => 0

abbrev bufTy : (tb : Table) → Fin (tcTables nBuf tb) → BufTy
  | .hbm, ⟨0, _⟩ => ⟨S32768x1024, .bf16⟩
  | .hbm, ⟨1, _⟩ => ⟨S1024x5632, .f32⟩
  | .hbm, ⟨2, _⟩ => ⟨S2816x1024, .f32⟩
  | .hbm, ⟨3, _⟩ => ⟨S32768x1024, .f32⟩
  | .hbm, ⟨4, _⟩ => ⟨S8x1x1024, .f32⟩
  | .hbm, ⟨5, _⟩ => ⟨S1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S1024x5632, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S32768x1024, .f32⟩
  | .hbm, ⟨14, _⟩ => ⟨S32768x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1408x1024, .bf16⟩
  | .local _ .vmem, ⟨7, _⟩ => ⟨S1408x1024, .bf16⟩
  | .local _ .vmem, ⟨8, _⟩ => ⟨S512x1024, .f32⟩
  | .local _ .vmem, ⟨9, _⟩ => ⟨S512x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference3Ideal.lean ====
abbrev S32768x1024 : Shape := ⟨2, ![32768, 1024]⟩
abbrev S1024x5632 : Shape := ⟨2, ![1024, 5632]⟩
abbrev S2816x1024 : Shape := ⟨2, ![2816, 1024]⟩
abbrev S8x1x1024 : Shape := ⟨3, ![8, 1, 1024]⟩
abbrev S1024 : Shape := ⟨1, ![1024]⟩
abbrev S32768x5632 : Shape := ⟨2, ![32768, 5632]⟩
abbrev S32768x2816 : Shape := ⟨2, ![32768, 2816]⟩
abbrev S_ : Shape := ⟨0, ![]⟩
abbrev S8x4096x1024 : Shape := ⟨3, ![8, 4096, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x5632, .f32⟩
  | .hbm, ⟨2, _⟩ => ⟨S2816x1024, .f32⟩
  | .hbm, ⟨3, _⟩ => ⟨S32768x1024, .f32⟩
  | .hbm, ⟨4, _⟩ => ⟨S8x1x1024, .f32⟩
  | .hbm, ⟨5, _⟩ => ⟨S1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S32768x1024, .f32⟩
  | .hbm, ⟨10, _⟩ => ⟨S32768x5632, .f32⟩
  | .hbm, ⟨11, _⟩ => ⟨S32768x2816, .f32⟩
  | .hbm, ⟨12, _⟩ => ⟨S32768x2816, .f32⟩
  | .hbm, ⟨13, _⟩ => ⟨S32768x2816, .f32⟩
  | .hbm, ⟨14, _⟩ => ⟨S32768x2816, .f32⟩
  | .hbm, ⟨15, _⟩ => ⟨S_, .f32⟩
  | .hbm, ⟨16, _⟩ => ⟨S32768x2816, .f32⟩
  | .hbm, ⟨17, _⟩ => ⟨S32768x2816, .f32⟩
  | .hbm, ⟨18, _⟩ => ⟨S_, .f32⟩
  | .hbm, ⟨19, _⟩ => ⟨S32768x2816, .f32⟩
  | .hbm, ⟨20, _⟩ => ⟨S32768x2816, .f32⟩
  | .hbm, ⟨21, _⟩ => ⟨S32768x2816, .f32⟩
  | .hbm, ⟨22, _⟩ => ⟨S32768x2816, .f32⟩
  | .hbm, ⟨23, _⟩ => ⟨S32768x1024, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S8x4096x1024, .f32⟩
  | .hbm, ⟨39, _⟩ => ⟨S8x4096x1024, .f32⟩
  | .hbm, ⟨40, _⟩ => ⟨S8x4096x1024, .f32⟩
  | .hbm, ⟨41, _⟩ => ⟨S_, .f32⟩
  | .hbm, ⟨42, _⟩ => ⟨S8x4096, .f32⟩
  | .hbm, ⟨43, _⟩ => ⟨S8x4096x1, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S_, .f32⟩
  | .hbm, ⟨48, _⟩ => ⟨S8x4096x1, .f32⟩
  | .hbm, ⟨49, _⟩ => ⟨S8x4096x1, .f32⟩
  | .hbm, ⟨50, _⟩ => ⟨S8x4096x1, .f32⟩
  | .hbm, ⟨51, _⟩ => ⟨S8x4096x1024, .f32⟩
  | .hbm, ⟨52, _⟩ => ⟨S8x4096x1024, .f32⟩
  | .hbm, ⟨53, _⟩ => ⟨S1x1x1024, .f32⟩
  | .hbm, ⟨54, _⟩ => ⟨S8x4096x1024, .f32⟩
  | .hbm, ⟨55, _⟩ => ⟨S8x4096x1024, .f32⟩
  | .hbm, ⟨56, _⟩ => ⟨S1x1x1024, .f32⟩
  | .hbm, ⟨57, _⟩ => ⟨S8x4096x1024, .f32⟩
  | .hbm, ⟨58, _⟩ => ⟨S8x4096x1024, .f32⟩
  | .hbm, ⟨59, _⟩ => ⟨S_, .f32⟩
  | .hbm, ⟨60, _⟩ => ⟨S8x1x1024, .f32⟩
  | .hbm, ⟨61, _⟩ => ⟨S8x1x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S32768x1024, .f32⟩
  | .hbm, ⟨67, _⟩ => ⟨S8x4096x1024, .bf16⟩
  | .hbm, ⟨68, _⟩ => ⟨S32768x1024, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_2 : Ref sig .tc := ⟨.hbm, 41, rfl⟩
abbrev main_v21 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_5 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Kernel4.lean ====
abbrev S32768x1024 : Shape := ⟨2, ![32768, 1024]⟩
abbrev S1024x6208 : Shape := ⟨2, ![1024, 6208]⟩
abbrev S1024x4096 : Shape := ⟨2, ![1024, 4096]⟩
abbrev S8x64x64x1024 : Shape := ⟨4, ![8, 64, 64, 1024]⟩
abbrev S512x512 : Shape := ⟨2, ![512, 512]⟩
abbrev S_ : Shape := ⟨0, ![]⟩
abbrev S16x32x512 : Shape := ⟨3, ![16, 32, 512]⟩
abbrev S32x16x512 : Shape := ⟨3, ![32, 16, 512]⟩
abbrev S8x64x64x4096 : Shape := ⟨4, ![8, 64, 64, 4096]⟩
abbrev S1x16x32x1024 : Shape := ⟨4, ![1, 16, 32, 1024]⟩
abbrev S1024x2048 : Shape := ⟨2, ![1024, 2048]⟩
abbrev S1x32x16x2048 : Shape := ⟨4, ![1, 32, 16, 2048]⟩
abbrev S512x1024 : Shape := ⟨2, ![512, 1024]⟩
abbrev S512x2048 : Shape := ⟨2, ![512, 2048]⟩

abbrev nBuf : Space → Nat
  | .hbm => 17
  | .vmem => 8
  | .smem => 0
  | _ => 0

abbrev bufTy : (tb : Table) → Fin (tcTables nBuf tb) → BufTy
  | .hbm, ⟨0, _⟩ => ⟨S32768x1024, .bf16⟩
  | .hbm, ⟨1, _⟩ => ⟨S1024x6208, .f32⟩
  | .hbm, ⟨2, _⟩ => ⟨S1024x4096, .f32⟩
  | .hbm, ⟨3, _⟩ => ⟨S1024x4096, .bf16⟩
  | .hbm, ⟨4, _⟩ => ⟨S8x64x64x1024, .bf16⟩
  | .hbm, ⟨5, _⟩ => ⟨S512x512, .i32⟩
  | .hbm, ⟨6, _⟩ => ⟨S512x512, .i32⟩
  | .hbm, ⟨7, _⟩ => ⟨S_, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S512x512, .f32⟩
  | .hbm, ⟨12, _⟩ => ⟨S16x32x512, .f32⟩
  | .hbm, ⟨13, _⟩ => ⟨S32x16x512, .f32⟩
  | .hbm, ⟨14, _⟩ => ⟨S512x512, .f32⟩
  | .hbm, ⟨15, _⟩ => ⟨S512x512, .bf16⟩
  | .hbm, ⟨16, _⟩ => ⟨S8x64x64x4096, .bf16⟩
  | .local _ .vmem, ⟨0, _⟩ => ⟨S1x16x32x1024, .bf16⟩
  | .local _ .vmem, ⟨1, _⟩ => ⟨S1x16x32x1024, .bf16⟩
  | .local _ .vmem, ⟨2, _⟩ => ⟨S1024x2048, .bf16⟩
  | .local _ .vmem, ⟨3, _⟩ => ⟨S1024x2048, .bf16⟩
  | .local _ .vmem, ⟨4, _⟩ => ⟨S512x512, .bf16⟩
  | .local _ .vmem, ⟨5, _⟩ => ⟨S1x32x16x2048, .bf16⟩
  | .local _ .vmem, ⟨6, _⟩ => ⟨S1x32x16x2048, .bf16⟩
  | .local _ .vmem, ⟨7, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![8, 4, 2, 2], ![false, false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat, arg3.toNat]

abbrev stage0_0 : Fin 2 → Memref sig .tc .vmem S1x16x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, false, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 2 → Memref sig .tc .vmem S1x32x16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]
-- ==== Reference4Ideal.lean ====
abbrev S32768x1024 : Shape := ⟨2, ![32768, 1024]⟩
abbrev S1024x6208 : Shape := ⟨2, ![1024, 6208]⟩
abbrev S8x64x64x1024 : Shape := ⟨4, ![8, 64, 64, 1024]⟩
abbrev S8x4096x1024 : Shape := ⟨3, ![8, 4096, 1024]⟩
abbrev S8x4096x6208 : Shape := ⟨3, ![8, 4096, 6208]⟩
abbrev S8x4096x4096 : Shape := ⟨3, ![8, 4096, 4096]⟩
abbrev S8x4096x2048 : Shape := ⟨3, ![8, 4096, 2048]⟩
abbrev S8x4096x64 : Shape := ⟨3, ![8, 4096, 64]⟩
abbrev S8x64x64x4096 : Shape := ⟨4, ![8, 64, 64, 4096]⟩

abbrev nBuf : Space → Nat
  | .hbm => 12
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x6208, .f32⟩
  | .hbm, ⟨2, _⟩ => ⟨S32768x1024, .f32⟩
  | .hbm, ⟨3, _⟩ => ⟨S8x64x64x1024, .f32⟩
  | .hbm, ⟨4, _⟩ => ⟨S8x64x64x1024, .f32⟩
  | .hbm, ⟨5, _⟩ => ⟨S8x4096x1024, .f32⟩
  | .hbm, ⟨6, _⟩ => ⟨S8x4096x6208, .f32⟩
  | .hbm, ⟨7, _⟩ => ⟨S8x4096x4096, .f32⟩
  | .hbm, ⟨8, _⟩ => ⟨S8x4096x2048, .f32⟩
  | .hbm, ⟨9, _⟩ => ⟨S8x4096x64, .f32⟩
  | .hbm, ⟨10, _⟩ => ⟨S8x4096x4096, .bf16⟩
  | .hbm, ⟨11, _⟩ => ⟨S8x64x64x4096, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel5.lean ====
abbrev S32768x1024 : Shape := ⟨2, ![32768, 1024]⟩
abbrev S1024x5184 : Shape := ⟨2, ![1024, 5184]⟩
abbrev S1024x3072 : Shape := ⟨2, ![1024, 3072]⟩
abbrev S8x64x64x1024 : Shape := ⟨4, ![8, 64, 64, 1024]⟩
abbrev S512x512 : Shape := ⟨2, ![512, 512]⟩
abbrev S_ : Shape := ⟨0, ![]⟩
abbrev S16x32x512 : Shape := ⟨3, ![16, 32, 512]⟩
abbrev S32x16x512 : Shape := ⟨3, ![32, 16, 512]⟩
abbrev S8x64x64x3072 : Shape := ⟨4, ![8, 64, 64, 3072]⟩
abbrev S1x16x32x1024 : Shape := ⟨4, ![1, 16, 32, 1024]⟩
abbrev S1024x1536 : Shape := ⟨2, ![1024, 1536]⟩
abbrev S1x32x16x1536 : Shape := ⟨4, ![1, 32, 16, 1536]⟩
abbrev S512x1024 : Shape := ⟨2, ![512, 1024]⟩
abbrev S512x1536 : Shape := ⟨2, ![512, 1536]⟩

abbrev nBuf : Space → Nat
  | .hbm => 17
  | .vmem => 8
  | .smem => 0
  | _ => 0

abbrev bufTy : (tb : Table) → Fin (tcTables nBuf tb) → BufTy
  | .hbm, ⟨0, _⟩ => ⟨S32768x1024, .bf16⟩
  | .hbm, ⟨1, _⟩ => ⟨S1024x5184, .f32⟩
  | .hbm, ⟨2, _⟩ => ⟨S1024x3072, .f32⟩
  | .hbm, ⟨3, _⟩ => ⟨S1024x3072, .bf16⟩
  | .hbm, ⟨4, _⟩ => ⟨S8x64x64x1024, .bf16⟩
  | .hbm, ⟨5, _⟩ => ⟨S512x512, .i32⟩
  | .hbm, ⟨6, _⟩ => ⟨S512x512, .i32⟩
  | .hbm, ⟨7, _⟩ => ⟨S_, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S512x512, .f32⟩
  | .hbm, ⟨12, _⟩ => ⟨S16x32x512, .f32⟩
  | .hbm, ⟨13, _⟩ => ⟨S32x16x512, .f32⟩
  | .hbm, ⟨14, _⟩ => ⟨S512x512, .f32⟩
  | .hbm, ⟨15, _⟩ => ⟨S512x512, .bf16⟩
  | .hbm, ⟨16, _⟩ => ⟨S8x64x64x3072, .bf16⟩
  | .local _ .vmem, ⟨0, _⟩ => ⟨S1x16x32x1024, .bf16⟩
  | .local _ .vmem, ⟨1, _⟩ => ⟨S1x16x32x1024, .bf16⟩
  | .local _ .vmem, ⟨2, _⟩ => ⟨S1024x1536, .bf16⟩
  | .local _ .vmem, ⟨3, _⟩ => ⟨S1024x1536, .bf16⟩
  | .local _ .vmem, ⟨4, _⟩ => ⟨S512x512, .bf16⟩
  | .local _ .vmem, ⟨5, _⟩ => ⟨S1x32x16x1536, .bf16⟩
  | .local _ .vmem, ⟨6, _⟩ => ⟨S1x32x16x1536, .bf16⟩
  | .local _ .vmem, ⟨7, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨4, ![8, 4, 2, 2], ![false, false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat, arg3.toNat]

abbrev stage0_0 : Fin 2 → Memref sig .tc .vmem S1x16x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, false, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 2 → Memref sig .tc .vmem S1x32x16x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]
-- ==== Reference5Ideal.lean ====
abbrev S32768x1024 : Shape := ⟨2, ![32768, 1024]⟩
abbrev S1024x5184 : Shape := ⟨2, ![1024, 5184]⟩
abbrev S8x64x64x1024 : Shape := ⟨4, ![8, 64, 64, 1024]⟩
abbrev S8x4096x1024 : Shape := ⟨3, ![8, 4096, 1024]⟩
abbrev S8x4096x5184 : Shape := ⟨3, ![8, 4096, 5184]⟩
abbrev S8x4096x2048 : Shape := ⟨3, ![8, 4096, 2048]⟩
abbrev S8x4096x3072 : Shape := ⟨3, ![8, 4096, 3072]⟩
abbrev S8x4096x64 : Shape := ⟨3, ![8, 4096, 64]⟩
abbrev S8x64x64x3072 : Shape := ⟨4, ![8, 64, 64, 3072]⟩

abbrev nBuf : Space → Nat
  | .hbm => 12
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x5184, .f32⟩
  | .hbm, ⟨2, _⟩ => ⟨S32768x1024, .f32⟩
  | .hbm, ⟨3, _⟩ => ⟨S8x64x64x1024, .f32⟩
  | .hbm, ⟨4, _⟩ => ⟨S8x64x64x1024, .f32⟩
  | .hbm, ⟨5, _⟩ => ⟨S8x4096x1024, .f32⟩
  | .hbm, ⟨6, _⟩ => ⟨S8x4096x5184, .f32⟩
  | .hbm, ⟨7, _⟩ => ⟨S8x4096x2048, .f32⟩
  | .hbm, ⟨8, _⟩ => ⟨S8x4096x3072, .f32⟩
  | .hbm, ⟨9, _⟩ => ⟨S8x4096x64, .f32⟩
  | .hbm, ⟨10, _⟩ => ⟨S8x4096x3072, .bf16⟩
  | .hbm, ⟨11, _⟩ => ⟨S8x64x64x3072, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel6.lean ====
abbrev S32768x1024 : Shape := ⟨2, ![32768, 1024]⟩
abbrev S1024x2048 : Shape := ⟨2, ![1024, 2048]⟩
abbrev S8x64x64x1024 : Shape := ⟨4, ![8, 64, 64, 1024]⟩
abbrev S512x512 : Shape := ⟨2, ![512, 512]⟩
abbrev S_ : Shape := ⟨0, ![]⟩
abbrev S16x32x512 : Shape := ⟨3, ![16, 32, 512]⟩
abbrev S32x16x512 : Shape := ⟨3, ![32, 16, 512]⟩
abbrev S8x64x64x2048 : Shape := ⟨4, ![8, 64, 64, 2048]⟩
abbrev S1x16x32x1024 : Shape := ⟨4, ![1, 16, 32, 1024]⟩
abbrev S1x32x16x2048 : Shape := ⟨4, ![1, 32, 16, 2048]⟩
abbrev S512x1024 : Shape := ⟨2, ![512, 1024]⟩
abbrev S512x2048 : Shape := ⟨2, ![512, 2048]⟩

abbrev nBuf : Space → Nat
  | .hbm => 16
  | .vmem => 7
  | .smem => 0
  | _ => 0

abbrev bufTy : (tb : Table) → Fin (tcTables nBuf tb) → BufTy
  | .hbm, ⟨0, _⟩ => ⟨S32768x1024, .bf16⟩
  | .hbm, ⟨1, _⟩ => ⟨S1024x2048, .f32⟩
  | .hbm, ⟨2, _⟩ => ⟨S1024x2048, .bf16⟩
  | .hbm, ⟨3, _⟩ => ⟨S8x64x64x1024, .bf16⟩
  | .hbm, ⟨4, _⟩ => ⟨S512x512, .i32⟩
  | .hbm, ⟨5, _⟩ => ⟨S512x512, .i32⟩
  | .hbm, ⟨6, _⟩ => ⟨S_, .i32⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S512x512, .f32⟩
  | .hbm, ⟨11, _⟩ => ⟨S16x32x512, .f32⟩
  | .hbm, ⟨12, _⟩ => ⟨S32x16x512, .f32⟩
  | .hbm, ⟨13, _⟩ => ⟨S512x512, .f32⟩
  | .hbm, ⟨14, _⟩ => ⟨S512x512, .bf16⟩
  | .hbm, ⟨15, _⟩ => ⟨S8x64x64x2048, .bf16⟩
  | .local _ .vmem, ⟨0, _⟩ => ⟨S1x16x32x1024, .bf16⟩
  | .local _ .vmem, ⟨1, _⟩ => ⟨S1x16x32x1024, .bf16⟩
  | .local _ .vmem, ⟨2, _⟩ => ⟨S1024x2048, .bf16⟩
  | .local _ .vmem, ⟨3, _⟩ => ⟨S512x512, .bf16⟩
  | .local _ .vmem, ⟨4, _⟩ => ⟨S1x32x16x2048, .bf16⟩
  | .local _ .vmem, ⟨5, _⟩ => ⟨S1x32x16x2048, .bf16⟩
  | .local _ .vmem, ⟨6, _⟩ => ⟨S512x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨4, ![8, 4, 2, 1], ![false, false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg0.toNat, arg1.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![c0_i32.toNat, arg3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat, arg3.toNat]

abbrev stage0_0 : Fin 2 → Memref sig .tc .vmem S1x16x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false, false]

abbrev stage0_3 : Fin 2 → Memref sig .tc .vmem S1x32x16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, true]
-- ==== Reference6Ideal.lean ====
abbrev S32768x1024 : Shape := ⟨2, ![32768, 1024]⟩
abbrev S1024x2048 : Shape := ⟨2, ![1024, 2048]⟩
abbrev S8x64x64x1024 : Shape := ⟨4, ![8, 64, 64, 1024]⟩
abbrev S8x4096x1024 : Shape := ⟨3, ![8, 4096, 1024]⟩
abbrev S8x4096x2048 : Shape := ⟨3, ![8, 4096, 2048]⟩
abbrev S8x64x64x2048 : Shape := ⟨4, ![8, 64, 64, 2048]⟩

abbrev nBuf : Space → Nat
  | .hbm => 9
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x2048, .f32⟩
  | .hbm, ⟨2, _⟩ => ⟨S32768x1024, .f32⟩
  | .hbm, ⟨3, _⟩ => ⟨S8x64x64x1024, .f32⟩
  | .hbm, ⟨4, _⟩ => ⟨S8x64x64x1024, .f32⟩
  | .hbm, ⟨5, _⟩ => ⟨S8x4096x1024, .f32⟩
  | .hbm, ⟨6, _⟩ => ⟨S8x4096x2048, .f32⟩
  | .hbm, ⟨7, _⟩ => ⟨S8x4096x2048, .bf16⟩
  | .hbm, ⟨8, _⟩ => ⟨S8x64x64x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel7.lean ====
abbrev S32768x1024 : Shape := ⟨2, ![32768, 1024]⟩
abbrev S1024x3072 : Shape := ⟨2, ![1024, 3072]⟩
abbrev S3072 : Shape := ⟨1, ![3072]⟩
abbrev S1x3072 : Shape := ⟨2, ![1, 3072]⟩
abbrev S32768x3072 : Shape := ⟨2, ![32768, 3072]⟩
abbrev S512x1024 : Shape := ⟨2, ![512, 1024]⟩
abbrev S1024x1536 : Shape := ⟨2, ![1024, 1536]⟩
abbrev S1x1536 : Shape := ⟨2, ![1, 1536]⟩
abbrev S512x1536 : Shape := ⟨2, ![512, 1536]⟩

abbrev nBuf : Space → Nat
  | .hbm => 6
  | .vmem => 8
  | .smem => 0
  | _ => 0

abbrev bufTy : (tb : Table) → Fin (tcTables nBuf tb) → BufTy
  | .hbm, ⟨0, _⟩ => ⟨S32768x1024, .bf16⟩
  | .hbm, ⟨1, _⟩ => ⟨S1024x3072, .f32⟩
  | .hbm, ⟨2, _⟩ => ⟨S3072, .f32⟩
  | .hbm, ⟨3, _⟩ => ⟨S1024x3072, .bf16⟩
  | .hbm, ⟨4, _⟩ => ⟨S1x3072, .f32⟩
  | .hbm, ⟨5, _⟩ => ⟨S32768x3072, .bf16⟩
  | .local _ .vmem, ⟨0, _⟩ => ⟨S512x1024, .bf16⟩
  | .local _ .vmem, ⟨1, _⟩ => ⟨S512x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1x1536, .f32⟩
  | .local _ .vmem, ⟨5, _⟩ => ⟨S1x1536, .f32⟩
  | .local _ .vmem, ⟨6, _⟩ => ⟨S512x1536, .bf16⟩
  | .local _ .vmem, ⟨7, _⟩ => ⟨S512x1536, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![64, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S32768x1024 : Shape := ⟨2, ![32768, 1024]⟩
abbrev S1024x3072 : Shape := ⟨2, ![1024, 3072]⟩
abbrev S3072 : Shape := ⟨1, ![3072]⟩
abbrev S32768x3072 : Shape := ⟨2, ![32768, 3072]⟩
abbrev S1x3072 : Shape := ⟨2, ![1, 3072]⟩

abbrev nBuf : Space → Nat
  | .hbm => 9
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S1024x3072, .f32⟩
  | .hbm, ⟨2, _⟩ => ⟨S3072, .f32⟩
  | .hbm, ⟨3, _⟩ => ⟨S32768x1024, .f32⟩
  | .hbm, ⟨4, _⟩ => ⟨S32768x3072, .f32⟩
  | .hbm, ⟨5, _⟩ => ⟨S1x3072, .f32⟩
  | .hbm, ⟨6, _⟩ => ⟨S32768x3072, .f32⟩
  | .hbm, ⟨7, _⟩ => ⟨S32768x3072, .f32⟩
  | .hbm, ⟨8, _⟩ => ⟨S32768x3072, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S1x4096x8192 : Shape := ⟨3, ![1, 4096, 8192]⟩
abbrev S1024x1024 : Shape := ⟨2, ![1024, 1024]⟩
abbrev S1024 : Shape := ⟨1, ![1024]⟩
abbrev S32768x1024 : Shape := ⟨2, ![32768, 1024]⟩
abbrev S8x1x1024 : Shape := ⟨3, ![8, 1, 1024]⟩
abbrev S1x1024 : Shape := ⟨2, ![1, 1024]⟩
abbrev S1x512x1024 : Shape := ⟨3, ![1, 512, 1024]⟩
abbrev S512x1024 : Shape := ⟨2, ![512, 1024]⟩
abbrev S1x1x1024 : Shape := ⟨3, ![1, 1, 1024]⟩
abbrev S512 : Shape := ⟨1, ![512]⟩
abbrev S512x1 : Shape := ⟨2, ![512, 1]⟩

abbrev nBuf : Space → Nat
  | .hbm => 15
  | .vmem => 18
  | .smem => 0
  | _ => 0

abbrev bufTy : (tb : Table) → Fin (tcTables nBuf tb) → BufTy
  | .hbm, ⟨0, _⟩ => ⟨S1x4096x8192, .bf16⟩
  | .hbm, ⟨1, _⟩ => ⟨S1024x1024, .f32⟩
  | .hbm, ⟨2, _⟩ => ⟨S1024, .f32⟩
  | .hbm, ⟨3, _⟩ => ⟨S32768x1024, .f32⟩
  | .hbm, ⟨4, _⟩ => ⟨S8x1x1024, .f32⟩
  | .hbm, ⟨5, _⟩ => ⟨S1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S1024x1024, .bf16⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S32768x1024, .f32⟩
  | .hbm, ⟨14, _⟩ => ⟨S32768x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1024x1024, .bf16⟩
  | .local _ .vmem, ⟨3, _⟩ => ⟨S1x1024, .f32⟩
  | .local _ .vmem, ⟨4, _⟩ => ⟨S512x1024, .f32⟩
  | .local _ .vmem, ⟨5, _⟩ => ⟨S512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024, .f32⟩
  | .local _ .vmem, ⟨9, _⟩ => ⟨S1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | _, _ => ⟨S1x4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c8_i32_3 : BitVec 32 := 8#32
  let v10 : BitVec 32 := Scalar.divsi arg0 c8_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c8_i32_3 c0_i32_6
  let v17 : BitVec 32 := Scalar.extui v16
  let c0_i32_7 : BitVec 32 := 0#32
  let v18 : BitVec 1 := Scalar.cmpi .slt c8_i32_3 c0_i32_7
  let v19 : BitVec 32 := Scalar.extui v18
  let v20 : BitVec 32 := Scalar.subi v17 v19
  let v21 : BitVec 1 := Scalar.cmpi .ne v15 v20
  let v22 : BitVec 32 := Scalar.remsi arg0 c8_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![c0_i32_10.toNat, v9.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference8Ideal.lean ====
abbrev S1x4096x8192 : Shape := ⟨3, ![1, 4096, 8192]⟩
abbrev S1024x1024 : Shape := ⟨2, ![1024, 1024]⟩
abbrev S1024 : Shape := ⟨1, ![1024]⟩
abbrev S32768x1024 : Shape := ⟨2, ![32768, 1024]⟩
abbrev S8x1x1024 : Shape := ⟨3, ![8, 1, 1024]⟩
abbrev S4096x8x1024 : Shape := ⟨3, ![4096, 8, 1024]⟩
abbrev S8x4096x1024 : Shape := ⟨3, ![8, 4096, 1024]⟩
abbrev S1x1x1024 : Shape := ⟨3, ![1, 1, 1024]⟩
abbrev S_ : Shape := ⟨0, ![]⟩
abbrev S8x4096 : Shape := ⟨2, ![8, 4096]⟩
abbrev S8x4096x1 : Shape := ⟨3, ![8, 4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S1x4096x8192, .bf16⟩
  | .hbm, ⟨1, _⟩ => ⟨S1024x1024, .f32⟩
  | .hbm, ⟨2, _⟩ => ⟨S1024, .f32⟩
  | .hbm, ⟨3, _⟩ => ⟨S32768x1024, .f32⟩
  | .hbm, ⟨4, _⟩ => ⟨S8x1x1024, .f32⟩
  | .hbm, ⟨5, _⟩ => ⟨S1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S4096x8x1024, .bf16⟩
  | .hbm, ⟨10, _⟩ => ⟨S8x4096x1024, .bf16⟩
  | .hbm, ⟨11, _⟩ => ⟨S8x4096x1024, .f32⟩
  | .hbm, ⟨12, _⟩ => ⟨S8x4096x1024, .f32⟩
  | .hbm, ⟨13, _⟩ => ⟨S1x1x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S_, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S_, .f32⟩
  | .hbm, ⟨39, _⟩ => ⟨S8x4096x1, .f32⟩
  | .hbm, ⟨40, _⟩ => ⟨S8x4096x1, .f32⟩
  | .hbm, ⟨41, _⟩ => ⟨S8x4096x1, .f32⟩
  | .hbm, ⟨42, _⟩ => ⟨S8x4096x1024, .f32⟩
  | .hbm, ⟨43, _⟩ => ⟨S8x4096x1024, .f32⟩
  | .hbm, ⟨44, _⟩ => ⟨S1x1x1024, .f32⟩
  | .hbm, ⟨45, _⟩ => ⟨S8x4096x1024, .f32⟩
  | .hbm, ⟨46, _⟩ => ⟨S8x4096x1024, .f32⟩
  | .hbm, ⟨47, _⟩ => ⟨S1x1x1024, .f32⟩
  | .hbm, ⟨48, _⟩ => ⟨S8x4096x1024, .f32⟩
  | .hbm, ⟨49, _⟩ => ⟨S8x4096x1024, .f32⟩
  | .hbm, ⟨50, _⟩ => ⟨S_, .f32⟩
  | .hbm, ⟨51, _⟩ => ⟨S8x1x1024, .f32⟩
  | .hbm, ⟨52, _⟩ => ⟨S8x1x1024, .f32⟩
  | .hbm, ⟨53, _⟩ => ⟨S8x4096x1024, .f32⟩
  | .hbm, ⟨54, _⟩ => ⟨S8x4096x1024, .f32⟩
  | .hbm, ⟨55, _⟩ => ⟨S8x4096x1024, .f32⟩
  | .hbm, ⟨56, _⟩ => ⟨S8x4096x1024, .f32⟩
  | .hbm, ⟨57, _⟩ => ⟨S32768x1024, .f32⟩
  | .hbm, ⟨58, _⟩ => ⟨S8x4096x1024, .bf16⟩
  | .hbm, ⟨59, _⟩ => ⟨S32768x1024, .bf16⟩
  | _, _ => ⟨S1x4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel9.lean ====
abbrev S2x32768x2048 : Shape := ⟨3, ![2, 32768, 2048]⟩
abbrev S32768x3072 : Shape := ⟨2, ![32768, 3072]⟩
abbrev S32768x2048 : Shape := ⟨2, ![32768, 2048]⟩
abbrev S32 : Shape := ⟨1, ![32]⟩
abbrev S2048 : Shape := ⟨1, ![2048]⟩
abbrev S2048x1024 : Shape := ⟨2, ![2048, 1024]⟩
abbrev S32768x1024 : Shape := ⟨2, ![32768, 1024]⟩
abbrev S8x1x1024 : Shape := ⟨3, ![8, 1, 1024]⟩
abbrev S1024 : Shape := ⟨1, ![1024]⟩
abbrev S32x64 : Shape := ⟨2, ![32, 64]⟩
abbrev S1x2048 : Shape := ⟨2, ![1, 2048]⟩
abbrev S2x8x64x64x2048 : Shape := ⟨5, ![2, 8, 64, 64, 2048]⟩
abbrev S8x64x64x3072 : Shape := ⟨4, ![8, 64, 64, 3072]⟩
abbrev S8x64x64x2048 : Shape := ⟨4, ![8, 64, 64, 2048]⟩
abbrev S512x512 : Shape := ⟨2, ![512, 512]⟩
abbrev S_ : Shape := ⟨0, ![]⟩
abbrev S16x32x512 : Shape := ⟨3, ![16, 32, 512]⟩
abbrev S32x16x512 : Shape := ⟨3, ![32, 16, 512]⟩
abbrev S8x64x64x1024 : Shape := ⟨4, ![8, 64, 64, 1024]⟩
abbrev S1x1024 : Shape := ⟨2, ![1, 1024]⟩
abbrev S1x1x32x16x2048 : Shape := ⟨5, ![1, 1, 32, 16, 2048]⟩
abbrev S1x32x16x2048 : Shape := ⟨4, ![1, 32, 16, 2048]⟩
abbrev S1x16x32x1024 : Shape := ⟨4, ![1, 16, 32, 1024]⟩
abbrev S1x1x1024 : Shape := ⟨3, ![1, 1, 1024]⟩
abbrev S512x2048 : Shape := ⟨2, ![512, 2048]⟩
abbrev S512 : Shape := ⟨1, ![512]⟩
abbrev S512x1 : Shape := ⟨2, ![512, 1]⟩
abbrev S512x1024 : Shape := ⟨2, ![512, 1024]⟩

abbrev nBuf : Space → Nat
  | .hbm => 38
  | .vmem => 26
  | .smem => 0
  | _ => 0

abbrev bufTy : (tb : Table) → Fin (tcTables nBuf tb) → BufTy
  | .hbm, ⟨0, _⟩ => ⟨S2x32768x2048, .bf16⟩
  | .hbm, ⟨1, _⟩ => ⟨S32768x3072, .bf16⟩
  | .hbm, ⟨2, _⟩ => ⟨S32768x2048, .bf16⟩
  | .hbm, ⟨3, _⟩ => ⟨S32, .f32⟩
  | .hbm, ⟨4, _⟩ => ⟨S2048, .f32⟩
  | .hbm, ⟨5, _⟩ => ⟨S2048x1024, .f32⟩
  | .hbm, ⟨6, _⟩ => ⟨S32768x1024, .f32⟩
  | .hbm, ⟨7, _⟩ => ⟨S8x1x1024, .f32⟩
  | .hbm, ⟨8, _⟩ => ⟨S1024, .f32⟩
  | .hbm, ⟨9, _⟩ => ⟨S1024, .f32⟩
  | .hbm, ⟨10, _⟩ => ⟨S8x1x1024, .f32⟩
  | .hbm, ⟨11, _⟩ => ⟨S8x1x1024, .f32⟩
  | .hbm, ⟨12, _⟩ => ⟨S32x64, .f32⟩
  | .hbm, ⟨13, _⟩ => ⟨S2048, .f32⟩
  | .hbm, ⟨14, _⟩ => ⟨S1x2048, .f32⟩
  | .hbm, ⟨15, _⟩ => ⟨S1x2048, .f32⟩
  | .hbm, ⟨16, _⟩ => ⟨S2x8x64x64x2048, .bf16⟩
  | .hbm, ⟨17, _⟩ => ⟨S2x8x64x64x2048, .bf16⟩
  | .hbm, ⟨18, _⟩ => ⟨S8x64x64x3072, .bf16⟩
  | .hbm, ⟨19, _⟩ => ⟨S8x64x64x2048, .bf16⟩
  | .hbm, ⟨20, _⟩ => ⟨S2048x1024, .bf16⟩
  | .hbm, ⟨21, _⟩ => ⟨S512x512, .i32⟩
  | .hbm, ⟨22, _⟩ => ⟨S512x512, .i32⟩
  | .hbm, ⟨23, _⟩ => ⟨S_, .i32⟩
  | .hbm, ⟨24, _⟩ => ⟨S512x512, .i32⟩
  | .hbm, ⟨25, _⟩ => ⟨S512x512, .i32⟩
  | .hbm, ⟨26, _⟩ => ⟨S512x512, .i1⟩
  | .hbm, ⟨27, _⟩ => ⟨S512x512, .f32⟩
  | .hbm, ⟨28, _⟩ => ⟨S16x32x512, .f32⟩
  | .hbm, ⟨29, _⟩ => ⟨S32x16x512, .f32⟩
  | .hbm, ⟨30, _⟩ => ⟨S512x512, .f32⟩
  | .hbm, ⟨31, _⟩ => ⟨S512x512, .bf16⟩
  | .hbm, ⟨32, _⟩ => ⟨S512x512, .bf16⟩
  | .hbm, ⟨33, _⟩ => ⟨S8x64x64x1024, .f32⟩
  | .hbm, ⟨34, _⟩ => ⟨S1x1024, .f32⟩
  | .hbm, ⟨35, _⟩ => ⟨S1x1024, .f32⟩
  | .hbm, ⟨36, _⟩ => ⟨S8x64x64x1024, .f32⟩
  | .hbm, ⟨37, _⟩ => ⟨S8x64x64x1024, .bf16⟩
  | .local _ .vmem, ⟨0, _⟩ => ⟨S1x1x32x16x2048, .bf16⟩
  | .local _ .vmem, ⟨1, _⟩ => ⟨S1x1x32x16x2048, .bf16⟩
  | .local _ .vmem, ⟨2, _⟩ => ⟨S1x1x32x16x2048, .bf16⟩
  | .local _ .vmem, ⟨3, _⟩ => ⟨S1x1x32x16x2048, .bf16⟩
  | .local _ .vmem, ⟨4, _⟩ => ⟨S1x32x16x2048, .bf16⟩
  | .local _ .vmem, ⟨5, _⟩ => ⟨S1x32x16x2048, .bf16⟩
  | .local _ .vmem, ⟨6, _⟩ => ⟨S1x32x16x2048, .bf16⟩
  | .local _ .vmem, ⟨7, _⟩ => ⟨S1x32x16x2048, .bf16⟩
  | .local _ .vmem, ⟨8, _⟩ => ⟨S1x2048, .f32⟩
  | .local _ .vmem, ⟨9, _⟩ => ⟨S1x2048, .f32⟩
  | .local _ .vmem, ⟨10, _⟩ => ⟨S2048x1024, .bf16⟩
  | .local _ .vmem, ⟨11, _⟩ => ⟨S512x512, .bf16⟩
  | .local _ .vmem, ⟨12, _⟩ => ⟨S1x16x32x1024, .f32⟩
  | .local _ .vmem, ⟨13, _⟩ => ⟨S1x16x32x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024, .f32⟩
  | .local _ .vmem, ⟨17, _⟩ => ⟨S1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1x1024, .f32⟩
  | .local _ .vmem, ⟨22, _⟩ => ⟨S1x16x32x1024, .f32⟩
  | .local _ .vmem, ⟨23, _⟩ => ⟨S1x16x32x1024, .f32⟩
  | .local _ .vmem, ⟨24, _⟩ => ⟨S1x16x32x1024, .bf16⟩
  | .local _ .vmem, ⟨25, _⟩ => ⟨S1x16x32x1024, .bf16⟩
  | _, _ => ⟨S2x32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23_0 : Ref sig .tc := ⟨.hbm, 36, rfl⟩
abbrev main_v23_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨3, ![8, 4, 2], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg2.toNat, arg1.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, arg2.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_15 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x32x16x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x32x16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x32x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x32x16x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S512x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x16x32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, false]

abbrev stage0_13 : Fin 2 → Memref sig .tc .vmem S1x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false, false]

abbrev stage0_14 : Fin 2 → Memref sig .tc .vmem S1x16x32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x16x32x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]
-- ==== Reference9Ideal.lean ====
abbrev S2x32768x2048 : Shape := ⟨3, ![2, 32768, 2048]⟩
abbrev S32768x3072 : Shape := ⟨2, ![32768, 3072]⟩
abbrev S32768x2048 : Shape := ⟨2, ![32768, 2048]⟩
abbrev S32 : Shape := ⟨1, ![32]⟩
abbrev S2048 : Shape := ⟨1, ![2048]⟩
abbrev S2048x1024 : Shape := ⟨2, ![2048, 1024]⟩
abbrev S32768x1024 : Shape := ⟨2, ![32768, 1024]⟩
abbrev S8x1x1024 : Shape := ⟨3, ![8, 1, 1024]⟩
abbrev S1024 : Shape := ⟨1, ![1024]⟩
abbrev S8x4096x32x64 : Shape := ⟨4, ![8, 4096, 32, 64]⟩
abbrev S32x1 : Shape := ⟨2, ![32, 1]⟩
abbrev S1x1x32x1 : Shape := ⟨4, ![1, 1, 32, 1]⟩
abbrev S8x4096x2048 : Shape := ⟨3, ![8, 4096, 2048]⟩
abbrev S1x32768x2048 : Shape := ⟨3, ![1, 32768, 2048]⟩
abbrev S_ : Shape := ⟨0, ![]⟩
abbrev S8x4096x4x512 : Shape := ⟨4, ![8, 4096, 4, 512]⟩
abbrev S4x512 : Shape := ⟨2, ![4, 512]⟩
abbrev S8x4096x4 : Shape := ⟨3, ![8, 4096, 4]⟩
abbrev S8x4096x4x1 : Shape := ⟨4, ![8, 4096, 4, 1]⟩
abbrev S1x1x4x512 : Shape := ⟨4, ![1, 1, 4, 512]⟩
abbrev S8x4096x1024 : Shape := ⟨3, ![8, 4096, 1024]⟩
abbrev S8x64x64x1024 : Shape := ⟨4, ![8, 64, 64, 1024]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 109
  | .vmem => 0
  | .smem => 0
  | _ => 0

abbrev bufTy : (tb : Table) → Fin (tcTables nBuf tb) → BufTy
  | .hbm, ⟨0, _⟩ => ⟨S2x32768x2048, .bf16⟩
  | .hbm, ⟨1, _⟩ => ⟨S32768x3072, .bf16⟩
  | .hbm, ⟨2, _⟩ => ⟨S32768x2048, .bf16⟩
  | .hbm, ⟨3, _⟩ => ⟨S32, .f32⟩
  | .hbm, ⟨4, _⟩ => ⟨S2048, .f32⟩
  | .hbm, ⟨5, _⟩ => ⟨S2048x1024, .f32⟩
  | .hbm, ⟨6, _⟩ => ⟨S32768x1024, .f32⟩
  | .hbm, ⟨7, _⟩ => ⟨S8x1x1024, .f32⟩
  | .hbm, ⟨8, _⟩ => ⟨S1024, .f32⟩
  | .hbm, ⟨9, _⟩ => ⟨S1024, .f32⟩
  | .hbm, ⟨10, _⟩ => ⟨S8x1x1024, .f32⟩
  | .hbm, ⟨11, _⟩ => ⟨S8x1x1024, .f32⟩
  | .hbm, ⟨12, _⟩ => ⟨S32768x2048, .bf16⟩
  | .hbm, ⟨13, _⟩ => ⟨S32768x2048, .f32⟩
  | .hbm, ⟨14, _⟩ => ⟨S8x4096x32x64, .f32⟩
  | .hbm, ⟨15, _⟩ => ⟨S32x1, .f32⟩
  | .hbm, ⟨16, _⟩ => ⟨S1x1x32x1, .f32⟩
  | .hbm, ⟨17, _⟩ => ⟨S8x4096x32x64, .f32⟩
  | .hbm, ⟨18, _⟩ => ⟨S8x4096x32x64, .f32⟩
  | .hbm, ⟨19, _⟩ => ⟨S8x4096x2048, .f32⟩
  | .hbm, ⟨20, _⟩ => ⟨S1x32768x2048, .bf16⟩
  | .hbm, ⟨21, _⟩ => ⟨S32768x2048, .bf16⟩
  | .hbm, ⟨22, _⟩ => ⟨S32768x2048, .f32⟩
  | .hbm, ⟨23, _⟩ => ⟨S8x4096x2048, .f32⟩
  | .hbm, ⟨24, _⟩ => ⟨S8x4096x2048, .f32⟩
  | .hbm, ⟨25, _⟩ => ⟨S1x32768x2048, .bf16⟩
  | .hbm, ⟨26, _⟩ => ⟨S32768x2048, .bf16⟩
  | .hbm, ⟨27, _⟩ => ⟨S32768x2048, .f32⟩
  | .hbm, ⟨28, _⟩ => ⟨S8x4096x2048, .f32⟩
  | .hbm, ⟨29, _⟩ => ⟨S8x4096x2048, .f32⟩
  | .hbm, ⟨30, _⟩ => ⟨S32768x2048, .f32⟩
  | .hbm, ⟨31, _⟩ => ⟨S8x4096x2048, .f32⟩
  | .hbm, ⟨32, _⟩ => ⟨S8x4096x2048, .f32⟩
  | .hbm, ⟨33, _⟩ => ⟨S8x4096x2048, .f32⟩
  | .hbm, ⟨34, _⟩ => ⟨S_, .f32⟩
  | .hbm, ⟨35, _⟩ => ⟨S8x4096x2048, .f32⟩
  | .hbm, ⟨36, _⟩ => ⟨S8x4096x2048, .f32⟩
  | .hbm, ⟨37, _⟩ => ⟨S_, .f32⟩
  | .hbm, ⟨38, _⟩ => ⟨S8x4096x2048, .f32⟩
  | .hbm, ⟨39, _⟩ => ⟨S8x4096x2048, .f32⟩
  | .hbm, ⟨40, _⟩ => ⟨S8x4096x2048, .f32⟩
  | .hbm, ⟨41, _⟩ => ⟨S8x4096x2048, .f32⟩
  | .hbm, ⟨42, _⟩ => ⟨S8x4096x4x512, .f32⟩
  | .hbm, ⟨43, _⟩ => ⟨S4x512, .f32⟩
  | .hbm, ⟨44, _⟩ => ⟨S8x4096x4x512, .f32⟩
  | .hbm, ⟨45, _⟩ => ⟨S_, .f32⟩
  | .hbm, ⟨46, _⟩ => ⟨S8x4096x4, .f32⟩
  | .hbm, ⟨47, _⟩ => ⟨S8x4096x4x1, .f32⟩
  | .hbm, ⟨48, _⟩ => ⟨S_, .f32⟩
  | .hbm, ⟨49, _⟩ => ⟨S8x4096x4x1, .f32⟩
  | .hbm, ⟨50, _⟩ => ⟨S8x4096x4x1, .f32⟩
  | .hbm, ⟨51, _⟩ => ⟨S_, .f32⟩
  | .hbm, ⟨52, _⟩ => ⟨S8x4096x4x1, .f32⟩
  | .hbm, ⟨53, _⟩ => ⟨S8x4096x4x1, .f32⟩
  | .hbm, ⟨54, _⟩ => ⟨S8x4096x4x1, .f32⟩
  | .hbm, ⟨55, _⟩ => ⟨S8x4096x4x512, .f32⟩
  | .hbm, ⟨56, _⟩ => ⟨S8x4096x4x512, .f32⟩
  | .hbm, ⟨57, _⟩ => ⟨S1x1x4x512, .f32⟩
  | .hbm, ⟨58, _⟩ => ⟨S8x4096x4x512, .f32⟩
  | .hbm, ⟨59, _⟩ => ⟨S8x4096x4x512, .f32⟩
  | .hbm, ⟨60, _⟩ => ⟨S8x4096x2048, .f32⟩
  | .hbm, ⟨61, _⟩ => ⟨S8x4096x1024, .f32⟩
  | .hbm, ⟨62, _⟩ => ⟨S8x64x64x1024, .f32⟩
  | .hbm, ⟨63, _⟩ => ⟨S8x64x64x1024, .f32⟩
  | .hbm, ⟨64, _⟩ => ⟨S8x4096x1024, .f32⟩
  | .hbm, ⟨65, _⟩ => ⟨S8x4096x1024, .f32⟩
  | .hbm, ⟨66, _⟩ => ⟨S_, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S8x4096x1024, .f32⟩
  | .hbm, ⟨71, _⟩ => ⟨S8x4096x1024, .f32⟩
  | .hbm, ⟨72, _⟩ => ⟨S_, .f32⟩
  | .hbm, ⟨73, _⟩ => ⟨S8x4096, .f32⟩
  | .hbm, ⟨74, _⟩ => ⟨S8x4096x1, .f32⟩
  | .hbm, ⟨75, _⟩ => ⟨S_, .f32⟩
  | .hbm, ⟨76, _⟩ => ⟨S8x4096x1, .f32⟩
  | .hbm, ⟨77, _⟩ => ⟨S8x4096x1, .f32⟩
  | .hbm, ⟨78, _⟩ => ⟨S8x4096x1024, .f32⟩
  | .hbm, ⟨79, _⟩ => ⟨S8x4096x1024, .f32⟩
  | .hbm, ⟨80, _⟩ => ⟨S8x4096x1024, .f32⟩
  | .hbm, ⟨81, _⟩ => ⟨S_, .f32⟩
  | .hbm, ⟨82, _⟩ => ⟨S8x4096, .f32⟩
  | .hbm, ⟨83, _⟩ => ⟨S8x4096x1, .f32⟩
  | .hbm, ⟨84, _⟩ => ⟨S_, .f32⟩
  | .hbm, ⟨85, _⟩ => ⟨S8x4096x1, .f32⟩
  | .hbm, ⟨86, _⟩ => ⟨S8x4096x1, .f32⟩
  | .hbm, ⟨87, _⟩ => ⟨S_, .f32⟩
  | .hbm, ⟨88, _⟩ => ⟨S8x4096x1, .f32⟩
  | .hbm, ⟨89, _⟩ => ⟨S8x4096x1, .f32⟩
  | .hbm, ⟨90, _⟩ => ⟨S8x4096x1, .f32⟩
  | .hbm, ⟨91, _⟩ => ⟨S8x4096x1024, .f32⟩
  | .hbm, ⟨92, _⟩ => ⟨S8x4096x1024, .f32⟩
  | .hbm, ⟨93, _⟩ => ⟨S1x1x1024, .f32⟩
  | .hbm, ⟨94, _⟩ => ⟨S8x4096x1024, .f32⟩
  | .hbm, ⟨95, _⟩ => ⟨S8x4096x1024, .f32⟩
  | .hbm, ⟨96, _⟩ => ⟨S1x1x1024, .f32⟩
  | .hbm, ⟨97, _⟩ => ⟨S8x4096x1024, .f32⟩
  | .hbm, ⟨98, _⟩ => ⟨S8x4096x1024, .f32⟩
  | .hbm, ⟨99, _⟩ => ⟨S_, .f32⟩
  | .hbm, ⟨100, _⟩ => ⟨S8x1x1024, .f32⟩
  | .hbm, ⟨101, _⟩ => ⟨S8x1x1024, .f32⟩
  | .hbm, ⟨102, _⟩ => ⟨S8x4096x1024, .f32⟩
  | .hbm, ⟨103, _⟩ => ⟨S8x4096x1024, .f32⟩
  | .hbm, ⟨104, _⟩ => ⟨S8x4096x1024, .f32⟩
  | .hbm, ⟨105, _⟩ => ⟨S8x4096x1024, .f32⟩
  | .hbm, ⟨106, _⟩ => ⟨S8x64x64x1024, .f32⟩
  | .hbm, ⟨107, _⟩ => ⟨S8x4096x1024, .bf16⟩
  | .hbm, ⟨108, _⟩ => ⟨S8x64x64x1024, .bf16⟩
  | _, _ => ⟨S2x32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst : Ref sig .tc := ⟨.hbm, 45, rfl⟩
abbrev main_v25 : Ref sig .tc := ⟨.hbm, 46, rfl⟩
abbrev main_v26 : Ref sig .tc := ⟨.hbm, 47, rfl⟩
abbrev main_cst_0 : Ref sig .tc := ⟨.hbm, 48, rfl⟩
abbrev main_v27 : Ref sig .tc := ⟨.hbm, 49, rfl⟩
abbrev main_v28 : Ref sig .tc := ⟨.hbm, 50, rfl⟩
abbrev main_cst_1 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_3 : Ref sig .tc := ⟨.hbm, 72, rfl⟩
abbrev main_v48 : Ref sig .tc := ⟨.hbm, 73, rfl⟩
abbrev main_v49 : Ref sig .tc := ⟨.hbm, 74, rfl⟩
abbrev main_cst_4 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_5 : Ref sig .tc := ⟨.hbm, 81, rfl⟩
abbrev main_v55 : Ref sig .tc := ⟨.hbm, 82, rfl⟩
abbrev main_v56 : Ref sig .tc := ⟨.hbm, 83, rfl⟩
abbrev main_cst_6 : Ref sig .tc := ⟨.hbm, 84, rfl⟩
abbrev main_v57 : Ref sig .tc := ⟨.hbm, 85, rfl⟩
abbrev main_v58 : Ref sig .tc := ⟨.hbm, 86, rfl⟩
abbrev main_cst_7 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_8 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩

abbrev nD : Nat := 1
abbrev τ : Topo := Topo.v7x

variable {F : FTy → Type} [FloatOps F]
-- ==== Proof.Words.lean ====
/-
  The word the kernel reads from its table of counts, and what the kernel computes from it: for a count of at most 1024
  rows the number of groups of 256 rows is at most four, every counted loop has a meaning, its remainder loop makes no
  trip, and trip `k` addresses rows `256 k … 256 k + 255`.
-/
module

public import proofs.«01_k».proof.Proof.Gen.KernelIdeal
public import proofs.«01_k».proof.Proof.Gen.KernelIdeal.Skeleton

@[expose] public section

namespace Cert.Proof

open Cert.KernelIdeal Cert.KernelIdeal.Gen
open Idealize.ShloMosaic

/-- The number of groups of 256 rows that hold `n` rows. -/
def groups (v : BitVec 32) : Nat := (v.toNat + 255) / 256

/-- The side condition of the body without its branch hypotheses, but for the bounds of the loops' accesses. -/
def LoopsOk (v : BitVec 32) : Prop :=
  (k0_t1_loop v).OK ∧ (k0_t2_loop v).OK ∧ (k0_t3_loop v).OK ∧ (k0_t4_loop v).OK ∧ (k0_t5_loop v).OK ∧ (k0_t6_loop v).OK
  ∧ (k0_t1_loop v).trips = groups v ∧ (k0_t3_loop v).trips = groups v ∧ (k0_t5_loop v).trips = groups v
  ∧ (k0_t2_loop v).trips = 0 ∧ (k0_t4_loop v).trips = 0 ∧ (k0_t6_loop v).trips = 0

instance (v : BitVec 32) : Decidable (LoopsOk v) := by unfold LoopsOk; infer_instance

theorem loopsOk_fin : ∀ n : Fin 1025, LoopsOk (BitVec.ofNat 32 n.val) := by decide +kernel

theorem loopsOk {v : BitVec 32} (h : v.toNat ≤ 1024) : LoopsOk v := by
  have := loopsOk_fin ⟨v.toNat, by omega⟩
  simpa using this

theorem groups_le {v : BitVec 32} (h : v.toNat ≤ 1024) : groups v ≤ 4 := by unfold groups; omega

theorem row_word : ∀ k : Fin 4, (Scalar.indexCast (Scalar.muli (Scf.iv 0#32 1#32 k.val) 256#32)).toNat = 256 * k.val := by decide

theorem trips1 {v : BitVec 32} (h : v.toNat ≤ 1024) : (k0_t1_loop v).trips = groups v := (loopsOk h).2.2.2.2.2.2.1
theorem trips3 {v : BitVec 32} (h : v.toNat ≤ 1024) : (k0_t3_loop v).trips = groups v := (loopsOk h).2.2.2.2.2.2.2.1
theorem trips5 {v : BitVec 32} (h : v.toNat ≤ 1024) : (k0_t5_loop v).trips = groups v := (loopsOk h).2.2.2.2.2.2.2.2.1
theorem trips2 {v : BitVec 32} (h : v.toNat ≤ 1024) : (k0_t2_loop v).trips = 0 := (loopsOk h).2.2.2.2.2.2.2.2.2.1
theorem trips4 {v : BitVec 32} (h : v.toNat ≤ 1024) : (k0_t4_loop v).trips = 0 := (loopsOk h).2.2.2.2.2.2.2.2.2.2.1
theorem trips6 {v : BitVec 32} (h : v.toNat ≤ 1024) : (k0_t6_loop v).trips = 0 := (loopsOk h).2.2.2.2.2.2.2.2.2.2.2

theorem off3_eq {v : BitVec 32} (h : v.toNat ≤ 1024) (k : Fin (k0_t1_loop v).trips) : k0_off3 v k = ![256 * k.val, 0] := by
  have hk : k.val < 4 := lt_of_lt_of_le k.isLt (trips1 h ▸ groups_le h)
  unfold k0_off3; exact congrArg (fun n => (![n, 0] : Fin 2 → Nat)) (row_word ⟨k.val, hk⟩)
theorem off4_eq {v : BitVec 32} (h : v.toNat ≤ 1024) (k : Fin (k0_t1_loop v).trips) : k0_off4 v k = ![256 * k.val, 0] := by
  have hk : k.val < 4 := lt_of_lt_of_le k.isLt (trips1 h ▸ groups_le h)
  unfold k0_off4; exact congrArg (fun n => (![n, 0] : Fin 2 → Nat)) (row_word ⟨k.val, hk⟩)
theorem off7_eq {v : BitVec 32} (h : v.toNat ≤ 1024) (k : Fin (k0_t3_loop v).trips) : k0_off7 v k = ![256 * k.val, 0] := by
  have hk : k.val < 4 := lt_of_lt_of_le k.isLt (trips3 h ▸ groups_le h)
  unfold k0_off7; exact congrArg (fun n => (![n, 0] : Fin 2 → Nat)) (row_word ⟨k.val, hk⟩)
theorem off8_eq {v : BitVec 32} (h : v.toNat ≤ 1024) (k : Fin (k0_t3_loop v).trips) : k0_off8 v k = ![256 * k.val, 0] := by
  have hk : k.val < 4 := lt_of_lt_of_le k.isLt (trips3 h ▸ groups_le h)
  unfold k0_off8; exact congrArg (fun n => (![n, 0] : Fin 2 → Nat)) (row_word ⟨k.val, hk⟩)
theorem off11_eq {v : BitVec 32} (h : v.toNat ≤ 1024) (k : Fin (k0_t5_loop v).trips) : k0_off11 v k = ![256 * k.val, 0] := by
  have hk : k.val < 4 := lt_of_lt_of_le k.isLt (trips5 h ▸ groups_le h)
  unfold k0_off11; exact congrArg (fun n => (![n, 0] : Fin 2 → Nat)) (row_word ⟨k.val, hk⟩)

theorem mult_word : ∀ k : Fin 4, 32 ∣ (Scalar.muli (Scf.iv 0#32 1#32 k.val) 256#32).toNat := by decide

theorem inb1024 {n : Nat} (hn : n < 4) {o : Fin 2 → Nat} (ho : o = ![256 * n, 0]) : ∀ a, o a + S256x1024.size a ≤ S1024x1024.size a := by
  subst ho; intro a; fin_cases a
  · show 256 * n + 256 ≤ 1024; omega
  · show 0 + 1024 ≤ 1024; omega
theorem inb128 {n : Nat} (hn : n < 4) {o : Fin 2 → Nat} (ho : o = ![256 * n, 0]) : ∀ a, o a + S256x128.size a ≤ S1024x128.size a := by
  subst ho; intro a; fin_cases a
  · show 256 * n + 256 ≤ 1024; omega
  · show 0 + 128 ≤ 128; omega

theorem packed_fin : ∀ (n : Fin 4) (h : ∀ a, (![256 * n.val, 0] : Fin 2 → Nat) a + S256x1024.size a ≤ S1024x1024.size a),
    (Rect.unit (s := S1024x1024) ![256 * n.val, 0] S256x1024.size h).PackedRows (EltTy.packing .bf16) := by decide

theorem packed {n : Nat} (hn : n < 4) {o : Fin 2 → Nat} (ho : o = ![256 * n, 0]) (h : ∀ a, o a + S256x1024.size a ≤ S1024x1024.size a) :
    (Rect.unit (s := S1024x1024) o S256x1024.size h).PackedRows (EltTy.packing .bf16) := by
  subst ho; exact packed_fin ⟨n, hn⟩ h

/-- The body's side condition holds of every count of at most 1024. -/
theorem chk1 (i : grid0.Coords) {v : BitVec 32} (h : v.toNat ≤ 1024) : k0_chk1 i v := by
  have h4 := groups_le h
  have lt1 (k : Fin (k0_t1_loop v).trips) : k.val < 4 := lt_of_lt_of_le k.isLt (trips1 h ▸ h4)
  have lt3 (k : Fin (k0_t3_loop v).trips) : k.val < 4 := lt_of_lt_of_le k.isLt (trips3 h ▸ h4)
  have lt5 (k : Fin (k0_t5_loop v).trips) : k.val < 4 := lt_of_lt_of_le k.isLt (trips5 h ▸ h4)
  have no2 (k : Fin (k0_t2_loop v).trips) : False := by have := k.isLt; have := trips2 h; omega
  have no4 (k : Fin (k0_t4_loop v).trips) : False := by have := k.isLt; have := trips4 h; omega
  have no6 (k : Fin (k0_t6_loop v).trips) : False := by have := k.isLt; have := trips6 h; omega
  obtain ⟨o1, o2, o3, o4, o5, o6, -⟩ := loopsOk h
  exact ⟨fun _ => o1, fun k _ => mult_word ⟨k.val, lt1 k⟩, fun k _ => inb1024 (lt1 k) (off3_eq h k),
    fun k _ hi => packed (lt1 k) (off3_eq h k) hi, fun k _ => inb128 (lt1 k) (off4_eq h k),
    fun _ => o2, fun k => (no2 k).elim, fun k => (no2 k).elim, fun k => (no2 k).elim, fun k => (no2 k).elim,
    o3, fun k => mult_word ⟨k.val, lt3 k⟩, fun k => inb1024 (lt3 k) (off7_eq h k), fun k => inb128 (lt3 k) (off8_eq h k),
    o4, fun k => (no4 k).elim, fun k => (no4 k).elim, fun k => (no4 k).elim,
    fun _ => o5, fun k _ => mult_word ⟨k.val, lt5 k⟩, fun k _ => inb1024 (lt5 k) (off11_eq h k),
    fun _ => o6, fun k => (no6 k).elim, fun k => (no6 k).elim⟩

end Cert.Proof
-- ==== Proof.Tiles.lean ====
/-
  The 256-row tiles of the kernel's 1024-row buffers: tile `n` of a buffer is its rows `256 n … 256 n + 255`, and a loop's
  trip stores one tile and leaves the others.  Beside them the values the three loops compute, per tile, as functions of
  what the body has loaded.
-/
module

public import proofs.«01_k».proof.Proof.Words
public import Idealize.ShloMosaic.Lib.WritesUnit
public import Idealize.ShloMosaic.Lib.ValueIdx

@[expose] public section

noncomputable section

namespace Cert.Proof

open Cert.KernelIdeal Cert.KernelIdeal.Gen
open Idealize.ShloMosaic Idealize.ShloMosaic.ValueIdx

/-- The index of row `256 n + y₀`, column `y₁`. -/
def tileIx {C : Nat} (n : Fin 4) (y : (⟨2, ![256, C]⟩ : Shape).Idx) : (⟨2, ![1024, C]⟩ : Shape).Idx :=
  ix2 ⟨256 * n.val + (y 0).val, by have := idx2_lt0 y; have := n.isLt; omega⟩ (y 1)

/-- Tile `n` of a 1024-row buffer. -/
def tile {C : Nat} {α : Type} (f : (⟨2, ![1024, C]⟩ : Shape).Idx → α) (n : Fin 4) : (⟨2, ![256, C]⟩ : Shape).Idx → α :=
  fun y => f (tileIx n y)

/-- The tiles of a buffer once those below `k` are the new ones and the others what they were. -/
def upTo {α : Type} (new old : Fin 4 → α) : Nat → Fin 4 → α
  | 0 => old
  | k + 1 => fun n => if n.val = k then new n else upTo new old k n

theorem upTo_lt {α : Type} (new old : Fin 4 → α) (k : Nat) (n : Fin 4) (h : n.val < k) : upTo new old k n = new n := by
  induction k with
  | zero => omega
  | succ k ih =>
    by_cases hk : n.val = k
    · exact if_pos hk
    · exact (if_neg hk).trans (ih (by omega))

theorem upTo_ge {α : Type} (new old : Fin 4 → α) (k : Nat) (n : Fin 4) (h : k ≤ n.val) : upTo new old k n = old n := by
  induction k with
  | zero => rfl
  | succ k ih => exact (if_neg (by omega)).trans (ih (by omega))

section Views
variable {sig : RefSig} {κ : Kind} {sp : Space} {Val : EltTy → Type} {C : Nat} {e : EltTy}

/-- A tile just stored is what was stored; -/
theorem tile_writes_same (v : View sig κ sp (⟨2, ![1024, C]⟩ : Shape) e) (f : v.ty.Contents Val) {o : Fin 2 → Nat} (n : Fin 4)
    (ho : o = ![256 * n.val, 0]) (inb : ∀ a : Fin 2, o a + (![256, C] : Fin 2 → Nat) a ≤ (![1024, C] : Fin 2 → Nat) a)
    (w : (⟨2, ![256, C]⟩ : Shape).Idx → Val e) :
    tile (v.read Val (v.writes Val f [⟨Rect.unit (s := ⟨2, ![1024, C]⟩) o ![256, C] inb, w⟩])) n = w := by
  funext y
  exact View.read_writes_cons_rows_of_mem v f inb w [] (tileIx n y) y ho rfl rfl

/-- any other tile is what it was. -/
theorem tile_writes_other (v : View sig κ sp (⟨2, ![1024, C]⟩ : Shape) e) (f : v.ty.Contents Val) {o : Fin 2 → Nat} (n k : Fin 4) (hne : n ≠ k)
    (ho : o = ![256 * k.val, 0]) (inb : ∀ a : Fin 2, o a + (![256, C] : Fin 2 → Nat) a ≤ (![1024, C] : Fin 2 → Nat) a)
    (w : (⟨2, ![256, C]⟩ : Shape).Idx → Val e) :
    tile (v.read Val (v.writes Val f [⟨Rect.unit (s := ⟨2, ![1024, C]⟩) o ![256, C] inb, w⟩])) n = tile (v.read Val f) n := by
  funext y
  refine (View.read_writes_cons_rows_of_not_mem v f (W := 256) inb w [] (tileIx n y) ho rfl ?_).trans rfl
  have hy := idx2_lt0 y
  show 256 * n.val + (y 0).val < 256 * k.val ∨ 256 * k.val + 256 ≤ 256 * n.val + (y 0).val
  have : n.val ≠ k.val := fun h => hne (Fin.ext h)
  omega

/-- So a store at tile `k` moves the tiles a step on. -/
theorem tiles_step (v : View sig κ sp (⟨2, ![1024, C]⟩ : Shape) e) (f : v.ty.Contents Val) {o : Fin 2 → Nat} (k : Fin 4)
    (ho : o = ![256 * k.val, 0]) (inb : ∀ a : Fin 2, o a + (![256, C] : Fin 2 → Nat) a ≤ (![1024, C] : Fin 2 → Nat) a)
    (w : (⟨2, ![256, C]⟩ : Shape).Idx → Val e) (new old : Fin 4 → ((⟨2, ![256, C]⟩ : Shape).Idx → Val e))
    (hf : tile (v.read Val f) = upTo new old k.val) (hw : w = new k) :
    tile (v.read Val (v.writes Val f [⟨Rect.unit (s := ⟨2, ![1024, C]⟩) o ![256, C] inb, w⟩])) = upTo new old (k.val + 1) := by
  funext n
  by_cases hne : n = k
  · subst hne
    exact (tile_writes_same v f n ho inb w).trans (hw.trans (upTo_lt new old _ n (Nat.lt_succ_self _)).symm)
  · refine (tile_writes_other v f n k hne ho inb w).trans ((congrFun hf n).trans ?_)
    exact (if_neg (fun e => hne (Fin.ext e))).symm

/-- A load of rows `256 n …` reads tile `n`. -/
theorem readAt_tile (v : View sig κ sp (⟨2, ![1024, C]⟩ : Shape) e) (f : v.ty.Contents Val) {o : Fin 2 → Nat} (n : Fin 4)
    (ho : o = ![256 * n.val, 0]) (inb : ∀ a : Fin 2, o a + (![256, C] : Fin 2 → Nat) a ≤ (![1024, C] : Fin 2 → Nat) a) :
    v.readAt Val (Rect.unit (s := ⟨2, ![1024, C]⟩) o ![256, C] inb).toLoadRect f = tile (v.read Val f) n := by
  subst ho
  funext y
  refine congrArg (v.read Val f) (funext fun a => Fin.ext ?_)
  fin_cases a
  · show 256 * n.val + 1 * (y 0).val = 256 * n.val + (y 0).val; omega
  · show 0 + 1 * (y 1).val = (y 1).val; omega

end Views

variable {F : FTy → Type} [FloatOps F]

theorem trips1_1024 : (k0_t1_loop 1024#32).trips = 4 := trips1 (v := 1024#32) (by decide)
theorem trips5_1024 : (k0_t5_loop 1024#32).trips = 4 := trips5 (v := 1024#32) (by decide)

/-- The rows of `x` that tile `n` of the gathered buffer holds, from the ranks `r` of the block's rows. -/
def gatherX (r : Vec F S1x1x1024 .f32) (x : Vec F S1024x1024 .bf16) (n : Fin 4) : Vec F S256x1024 .bf16 :=
  k0_pay7 1024#32 r (Fin.cast trips1_1024.symm n) x

/-- The rows of the routing weights that go with them. -/
def gatherC (r : Vec F S1x1x1024 .f32) (cb : Vec F S1024x128 .f32) (n : Fin 4) : Vec F S256x128 .f32 :=
  k0_pay8 1024#32 r cb (Fin.cast trips1_1024.symm n)

/-- A tile of the expert's result, one half of the hidden columns added to what it held. -/
def expertTile (i : grid0.Coords) (w1 w3 : Vec F S1x1024x1792 .bf16) (w2 : Vec F S1x1792x1024 .bf16)
    (x : Vec F S256x1024 .bf16) (cw : Vec F S256x128 .f32) (y : Vec F S256x1024 .f32) : Vec F S256x1024 .f32 :=
  k0_pay14 i x w1 w3 cw y w2

/-- The block's result with tile `n` of the expert's result added at the rows it came from. -/
def scatterTile (i : grid0.Coords) (r : Vec F S1024x128 .f32) (n : Fin 4) (y : Vec F S256x1024 .f32) (out : Vec F S1024x1024 .f32) :
    Vec F S1024x1024 .f32 :=
  k0_pay18 i 1024#32 r (Fin.cast trips5_1024.symm n) out y

/-- The block's result after the first `n` tiles are added. -/
def scatterTo (i : grid0.Coords) (r : Vec F S1024x128 .f32) (y : Fin 4 → Vec F S256x1024 .f32) (out : Vec F S1024x1024 .f32) : Nat → Vec F S1024x1024 .f32
  | 0 => out
  | n + 1 => if h : n < 4 then scatterTile i r ⟨n, h⟩ (y ⟨n, h⟩) (scatterTo i r y out n) else scatterTo i r y out n

theorem scatterTo_succ (i : grid0.Coords) (r : Vec F S1024x128 .f32) (y : Fin 4 → Vec F S256x1024 .f32) (out : Vec F S1024x1024 .f32) (n : Fin 4) :
    scatterTo i r y out (n.val + 1) = scatterTile i r n (y n) (scatterTo i r y out n.val) := dif_pos n.isLt

/-- Only the tiles added matter. -/
theorem scatterTo_congr (i : grid0.Coords) (r : Vec F S1024x128 .f32) (y y' : Fin 4 → Vec F S256x1024 .f32) (out : Vec F S1024x1024 .f32) (k : Nat)
    (h : ∀ n : Fin 4, n.val < k → y n = y' n) : scatterTo i r y out k = scatterTo i r y' out k := by
  induction k with
  | zero => rfl
  | succ k ih =>
    have ih := ih fun n hn => h n (by omega)
    unfold scatterTo
    rw [ih]
    by_cases hk : k < 4
    · rw [dif_pos hk, dif_pos hk, h ⟨k, hk⟩ (Nat.lt_succ_self _)]
    · rw [dif_neg hk, dif_neg hk]

theorem pay7_eq (v : BitVec 32) (r : Vec F S1x1x1024 .f32) (x : Vec F S1024x1024 .bf16) (k : Fin (k0_t1_loop v).trips) (n : Fin 4) (h : k.val = n.val) :
    k0_pay7 v r k x = gatherX r x n := by
  unfold gatherX k0_pay7 k0_pay6; rw [Fin.val_cast, h]

theorem pay8_eq (v : BitVec 32) (r : Vec F S1x1x1024 .f32) (cb : Vec F S1024x128 .f32) (k : Fin (k0_t1_loop v).trips) (n : Fin 4) (h : k.val = n.val) :
    k0_pay8 v r cb k = gatherC r cb n := by
  unfold gatherC k0_pay8 k0_pay6; rw [Fin.val_cast, h]

theorem pay18_eq (i : grid0.Coords) (v : BitVec 32) (r : Vec F S1024x128 .f32) (out : Vec F S1024x1024 .f32) (y : Vec F S256x1024 .f32)
    (k : Fin (k0_t5_loop v).trips) (n : Fin 4) (h : k.val = n.val) :
    k0_pay18 i v r k out y = scatterTile i r n y out := by
  unfold scatterTile k0_pay18; rw [Fin.val_cast, h]

end Cert.Proof

end
-- ==== Proof.Trips.lean ====
/-
  The kernel's three counted loops by their invariants: the gather writes the tiles of the gathered rows and of their
  weights and zeroes the expert's result, the second loop adds one half of the hidden columns to every tile of the expert's
  result, the third adds the tiles back at the rows they came from.  Each invariant speaks of the tiles below the number of
  groups only; what the buffers hold in the tiles above is never read.
-/
module

public import proofs.«01_k».proof.Proof.Tiles
public import proofs.«01_k».proof.Proof.Gen.KernelIdeal.Loops
public import Idealize.ShloMosaic.Lib.LoopRemainder
public import Idealize.ShloMosaic.Lib.VecWindow

@[expose] public section

set_option maxRecDepth 8192
set_option maxHeartbeats 4000000

noncomputable section

namespace Cert.Proof

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The gather's invariant before trip `k`: the tiles below `k` of the three buffers it writes are the new ones. -/
abbrev gatherInv (c : Dev nD) (arg4 : Memref sig .tc .vmem S1024x1024 .bf16) (arg12 : Memref sig .tc .vmem S1024x1024 .bf16) (arg13 : Memref sig .tc .vmem S1024x1024 .f32) (arg14 : Memref sig .tc .vmem S1024x128 .f32)
    (v23 : Vec F S1x1x1024 .f32) (v25 : Vec F S1024x128 .f32) (X : BufTy.Contents (Elt F) arg4.view.ty)
    (G12 : BufTy.Contents (Elt F) arg12.view.ty) (G13 : BufTy.Contents (Elt F) arg13.view.ty) (G14 : BufTy.Contents (Elt F) arg14.view.ty) (k : Nat) : sProp 𝕄G :=
  iprop((arg4.view.loc (c : Thread nD τ) ↦[arg4.view.set]{fullShare} X)
    ∗ (∃ f12, (arg12.view.loc (c : Thread nD τ) ↦[arg12.view.set]{fullShare} f12)
        ∗ ⌜tile (arg12.view.read (Elt F) f12) = upTo (gatherX v23 (arg4.view.read (Elt F) X)) (tile (arg12.view.read (Elt F) G12)) k⌝)
    ∗ (∃ f13, (arg13.view.loc (c : Thread nD τ) ↦[arg13.view.set]{fullShare} f13)
        ∗ ⌜tile (arg13.view.read (Elt F) f13) = upTo (fun _ => k0_pay9 (F := F)) (tile (arg13.view.read (Elt F) G13)) k⌝)
    ∗ (∃ f14, (arg14.view.loc (c : Thread nD τ) ↦[arg14.view.set]{fullShare} f14)
        ∗ ⌜tile (arg14.view.read (Elt F) f14) = upTo (gatherC v23 v25) (tile (arg14.view.read (Elt F) G14)) k⌝))

set_option warn.classDefReducibility false in
@[sl_loop] def gatherLoop (𝒱 : Variants) (c : Dev nD) (bd : Option 𝒱.V) (E : Set ℕ) (i : grid0.Coords) (arg3 : Memref sig .tc .smem S32x8 .i32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x8x1024 .f32) (harg7 : arg7.IsWhole) (arg8 : Memref sig .tc .vmem S1x1024x1792 .bf16) (harg8 : arg8.IsWhole) (arg9 : Memref sig .tc .vmem S1x1024x1792 .bf16) (harg9 : arg9.IsWhole) (arg10 : Memref sig .tc .vmem S1x1792x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .f32) (harg13 : arg13.IsWhole) (arg14 : Memref sig .tc .vmem S1024x128 .f32) (harg14 : arg14.IsWhole) (v2 : Elt F .i32) (k0_hw1 : k0_chk1 i v2) (k0_h2 : k0_cond2 i = 1#1) (v23 : Vec F S1x1x1024 .f32) (v25 : Vec F S1024x128 .f32)
    (hv : BitVec.toNat v2 ≤ 1024) (X : BufTy.Contents (Elt F) arg4.view.ty)
    (G12 : BufTy.Contents (Elt F) arg12.view.ty) (G13 : BufTy.Contents (Elt F) arg13.view.ty) (G14 : BufTy.Contents (Elt F) arg14.view.ty) :
    LoopInvTy_k0_t1 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v2 k0_hw1 k0_h2 v23 v25 where
  inv k _ := gatherInv c arg4 arg12 arg13 arg14 v23 v25 X G12 G13 G14 k
  step k acc := by
    unfold k0_t1_body
    iintro ⟨H4, ⟨%f12, H12, %h12⟩, ⟨%f13, H13, %h13⟩, ⟨%f14, H14, %h14⟩⟩
    sl_exec
    sl_step
    have hk : k.val < 4 := lt_of_lt_of_le k.isLt ((trips1 hv).le.trans (groups_le hv))
    isplitl [H4]; · iexact H4
    isplitl [H12]
    · iexists _; isplitl [H12]; · iexact H12
      ipureintro
      refine tiles_step _ _ ⟨k.val, hk⟩ (off3_eq hv k) _ _ _ _ h12 ?_
      rw [View.readAt_full]; exact pay7_eq v2 v23 _ k _ rfl
    isplitl [H13]
    · iexists _; isplitl [H13]; · iexact H13
      ipureintro
      exact tiles_step _ _ ⟨k.val, hk⟩ (off3_eq hv k) _ _ _ _ h13 rfl
    iexists _; isplitl [H14]; · iexact H14
    ipureintro
    exact tiles_step _ _ ⟨k.val, hk⟩ (off4_eq hv k) _ _ _ _ h14 (pay8_eq v2 v23 _ k _ rfl)

/-- The second loop's invariant before trip `k`: the tiles of the expert's result below `k` have one half of the hidden
    columns added, those from `k` on are as the loop found them (`G`). -/
abbrev expertInv (c : Dev nD) (i : grid0.Coords) (arg8 : Memref sig .tc .vmem S1x1024x1792 .bf16) (arg9 : Memref sig .tc .vmem S1x1024x1792 .bf16) (arg10 : Memref sig .tc .vmem S1x1792x1024 .bf16) (arg12 : Memref sig .tc .vmem S1024x1024 .bf16) (arg13 : Memref sig .tc .vmem S1024x1024 .f32) (arg14 : Memref sig .tc .vmem S1024x128 .f32)
    (X8 : BufTy.Contents (Elt F) arg8.view.ty) (X9 : BufTy.Contents (Elt F) arg9.view.ty) (X10 : BufTy.Contents (Elt F) arg10.view.ty) (X12 : BufTy.Contents (Elt F) arg12.view.ty) (X14 : BufTy.Contents (Elt F) arg14.view.ty) (G : BufTy.Contents (Elt F) arg13.view.ty) (k : Nat) : sProp 𝕄G :=
  iprop((arg8.view.loc (c : Thread nD τ) ↦[arg8.view.set]{fullShare} X8)
    ∗ (arg9.view.loc (c : Thread nD τ) ↦[arg9.view.set]{fullShare} X9)
    ∗ (arg10.view.loc (c : Thread nD τ) ↦[arg10.view.set]{fullShare} X10)
    ∗ (arg12.view.loc (c : Thread nD τ) ↦[arg12.view.set]{fullShare} X12)
    ∗ (arg14.view.loc (c : Thread nD τ) ↦[arg14.view.set]{fullShare} X14)
    ∗ (∃ f13, (arg13.view.loc (c : Thread nD τ) ↦[arg13.view.set]{fullShare} f13)
        ∗ ⌜tile (arg13.view.read (Elt F) f13) = upTo (fun n => expertTile i (arg8.view.read (Elt F) X8) (arg9.view.read (Elt F) X9) (arg10.view.read (Elt F) X10)
              (tile (arg12.view.read (Elt F) X12) n) (tile (arg14.view.read (Elt F) X14) n) (tile (arg13.view.read (Elt F) G) n))
            (tile (arg13.view.read (Elt F) G)) k⌝))

set_option warn.classDefReducibility false in
@[sl_loop] def expertLoop (𝒱 : Variants) (c : Dev nD) (bd : Option 𝒱.V) (E : Set ℕ) (i : grid0.Coords) (arg3 : Memref sig .tc .smem S32x8 .i32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x8x1024 .f32) (harg7 : arg7.IsWhole) (arg8 : Memref sig .tc .vmem S1x1024x1792 .bf16) (harg8 : arg8.IsWhole) (arg9 : Memref sig .tc .vmem S1x1024x1792 .bf16) (harg9 : arg9.IsWhole) (arg10 : Memref sig .tc .vmem S1x1792x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .f32) (harg13 : arg13.IsWhole) (arg14 : Memref sig .tc .vmem S1024x128 .f32) (harg14 : arg14.IsWhole) (v2 : Elt F .i32) (k0_hw1 : k0_chk1 i v2)
    (hv : BitVec.toNat v2 ≤ 1024) (X8 : BufTy.Contents (Elt F) arg8.view.ty) (X9 : BufTy.Contents (Elt F) arg9.view.ty) (X10 : BufTy.Contents (Elt F) arg10.view.ty) (X12 : BufTy.Contents (Elt F) arg12.view.ty) (X14 : BufTy.Contents (Elt F) arg14.view.ty) (G : BufTy.Contents (Elt F) arg13.view.ty) :
    LoopInvTy_k0_t3 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v2 k0_hw1 where
  inv k _ := expertInv c i arg8 arg9 arg10 arg12 arg13 arg14 X8 X9 X10 X12 X14 G k
  step k acc := by
    unfold k0_t3_body
    iintro ⟨H8, H9, H10, H12, H14, ⟨%f13, H13, %h13⟩⟩
    sl_exec
    sl_step
    have hk : k.val < 4 := lt_of_lt_of_le k.isLt ((trips3 hv).le.trans (groups_le hv))
    isplitl [H8]; · iexact H8
    isplitl [H9]; · iexact H9
    isplitl [H10]; · iexact H10
    isplitl [H12]; · iexact H12
    isplitl [H14]; · iexact H14
    iexists _; isplitl [H13]; · iexact H13
    ipureintro
    refine tiles_step _ _ ⟨k.val, hk⟩ (off7_eq hv k) _ _ _ _ h13 ?_
    have hg := (congrFun h13 ⟨k.val, hk⟩).trans (upTo_ge _ _ k.val _ (le_refl k.val))
    rw [View.readAt_full, View.readAt_full, View.readAt_full]
    rw [← hg, ← readAt_tile arg12.view X12 ⟨k.val, hk⟩ (off7_eq hv k) (k0_off7_inb i v2 k0_hw1 k), ← readAt_tile arg13.view f13 ⟨k.val, hk⟩ (off7_eq hv k) (k0_off7_inb i v2 k0_hw1 k),
      ← readAt_tile arg14.view X14 ⟨k.val, hk⟩ (off8_eq hv k) (k0_off8_inb i v2 k0_hw1 k)]
    rfl

/-- The third loop's invariant before trip `k`: the block's result has the tiles below `k` added. -/
abbrev scatterInv (c : Dev nD) (i : grid0.Coords) (arg11 : Memref sig .tc .vmem S1024x1024 .f32) (arg13 : Memref sig .tc .vmem S1024x1024 .f32)
    (v25 : Vec F S1024x128 .f32) (X13 : BufTy.Contents (Elt F) arg13.view.ty) (G : BufTy.Contents (Elt F) arg11.view.ty) (k : Nat) : sProp 𝕄G :=
  iprop((arg13.view.loc (c : Thread nD τ) ↦[arg13.view.set]{fullShare} X13)
    ∗ (∃ f11, (arg11.view.loc (c : Thread nD τ) ↦[arg11.view.set]{fullShare} f11)
        ∗ ⌜arg11.view.read (Elt F) f11 = scatterTo i v25 (tile (arg13.view.read (Elt F) X13)) (arg11.view.read (Elt F) G) k⌝))

set_option warn.classDefReducibility false in
@[sl_loop] def scatterLoop (𝒱 : Variants) (c : Dev nD) (bd : Option 𝒱.V) (E : Set ℕ) (i : grid0.Coords) (arg3 : Memref sig .tc .smem S32x8 .i32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1x8x1024 .f32) (harg7 : arg7.IsWhole) (arg8 : Memref sig .tc .vmem S1x1024x1792 .bf16) (harg8 : arg8.IsWhole) (arg9 : Memref sig .tc .vmem S1x1024x1792 .bf16) (harg9 : arg9.IsWhole) (arg10 : Memref sig .tc .vmem S1x1792x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .f32) (harg13 : arg13.IsWhole) (arg14 : Memref sig .tc .vmem S1024x128 .f32) (harg14 : arg14.IsWhole) (v2 : Elt F .i32) (k0_hw1 : k0_chk1 i v2) (k0_h3 : k0_cond3 i = 1#1) (v25 : Vec F S1024x128 .f32)
    (hv : BitVec.toNat v2 ≤ 1024) (X13 : BufTy.Contents (Elt F) arg13.view.ty) (G : BufTy.Contents (Elt F) arg11.view.ty) :
    LoopInvTy_k0_t5 (F := F) Unit ℕ (UR sig nD τ) ℕ 𝒱 c bd E i arg3 harg3 arg4 harg4 arg5 harg5 arg6 harg6 arg7 harg7 arg8 harg8 arg9 harg9 arg10 harg10 arg11 harg11 arg12 harg12 arg13 harg13 arg14 harg14 v2 k0_hw1 k0_h3 v25 where
  inv k _ := scatterInv c i arg11 arg13 v25 X13 G k
  step k acc := by
    unfold k0_t5_body
    iintro ⟨H13, ⟨%f11, H11, %h11⟩⟩
    sl_exec
    sl_step
    have hk : k.val < 4 := lt_of_lt_of_le k.isLt ((trips5 hv).le.trans (groups_le hv))
    isplitl [H13]; · iexact H13
    iexists _; isplitl [H11]; · iexact H11
    ipureintro
    refine (View.read_writes_full _ _ _ _ _).trans ?_
    rw [View.readAt_full, readAt_tile arg13.view X13 ⟨k.val, hk⟩ (off11_eq hv k), h11]
    exact (pay18_eq i v2 v25 _ _ k ⟨k.val, hk⟩ rfl).trans (scatterTo_succ i v25 _ _ ⟨k.val, hk⟩).symm

end Cert.Proof

end
-- ==== Proof.Body.lean ====
/-
  The kernel's body at one grid point, on any whole staging buffers.  At the first half of an expert's hidden columns it
  gathers the expert's rows and fills the expert's result with that half; at the second half it adds the other half and adds
  the rows of the result back to the block's result.
-/
module

public import proofs.«01_k».proof.Proof.Trips

@[expose] public section

set_option maxRecDepth 8192
set_option maxHeartbeats 4000000

noncomputable section

namespace Cert.Proof

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The number of routed rows at a grid point, as the body reads it from the table. -/
def countAt (i : grid0.Coords) (T : Vec F S32x8 .i32) : BitVec 32 := T (ix2 (i 0) (i 1))

/-- The row of ranks of the point's expert. -/
def rankRow (i : grid0.Coords) (rr : Vec F S1x8x1024 .f32) : Vec F S1x1x1024 .f32 := fun y => rr (ix3 (y 0) (i 1) (y 2))

/-- The body's load from the table reads the point's count; -/
theorem word_read (i : grid0.Coords) (M3 : Memref sig .tc .smem S32x8 .i32) (f : BufTy.Contents (Elt F) M3.view.ty) {hp : 0 < S1x1.numel} :
    M3.view.readAt (Elt F) (Rect.unit (s := S32x8) (k0_off1 i) S1x1.size (k0_off1_inb i)).toLoadRect f (Shape.Idx.first hp)
      = countAt i (M3.view.read (Elt F) f) := by
  refine congrArg (M3.view.read (Elt F) f) (funext fun a => Fin.ext ?_)
  have ho := congrFun (k0_off1_eq i) a
  fin_cases a
  · show k0_off1 i 0 + 1 * 0 = (i 0).val
    exact ho
  · show k0_off1 i 1 + 1 * 0 = (i 1).val
    exact ho

/-- its load of the ranks reads the row of the point's expert. -/
theorem rank_read (i : grid0.Coords) (h2 : k0_cond2 i = 1#1) (M7 : Memref sig .tc .vmem S1x8x1024 .f32) (f : BufTy.Contents (Elt F) M7.view.ty) :
    M7.view.readAt (Elt F) (Rect.unit (s := S1x8x1024) (k0_off2 i) S1x1x1024.size (k0_off2_inb i h2)).toLoadRect f = rankRow i (M7.view.read (Elt F) f) := by
  funext y
  refine congrArg (M7.view.read (Elt F) f) (funext fun a => Fin.ext ?_)
  have ho := congrFun (k0_off2_eq i) a
  fin_cases a
  · show k0_off2 i 0 + 1 * (y 0).val = (y 0).val
    have : k0_off2 i 0 = 0 := ho
    omega
  · show k0_off2 i 1 + 1 * (y 1).val = (i 1).val
    have : k0_off2 i 1 = (i 1).val := ho
    have : (y 1).val < 1 := (y 1).isLt
    omega
  · show k0_off2 i 2 + 1 * (y 2).val = (y 2).val
    have : k0_off2 i 2 = 0 := ho
    omega

/-- What the first half leaves in the scratch buffers, on the tiles below the number of groups: the gathered rows, their
    weights, and the first half of the expert's result. -/
def Half (i : grid0.Coords) (v : BitVec 32) (x : Vec F S1024x1024 .bf16) (cb : Vec F S1024x128 .f32) (rr : Vec F S1x8x1024 .f32)
    (w1 w3 : Vec F S1x1024x1792 .bf16) (w2 : Vec F S1x1792x1024 .bf16)
    (s12 : Vec F S1024x1024 .bf16) (s13 : Vec F S1024x1024 .f32) (s14 : Vec F S1024x128 .f32) : Prop :=
  ∀ n : Fin 4, n.val < groups v → tile s12 n = gatherX (rankRow i rr) x n ∧ tile s14 n = gatherC (rankRow i rr) cb n
    ∧ tile s13 n = expertTile i w1 w3 w2 (gatherX (rankRow i rr) x n) (gatherC (rankRow i rr) cb n) (k0_pay9 (F := F))

/-- The body at a point of the first half. -/
theorem body_first (c : Dev nD) (i : grid0.Coords) (M3 : Memref sig .tc .smem S32x8 .i32) (h3 : M3.IsWhole) (M4 : Memref sig .tc .vmem S1024x1024 .bf16) (h4 : M4.IsWhole)
    (M5 : Memref sig .tc .vmem S1024x128 .f32) (h5 : M5.IsWhole) (M6 : Memref sig .tc .vmem S1024x128 .f32) (h6 : M6.IsWhole)
    (M7 : Memref sig .tc .vmem S1x8x1024 .f32) (h7 : M7.IsWhole) (M8 : Memref sig .tc .vmem S1x1024x1792 .bf16) (h8 : M8.IsWhole)
    (M9 : Memref sig .tc .vmem S1x1024x1792 .bf16) (h9 : M9.IsWhole) (M10 : Memref sig .tc .vmem S1x1792x1024 .bf16) (h10 : M10.IsWhole)
    (M11 : Memref sig .tc .vmem S1024x1024 .f32) (h11 : M11.IsWhole) (M12 : Memref sig .tc .vmem S1024x1024 .bf16) (h12 : M12.IsWhole)
    (M13 : Memref sig .tc .vmem S1024x1024 .f32) (h13 : M13.IsWhole) (M14 : Memref sig .tc .vmem S1024x128 .f32) (h14 : M14.IsWhole)
    (T : Vec F S32x8 .i32) (x : Vec F S1024x1024 .bf16) (cb : Vec F S1024x128 .f32) (rc : Vec F S1024x128 .f32) (rr : Vec F S1x8x1024 .f32)
    (w1 w3 : Vec F S1x1024x1792 .bf16) (w2 : Vec F S1x1792x1024 .bf16) (out : Vec F S1024x1024 .f32)
    (s12 : Vec F S1024x1024 .bf16) (s13 : Vec F S1024x1024 .f32) (s14 : Vec F S1024x128 .f32)
    (hv : (countAt i T).toNat ≤ 1024) (hc2 : k0_cond2 i = 1#1) (hc3 : k0_cond3 i ≠ 1#1) (E : Set ℕ) (K : PUnit → sProp 𝕄G) :
    iprop(owns (c : Thread nD τ) M3 fullShare.right T ∗ owns (c : Thread nD τ) M4 fullShare x ∗ owns (c : Thread nD τ) M5 fullShare cb ∗ owns (c : Thread nD τ) M6 fullShare rc ∗ owns (c : Thread nD τ) M7 fullShare rr
          ∗ owns (c : Thread nD τ) M8 fullShare w1 ∗ owns (c : Thread nD τ) M9 fullShare w3 ∗ owns (c : Thread nD τ) M10 fullShare w2 ∗ owns (c : Thread nD τ) M11 fullShare out
          ∗ owns (c : Thread nD τ) M12 fullShare s12 ∗ owns (c : Thread nD τ) M13 fullShare s13 ∗ owns (c : Thread nD τ) M14 fullShare s14
          ∗ (iprop(owns (c : Thread nD τ) M3 fullShare.right T ∗ owns (c : Thread nD τ) M4 fullShare x ∗ owns (c : Thread nD τ) M5 fullShare cb ∗ owns (c : Thread nD τ) M6 fullShare rc ∗ owns (c : Thread nD τ) M7 fullShare rr
          ∗ owns (c : Thread nD τ) M8 fullShare w1 ∗ owns (c : Thread nD τ) M9 fullShare w3 ∗ owns (c : Thread nD τ) M10 fullShare w2 ∗ owns (c : Thread nD τ) M11 fullShare (if k0_cond1 i = 1#1 then k0_pay1 else out)
          ∗ (∃ u12 u13 u14, owns (c : Thread nD τ) M12 fullShare u12 ∗ owns (c : Thread nD τ) M13 fullShare u13 ∗ owns (c : Thread nD τ) M14 fullShare u14 ∗ ⌜Half i (countAt i T) x cb rr w1 w3 w2 u12 u13 u14⌝)) -∗ K ⟨⟩))
      ⊢ wp frame (wpE (defs₀ (F := F)) Variants.none c none) E (cc0_moe_ffn_x i M3 h3 M4 h4 M5 h5 M6 h6 M7 h7 M8 h8 M9 h9 M10 h10 M11 h11 M12 h12 M13 h13 M14 h14) K := by
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, Hk⟩
  sl_unfold [cc0_moe_ffn_x]
  sl_exec
  have hw : body_first.sl.r c i M3 f3 = countAt i T := by
    unfold body_first.sl.r; exact e3 ▸ word_read i M3 f3
  have hv' : (body_first.sl.r c i M3 f3).toNat ≤ 1024 := by rw [hw]; exact hv
  have hchk := chk1 i hv'
  sl_exec
  sl_step
  have hg1 : Scf.trips _ _ _ = _ := (trips1 hv').trans (congrArg groups hw)
  have hg3 : Scf.trips _ _ _ = _ := (trips3 hv').trans (congrArg groups hw)
  rw [hg1] at hL2 hL4 hL6
  rw [hg3] at hL14
  rw [rank_read i hc2, e4, e7] at hL2
  rw [rank_read i hc2, View.readAt_full, e5, e7] at hL6
  rw [e8, e9, e10] at hL14
  iapply Hk
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr; · ipureintro; exact e6
    iexact H6
  isplitl [H7]
  · iexists _; isplitr; · ipureintro; exact e7
    iexact H7
  isplitl [H8]
  · iexists _; isplitr; · ipureintro; exact e8
    iexact H8
  isplitl [H9]
  · iexists _; isplitr; · ipureintro; exact e9
    iexact H9
  isplitl [H10]
  · iexists _; isplitr; · ipureintro; exact e10
    iexact H10
  isplitl [H11]
  · iexists _; isplitr [H11]; swap; · iexact H11
    ipureintro
    by_cases hc : k0_cond1 i = 1#1
    · rw [if_pos hc, dif_pos hc]; exact View.read_writes_full _ _ _ _ _
    · rw [if_neg hc, dif_neg hc]; exact e11
  iexists M12.view.read (Elt F) f12L0, M13.view.read (Elt F) f13L3, M14.view.read (Elt F) f14L2
  isplitl [H12]
  · iexists f12L0; isplitr; · ipureintro; rfl
    iexact H12
  isplitl [H13]
  · iexists f13L3; isplitr; · ipureintro; rfl
    iexact H13
  isplitl [H14]
  · iexists f14L2; isplitr; · ipureintro; rfl
    iexact H14
  ipureintro
  intro n hn
  have g12 := (congrFun hL2 n).trans (upTo_lt _ _ _ n hn)
  have g14 := (congrFun hL6 n).trans (upTo_lt _ _ _ n hn)
  have g13 := (congrFun hL4 n).trans (upTo_lt _ _ _ n hn)
  refine ⟨g12, g14, (congrFun hL14 n).trans ((upTo_lt _ _ _ n hn).trans ?_)⟩
  rw [g12, g14, g13]

/-- The body at a point of the second half. -/
theorem body_second (c : Dev nD) (i : grid0.Coords) (M3 : Memref sig .tc .smem S32x8 .i32) (h3 : M3.IsWhole) (M4 : Memref sig .tc .vmem S1024x1024 .bf16) (h4 : M4.IsWhole)
    (M5 : Memref sig .tc .vmem S1024x128 .f32) (h5 : M5.IsWhole) (M6 : Memref sig .tc .vmem S1024x128 .f32) (h6 : M6.IsWhole)
    (M7 : Memref sig .tc .vmem S1x8x1024 .f32) (h7 : M7.IsWhole) (M8 : Memref sig .tc .vmem S1x1024x1792 .bf16) (h8 : M8.IsWhole)
    (M9 : Memref sig .tc .vmem S1x1024x1792 .bf16) (h9 : M9.IsWhole) (M10 : Memref sig .tc .vmem S1x1792x1024 .bf16) (h10 : M10.IsWhole)
    (M11 : Memref sig .tc .vmem S1024x1024 .f32) (h11 : M11.IsWhole) (M12 : Memref sig .tc .vmem S1024x1024 .bf16) (h12 : M12.IsWhole)
    (M13 : Memref sig .tc .vmem S1024x1024 .f32) (h13 : M13.IsWhole) (M14 : Memref sig .tc .vmem S1024x128 .f32) (h14 : M14.IsWhole)
    (T : Vec F S32x8 .i32) (x : Vec F S1024x1024 .bf16) (cb : Vec F S1024x128 .f32) (rc : Vec F S1024x128 .f32) (rr : Vec F S1x8x1024 .f32)
    (w1 w3 : Vec F S1x1024x1792 .bf16) (w2 : Vec F S1x1792x1024 .bf16) (out : Vec F S1024x1024 .f32)
    (s12 : Vec F S1024x1024 .bf16) (s13 : Vec F S1024x1024 .f32) (s14 : Vec F S1024x128 .f32)
    (hv : (countAt i T).toNat ≤ 1024) (hc1 : k0_cond1 i ≠ 1#1) (hc2 : k0_cond2 i ≠ 1#1) (hc3 : k0_cond3 i = 1#1) (E : Set ℕ) (K : PUnit → sProp 𝕄G) :
    iprop(owns (c : Thread nD τ) M3 fullShare.right T ∗ owns (c : Thread nD τ) M4 fullShare x ∗ owns (c : Thread nD τ) M5 fullShare cb ∗ owns (c : Thread nD τ) M6 fullShare rc ∗ owns (c : Thread nD τ) M7 fullShare rr
          ∗ owns (c : Thread nD τ) M8 fullShare w1 ∗ owns (c : Thread nD τ) M9 fullShare w3 ∗ owns (c : Thread nD τ) M10 fullShare w2 ∗ owns (c : Thread nD τ) M11 fullShare out
          ∗ owns (c : Thread nD τ) M12 fullShare s12 ∗ owns (c : Thread nD τ) M13 fullShare s13 ∗ owns (c : Thread nD τ) M14 fullShare s14
          ∗ (iprop(owns (c : Thread nD τ) M3 fullShare.right T ∗ owns (c : Thread nD τ) M4 fullShare x ∗ owns (c : Thread nD τ) M5 fullShare cb ∗ owns (c : Thread nD τ) M6 fullShare rc ∗ owns (c : Thread nD τ) M7 fullShare rr
          ∗ owns (c : Thread nD τ) M8 fullShare w1 ∗ owns (c : Thread nD τ) M9 fullShare w3 ∗ owns (c : Thread nD τ) M10 fullShare w2 ∗ owns (c : Thread nD τ) M11 fullShare (scatterTo i rc (fun n => expertTile i w1 w3 w2 (tile s12 n) (tile s14 n) (tile s13 n)) out (groups (countAt i T)))
          ∗ (∃ u12 u13 u14, owns (c : Thread nD τ) M12 fullShare u12 ∗ owns (c : Thread nD τ) M13 fullShare u13 ∗ owns (c : Thread nD τ) M14 fullShare u14 )) -∗ K ⟨⟩))
      ⊢ wp frame (wpE (defs₀ (F := F)) Variants.none c none) E (cc0_moe_ffn_x i M3 h3 M4 h4 M5 h5 M6 h6 M7 h7 M8 h8 M9 h9 M10 h10 M11 h11 M12 h12 M13 h13 M14 h14) K := by
  unfold owns
  iintro ⟨⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, Hk⟩
  sl_unfold [cc0_moe_ffn_x]
  sl_exec
  have hw : body_second.sl.r c i M3 f3 = countAt i T := by
    unfold body_second.sl.r; exact e3 ▸ word_read i M3 f3
  have hv' : (body_second.sl.r c i M3 f3).toNat ≤ 1024 := by rw [hw]; exact hv
  have hchk := chk1 i hv'
  sl_exec
  sl_step
  have hg3 : Scf.trips _ _ _ = _ := (trips3 hv').trans (congrArg groups hw)
  have hg5 : Scf.trips _ _ _ = _ := (trips5 hv').trans (congrArg groups hw)
  rw [hg3] at hL6
  rw [hg5] at hL10
  iapply Hk
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr; · ipureintro; exact e6
    iexact H6
  isplitl [H7]
  · iexists _; isplitr; · ipureintro; exact e7
    iexact H7
  isplitl [H8]
  · iexists _; isplitr; · ipureintro; exact e8
    iexact H8
  isplitl [H9]
  · iexists _; isplitr; · ipureintro; exact e9
    iexact H9
  isplitl [H10]
  · iexists _; isplitr; · ipureintro; exact e10
    iexact H10
  isplitl [H11]
  · iexists _; isplitr [H11]; swap; · iexact H11
    ipureintro
    rw [hL10, hL6, View.readAt_full, e6, e8, e9, e10, e11, e12, e13, e14]
    exact scatterTo_congr i rc _ _ _ _ fun n hn => upTo_lt _ _ _ n hn
  iexists M12.view.read (Elt F) f12, M13.view.read (Elt F) f13L0, M14.view.read (Elt F) f14
  isplitl [H12]
  · iexists f12; isplitr; · ipureintro; rfl
    iexact H12
  isplitl [H13]
  · iexists f13L0; isplitr; · ipureintro; rfl
    iexact H13
  iexists f14; isplitr; · ipureintro; rfl
  iexact H14

end Cert.Proof

end
-- ==== Proof.Point.lean ====
/-
  The pipeline's data at each grid point: the contents of the arrays when the grid starts, each input's block, what the
  result's block holds after each point, and the scratch buffers between the two halves of an expert.
-/
module

public import proofs.«01_k».proof.Proof.Body
public import proofs.«01_k».proof.Proof.Gen.KernelIdeal.Launch
public import Idealize.ShloMosaic.Lib.Pipeline.Frame
public import Idealize.ShloMosaic.Lib.Pipeline.FrameBody

@[expose] public section

set_option maxRecDepth 8192

noncomputable section

namespace Cert.Proof

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation ΦA ΦT)

variable {F : FTy → Type} [FloatOps F]

local notation "𝕄G" => MT nD τ sig Unit (Elt F) ℕ (UR sig nD τ) ℕ

/-! ## The grid's points -/

theorem points_eq : grid0.N = 512 := N_0

/-- The first half of the hidden columns runs at the even points, the second at the odd ones; -/
theorem cond2_iff : ∀ t : Fin grid0.N, k0_cond2 (grid0.coords t) = 1#1 ↔ t.val % 2 = 0 := by decide +kernel
theorem cond3_iff : ∀ t : Fin grid0.N, k0_cond3 (grid0.coords t) = 1#1 ↔ t.val % 2 = 1 := by decide +kernel
/-- the result's block is cleared at a block's first point; -/
theorem cond1_iff : ∀ t : Fin grid0.N, k0_cond1 (grid0.coords t) = 1#1 ↔ t.val % 16 = 0 := by decide +kernel
/-- and written back at its last. -/
theorem flushOf_iff : ∀ t : Fin grid0.N, Window.flushOf grid0 true cc0_transform_7 t = true ↔ t.val % 16 = 15 := by decide +kernel

theorem coord0 (t : Fin grid0.N) : (grid0.coords t 0).val = t.val / 16 := by
  have h : t.val < 512 := points_eq ▸ t.isLt
  have := Pipeline.Grid.coords_val t 0 (S := 16) (B := 32) (by decide) rfl
  omega
theorem coord1 (t : Fin grid0.N) : (grid0.coords t 1).val = t.val / 2 % 8 :=
  Pipeline.Grid.coords_val t 1 (S := 2) (B := 8) (by decide) rfl
theorem coord2 (t : Fin grid0.N) : (grid0.coords t 2).val = t.val % 2 := by
  have := Pipeline.Grid.coords_val t 2 (S := 1) (B := 2) (by decide) rfl
  omega

/-! ## The arrays when the grid starts -/

variable (m : (ℓ : Loc nD τ sig) → Buf (Elt F) ℓ)

/-- The operations before the kernel, in the order they run. -/
abbrev hostLines : List (List (HloOp τ sig (Elt F))) := [hostOps0, hostOps0_1, hostOps0_2, hostOps0_3, hostOps0_4, hostOps0_5, hostOps0_6]

/-- A buffer's contents when the grid starts. -/
def V (c : Dev nD) (b : Ref sig .tc) : Buf (Elt F) ((c : Thread nD τ).loc b) :=
  StableHlo.after (hostLines (F := F)).flatten (fun b => m (c, b)) b

/-- The table of routed rows per block and expert. -/
abbrev counts : Vec F S32x8 .i32 := V m 0 main_v13

/-- The prefetched tables' contents: the counts. -/
def tables : pre0.Contents (Elt F) := fun j => V m 0 (pre0.ref j)
theorem tables_eq (c : Dev nD) (j : Fin 1) : V m c (pre0.ref j) = tables m j := by
  obtain rfl : c = 0 := Subsingleton.elim _ _; rfl
abbrev held : (pcfg0 (F := F)).Adm := ⟨tables m, trivial⟩
abbrev cfgM : Cfg sig Λ₀ := cfg0 (held m)

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

abbrev blk0 (c : Dev nD) (t : Fin grid0.N) : Vec F S1024x1024 .bf16 := iblk m c 0 t
abbrev blk1 (c : Dev nD) (t : Fin grid0.N) : Vec F S1024x128 .f32 := iblk m c 1 t
abbrev blk2 (c : Dev nD) (t : Fin grid0.N) : Vec F S1024x128 .f32 := iblk m c 2 t
abbrev blk3 (c : Dev nD) (t : Fin grid0.N) : Vec F S1x8x1024 .f32 := iblk m c 3 t
abbrev blk4 (c : Dev nD) (t : Fin grid0.N) : Vec F S1x1024x1792 .bf16 := iblk m c 4 t
abbrev blk5 (c : Dev nD) (t : Fin grid0.N) : Vec F S1x1024x1792 .bf16 := iblk m c 5 t
abbrev blk6 (c : Dev nD) (t : Fin grid0.N) : Vec F S1x1792x1024 .bf16 := iblk m c 6 t

/-! ## What each point leaves -/

/-- The rows gathered at a point, and their weights, in tile `n`. -/
def rowsOf (c : Dev nD) (t : Fin grid0.N) (n : Fin 4) := gatherX (rankRow (grid0.coords t) (blk3 m c t)) (blk0 m c t) n
def weightsOf (c : Dev nD) (t : Fin grid0.N) (n : Fin 4) := gatherC (rankRow (grid0.coords t) (blk3 m c t)) (blk1 m c t) n

/-- The expert's result in tile `n` after both halves, the second at point `t` and the first at point `s`. -/
def resultTile (c : Dev nD) (s t : Fin grid0.N) (n : Fin 4) :=
  expertTile (grid0.coords t) (blk4 m c t) (blk5 m c t) (blk6 m c t) (rowsOf m c s n) (weightsOf m c s n)
    (expertTile (grid0.coords s) (blk4 m c s) (blk5 m c s) (blk6 m c s) (rowsOf m c s n) (weightsOf m c s n) (k0_pay9 (F := F)))

/-- The result's block after point `n`. -/
def outAt (c : Dev nD) : (n : ℕ) → n < grid0.N → Vec F S1024x1024 .f32
  | 0, _ => k0_pay1
  | n + 1, h =>
    if k0_cond3 (grid0.coords ⟨n + 1, h⟩) = 1#1 then
      scatterTo (grid0.coords ⟨n + 1, h⟩) (blk2 m c ⟨n + 1, h⟩) (resultTile m c ⟨n, Nat.lt_of_succ_lt h⟩ ⟨n + 1, h⟩)
        (outAt c n (Nat.lt_of_succ_lt h)) (groups (countAt (grid0.coords ⟨n + 1, h⟩) (counts m)))
    else if k0_cond1 (grid0.coords ⟨n + 1, h⟩) = 1#1 then k0_pay1 else outAt c n (Nat.lt_of_succ_lt h)

theorem outAt_clear (c : Dev nD) (t : Fin grid0.N) (h : k0_cond1 (grid0.coords t) = 1#1) : outAt m c t.val t.isLt = k0_pay1 := by
  obtain ⟨n, hn⟩ := t
  cases n with
  | zero => rfl
  | succ n =>
    have h1 := (cond1_iff _).mp h
    have h3 : ¬ k0_cond3 (grid0.coords ⟨n + 1, hn⟩) = 1#1 := fun h3 => by
      have := (cond3_iff _).mp h3
      dsimp only at h1 this
      omega
    show outAt m c (n + 1) hn = _
    rw [outAt, if_neg h3, if_pos h]

theorem outAt_keep (c : Dev nD) (n : ℕ) (hn : n + 1 < grid0.N) (h1 : ¬ k0_cond1 (grid0.coords ⟨n + 1, hn⟩) = 1#1)
    (h3 : ¬ k0_cond3 (grid0.coords ⟨n + 1, hn⟩) = 1#1) : outAt m c (n + 1) hn = outAt m c n (Nat.lt_of_succ_lt hn) := by
  rw [outAt, if_neg h3, if_neg h1]

theorem outAt_add (c : Dev nD) (n : ℕ) (hn : n + 1 < grid0.N) (h3 : k0_cond3 (grid0.coords ⟨n + 1, hn⟩) = 1#1) :
    outAt m c (n + 1) hn = scatterTo (grid0.coords ⟨n + 1, hn⟩) (blk2 m c ⟨n + 1, hn⟩) (resultTile m c ⟨n, Nat.lt_of_succ_lt hn⟩ ⟨n + 1, hn⟩)
        (outAt m c n (Nat.lt_of_succ_lt hn)) (groups (countAt (grid0.coords ⟨n + 1, hn⟩) (counts m))) := by
  rw [outAt, if_pos h3]

/-- What the scratch buffers hold after point `t`, if it is a first half. -/
def HalfAt (c : Dev nD) (t : Fin grid0.N) (s12 : Vec F S1024x1024 .bf16) (s13 : Vec F S1024x1024 .f32) (s14 : Vec F S1024x128 .f32) : Prop :=
  Half (grid0.coords t) (countAt (grid0.coords t) (counts m)) (blk0 m c t) (blk1 m c t) (blk3 m c t) (blk4 m c t) (blk5 m c t) (blk6 m c t) s12 s13 s14

/-- What is held between points: the table, the generator's register, and the scratch buffers. -/
def Inv (c : Dev nD) (k : ℕ) : sProp 𝕄G :=
  iprop(owns (c : Thread nD τ) (Memref.whole main_v13) fullShare.right (counts m) ∗ (∃ r, prngReg c r)
    ∗ ∃ s12 s13 s14, owns (c : Thread nD τ) (Memref.whole cc0_scratch0) fullShare s12 ∗ owns (c : Thread nD τ) (Memref.whole cc0_scratch1) fullShare s13
      ∗ owns (c : Thread nD τ) (Memref.whole cc0_scratch2) fullShare s14 ∗ ⌜∀ t : Fin grid0.N, t.val + 1 = k → k0_cond2 (grid0.coords t) = 1#1 → HalfAt m c t s12 s13 s14⌝)

/-- The pipeline's data. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outAt m c t.val t.isLt
  Φ k := Inv m c k.val
  q w := Pipeline.shareOf spec0 w
  owed _ := 0

theorem A_eq (c : Dev nD) (w : Fin (cfgM m).W) : (dats m 0 c).A w = V m c (Pipeline.arrRef spec0 w) := rfl
theorem after_0 (c : Dev nD) (t : Fin (cfgM m).N) : (dats m 0 c).after 0 t = iblk m c 0 t := by dsimp only [dats]; rfl
theorem after_1 (c : Dev nD) (t : Fin (cfgM m).N) : (dats m 0 c).after 1 t = iblk m c 1 t := by dsimp only [dats]; rfl
theorem after_2 (c : Dev nD) (t : Fin (cfgM m).N) : (dats m 0 c).after 2 t = iblk m c 2 t := by dsimp only [dats]; rfl
theorem after_3 (c : Dev nD) (t : Fin (cfgM m).N) : (dats m 0 c).after 3 t = iblk m c 3 t := by dsimp only [dats]; rfl
theorem after_4 (c : Dev nD) (t : Fin (cfgM m).N) : (dats m 0 c).after 4 t = iblk m c 4 t := by dsimp only [dats]; rfl
theorem after_5 (c : Dev nD) (t : Fin (cfgM m).N) : (dats m 0 c).after 5 t = iblk m c 5 t := by dsimp only [dats]; rfl
theorem after_6 (c : Dev nD) (t : Fin (cfgM m).N) : (dats m 0 c).after 6 t = iblk m c 6 t := by dsimp only [dats]; rfl
theorem after_7 (c : Dev nD) (t : Fin (cfgM m).N) : (dats m 0 c).after 7 t = outAt m c t.val t.isLt := by dsimp only [dats]; rfl

/-- An input's staging buffer holds the input's block at every point. -/
theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgM m).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgM m).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfgM m).N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin (cfgM m).N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

theorem flush_iff (t : Fin (cfgM m).N) : ((cfgM m).win 7).flush t = true ↔ t.val % 16 = 15 := flushOf_iff t

theorem flush_false (t : Fin (cfgM m).N) (h : t.val % 16 ≠ 15) : ((cfgM m).win 7).flush t = false :=
  Bool.eq_false_iff.mpr fun hf => h ((flush_iff m t).mp hf)

/-- The result is stored at every point but the first half of an expert other than the first. -/
theorem idle_of (t : Fin (cfgM m).N) (h1 : ¬ k0_cond1 (grid0.coords t) = 1#1) (h3 : ¬ k0_cond3 (grid0.coords t) = 1#1) :
    (cfgM m).idle 7 ((cfgM m).grid.coords t) = true := by
  show (!(k0_cond1 (grid0.coords t) == 1#1) && !(k0_cond3 (grid0.coords t) == 1#1)) = true
  simp [h1, h3]
theorem live_of (t : Fin (cfgM m).N) (h : k0_cond1 (grid0.coords t) = 1#1 ∨ k0_cond3 (grid0.coords t) = 1#1) :
    (cfgM m).idle 7 ((cfgM m).grid.coords t) = false := by
  show (!(k0_cond1 (grid0.coords t) == 1#1) && !(k0_cond3 (grid0.coords t) == 1#1)) = false
  rcases h with h | h <;> simp [h]

theorem left_live (c : Dev nD) (t : Fin (cfgM m).N) (h : (cfgM m).idle 7 ((cfgM m).grid.coords t) = false) (d) :
    (dats m 0 c).left 7 t d = (dats m 0 c).kept 7 t d := by
  unfold Dat.left; rw [h]
theorem left_idle (c : Dev nD) (t : Fin (cfgM m).N) (h : (cfgM m).idle 7 ((cfgM m).grid.coords t) = true) (d) :
    (dats m 0 c).left 7 t d = (dats m 0 c).before 7 t d := by
  unfold Dat.left; rw [h]
theorem kept_eq (c : Dev nD) (t : Fin (cfgM m).N) (d) : (dats m 0 c).kept 7 t d = outAt m c t.val t.isLt := after_7 m c t

/-- After a block's first point the result's staging buffer holds what the point before left. -/
theorem before_7 (c : Dev nD) (n : ℕ) (hn : n + 1 < (cfgM m).N) (h : (n + 1) % 16 ≠ 0) (d) :
    (dats m 0 c).before 7 ⟨n + 1, hn⟩ d = outAt m c n (Nat.lt_of_succ_lt hn) := by
  induction n with
  | zero =>
    rw [(dats m 0 c).before_of_pos 7 ⟨0 + 1, hn⟩ (Nat.succ_ne_zero _) (((cfgM m).win 7).fetch_out rfl _)]
    refine (if_neg fun hf => absurd ((flush_iff m _).mp hf) (by dsimp only; omega)).trans ?_
    exact (left_live m c ⟨0, Nat.lt_of_succ_lt hn⟩ (live_of m _ (.inl ((cond1_iff _).mpr rfl))) d).trans (kept_eq m c _ d)
  | succ n ih =>
    rw [(dats m 0 c).before_of_pos 7 ⟨n + 1 + 1, hn⟩ (Nat.succ_ne_zero _) (((cfgM m).win 7).fetch_out rfl _)]
    refine (if_neg fun hf => absurd ((flush_iff m _).mp hf) (by dsimp only; omega)).trans ?_
    by_cases hl : k0_cond1 (grid0.coords ⟨n + 1, Nat.lt_of_succ_lt hn⟩) = 1#1 ∨ k0_cond3 (grid0.coords ⟨n + 1, Nat.lt_of_succ_lt hn⟩) = 1#1
    · exact (left_live m c ⟨n + 1, Nat.lt_of_succ_lt hn⟩ (live_of m _ hl) d).trans (kept_eq m c _ d)
    · obtain ⟨h1, h3⟩ := not_or.mp hl
      refine (left_idle m c ⟨n + 1, Nat.lt_of_succ_lt hn⟩ (idle_of m _ h1 h3) d).trans ?_
      exact (ih (Nat.lt_of_succ_lt hn) (fun h0 => h1 ((cond1_iff _).mpr h0))).trans (outAt_keep m c n _ h1 h3).symm

end Cert.Proof

end
-- ==== Proof.Run.lean ====
/-
  The kernel's run: the body at every grid point, then the whole program, from the data of `Point`.
-/
module

public import proofs.«01_k».proof.Proof.Point

@[expose] public section

set_option maxRecDepth 8192
set_option maxHeartbeats 200000

noncomputable section

namespace Cert.Proof

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation ΦA ΦT)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- At a live point the result's staging buffer is left at `outAt`; -/
theorem leaves_live (c : Dev nD) (t : Fin (cfgM m).N) (hi : (cfgM m).idle 7 ((cfgM m).grid.coords t) = false) :
    (dats m 0 c).leavesExact 7 t = owns (c : Thread nD τ) (((cfgM m).win 7).stage ((cfgM m).slots t 7)) fullShare (outAt m c t.val t.isLt) := by
  unfold Dat.leavesExact; rw [hi]; rfl

/-- Held between points, before point `t`: what the first half left, when `t` is a second half. -/
theorem half_of_odd (c : Dev nD) (n : ℕ) (hn : n + 1 < grid0.N) (h : (n + 1) % 2 = 1) {s12 s13 s14}
    (H : ∀ t : Fin grid0.N, t.val + 1 = n + 1 → k0_cond2 (grid0.coords t) = 1#1 → HalfAt m c t s12 s13 s14) :
    HalfAt m c ⟨n, Nat.lt_of_succ_lt hn⟩ s12 s13 s14 :=
  H ⟨n, Nat.lt_of_succ_lt hn⟩ rfl ((cond2_iff _).mpr (by dsimp only; omega))

/-- The two halves of an expert are at points with the same block and the same expert. -/
theorem count_odd (n : ℕ) (hn : n + 1 < grid0.N) (h : (n + 1) % 2 = 1) :
    countAt (grid0.coords ⟨n, Nat.lt_of_succ_lt hn⟩) (counts m) = countAt (grid0.coords ⟨n + 1, hn⟩) (counts m) := by
  unfold countAt
  have e0 : grid0.coords ⟨n, Nat.lt_of_succ_lt hn⟩ 0 = grid0.coords ⟨n + 1, hn⟩ 0 := Fin.ext (by rw [coord0, coord0]; dsimp only; omega)
  have e1 : grid0.coords ⟨n, Nat.lt_of_succ_lt hn⟩ 1 = grid0.coords ⟨n + 1, hn⟩ 1 := Fin.ext (by rw [coord1, coord1]; dsimp only; omega)
  rw [e0, e1]

theorem phi_eq (c : Dev nD) (k : Fin ((cfgM m).N + 1)) : (dats m 0 c).Φ k = Inv m c k.val := by dsimp only [dats]
theorem phi_pre (c : Dev nD) (t : Fin (cfgM m).N) : (dats m 0 c).Φ t.castSucc = Inv m c t.val :=
  (phi_eq m c _).trans (congrArg (Inv m c) (Fin.val_castSucc t))
theorem phi_post (c : Dev nD) (t : Fin (cfgM m).N) : (dats m 0 c).Φ t.succ = Inv m c (t.val + 1) :=
  (phi_eq m c _).trans (congrArg (Inv m c) (Fin.val_succ t))
theorem owes_eq (c : Dev nD) (t : Fin (cfgM m).N) : (dats m 0 c).owesAt () t.succ = (dats m 0 c).owesAt () t.castSucc := rfl

/-- What the body leaves in the result's staging buffer, having found `d` there. -/
def leftAt (c : Dev nD) (t : Fin grid0.N) (d : Vec F S1024x1024 .f32) : Vec F S1024x1024 .f32 :=
  if k0_cond1 (grid0.coords t) = 1#1 ∨ k0_cond3 (grid0.coords t) = 1#1 then outAt m c t.val t.isLt else d

/-- The body at a point of the grid, on any staging buffers that hold the point's blocks. -/
theorem point_run (hc : ∀ i : grid0.Coords, (countAt i (counts m)).toNat ≤ 1024) (c : Dev nD) (t : Fin grid0.N)
    (M4 : Memref sig .tc .vmem S1024x1024 .bf16) (h4 : M4.IsWhole)
    (M5 : Memref sig .tc .vmem S1024x128 .f32) (h5 : M5.IsWhole)
    (M6 : Memref sig .tc .vmem S1024x128 .f32) (h6 : M6.IsWhole)
    (M7 : Memref sig .tc .vmem S1x8x1024 .f32) (h7 : M7.IsWhole)
    (M8 : Memref sig .tc .vmem S1x1024x1792 .bf16) (h8 : M8.IsWhole)
    (M9 : Memref sig .tc .vmem S1x1024x1792 .bf16) (h9 : M9.IsWhole)
    (M10 : Memref sig .tc .vmem S1x1792x1024 .bf16) (h10 : M10.IsWhole)
    (M11 : Memref sig .tc .vmem S1024x1024 .f32) (h11 : M11.IsWhole)
    (d : Vec F S1024x1024 .f32)
    (hd : ∀ (n : ℕ) (h : n + 1 < grid0.N), t = ⟨n + 1, h⟩ → (n + 1) % 16 ≠ 0 → d = outAt m c n (Nat.lt_of_succ_lt h)) (E : Set ℕ) (K : PUnit → sProp 𝕄G) :
    iprop(Inv m c t.val ∗ owns (c : Thread nD τ) M4 fullShare (blk0 m c t) ∗ owns (c : Thread nD τ) M5 fullShare (blk1 m c t) ∗ owns (c : Thread nD τ) M6 fullShare (blk2 m c t) ∗ owns (c : Thread nD τ) M7 fullShare (blk3 m c t) ∗ owns (c : Thread nD τ) M8 fullShare (blk4 m c t) ∗ owns (c : Thread nD τ) M9 fullShare (blk5 m c t) ∗ owns (c : Thread nD τ) M10 fullShare (blk6 m c t) ∗ owns (c : Thread nD τ) M11 fullShare d
      ∗ (iprop(Inv m c (t.val + 1) ∗ owns (c : Thread nD τ) M4 fullShare (blk0 m c t) ∗ owns (c : Thread nD τ) M5 fullShare (blk1 m c t) ∗ owns (c : Thread nD τ) M6 fullShare (blk2 m c t) ∗ owns (c : Thread nD τ) M7 fullShare (blk3 m c t) ∗ owns (c : Thread nD τ) M8 fullShare (blk4 m c t) ∗ owns (c : Thread nD τ) M9 fullShare (blk5 m c t) ∗ owns (c : Thread nD τ) M10 fullShare (blk6 m c t) ∗ owns (c : Thread nD τ) M11 fullShare (leftAt m c t d)) -∗ K ⟨⟩))
      ⊢ wp frame (wpE (defs₀ (F := F)) Variants.none c none) E
          (cc0_moe_ffn_x (grid0.coords t) (Memref.whole main_v13) (Memref.isWhole_whole _) M4 h4 M5 h5 M6 h6 M7 h7 M8 h8 M9 h9 M10 h10 M11 h11
            (Memref.whole cc0_scratch0) (Memref.isWhole_whole _) (Memref.whole cc0_scratch1) (Memref.isWhole_whole _) (Memref.whole cc0_scratch2) (Memref.isWhole_whole _)) K := by
  rcases Nat.mod_two_eq_zero_or_one t.val with he | ho
  · have hc2 := (cond2_iff t).mpr he
    have hc3 : ¬ k0_cond3 (grid0.coords t) = 1#1 := fun h => by have := (cond3_iff t).mp h; omega
    have hl : leftAt m c t d = if k0_cond1 (grid0.coords t) = 1#1 then k0_pay1 else d := by
      unfold leftAt
      by_cases h1 : k0_cond1 (grid0.coords t) = 1#1
      · rw [if_pos (.inl h1), if_pos h1, outAt_clear m c t h1]
      · rw [if_neg (not_or.mpr ⟨h1, hc3⟩), if_neg h1]
    rw [hl]
    unfold Inv
    iintro ⟨⟨H3, HR, ⟨%s12, %s13, %s14, H12, H13, H14, -⟩⟩, H4, H5, H6, H7, H8, H9, H10, H11, Hk⟩
    iapply (body_first c (grid0.coords t) (Memref.whole main_v13) (Memref.isWhole_whole _) M4 h4 M5 h5 M6 h6 M7 h7 M8 h8 M9 h9 M10 h10 M11 h11
      (Memref.whole cc0_scratch0) (Memref.isWhole_whole _) (Memref.whole cc0_scratch1) (Memref.isWhole_whole _) (Memref.whole cc0_scratch2) (Memref.isWhole_whole _)
      (counts m) (blk0 m c t) (blk1 m c t) (blk2 m c t) (blk3 m c t) (blk4 m c t) (blk5 m c t) (blk6 m c t) d s12 s13 s14 (hc _) hc2 hc3 E K)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    iintro ⟨H3, H4, H5, H6, H7, H8, H9, H10, H11, ⟨%u12, %u13, %u14, H12, H13, H14, %hh⟩⟩
    iapply Hk
    isplitl [H3 HR H12 H13 H14]
    · isplitl [H3]; · iexact H3
      isplitl [HR]; · iexact HR
      iexists u12, u13, u14
      isplitl [H12]; · iexact H12
      isplitl [H13]; · iexact H13
      isplitl [H14]; · iexact H14
      ipureintro
      intro t' ht' _
      obtain rfl : t' = t := Fin.ext (Nat.succ_injective ht')
      exact hh
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · obtain ⟨n, hn⟩ := t
    cases n with
    | zero => exact absurd ho (by dsimp only; omega)
    | succ n =>
      have hc3 := (cond3_iff ⟨n + 1, hn⟩).mpr ho
      have hc2 : ¬ k0_cond2 (grid0.coords ⟨n + 1, hn⟩) = 1#1 := fun h => by
        have := (cond2_iff ⟨n + 1, hn⟩).mp h
        dsimp only at this ho
        omega
      have hc1 : ¬ k0_cond1 (grid0.coords ⟨n + 1, hn⟩) = 1#1 := fun h => by
        have := (cond1_iff ⟨n + 1, hn⟩).mp h
        dsimp only at this ho
        omega
      have hdn := hd n hn rfl (by dsimp only at ho; omega)
      have hl : leftAt m c ⟨n + 1, hn⟩ d = outAt m c (n + 1) hn := if_pos (.inr hc3)
      rw [hl, outAt_add m c n hn hc3, ← hdn]
      unfold Inv
      iintro ⟨⟨H3, HR, ⟨%s12, %s13, %s14, H12, H13, H14, %hh⟩⟩, H4, H5, H6, H7, H8, H9, H10, H11, Hk⟩
      have hf := half_of_odd m c n hn ho hh
      iapply (body_second c (grid0.coords ⟨n + 1, hn⟩) (Memref.whole main_v13) (Memref.isWhole_whole _) M4 h4 M5 h5 M6 h6 M7 h7 M8 h8 M9 h9 M10 h10 M11 h11
        (Memref.whole cc0_scratch0) (Memref.isWhole_whole _) (Memref.whole cc0_scratch1) (Memref.isWhole_whole _) (Memref.whole cc0_scratch2) (Memref.isWhole_whole _)
        (counts m) (blk0 m c ⟨n + 1, hn⟩) (blk1 m c ⟨n + 1, hn⟩) (blk2 m c ⟨n + 1, hn⟩) (blk3 m c ⟨n + 1, hn⟩) (blk4 m c ⟨n + 1, hn⟩) (blk5 m c ⟨n + 1, hn⟩)
        (blk6 m c ⟨n + 1, hn⟩) d s12 s13 s14 (hc _) hc1 hc2 hc3 E K)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      iintro ⟨H3, H4, H5, H6, H7, H8, H9, H10, H11, ⟨%u12, %u13, %u14, H12, H13, H14⟩⟩
      iapply Hk
      isplitl [H3 HR H12 H13 H14]
      · isplitl [H3]; · iexact H3
        isplitl [HR]; · iexact HR
        iexists u12, u13, u14
        isplitl [H12]; · iexact H12
        isplitl [H13]; · iexact H13
        isplitl [H14]; · iexact H14
        ipureintro
        intro t' ht' h2
        obtain rfl : t' = ⟨n + 1, hn⟩ := Fin.ext (Nat.succ_injective ht')
        exact absurd h2 hc2
      isplitl [H4]; · iexact H4
      isplitl [H5]; · iexact H5
      isplitl [H6]; · iexact H6
      isplitl [H7]; · iexact H7
      isplitl [H8]; · iexact H8
      isplitl [H9]; · iexact H9
      isplitl [H10]; · iexact H10
      rw [scatterTo_congr (grid0.coords ⟨n + 1, hn⟩) (blk2 m c ⟨n + 1, hn⟩)
        (resultTile m c ⟨n, Nat.lt_of_succ_lt hn⟩ ⟨n + 1, hn⟩)
        (fun k => expertTile (grid0.coords ⟨n + 1, hn⟩) (blk4 m c ⟨n + 1, hn⟩) (blk5 m c ⟨n + 1, hn⟩) (blk6 m c ⟨n + 1, hn⟩) (tile s12 k) (tile s14 k) (tile s13 k)) d
        (groups (countAt (grid0.coords ⟨n + 1, hn⟩) (counts m))) (fun k hk => by
          obtain ⟨e12, e14, e13⟩ := hf k (by rw [count_odd m n hn ho]; exact hk)
          rw [e12, e14, e13]; rfl)]
      iexact H11

/-- The same, with what the staging buffers hold named by the caller. -/
theorem point_wp (hc : ∀ i : grid0.Coords, (countAt i (counts m)).toNat ≤ 1024) (c : Dev nD) (t : Fin grid0.N)
    (M4 : Memref sig .tc .vmem S1024x1024 .bf16) (h4 : M4.IsWhole)
    (M5 : Memref sig .tc .vmem S1024x128 .f32) (h5 : M5.IsWhole)
    (M6 : Memref sig .tc .vmem S1024x128 .f32) (h6 : M6.IsWhole)
    (M7 : Memref sig .tc .vmem S1x8x1024 .f32) (h7 : M7.IsWhole)
    (M8 : Memref sig .tc .vmem S1x1024x1792 .bf16) (h8 : M8.IsWhole)
    (M9 : Memref sig .tc .vmem S1x1024x1792 .bf16) (h9 : M9.IsWhole)
    (M10 : Memref sig .tc .vmem S1x1792x1024 .bf16) (h10 : M10.IsWhole)
    (M11 : Memref sig .tc .vmem S1024x1024 .f32) (h11 : M11.IsWhole)
    (b0 a0 : Vec F S1024x1024 .bf16) (eb0 : b0 = blk0 m c t) (ea0 : a0 = blk0 m c t)
    (b1 a1 : Vec F S1024x128 .f32) (eb1 : b1 = blk1 m c t) (ea1 : a1 = blk1 m c t)
    (b2 a2 : Vec F S1024x128 .f32) (eb2 : b2 = blk2 m c t) (ea2 : a2 = blk2 m c t)
    (b3 a3 : Vec F S1x8x1024 .f32) (eb3 : b3 = blk3 m c t) (ea3 : a3 = blk3 m c t)
    (b4 a4 : Vec F S1x1024x1792 .bf16) (eb4 : b4 = blk4 m c t) (ea4 : a4 = blk4 m c t)
    (b5 a5 : Vec F S1x1024x1792 .bf16) (eb5 : b5 = blk5 m c t) (ea5 : a5 = blk5 m c t)
    (b6 a6 : Vec F S1x1792x1024 .bf16) (eb6 : b6 = blk6 m c t) (ea6 : a6 = blk6 m c t)
    (d : Vec F S1024x1024 .f32)
    (hd : ∀ (n : ℕ) (h : n + 1 < grid0.N), t = ⟨n + 1, h⟩ → (n + 1) % 16 ≠ 0 → d = outAt m c n (Nat.lt_of_succ_lt h)) (O R : sProp 𝕄G)
    (hR : owns (c : Thread nD τ) M11 fullShare (leftAt m c t d) ⊢ R) :
    iprop(Inv m c t.val ∗ O ∗ owns (c : Thread nD τ) M4 fullShare b0 ∗ owns (c : Thread nD τ) M5 fullShare b1 ∗ owns (c : Thread nD τ) M6 fullShare b2 ∗ owns (c : Thread nD τ) M7 fullShare b3 ∗ owns (c : Thread nD τ) M8 fullShare b4 ∗ owns (c : Thread nD τ) M9 fullShare b5 ∗ owns (c : Thread nD τ) M10 fullShare b6 ∗ owns (c : Thread nD τ) M11 fullShare d)
      ⊢ wp frame (wpE (defs₀ (F := F)) Variants.none c none) Set.univ
          (cc0_moe_ffn_x (grid0.coords t) (Memref.whole main_v13) (Memref.isWhole_whole _) M4 h4 M5 h5 M6 h6 M7 h7 M8 h8 M9 h9 M10 h10 M11 h11
            (Memref.whole cc0_scratch0) (Memref.isWhole_whole _) (Memref.whole cc0_scratch1) (Memref.isWhole_whole _) (Memref.whole cc0_scratch2) (Memref.isWhole_whole _))
          fun _ => iprop(Inv m c (t.val + 1) ∗ O ∗ owns (c : Thread nD τ) M4 fullShare a0 ∗ owns (c : Thread nD τ) M5 fullShare a1 ∗ owns (c : Thread nD τ) M6 fullShare a2 ∗ owns (c : Thread nD τ) M7 fullShare a3 ∗ owns (c : Thread nD τ) M8 fullShare a4 ∗ owns (c : Thread nD τ) M9 fullShare a5 ∗ owns (c : Thread nD τ) M10 fullShare a6 ∗ R) := by
  subst eb0 eb1 eb2 eb3 eb4 eb5 eb6 ea0 ea1 ea2 ea3 ea4 ea5 ea6
  iintro ⟨HI, HO, H4, H5, H6, H7, H8, H9, H10, H11⟩
  iapply (point_run m hc c t M4 h4 M5 h5 M6 h6 M7 h7 M8 h8 M9 h9 M10 h10 M11 h11 d hd)
  isplitl [HI]; · iexact HI
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨HI, H4, H5, H6, H7, H8, H9, H10, H11⟩
  isplitl [HI]; · iexact HI
  isplitl [HO]; · iexact HO
  isplitl [H4]; · iexact H4
  isplitl [H5]; · iexact H5
  isplitl [H6]; · iexact H6
  isplitl [H7]; · iexact H7
  isplitl [H8]; · iexact H8
  isplitl [H9]; · iexact H9
  isplitl [H10]; · iexact H10
  iapply hR
  iexact H11

theorem owns_of_eq (c : Dev nD) (M : Memref sig .tc .vmem S1024x1024 .f32) {x y : Vec F S1024x1024 .f32} (h : x = y) :
    (owns (c : Thread nD τ) M fullShare x : sProp 𝕄G) ⊢ owns (c : Thread nD τ) M fullShare y := by
  subst h
  iintro H
  iexact H

theorem entails_left (i f : Bool) (P A B : sProp 𝕄G) : (i = false → P ⊢ B) → (i = true → f = false ∧ (P ⊢ A)) →
    (P ⊢ match i with
      | true => match f with
        | false => A
        | true => B
      | false => B) := by
  intro h h'
  cases i with
  | false => exact h rfl
  | true =>
    obtain ⟨rfl, hA⟩ := h' rfl
    exact hA

/-- What the result's staging buffer is left with is what the pipeline asks for. -/
theorem left_ok (c : Dev nD) (t : Fin grid0.N) (M : Memref sig .tc .vmem S1024x1024 .f32) (d : Vec F S1024x1024 .f32) :
    (owns (c : Thread nD τ) M fullShare (leftAt m c t ((dats m 0 c).before 7 t d)) : sProp 𝕄G) ⊢
      match (cfgM m).idle 7 ((cfgM m).grid.coords t) with
      | true => match ((cfgM m).win 7).flush t with
        | false => iprop(∃ d, owns (c : Thread nD τ) M fullShare ((dats m 0 c).before 7 t d))
        | true => owns (c : Thread nD τ) M fullShare ((dats m 0 c).after 7 t)
      | false => owns (c : Thread nD τ) M fullShare ((dats m 0 c).after 7 t) := by
  by_cases hl : k0_cond1 (grid0.coords t) = 1#1 ∨ k0_cond3 (grid0.coords t) = 1#1
  · refine entails_left _ _ _ _ _ (fun _ => owns_of_eq c M ((if_pos hl).trans (after_7 m c t).symm)) fun hi => ?_
    exact absurd ((live_of m t hl).symm.trans hi) (by decide)
  · obtain ⟨h1, h3⟩ := not_or.mp hl
    refine entails_left _ _ _ _ _ (fun hi => absurd ((idle_of m t h1 h3).symm.trans hi) (by decide)) fun _ => ⟨flush_false m t fun h => ?_, ?_⟩
    · exact h3 ((cond3_iff t).mpr (by omega))
    · rw [show leftAt m c t ((dats m 0 c).before 7 t d) = (dats m 0 c).before 7 t d from if_neg hl]
      iintro H
      iexists d
      iexact H

/-- The body at every point of the grid, as the pipeline asks for it. -/
theorem body_obligation (hc : ∀ i : grid0.Coords, (countAt i (counts m)).toNat ≤ 1024) (c : Dev nD) :
    BodyObligation (dats (F := F) m 0 c) (defs₀ (F := F)) Variants.none () Set.univ := fun t => by
  rw [bigSep_W0, bigSep_W0]
  sl_whnfR [defs₀, Defs.onTc]
  rw [owes_eq, phi_pre, phi_post]
  simp only []
  iintro ⟨HI, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (point_wp m hc c t _ _ _ _ _ _ _ _ _ _ _ _ _ _ _ _
    ((dats m 0 c).before 0 t d0) ((dats m 0 c).after 0 t) (before_0 m c t d0) (after_0 m c t)
    ((dats m 0 c).before 1 t d1) ((dats m 0 c).after 1 t) (before_1 m c t d1) (after_1 m c t)
    ((dats m 0 c).before 2 t d2) ((dats m 0 c).after 2 t) (before_2 m c t d2) (after_2 m c t)
    ((dats m 0 c).before 3 t d3) ((dats m 0 c).after 3 t) (before_3 m c t d3) (after_3 m c t)
    ((dats m 0 c).before 4 t d4) ((dats m 0 c).after 4 t) (before_4 m c t d4) (after_4 m c t)
    ((dats m 0 c).before 5 t d5) ((dats m 0 c).after 5 t) (before_5 m c t d5) (after_5 m c t)
    ((dats m 0 c).before 6 t d6) ((dats m 0 c).after 6 t) (before_6 m c t d6) (after_6 m c t)
    ((dats m 0 c).before 7 t d7) ?_ _ _ ?_)
  · intro n h e hne
    subst e
    exact before_7 m c n h hne d7
  · exact left_ok m c t _ d7
  · isplitl [HI]; · iexact HI
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

end Cert.Proof

end
-- ==== Proof.Main.lean ====
/-
  The whole program's run, and that it leaves its arguments unchanged.
-/
module

public import proofs.«01_k».proof.Proof.Run

@[expose] public section

set_option maxRecDepth 8192

noncomputable section

namespace Cert.Proof

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation ΦA ΦT)

variable {F : FTy → Type} [FloatOps F]

local notation "𝕄G" => MT nD τ sig Unit (Elt F) ℕ (UR sig nD τ) ℕ

variable (m : (ℓ : Loc nD τ sig) → Buf (Elt F) ℓ) (ρ : Dev nD → PrngReg)

theorem table_eq (c : Dev nD) :
    (ΦT pre0 (tables m) c : sProp 𝕄G) = owns (c : Thread nD τ) (Memref.whole main_v13) fullShare.right (counts m) := by
  unfold Pipeline.ΦT Pipeline.prefHeld
  rw [show (Finset.univ : Finset (Fin 1)) = {(0 : Fin 1)} from by decide, bigSep_singleton, owns_whole]
  rfl

/-- What the launch hands over is the invariant before the first point; -/
theorem phi_in (c : Dev nD) : iprop(ΦA spec0 c ∗ ΦT pre0 (tables m) c) ⊢ (Inv m c 0 : sProp 𝕄G) := by
  rw [table_eq]
  unfold Pipeline.ΦA Inv
  rw [scopedRest0_eq]
  simp only [owns_whole]
  iintro ⟨⟨⟨⟨%f0, H0⟩, ⟨%f1, H1⟩, ⟨%f2, H2⟩⟩, HR⟩, HT⟩
  isplitl [HT]; · iexact HT
  isplitl [HR]; · iexact HR
  iexists f0, f1, f2
  isplitl [H0]; · iexact H0
  isplitl [H1]; · iexact H1
  isplitl [H2]; · iexact H2
  ipureintro
  intro t ht
  exact absurd ht (Nat.succ_ne_zero _)

/-- and the invariant after the last point gives it back. -/
theorem phi_out (c : Dev nD) (k : ℕ) : (Inv m c k : sProp 𝕄G) ⊢ ΦA spec0 c := by
  unfold Pipeline.ΦA Inv
  rw [scopedRest0_eq]
  simp only [owns_whole]
  iintro ⟨HT, HR, ⟨%f0, %f1, %f2, H0, H1, H2, -⟩⟩
  isplitl [H0 H1 H2]
  · isplitl [H0]; · iexists f0; iexact H0
    isplitl [H1]; · iexists f1; iexact H1
    iexists f2; iexact H2
  · iexact HR

theorem hmain : Pipeline.HMainP (Ix := Unit) (Name := ℕ) (U := UR sig nD τ) (Lvl := ℕ) (pcfgs (F := F)) 0 defs₀ Variants.none m main (V m) :=
  Pipeline.hmainP_prefixes (pcfgs (F := F)) 0 defs₀ Variants.none m main hostLines
    ⟨hostOps0_sub, hostOps0_1_sub, hostOps0_2_sub, hostOps0_3_sub, hostOps0_4_sub, hostOps0_5_sub, hostOps0_6_sub⟩
    (by simp [hostLines, StableHlo.unary, StableHlo.binary, StableHlo.nullary, StableHlo.reshape, StableHlo.ternary])
    main_chain

set_option backward.isDefEq.respectTransparency.types false in
/-- Every run of the program ends, with every array of the pipeline at what its data says and every counter at zero. -/
theorem run_main (hc : ∀ i : grid0.Coords, (countAt i (counts m)).toNat ≤ 1024) :
    θ_run defs (onTc (τ := τ) (main (F := F))) (s₀ m ρ)
      (fun r => Pipeline.FramePost (Pipeline.pin (pcfgs (F := F)) fun _ => held m) (dats m) 0 (V m) r ∧ r.2.sem = fun _ => 0) :=
  Pipeline.θ_run_frameP_track_shared (Q' := _) (pcfgs (F := F)) (fun _ => held m) (dats m) (0 : Fin 1) launch₀0 defs₀ Variants.none m ρ main
    (hbody := fun c => (body_obligation m hc c).loose) (hq := fun _ _ _ => rfl) (howed := fun _ _ => rfl) (V := V m) (hmain := hmain m)
    (hA := fun _ _ => rfl) (hpf := fun c k => tables_eq m c k)
    (hin := fun c => phi_in m c) (hout := fun c => phi_out m c _)

end Cert.Proof

end
-- ==== Proof.Host.lean ====
/-
  What the operations before the kernel leave: the two weight arrays rounded, and the routing tables — the marks of the
  routed rows, the counts per block and expert, and each row's rank among the routed rows of its block.
-/
module

public import proofs.«01_k».proof.Proof.Point
public import Idealize.ShloMosaic.Lib.StableHlo.Run
public import Idealize.ShloMosaic.PureOps.Reduce
public import Idealize.ShloMosaic.Lib.IndicatorCount

@[expose] public section

set_option maxRecDepth 8192

noncomputable section

namespace Cert.Proof

open Cert.KernelIdeal Cert.KernelIdeal.Gen

open Idealize.ShloMosaic Idealize.ShloMosaic.TcCoe Idealize.ShloMosaic.Tactic Idealize.ShloMosaic.ValueIdx

variable {F : FTy → Type} [FloatOps F]

/-- Whether a row's weight of an expert is positive. -/
def routed (cb : Vec F S32768x128 .f32) : Vec F S32768x8 .i1 :=
  cmpf .ogt (extractStridedSlice S32768x8 ![0, 0] cb slices_S32768x128_S32768x8_0_0)
    (broadcastInDim S32768x8 ![] bcast_S_S32768x8 (constant S_ .f32 0x00000000#32))

/-- The same as words, by block, row in the block and expert. -/
def marks (cb : Vec F S32768x128 .f32) : Vec F S32x1024x8 .i32 :=
  shapeCast S32x1024x8 (extui 32 (routed cb) natLt_1_32) shapeCasts_S32768x8_S32x1024x8

/-- Each row's rank among the routed rows of its block, and −1 at the rows not routed. -/
def ranks (cb : Vec F S32768x128 .f32) : Vec F S32x1024x8 .i32 :=
  select (cmpi .sgt (marks cb) (broadcastInDim S32x1024x8 ![] bcast_S_S32x1024x8 (constantI S_ 32 0#32)))
    (subi (Host.reduceWindow IntOp.addi ![1, 1024, 1] ![1, 1, 1] ![0, 1023, 0] ![0, 0, 0] (marks cb)
        (broadcastInDim S_ ![] bcast_S_S_ (constantI S_ 32 0#32))
        reduceWindows_S32x1024x8_S32x1024x8_w1s1p0_0_w1024s1p1023_0_w1s1p0_0 h_S_)
      (marks cb))
    (broadcastInDim S32x1024x8 ![] bcast_S_S32x1024x8 (constantI S_ 32 4294967295#32))

variable (m : (ℓ : Loc nD τ sig) → Buf (Elt F) ℓ)

theorem V_arg0 (c : Dev nD) : V m c main_arg0 = m (c, main_arg0) := by
  unfold V hostLines; simp only [List.flatten_cons, List.flatten_nil, List.cons_append, List.nil_append, List.append_nil]; after_results
theorem V_arg1 (c : Dev nD) : V m c main_arg1 = m (c, main_arg1) := by
  unfold V hostLines; simp only [List.flatten_cons, List.flatten_nil, List.cons_append, List.nil_append, List.append_nil]; after_results
theorem V_arg2 (c : Dev nD) : V m c main_arg2 = m (c, main_arg2) := by
  unfold V hostLines; simp only [List.flatten_cons, List.flatten_nil, List.cons_append, List.nil_append, List.append_nil]; after_results
theorem V_arg3 (c : Dev nD) : V m c main_arg3 = m (c, main_arg3) := by
  unfold V hostLines; simp only [List.flatten_cons, List.flatten_nil, List.cons_append, List.nil_append, List.append_nil]; after_results
theorem V_v0 (c : Dev nD) : V m c main_v0 = truncf .bf16 (m (c, main_arg2) : Vec F S8x1024x7168 .f32) bitsLt_bf16_f32 := by
  unfold V hostLines; simp only [List.flatten_cons, List.flatten_nil, List.cons_append, List.nil_append, List.append_nil]; after_results
theorem V_v1 (c : Dev nD) : V m c main_v1 = truncf .bf16 (m (c, main_arg3) : Vec F S8x3584x1024 .f32) bitsLt_bf16_f32 := by
  unfold V hostLines; simp only [List.flatten_cons, List.flatten_nil, List.cons_append, List.nil_append, List.append_nil]; after_results
theorem V_v13 (c : Dev nD) : V m c main_v13 = Host.reduce IntOp.addi (marks (m (c, main_arg1))) (constantI S_ 32 0#32) reducesTo_S32x1024x8_S32x8_d1 h_S_ := by
  unfold V hostLines; simp only [List.flatten_cons, List.flatten_nil, List.cons_append, List.nil_append, List.append_nil]; after_results; rfl
theorem V_v15 (c : Dev nD) : V m c main_v15 = pad S32768x128 ![0, 0] ![0, 120] ![0, 0]
    (shapeCast S32768x8 (sitofp .f32 (ranks (m (c, main_arg1)) : Vec F S32x1024x8 .i32)) shapeCasts_S32x1024x8_S32768x8) (constant S_ .f32 0xBF800000#32) pads_S32768x8_S32768x128_000_01200 h_S_ := by
  unfold V hostLines; simp only [List.flatten_cons, List.flatten_nil, List.cons_append, List.nil_append, List.append_nil]; after_results; simp -implicitDefEqProofs only [StableHlo.TRef.toBuf, StableHlo.TRef.ofBuf, cast_eq]; unfold ranks marks routed; rfl
theorem V_v16 (c : Dev nD) : V m c main_v16 = transpose S32x8x1024 [0, 2, 1]
    (sitofp .f32 (ranks (m (c, main_arg1)) : Vec F S32x1024x8 .i32)) transposes_S32x1024x8_S32x8x1024_0_2_1 := by
  unfold V hostLines; simp only [List.flatten_cons, List.flatten_nil, List.cons_append, List.nil_append, List.append_nil]; after_results; simp -implicitDefEqProofs only [StableHlo.TRef.toBuf, StableHlo.TRef.ofBuf, cast_eq]; unfold ranks marks routed; rfl

/-- A block has no more routed rows than rows. -/
theorem count_le (cb : Vec F S32768x128 .f32) (j : S32x8.Idx) :
    (Host.reduce IntOp.addi (marks cb) (constantI S_ 32 0#32) reducesTo_S32x1024x8_S32x8_d1 h_S_ j).toNat ≤ 1024 := by
  rw [Host.reduce_eq_fold_single (s := S32x1024x8) (a := 1) IntOp.addi (marks cb) (constantI S_ 32 0#32) reducesTo_S32x1024x8_S32x8_d1 (by decide) h_S_ j]
  have h : (marks cb ∘ Shape.Reduces.lift (s := S32x1024x8) (t := S32x8) (a := 1) (by decide) j)
      = fun k => (routed cb (Shape.reshapeEquiv shapeCasts_S32768x8_S32x1024x8 (Shape.Reduces.lift (s := S32x1024x8) (t := S32x8) (a := 1) (by decide) j k))).setWidth 32 := by
    funext k; rfl
  rw [h]
  show (Finset.fold IntOp.addi (0#32) _ _).toNat ≤ 1024
  rw [IndicatorCount.fold_addi_setWidth_eq_card, BitVec.toNat_ofNat]
  exact (Nat.mod_le _ _).trans ((Finset.card_le_univ _).trans (by simp [Fintype.card_fin]; decide))

end Cert.Proof

end
-- ==== Proof.Same.lean ====
/-
  The kernel's program and its ideal form are printed in two namespaces from one text, with no rewrite between
  them: they are equal, definition by definition, and what one ends with the other does.
-/
module

public import proofs.«01_k».proof.Defs
public import proofs.«01_k».proof.Proof.Gen.KernelIdeal
public import proofs.«01_k».proof.Proof.Gen.Kernel
public import proofs.«01_k».proof.Proof.Gen.KernelIdeal.Launch
public import proofs.«01_k».proof.Proof.Gen.Kernel.Launch

@[expose] public section

set_option maxRecDepth 8192

noncomputable section

namespace Cert.Proof

open Idealize.ShloMosaic Idealize.ShloMosaic.TcCoe Idealize.SL.Sem

variable {F : FTy → Type} [FloatOps F]

theorem main_same : Cert.Kernel.main (F := F) = Cert.KernelIdeal.main (F := F) := by
  funext d
  rewrite [Cert.Kernel.Gen.main_chain, Cert.KernelIdeal.Gen.main_chain]
  chain_rfl

theorem body_same : @Cert.Kernel.cc0_moe_ffn_x F _ _ = @Cert.KernelIdeal.cc0_moe_ffn_x F _ _ := by
  unfold Cert.Kernel.cc0_moe_ffn_x Cert.KernelIdeal.cc0_moe_ffn_x
  rfl

theorem bodies_same : Cert.Kernel.defs₀ (F := F) = Cert.KernelIdeal.defs₀ (F := F) := by
  unfold Cert.Kernel.defs₀ Cert.KernelIdeal.defs₀
  refine congrArg Defs.onTc (funext fun l => funext fun a => ?_)
  obtain ⟨l, hl⟩ := l
  match l, hl with
  | 0, _ =>
    obtain ⟨t, s⟩ := a
    exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _) _) _) _) _

theorem pipes_same : Cert.Kernel.pcfgs (F := F) = Cert.KernelIdeal.pcfgs (F := F) := rfl

theorem defs_same : Cert.Kernel.defs (F := F) = Cert.KernelIdeal.defs (F := F) :=
  congrArg (Pipeline.defs Cert.KernelIdeal.pcfgs) bodies_same

/-- A run under the one set of names is a run under the other. -/
theorem run_same (s : _) (P : _ → Prop)
    (h : θ_run (Cert.KernelIdeal.defs (F := F)) (onTc (τ := Cert.KernelIdeal.τ) (Cert.KernelIdeal.main (F := F))) s P) :
    θ_run (Cert.Kernel.defs (F := F)) (onTc (τ := Cert.Kernel.τ) (Cert.Kernel.main (F := F))) s P := by
  rw [defs_same, main_same]
  exact h

end Cert.Proof

end
-- ==== Proof.RefLines.lean ====
/-
  The reference's run: its operations in stretches, one for what comes before the experts and one per expert, and what each
  stretch leaves in the buffers that later ones read.
-/
module

public import proofs.«01_k».proof.Proof.Gen.ReferenceIdeal
public import Idealize.ShloMosaic.Lib.StableHlo.Run

@[expose] public section

set_option maxRecDepth 8192

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

/-- One expert's product, as the reference computes it from the rows, the weights' array and the two weight matrices. -/
def term (o1 : Fin 3 → Nat) (h1 : S8x1024x7168.Slices o1 S1x1024x7168) (oc : Fin 2 → Nat) (hc : S32768x128.Slices oc S32768x1)
    (o2 : Fin 3 → Nat) (h2 : S8x3584x1024.Slices o2 S1x3584x1024)
    (x : Vec F S32768x1024 .f32) (cb : Vec F S32768x128 .f32) (w13 : Vec F S8x1024x7168 .f32) (w2 : Vec F S8x3584x1024 .f32) : Vec F S32768x1024 .f32 :=
  let gu := Host.dotGeneral dot_S32768x1024_S1024x7168_S32768x7168_1_0_0_1_n_n none x
    (shapeCast S1024x7168 (extractStridedSlice S1x1024x7168 o1 w13 h1) shapeCasts_S1x1024x7168_S1024x7168)
  let gate := extractStridedSlice S32768x3584 ![0, 0] gu slices_S32768x7168_S32768x3584_0_0
  let up := extractStridedSlice S32768x3584 ![0, 3584] gu slices_S32768x7168_S32768x3584_0_3584
  let one := broadcastInDim S32768x3584 ![] bcast_S_S32768x3584 (constant S_ .f32 0x3F800000#32)
  mulf (broadcastInDim S32768x1024 ![0, 1] bcast_S32768x1_S32768x1024_0_1 (extractStridedSlice S32768x1 oc cb hc))
    (Host.dotGeneral dot_S32768x3584_S3584x1024_S32768x1024_1_0_0_1_n_n none
      (mulf (mulf gate (Host.divf one (addf one (Host.exp (Host.negf gate))))) up)
      (shapeCast S3584x1024 (extractStridedSlice S1x3584x1024 o2 w2 h2) shapeCasts_S1x3584x1024_S3584x1024))

/-- What comes before the experts. -/
abbrev start : List (HloOp τ sig (Elt F)) :=
  [ unary main_arg0 main_v0 ((extf .f32 · bitsLt_bf16_f32) : (⟨S32768x1024, .bf16⟩ : BufTy).Contents (Elt F) → (⟨S32768x1024, .f32⟩ : BufTy).Contents (Elt F)),
    nullary main_cst (constant S_ .f32 0x00000000#32),
    unary main_cst main_v1 (broadcastInDim S32768x1024 ![] bcast_S_S32768x1024 : (⟨S_, .f32⟩ : BufTy).Contents (Elt F) → (⟨S32768x1024, .f32⟩ : BufTy).Contents (Elt F)) ]
theorem start_sub : (start : List (HloOp τ sig (Elt F))).Forall fun op => op.bufs ⊆ tcRefs τ sig :=
  ⟨unary_bufs_sub .., nullary_bufs_sub .., unary_bufs_sub ..⟩

/-- Expert 0. -/
abbrev expert0 : List (HloOp τ sig (Elt F)) :=
  [ unary main_arg2 main_v2 ((extractStridedSlice S1x1024x7168 ![0, 0, 0] · slices_S8x1024x7168_S1x1024x7168_0_0_0) : (⟨S8x1024x7168, .f32⟩ : BufTy).Contents (Elt F) → (⟨S1x1024x7168, .f32⟩ : BufTy).Contents (Elt F)),
    reshape main_v2 main_v3 (rfl : (.f32 : EltTy) = .f32) shapeCasts_S1x1024x7168_S1024x7168,
    binary main_v0 main_v3 main_v4 ((fun l r => Host.dotGeneral dot_S32768x1024_S1024x7168_S32768x7168_1_0_0_1_n_n none l r) : (⟨S32768x1024, .f32⟩ : BufTy).Contents (Elt F) → (⟨S1024x7168, .f32⟩ : BufTy).Contents (Elt F) → (⟨S32768x7168, .f32⟩ : BufTy).Contents (Elt F)),
    unary main_v4 main_v5 ((extractStridedSlice S32768x3584 ![0, 0] · slices_S32768x7168_S32768x3584_0_0) : (⟨S32768x7168, .f32⟩ : BufTy).Contents (Elt F) → (⟨S32768x3584, .f32⟩ : BufTy).Contents (Elt F)),
    unary main_v4 main_v6 ((extractStridedSlice S32768x3584 ![0, 3584] · slices_S32768x7168_S32768x3584_0_3584) : (⟨S32768x7168, .f32⟩ : BufTy).Contents (Elt F) → (⟨S32768x3584, .f32⟩ : BufTy).Contents (Elt F)),
    unary main_arg1 main_v7 ((extractStridedSlice S32768x1 ![0, 0] · slices_S32768x128_S32768x1_0_0) : (⟨S32768x128, .f32⟩ : BufTy).Contents (Elt F) → (⟨S32768x1, .f32⟩ : BufTy).Contents (Elt F)),
    TRef.unary (TRef.of (T := ⟨S32768x3584, .f32⟩) main_v5) (TRef.of (T := ⟨S32768x3584, .f32⟩) main_call0_v0) Host.negf,
    TRef.unary (TRef.of (T := ⟨S32768x3584, .f32⟩) main_call0_v0) (TRef.of (T := ⟨S32768x3584, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S32768x3584, .f32⟩) main_call0_v2) (broadcastInDim S32768x3584 ![] bcast_S_S32768x3584),
    TRef.binary (TRef.of (T := ⟨S32768x3584, .f32⟩) main_call0_v2) (TRef.of (T := ⟨S32768x3584, .f32⟩) main_call0_v1) (TRef.of (T := ⟨S32768x3584, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S32768x3584, .f32⟩) main_call0_v4) (broadcastInDim S32768x3584 ![] bcast_S_S32768x3584),
    TRef.binary (TRef.of (T := ⟨S32768x3584, .f32⟩) main_call0_v4) (TRef.of (T := ⟨S32768x3584, .f32⟩) main_call0_v3) (TRef.of (T := ⟨S32768x3584, .f32⟩) main_call0_v5) Host.divf,
    TRef.binary (TRef.of (T := ⟨S32768x3584, .f32⟩) main_v5) (TRef.of (T := ⟨S32768x3584, .f32⟩) main_call0_v5) (TRef.of (T := ⟨S32768x3584, .f32⟩) main_v8) mulf,
    binary main_v8 main_v6 main_v9 (mulf : (⟨S32768x3584, .f32⟩ : BufTy).Contents (Elt F) → (⟨S32768x3584, .f32⟩ : BufTy).Contents (Elt F) → (⟨S32768x3584, .f32⟩ : BufTy).Contents (Elt F)),
    unary main_arg3 main_v10 ((extractStridedSlice S1x3584x1024 ![0, 0, 0] · slices_S8x3584x1024_S1x3584x1024_0_0_0) : (⟨S8x3584x1024, .f32⟩ : BufTy).Contents (Elt F) → (⟨S1x3584x1024, .f32⟩ : BufTy).Contents (Elt F)),
    reshape main_v10 main_v11 (rfl : (.f32 : EltTy) = .f32) shapeCasts_S1x3584x1024_S3584x1024,
    binary main_v9 main_v11 main_v12 ((fun l r => Host.dotGeneral dot_S32768x3584_S3584x1024_S32768x1024_1_0_0_1_n_n none l r) : (⟨S32768x3584, .f32⟩ : BufTy).Contents (Elt F) → (⟨S3584x1024, .f32⟩ : BufTy).Contents (Elt F) → (⟨S32768x1024, .f32⟩ : BufTy).Contents (Elt F)),
    unary main_v7 main_v13 (broadcastInDim S32768x1024 ![0, 1] bcast_S32768x1_S32768x1024_0_1 : (⟨S32768x1, .f32⟩ : BufTy).Contents (Elt F) → (⟨S32768x1024, .f32⟩ : BufTy).Contents (Elt F)),
    binary main_v13 main_v12 main_v14 (mulf : (⟨S32768x1024, .f32⟩ : BufTy).Contents (Elt F) → (⟨S32768x1024, .f32⟩ : BufTy).Contents (Elt F) → (⟨S32768x1024, .f32⟩ : BufTy).Contents (Elt F)),
    binary main_v1 main_v14 main_v15 (addf : (⟨S32768x1024, .f32⟩ : BufTy).Contents (Elt F) → (⟨S32768x1024, .f32⟩ : BufTy).Contents (Elt F) → (⟨S32768x1024, .f32⟩ : BufTy).Contents (Elt F)) ]
theorem expert0_sub : (expert0 : List (HloOp τ sig (Elt F))).Forall fun op => op.bufs ⊆ tcRefs τ sig :=
  ⟨unary_bufs_sub .., reshape_bufs_sub .., binary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., binary_bufs_sub .., binary_bufs_sub ..⟩

/-- Expert 1. -/
abbrev expert1 : List (HloOp τ sig (Elt F)) :=
  [ unary main_arg2 main_v16 ((extractStridedSlice S1x1024x7168 ![1, 0, 0] · slices_S8x1024x7168_S1x1024x7168_1_0_0) : (⟨S8x1024x7168, .f32⟩ : BufTy).Contents (Elt F) → (⟨S1x1024x7168, .f32⟩ : BufTy).Contents (Elt F)),
    reshape main_v16 main_v17 (rfl : (.f32 : EltTy) = .f32) shapeCasts_S1x1024x7168_S1024x7168,
    binary main_v0 main_v17 main_v18 ((fun l r => Host.dotGeneral dot_S32768x1024_S1024x7168_S32768x7168_1_0_0_1_n_n none l r) : (⟨S32768x1024, .f32⟩ : BufTy).Contents (Elt F) → (⟨S1024x7168, .f32⟩ : BufTy).Contents (Elt F) → (⟨S32768x7168, .f32⟩ : BufTy).Contents (Elt F)),
    unary main_v18 main_v19 ((extractStridedSlice S32768x3584 ![0, 0] · slices_S32768x7168_S32768x3584_0_0) : (⟨S32768x7168, .f32⟩ : BufTy).Contents (Elt F) → (⟨S32768x3584, .f32⟩ : BufTy).Contents (Elt F)),
    unary main_v18 main_v20 ((extractStridedSlice S32768x3584 ![0, 3584] · slices_S32768x7168_S32768x3584_0_3584) : (⟨S32768x7168, .f32⟩ : BufTy).Contents (Elt F) → (⟨S32768x3584, .f32⟩ : BufTy).Contents (Elt F)),
    unary main_arg1 main_v21 ((extractStridedSlice S32768x1 ![0, 1] · slices_S32768x128_S32768x1_0_1) : (⟨S32768x128, .f32⟩ : BufTy).Contents (Elt F) → (⟨S32768x1, .f32⟩ : BufTy).Contents (Elt F)),
    TRef.unary (TRef.of (T := ⟨S32768x3584, .f32⟩) main_v19) (TRef.of (T := ⟨S32768x3584, .f32⟩) main_call1_v0) Host.negf,
    TRef.unary (TRef.of (T := ⟨S32768x3584, .f32⟩) main_call1_v0) (TRef.of (T := ⟨S32768x3584, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S32768x3584, .f32⟩) main_call1_v2) (broadcastInDim S32768x3584 ![] bcast_S_S32768x3584),
    TRef.binary (TRef.of (T := ⟨S32768x3584, .f32⟩) main_call1_v2) (TRef.of (T := ⟨S32768x3584, .f32⟩) main_call1_v1) (TRef.of (T := ⟨S32768x3584, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S32768x3584, .f32⟩) main_call1_v4) (broadcastInDim S32768x3584 ![] bcast_S_S32768x3584),
    TRef.binary (TRef.of (T := ⟨S32768x3584, .f32⟩) main_call1_v4) (TRef.of (T := ⟨S32768x3584, .f32⟩) main_call1_v3) (TRef.of (T := ⟨S32768x3584, .f32⟩) main_call1_v5) Host.divf,
    TRef.binary (TRef.of (T := ⟨S32768x3584, .f32⟩) main_v19) (TRef.of (T := ⟨S32768x3584, .f32⟩) main_call1_v5) (TRef.of (T := ⟨S32768x3584, .f32⟩) main_v22) mulf,
    binary main_v22 main_v20 main_v23 (mulf : (⟨S32768x3584, .f32⟩ : BufTy).Contents (Elt F) → (⟨S32768x3584, .f32⟩ : BufTy).Contents (Elt F) → (⟨S32768x3584, .f32⟩ : BufTy).Contents (Elt F)),
    unary main_arg3 main_v24 ((extractStridedSlice S1x3584x1024 ![1, 0, 0] · slices_S8x3584x1024_S1x3584x1024_1_0_0) : (⟨S8x3584x1024, .f32⟩ : BufTy).Contents (Elt F) → (⟨S1x3584x1024, .f32⟩ : BufTy).Contents (Elt F)),
    reshape main_v24 main_v25 (rfl : (.f32 : EltTy) = .f32) shapeCasts_S1x3584x1024_S3584x1024,
    binary main_v23 main_v25 main_v26 ((fun l r => Host.dotGeneral dot_S32768x3584_S3584x1024_S32768x1024_1_0_0_1_n_n none l r) : (⟨S32768x3584, .f32⟩ : BufTy).Contents (Elt F) → (⟨S3584x1024, .f32⟩ : BufTy).Contents (Elt F) → (⟨S32768x1024, .f32⟩ : BufTy).Contents (Elt F)),
    unary main_v21 main_v27 (broadcastInDim S32768x1024 ![0, 1] bcast_S32768x1_S32768x1024_0_1 : (⟨S32768x1, .f32⟩ : BufTy).Contents (Elt F) → (⟨S32768x1024, .f32⟩ : BufTy).Contents (Elt F)),
    binary main_v27 main_v26 main_v28 (mulf : (⟨S32768x1024, .f32⟩ : BufTy).Contents (Elt F) → (⟨S32768x1024, .f32⟩ : BufTy).Contents (Elt F) → (⟨S32768x1024, .f32⟩ : BufTy).Contents (Elt F)),
    binary main_v15 main_v28 main_v29 (addf : (⟨S32768x1024, .f32⟩ : BufTy).Contents (Elt F) → (⟨S32768x1024, .f32⟩ : BufTy).Contents (Elt F) → (⟨S32768x1024, .f32⟩ : BufTy).Contents (Elt F)) ]
theorem expert1_sub : (expert1 : List (HloOp τ sig (Elt F))).Forall fun op => op.bufs ⊆ tcRefs τ sig :=
  ⟨unary_bufs_sub .., reshape_bufs_sub .., binary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., binary_bufs_sub .., binary_bufs_sub ..⟩

/-- Expert 2. -/
abbrev expert2 : List (HloOp τ sig (Elt F)) :=
  [ unary main_arg2 main_v30 ((extractStridedSlice S1x1024x7168 ![2, 0, 0] · slices_S8x1024x7168_S1x1024x7168_2_0_0) : (⟨S8x1024x7168, .f32⟩ : BufTy).Contents (Elt F) → (⟨S1x1024x7168, .f32⟩ : BufTy).Contents (Elt F)),
    reshape main_v30 main_v31 (rfl : (.f32 : EltTy) = .f32) shapeCasts_S1x1024x7168_S1024x7168,
    binary main_v0 main_v31 main_v32 ((fun l r => Host.dotGeneral dot_S32768x1024_S1024x7168_S32768x7168_1_0_0_1_n_n none l r) : (⟨S32768x1024, .f32⟩ : BufTy).Contents (Elt F) → (⟨S1024x7168, .f32⟩ : BufTy).Contents (Elt F) → (⟨S32768x7168, .f32⟩ : BufTy).Contents (Elt F)),
    unary main_v32 main_v33 ((extractStridedSlice S32768x3584 ![0, 0] · slices_S32768x7168_S32768x3584_0_0) : (⟨S32768x7168, .f32⟩ : BufTy).Contents (Elt F) → (⟨S32768x3584, .f32⟩ : BufTy).Contents (Elt F)),
    unary main_v32 main_v34 ((extractStridedSlice S32768x3584 ![0, 3584] · slices_S32768x7168_S32768x3584_0_3584) : (⟨S32768x7168, .f32⟩ : BufTy).Contents (Elt F) → (⟨S32768x3584, .f32⟩ : BufTy).Contents (Elt F)),
    unary main_arg1 main_v35 ((extractStridedSlice S32768x1 ![0, 2] · slices_S32768x128_S32768x1_0_2) : (⟨S32768x128, .f32⟩ : BufTy).Contents (Elt F) → (⟨S32768x1, .f32⟩ : BufTy).Contents (Elt F)),
    TRef.unary (TRef.of (T := ⟨S32768x3584, .f32⟩) main_v33) (TRef.of (T := ⟨S32768x3584, .f32⟩) main_call2_v0) Host.negf,
    TRef.unary (TRef.of (T := ⟨S32768x3584, .f32⟩) main_call2_v0) (TRef.of (T := ⟨S32768x3584, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S32768x3584, .f32⟩) main_call2_v2) (broadcastInDim S32768x3584 ![] bcast_S_S32768x3584),
    TRef.binary (TRef.of (T := ⟨S32768x3584, .f32⟩) main_call2_v2) (TRef.of (T := ⟨S32768x3584, .f32⟩) main_call2_v1) (TRef.of (T := ⟨S32768x3584, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S32768x3584, .f32⟩) main_call2_v4) (broadcastInDim S32768x3584 ![] bcast_S_S32768x3584),
    TRef.binary (TRef.of (T := ⟨S32768x3584, .f32⟩) main_call2_v4) (TRef.of (T := ⟨S32768x3584, .f32⟩) main_call2_v3) (TRef.of (T := ⟨S32768x3584, .f32⟩) main_call2_v5) Host.divf,
    TRef.binary (TRef.of (T := ⟨S32768x3584, .f32⟩) main_v33) (TRef.of (T := ⟨S32768x3584, .f32⟩) main_call2_v5) (TRef.of (T := ⟨S32768x3584, .f32⟩) main_v36) mulf,
    binary main_v36 main_v34 main_v37 (mulf : (⟨S32768x3584, .f32⟩ : BufTy).Contents (Elt F) → (⟨S32768x3584, .f32⟩ : BufTy).Contents (Elt F) → (⟨S32768x3584, .f32⟩ : BufTy).Contents (Elt F)),
    unary main_arg3 main_v38 ((extractStridedSlice S1x3584x1024 ![2, 0, 0] · slices_S8x3584x1024_S1x3584x1024_2_0_0) : (⟨S8x3584x1024, .f32⟩ : BufTy).Contents (Elt F) → (⟨S1x3584x1024, .f32⟩ : BufTy).Contents (Elt F)),
    reshape main_v38 main_v39 (rfl : (.f32 : EltTy) = .f32) shapeCasts_S1x3584x1024_S3584x1024,
    binary main_v37 main_v39 main_v40 ((fun l r => Host.dotGeneral dot_S32768x3584_S3584x1024_S32768x1024_1_0_0_1_n_n none l r) : (⟨S32768x3584, .f32⟩ : BufTy).Contents (Elt F) → (⟨S3584x1024, .f32⟩ : BufTy).Contents (Elt F) → (⟨S32768x1024, .f32⟩ : BufTy).Contents (Elt F)),
    unary main_v35 main_v41 (broadcastInDim S32768x1024 ![0, 1] bcast_S32768x1_S32768x1024_0_1 : (⟨S32768x1, .f32⟩ : BufTy).Contents (Elt F) → (⟨S32768x1024, .f32⟩ : BufTy).Contents (Elt F)),
    binary main_v41 main_v40 main_v42 (mulf : (⟨S32768x1024, .f32⟩ : BufTy).Contents (Elt F) → (⟨S32768x1024, .f32⟩ : BufTy).Contents (Elt F) → (⟨S32768x1024, .f32⟩ : BufTy).Contents (Elt F)),
    binary main_v29 main_v42 main_v43 (addf : (⟨S32768x1024, .f32⟩ : BufTy).Contents (Elt F) → (⟨S32768x1024, .f32⟩ : BufTy).Contents (Elt F) → (⟨S32768x1024, .f32⟩ : BufTy).Contents (Elt F)) ]
theorem expert2_sub : (expert2 : List (HloOp τ sig (Elt F))).Forall fun op => op.bufs ⊆ tcRefs τ sig :=
  ⟨unary_bufs_sub .., reshape_bufs_sub .., binary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., binary_bufs_sub .., binary_bufs_sub ..⟩

/-- Expert 3. -/
abbrev expert3 : List (HloOp τ sig (Elt F)) :=
  [ unary main_arg2 main_v44 ((extractStridedSlice S1x1024x7168 ![3, 0, 0] · slices_S8x1024x7168_S1x1024x7168_3_0_0) : (⟨S8x1024x7168, .f32⟩ : BufTy).Contents (Elt F) → (⟨S1x1024x7168, .f32⟩ : BufTy).Contents (Elt F)),
    reshape main_v44 main_v45 (rfl : (.f32 : EltTy) = .f32) shapeCasts_S1x1024x7168_S1024x7168,
    binary main_v0 main_v45 main_v46 ((fun l r => Host.dotGeneral dot_S32768x1024_S1024x7168_S32768x7168_1_0_0_1_n_n none l r) : (⟨S32768x1024, .f32⟩ : BufTy).Contents (Elt F) → (⟨S1024x7168, .f32⟩ : BufTy).Contents (Elt F) → (⟨S32768x7168, .f32⟩ : BufTy).Contents (Elt F)),
    unary main_v46 main_v47 ((extractStridedSlice S32768x3584 ![0, 0] · slices_S32768x7168_S32768x3584_0_0) : (⟨S32768x7168, .f32⟩ : BufTy).Contents (Elt F) → (⟨S32768x3584, .f32⟩ : BufTy).Contents (Elt F)),
    unary main_v46 main_v48 ((extractStridedSlice S32768x3584 ![0, 3584] · slices_S32768x7168_S32768x3584_0_3584) : (⟨S32768x7168, .f32⟩ : BufTy).Contents (Elt F) → (⟨S32768x3584, .f32⟩ : BufTy).Contents (Elt F)),
    unary main_arg1 main_v49 ((extractStridedSlice S32768x1 ![0, 3] · slices_S32768x128_S32768x1_0_3) : (⟨S32768x128, .f32⟩ : BufTy).Contents (Elt F) → (⟨S32768x1, .f32⟩ : BufTy).Contents (Elt F)),
    TRef.unary (TRef.of (T := ⟨S32768x3584, .f32⟩) main_v47) (TRef.of (T := ⟨S32768x3584, .f32⟩) main_call3_v0) Host.negf,
    TRef.unary (TRef.of (T := ⟨S32768x3584, .f32⟩) main_call3_v0) (TRef.of (T := ⟨S32768x3584, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S32768x3584, .f32⟩) main_call3_v2) (broadcastInDim S32768x3584 ![] bcast_S_S32768x3584),
    TRef.binary (TRef.of (T := ⟨S32768x3584, .f32⟩) main_call3_v2) (TRef.of (T := ⟨S32768x3584, .f32⟩) main_call3_v1) (TRef.of (T := ⟨S32768x3584, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S32768x3584, .f32⟩) main_call3_v4) (broadcastInDim S32768x3584 ![] bcast_S_S32768x3584),
    TRef.binary (TRef.of (T := ⟨S32768x3584, .f32⟩) main_call3_v4) (TRef.of (T := ⟨S32768x3584, .f32⟩) main_call3_v3) (TRef.of (T := ⟨S32768x3584, .f32⟩) main_call3_v5) Host.divf,
    TRef.binary (TRef.of (T := ⟨S32768x3584, .f32⟩) main_v47) (TRef.of (T := ⟨S32768x3584, .f32⟩) main_call3_v5) (TRef.of (T := ⟨S32768x3584, .f32⟩) main_v50) mulf,
    binary main_v50 main_v48 main_v51 (mulf : (⟨S32768x3584, .f32⟩ : BufTy).Contents (Elt F) → (⟨S32768x3584, .f32⟩ : BufTy).Contents (Elt F) → (⟨S32768x3584, .f32⟩ : BufTy).Contents (Elt F)),
    unary main_arg3 main_v52 ((extractStridedSlice S1x3584x1024 ![3, 0, 0] · slices_S8x3584x1024_S1x3584x1024_3_0_0) : (⟨S8x3584x1024, .f32⟩ : BufTy).Contents (Elt F) → (⟨S1x3584x1024, .f32⟩ : BufTy).Contents (Elt F)),
    reshape main_v52 main_v53 (rfl : (.f32 : EltTy) = .f32) shapeCasts_S1x3584x1024_S3584x1024,
    binary main_v51 main_v53 main_v54 ((fun l r => Host.dotGeneral dot_S32768x3584_S3584x1024_S32768x1024_1_0_0_1_n_n none l r) : (⟨S32768x3584, .f32⟩ : BufTy).Contents (Elt F) → (⟨S3584x1024, .f32⟩ : BufTy).Contents (Elt F) → (⟨S32768x1024, .f32⟩ : BufTy).Contents (Elt F)),
    unary main_v49 main_v55 (broadcastInDim S32768x1024 ![0, 1] bcast_S32768x1_S32768x1024_0_1 : (⟨S32768x1, .f32⟩ : BufTy).Contents (Elt F) → (⟨S32768x1024, .f32⟩ : BufTy).Contents (Elt F)),
    binary main_v55 main_v54 main_v56 (mulf : (⟨S32768x1024, .f32⟩ : BufTy).Contents (Elt F) → (⟨S32768x1024, .f32⟩ : BufTy).Contents (Elt F) → (⟨S32768x1024, .f32⟩ : BufTy).Contents (Elt F)),
    binary main_v43 main_v56 main_v57 (addf : (⟨S32768x1024, .f32⟩ : BufTy).Contents (Elt F) → (⟨S32768x1024, .f32⟩ : BufTy).Contents (Elt F) → (⟨S32768x1024, .f32⟩ : BufTy).Contents (Elt F)) ]
theorem expert3_sub : (expert3 : List (HloOp τ sig (Elt F))).Forall fun op => op.bufs ⊆ tcRefs τ sig :=
  ⟨unary_bufs_sub .., reshape_bufs_sub .., binary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., binary_bufs_sub .., binary_bufs_sub ..⟩

/-- Expert 4. -/
abbrev expert4 : List (HloOp τ sig (Elt F)) :=
  [ unary main_arg2 main_v58 ((extractStridedSlice S1x1024x7168 ![4, 0, 0] · slices_S8x1024x7168_S1x1024x7168_4_0_0) : (⟨S8x1024x7168, .f32⟩ : BufTy).Contents (Elt F) → (⟨S1x1024x7168, .f32⟩ : BufTy).Contents (Elt F)),
    reshape main_v58 main_v59 (rfl : (.f32 : EltTy) = .f32) shapeCasts_S1x1024x7168_S1024x7168,
    binary main_v0 main_v59 main_v60 ((fun l r => Host.dotGeneral dot_S32768x1024_S1024x7168_S32768x7168_1_0_0_1_n_n none l r) : (⟨S32768x1024, .f32⟩ : BufTy).Contents (Elt F) → (⟨S1024x7168, .f32⟩ : BufTy).Contents (Elt F) → (⟨S32768x7168, .f32⟩ : BufTy).Contents (Elt F)),
    unary main_v60 main_v61 ((extractStridedSlice S32768x3584 ![0, 0] · slices_S32768x7168_S32768x3584_0_0) : (⟨S32768x7168, .f32⟩ : BufTy).Contents (Elt F) → (⟨S32768x3584, .f32⟩ : BufTy).Contents (Elt F)),
    unary main_v60 main_v62 ((extractStridedSlice S32768x3584 ![0, 3584] · slices_S32768x7168_S32768x3584_0_3584) : (⟨S32768x7168, .f32⟩ : BufTy).Contents (Elt F) → (⟨S32768x3584, .f32⟩ : BufTy).Contents (Elt F)),
    unary main_arg1 main_v63 ((extractStridedSlice S32768x1 ![0, 4] · slices_S32768x128_S32768x1_0_4) : (⟨S32768x128, .f32⟩ : BufTy).Contents (Elt F) → (⟨S32768x1, .f32⟩ : BufTy).Contents (Elt F)),
    TRef.unary (TRef.of (T := ⟨S32768x3584, .f32⟩) main_v61) (TRef.of (T := ⟨S32768x3584, .f32⟩) main_call4_v0) Host.negf,
    TRef.unary (TRef.of (T := ⟨S32768x3584, .f32⟩) main_call4_v0) (TRef.of (T := ⟨S32768x3584, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S32768x3584, .f32⟩) main_call4_v2) (broadcastInDim S32768x3584 ![] bcast_S_S32768x3584),
    TRef.binary (TRef.of (T := ⟨S32768x3584, .f32⟩) main_call4_v2) (TRef.of (T := ⟨S32768x3584, .f32⟩) main_call4_v1) (TRef.of (T := ⟨S32768x3584, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S32768x3584, .f32⟩) main_call4_v4) (broadcastInDim S32768x3584 ![] bcast_S_S32768x3584),
    TRef.binary (TRef.of (T := ⟨S32768x3584, .f32⟩) main_call4_v4) (TRef.of (T := ⟨S32768x3584, .f32⟩) main_call4_v3) (TRef.of (T := ⟨S32768x3584, .f32⟩) main_call4_v5) Host.divf,
    TRef.binary (TRef.of (T := ⟨S32768x3584, .f32⟩) main_v61) (TRef.of (T := ⟨S32768x3584, .f32⟩) main_call4_v5) (TRef.of (T := ⟨S32768x3584, .f32⟩) main_v64) mulf,
    binary main_v64 main_v62 main_v65 (mulf : (⟨S32768x3584, .f32⟩ : BufTy).Contents (Elt F) → (⟨S32768x3584, .f32⟩ : BufTy).Contents (Elt F) → (⟨S32768x3584, .f32⟩ : BufTy).Contents (Elt F)),
    unary main_arg3 main_v66 ((extractStridedSlice S1x3584x1024 ![4, 0, 0] · slices_S8x3584x1024_S1x3584x1024_4_0_0) : (⟨S8x3584x1024, .f32⟩ : BufTy).Contents (Elt F) → (⟨S1x3584x1024, .f32⟩ : BufTy).Contents (Elt F)),
    reshape main_v66 main_v67 (rfl : (.f32 : EltTy) = .f32) shapeCasts_S1x3584x1024_S3584x1024,
    binary main_v65 main_v67 main_v68 ((fun l r => Host.dotGeneral dot_S32768x3584_S3584x1024_S32768x1024_1_0_0_1_n_n none l r) : (⟨S32768x3584, .f32⟩ : BufTy).Contents (Elt F) → (⟨S3584x1024, .f32⟩ : BufTy).Contents (Elt F) → (⟨S32768x1024, .f32⟩ : BufTy).Contents (Elt F)),
    unary main_v63 main_v69 (broadcastInDim S32768x1024 ![0, 1] bcast_S32768x1_S32768x1024_0_1 : (⟨S32768x1, .f32⟩ : BufTy).Contents (Elt F) → (⟨S32768x1024, .f32⟩ : BufTy).Contents (Elt F)),
    binary main_v69 main_v68 main_v70 (mulf : (⟨S32768x1024, .f32⟩ : BufTy).Contents (Elt F) → (⟨S32768x1024, .f32⟩ : BufTy).Contents (Elt F) → (⟨S32768x1024, .f32⟩ : BufTy).Contents (Elt F)),
    binary main_v57 main_v70 main_v71 (addf : (⟨S32768x1024, .f32⟩ : BufTy).Contents (Elt F) → (⟨S32768x1024, .f32⟩ : BufTy).Contents (Elt F) → (⟨S32768x1024, .f32⟩ : BufTy).Contents (Elt F)) ]
theorem expert4_sub : (expert4 : List (HloOp τ sig (Elt F))).Forall fun op => op.bufs ⊆ tcRefs τ sig :=
  ⟨unary_bufs_sub .., reshape_bufs_sub .., binary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., binary_bufs_sub .., binary_bufs_sub ..⟩

/-- Expert 5. -/
abbrev expert5 : List (HloOp τ sig (Elt F)) :=
  [ unary main_arg2 main_v72 ((extractStridedSlice S1x1024x7168 ![5, 0, 0] · slices_S8x1024x7168_S1x1024x7168_5_0_0) : (⟨S8x1024x7168, .f32⟩ : BufTy).Contents (Elt F) → (⟨S1x1024x7168, .f32⟩ : BufTy).Contents (Elt F)),
    reshape main_v72 main_v73 (rfl : (.f32 : EltTy) = .f32) shapeCasts_S1x1024x7168_S1024x7168,
    binary main_v0 main_v73 main_v74 ((fun l r => Host.dotGeneral dot_S32768x1024_S1024x7168_S32768x7168_1_0_0_1_n_n none l r) : (⟨S32768x1024, .f32⟩ : BufTy).Contents (Elt F) → (⟨S1024x7168, .f32⟩ : BufTy).Contents (Elt F) → (⟨S32768x7168, .f32⟩ : BufTy).Contents (Elt F)),
    unary main_v74 main_v75 ((extractStridedSlice S32768x3584 ![0, 0] · slices_S32768x7168_S32768x3584_0_0) : (⟨S32768x7168, .f32⟩ : BufTy).Contents (Elt F) → (⟨S32768x3584, .f32⟩ : BufTy).Contents (Elt F)),
    unary main_v74 main_v76 ((extractStridedSlice S32768x3584 ![0, 3584] · slices_S32768x7168_S32768x3584_0_3584) : (⟨S32768x7168, .f32⟩ : BufTy).Contents (Elt F) → (⟨S32768x3584, .f32⟩ : BufTy).Contents (Elt F)),
    unary main_arg1 main_v77 ((extractStridedSlice S32768x1 ![0, 5] · slices_S32768x128_S32768x1_0_5) : (⟨S32768x128, .f32⟩ : BufTy).Contents (Elt F) → (⟨S32768x1, .f32⟩ : BufTy).Contents (Elt F)),
    TRef.unary (TRef.of (T := ⟨S32768x3584, .f32⟩) main_v75) (TRef.of (T := ⟨S32768x3584, .f32⟩) main_call5_v0) Host.negf,
    TRef.unary (TRef.of (T := ⟨S32768x3584, .f32⟩) main_call5_v0) (TRef.of (T := ⟨S32768x3584, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S32768x3584, .f32⟩) main_call5_v2) (broadcastInDim S32768x3584 ![] bcast_S_S32768x3584),
    TRef.binary (TRef.of (T := ⟨S32768x3584, .f32⟩) main_call5_v2) (TRef.of (T := ⟨S32768x3584, .f32⟩) main_call5_v1) (TRef.of (T := ⟨S32768x3584, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S32768x3584, .f32⟩) main_call5_v4) (broadcastInDim S32768x3584 ![] bcast_S_S32768x3584),
    TRef.binary (TRef.of (T := ⟨S32768x3584, .f32⟩) main_call5_v4) (TRef.of (T := ⟨S32768x3584, .f32⟩) main_call5_v3) (TRef.of (T := ⟨S32768x3584, .f32⟩) main_call5_v5) Host.divf,
    TRef.binary (TRef.of (T := ⟨S32768x3584, .f32⟩) main_v75) (TRef.of (T := ⟨S32768x3584, .f32⟩) main_call5_v5) (TRef.of (T := ⟨S32768x3584, .f32⟩) main_v78) mulf,
    binary main_v78 main_v76 main_v79 (mulf : (⟨S32768x3584, .f32⟩ : BufTy).Contents (Elt F) → (⟨S32768x3584, .f32⟩ : BufTy).Contents (Elt F) → (⟨S32768x3584, .f32⟩ : BufTy).Contents (Elt F)),
    unary main_arg3 main_v80 ((extractStridedSlice S1x3584x1024 ![5, 0, 0] · slices_S8x3584x1024_S1x3584x1024_5_0_0) : (⟨S8x3584x1024, .f32⟩ : BufTy).Contents (Elt F) → (⟨S1x3584x1024, .f32⟩ : BufTy).Contents (Elt F)),
    reshape main_v80 main_v81 (rfl : (.f32 : EltTy) = .f32) shapeCasts_S1x3584x1024_S3584x1024,
    binary main_v79 main_v81 main_v82 ((fun l r => Host.dotGeneral dot_S32768x3584_S3584x1024_S32768x1024_1_0_0_1_n_n none l r) : (⟨S32768x3584, .f32⟩ : BufTy).Contents (Elt F) → (⟨S3584x1024, .f32⟩ : BufTy).Contents (Elt F) → (⟨S32768x1024, .f32⟩ : BufTy).Contents (Elt F)),
    unary main_v77 main_v83 (broadcastInDim S32768x1024 ![0, 1] bcast_S32768x1_S32768x1024_0_1 : (⟨S32768x1, .f32⟩ : BufTy).Contents (Elt F) → (⟨S32768x1024, .f32⟩ : BufTy).Contents (Elt F)),
    binary main_v83 main_v82 main_v84 (mulf : (⟨S32768x1024, .f32⟩ : BufTy).Contents (Elt F) → (⟨S32768x1024, .f32⟩ : BufTy).Contents (Elt F) → (⟨S32768x1024, .f32⟩ : BufTy).Contents (Elt F)),
    binary main_v71 main_v84 main_v85 (addf : (⟨S32768x1024, .f32⟩ : BufTy).Contents (Elt F) → (⟨S32768x1024, .f32⟩ : BufTy).Contents (Elt F) → (⟨S32768x1024, .f32⟩ : BufTy).Contents (Elt F)) ]
theorem expert5_sub : (expert5 : List (HloOp τ sig (Elt F))).Forall fun op => op.bufs ⊆ tcRefs τ sig :=
  ⟨unary_bufs_sub .., reshape_bufs_sub .., binary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., binary_bufs_sub .., binary_bufs_sub ..⟩

/-- Expert 6. -/
abbrev expert6 : List (HloOp τ sig (Elt F)) :=
  [ unary main_arg2 main_v86 ((extractStridedSlice S1x1024x7168 ![6, 0, 0] · slices_S8x1024x7168_S1x1024x7168_6_0_0) : (⟨S8x1024x7168, .f32⟩ : BufTy).Contents (Elt F) → (⟨S1x1024x7168, .f32⟩ : BufTy).Contents (Elt F)),
    reshape main_v86 main_v87 (rfl : (.f32 : EltTy) = .f32) shapeCasts_S1x1024x7168_S1024x7168,
    binary main_v0 main_v87 main_v88 ((fun l r => Host.dotGeneral dot_S32768x1024_S1024x7168_S32768x7168_1_0_0_1_n_n none l r) : (⟨S32768x1024, .f32⟩ : BufTy).Contents (Elt F) → (⟨S1024x7168, .f32⟩ : BufTy).Contents (Elt F) → (⟨S32768x7168, .f32⟩ : BufTy).Contents (Elt F)),
    unary main_v88 main_v89 ((extractStridedSlice S32768x3584 ![0, 0] · slices_S32768x7168_S32768x3584_0_0) : (⟨S32768x7168, .f32⟩ : BufTy).Contents (Elt F) → (⟨S32768x3584, .f32⟩ : BufTy).Contents (Elt F)),
    unary main_v88 main_v90 ((extractStridedSlice S32768x3584 ![0, 3584] · slices_S32768x7168_S32768x3584_0_3584) : (⟨S32768x7168, .f32⟩ : BufTy).Contents (Elt F) → (⟨S32768x3584, .f32⟩ : BufTy).Contents (Elt F)),
    unary main_arg1 main_v91 ((extractStridedSlice S32768x1 ![0, 6] · slices_S32768x128_S32768x1_0_6) : (⟨S32768x128, .f32⟩ : BufTy).Contents (Elt F) → (⟨S32768x1, .f32⟩ : BufTy).Contents (Elt F)),
    TRef.unary (TRef.of (T := ⟨S32768x3584, .f32⟩) main_v89) (TRef.of (T := ⟨S32768x3584, .f32⟩) main_call6_v0) Host.negf,
    TRef.unary (TRef.of (T := ⟨S32768x3584, .f32⟩) main_call6_v0) (TRef.of (T := ⟨S32768x3584, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S32768x3584, .f32⟩) main_call6_v2) (broadcastInDim S32768x3584 ![] bcast_S_S32768x3584),
    TRef.binary (TRef.of (T := ⟨S32768x3584, .f32⟩) main_call6_v2) (TRef.of (T := ⟨S32768x3584, .f32⟩) main_call6_v1) (TRef.of (T := ⟨S32768x3584, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S32768x3584, .f32⟩) main_call6_v4) (broadcastInDim S32768x3584 ![] bcast_S_S32768x3584),
    TRef.binary (TRef.of (T := ⟨S32768x3584, .f32⟩) main_call6_v4) (TRef.of (T := ⟨S32768x3584, .f32⟩) main_call6_v3) (TRef.of (T := ⟨S32768x3584, .f32⟩) main_call6_v5) Host.divf,
    TRef.binary (TRef.of (T := ⟨S32768x3584, .f32⟩) main_v89) (TRef.of (T := ⟨S32768x3584, .f32⟩) main_call6_v5) (TRef.of (T := ⟨S32768x3584, .f32⟩) main_v92) mulf,
    binary main_v92 main_v90 main_v93 (mulf : (⟨S32768x3584, .f32⟩ : BufTy).Contents (Elt F) → (⟨S32768x3584, .f32⟩ : BufTy).Contents (Elt F) → (⟨S32768x3584, .f32⟩ : BufTy).Contents (Elt F)),
    unary main_arg3 main_v94 ((extractStridedSlice S1x3584x1024 ![6, 0, 0] · slices_S8x3584x1024_S1x3584x1024_6_0_0) : (⟨S8x3584x1024, .f32⟩ : BufTy).Contents (Elt F) → (⟨S1x3584x1024, .f32⟩ : BufTy).Contents (Elt F)),
    reshape main_v94 main_v95 (rfl : (.f32 : EltTy) = .f32) shapeCasts_S1x3584x1024_S3584x1024,
    binary main_v93 main_v95 main_v96 ((fun l r => Host.dotGeneral dot_S32768x3584_S3584x1024_S32768x1024_1_0_0_1_n_n none l r) : (⟨S32768x3584, .f32⟩ : BufTy).Contents (Elt F) → (⟨S3584x1024, .f32⟩ : BufTy).Contents (Elt F) → (⟨S32768x1024, .f32⟩ : BufTy).Contents (Elt F)),
    unary main_v91 main_v97 (broadcastInDim S32768x1024 ![0, 1] bcast_S32768x1_S32768x1024_0_1 : (⟨S32768x1, .f32⟩ : BufTy).Contents (Elt F) → (⟨S32768x1024, .f32⟩ : BufTy).Contents (Elt F)),
    binary main_v97 main_v96 main_v98 (mulf : (⟨S32768x1024, .f32⟩ : BufTy).Contents (Elt F) → (⟨S32768x1024, .f32⟩ : BufTy).Contents (Elt F) → (⟨S32768x1024, .f32⟩ : BufTy).Contents (Elt F)),
    binary main_v85 main_v98 main_v99 (addf : (⟨S32768x1024, .f32⟩ : BufTy).Contents (Elt F) → (⟨S32768x1024, .f32⟩ : BufTy).Contents (Elt F) → (⟨S32768x1024, .f32⟩ : BufTy).Contents (Elt F)) ]
theorem expert6_sub : (expert6 : List (HloOp τ sig (Elt F))).Forall fun op => op.bufs ⊆ tcRefs τ sig :=
  ⟨unary_bufs_sub .., reshape_bufs_sub .., binary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., binary_bufs_sub .., binary_bufs_sub ..⟩

/-- Expert 7. -/
abbrev expert7 : List (HloOp τ sig (Elt F)) :=
  [ unary main_arg2 main_v100 ((extractStridedSlice S1x1024x7168 ![7, 0, 0] · slices_S8x1024x7168_S1x1024x7168_7_0_0) : (⟨S8x1024x7168, .f32⟩ : BufTy).Contents (Elt F) → (⟨S1x1024x7168, .f32⟩ : BufTy).Contents (Elt F)),
    reshape main_v100 main_v101 (rfl : (.f32 : EltTy) = .f32) shapeCasts_S1x1024x7168_S1024x7168,
    binary main_v0 main_v101 main_v102 ((fun l r => Host.dotGeneral dot_S32768x1024_S1024x7168_S32768x7168_1_0_0_1_n_n none l r) : (⟨S32768x1024, .f32⟩ : BufTy).Contents (Elt F) → (⟨S1024x7168, .f32⟩ : BufTy).Contents (Elt F) → (⟨S32768x7168, .f32⟩ : BufTy).Contents (Elt F)),
    unary main_v102 main_v103 ((extractStridedSlice S32768x3584 ![0, 0] · slices_S32768x7168_S32768x3584_0_0) : (⟨S32768x7168, .f32⟩ : BufTy).Contents (Elt F) → (⟨S32768x3584, .f32⟩ : BufTy).Contents (Elt F)),
    unary main_v102 main_v104 ((extractStridedSlice S32768x3584 ![0, 3584] · slices_S32768x7168_S32768x3584_0_3584) : (⟨S32768x7168, .f32⟩ : BufTy).Contents (Elt F) → (⟨S32768x3584, .f32⟩ : BufTy).Contents (Elt F)),
    unary main_arg1 main_v105 ((extractStridedSlice S32768x1 ![0, 7] · slices_S32768x128_S32768x1_0_7) : (⟨S32768x128, .f32⟩ : BufTy).Contents (Elt F) → (⟨S32768x1, .f32⟩ : BufTy).Contents (Elt F)),
    TRef.unary (TRef.of (T := ⟨S32768x3584, .f32⟩) main_v103) (TRef.of (T := ⟨S32768x3584, .f32⟩) main_call7_v0) Host.negf,
    TRef.unary (TRef.of (T := ⟨S32768x3584, .f32⟩) main_call7_v0) (TRef.of (T := ⟨S32768x3584, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S32768x3584, .f32⟩) main_call7_v2) (broadcastInDim S32768x3584 ![] bcast_S_S32768x3584),
    TRef.binary (TRef.of (T := ⟨S32768x3584, .f32⟩) main_call7_v2) (TRef.of (T := ⟨S32768x3584, .f32⟩) main_call7_v1) (TRef.of (T := ⟨S32768x3584, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S32768x3584, .f32⟩) main_call7_v4) (broadcastInDim S32768x3584 ![] bcast_S_S32768x3584),
    TRef.binary (TRef.of (T := ⟨S32768x3584, .f32⟩) main_call7_v4) (TRef.of (T := ⟨S32768x3584, .f32⟩) main_call7_v3) (TRef.of (T := ⟨S32768x3584, .f32⟩) main_call7_v5) Host.divf,
    TRef.binary (TRef.of (T := ⟨S32768x3584, .f32⟩) main_v103) (TRef.of (T := ⟨S32768x3584, .f32⟩) main_call7_v5) (TRef.of (T := ⟨S32768x3584, .f32⟩) main_v106) mulf,
    binary main_v106 main_v104 main_v107 (mulf : (⟨S32768x3584, .f32⟩ : BufTy).Contents (Elt F) → (⟨S32768x3584, .f32⟩ : BufTy).Contents (Elt F) → (⟨S32768x3584, .f32⟩ : BufTy).Contents (Elt F)),
    unary main_arg3 main_v108 ((extractStridedSlice S1x3584x1024 ![7, 0, 0] · slices_S8x3584x1024_S1x3584x1024_7_0_0) : (⟨S8x3584x1024, .f32⟩ : BufTy).Contents (Elt F) → (⟨S1x3584x1024, .f32⟩ : BufTy).Contents (Elt F)),
    reshape main_v108 main_v109 (rfl : (.f32 : EltTy) = .f32) shapeCasts_S1x3584x1024_S3584x1024,
    binary main_v107 main_v109 main_v110 ((fun l r => Host.dotGeneral dot_S32768x3584_S3584x1024_S32768x1024_1_0_0_1_n_n none l r) : (⟨S32768x3584, .f32⟩ : BufTy).Contents (Elt F) → (⟨S3584x1024, .f32⟩ : BufTy).Contents (Elt F) → (⟨S32768x1024, .f32⟩ : BufTy).Contents (Elt F)),
    unary main_v105 main_v111 (broadcastInDim S32768x1024 ![0, 1] bcast_S32768x1_S32768x1024_0_1 : (⟨S32768x1, .f32⟩ : BufTy).Contents (Elt F) → (⟨S32768x1024, .f32⟩ : BufTy).Contents (Elt F)),
    binary main_v111 main_v110 main_v112 (mulf : (⟨S32768x1024, .f32⟩ : BufTy).Contents (Elt F) → (⟨S32768x1024, .f32⟩ : BufTy).Contents (Elt F) → (⟨S32768x1024, .f32⟩ : BufTy).Contents (Elt F)),
    binary main_v99 main_v112 main_v113 (addf : (⟨S32768x1024, .f32⟩ : BufTy).Contents (Elt F) → (⟨S32768x1024, .f32⟩ : BufTy).Contents (Elt F) → (⟨S32768x1024, .f32⟩ : BufTy).Contents (Elt F)) ]
theorem expert7_sub : (expert7 : List (HloOp τ sig (Elt F))).Forall fun op => op.bufs ⊆ tcRefs τ sig :=
  ⟨unary_bufs_sub .., reshape_bufs_sub .., binary_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., binary_bufs_sub .., binary_bufs_sub ..⟩

variable (W : Valuation τ sig (Elt F))

theorem start_arg0 : after start W (Proc.devRef .tc main_arg0) = W (Proc.devRef .tc main_arg0) := by after_results
theorem start_arg1 : after start W (Proc.devRef .tc main_arg1) = W (Proc.devRef .tc main_arg1) := by after_results
theorem start_arg2 : after start W (Proc.devRef .tc main_arg2) = W (Proc.devRef .tc main_arg2) := by after_results
theorem start_arg3 : after start W (Proc.devRef .tc main_arg3) = W (Proc.devRef .tc main_arg3) := by after_results
theorem start_v0 : after start W (Proc.devRef .tc main_v0) = extf .f32 (W (Proc.devRef .tc main_arg0) : Vec F S32768x1024 .bf16) bitsLt_bf16_f32 := by after_results
theorem start_v1 : after start W (Proc.devRef .tc main_v1) = broadcastInDim S32768x1024 ![] bcast_S_S32768x1024 (constant S_ .f32 0x00000000#32) := by after_results

theorem expert0_arg0 : after expert0 W (Proc.devRef .tc main_arg0) = W (Proc.devRef .tc main_arg0) := by after_results
theorem expert0_arg1 : after expert0 W (Proc.devRef .tc main_arg1) = W (Proc.devRef .tc main_arg1) := by after_results
theorem expert0_arg2 : after expert0 W (Proc.devRef .tc main_arg2) = W (Proc.devRef .tc main_arg2) := by after_results
theorem expert0_arg3 : after expert0 W (Proc.devRef .tc main_arg3) = W (Proc.devRef .tc main_arg3) := by after_results
theorem expert0_v0 : after expert0 W (Proc.devRef .tc main_v0) = W (Proc.devRef .tc main_v0) := by after_results
theorem expert0_out : after expert0 W (Proc.devRef .tc main_v15) = addf (W (Proc.devRef .tc main_v1) : Vec F S32768x1024 .f32)
    (term ![0, 0, 0] slices_S8x1024x7168_S1x1024x7168_0_0_0 ![0, 0] slices_S32768x128_S32768x1_0_0 ![0, 0, 0] slices_S8x3584x1024_S1x3584x1024_0_0_0
      (W (Proc.devRef .tc main_v0)) (W (Proc.devRef .tc main_arg1)) (W (Proc.devRef .tc main_arg2)) (W (Proc.devRef .tc main_arg3))) := by
  after_results; simp -implicitDefEqProofs only [TRef.toBuf, TRef.ofBuf, cast_eq]; unfold term; rfl

theorem expert1_arg0 : after expert1 W (Proc.devRef .tc main_arg0) = W (Proc.devRef .tc main_arg0) := by after_results
theorem expert1_arg1 : after expert1 W (Proc.devRef .tc main_arg1) = W (Proc.devRef .tc main_arg1) := by after_results
theorem expert1_arg2 : after expert1 W (Proc.devRef .tc main_arg2) = W (Proc.devRef .tc main_arg2) := by after_results
theorem expert1_arg3 : after expert1 W (Proc.devRef .tc main_arg3) = W (Proc.devRef .tc main_arg3) := by after_results
theorem expert1_v0 : after expert1 W (Proc.devRef .tc main_v0) = W (Proc.devRef .tc main_v0) := by after_results
theorem expert1_out : after expert1 W (Proc.devRef .tc main_v29) = addf (W (Proc.devRef .tc main_v15) : Vec F S32768x1024 .f32)
    (term ![1, 0, 0] slices_S8x1024x7168_S1x1024x7168_1_0_0 ![0, 1] slices_S32768x128_S32768x1_0_1 ![1, 0, 0] slices_S8x3584x1024_S1x3584x1024_1_0_0
      (W (Proc.devRef .tc main_v0)) (W (Proc.devRef .tc main_arg1)) (W (Proc.devRef .tc main_arg2)) (W (Proc.devRef .tc main_arg3))) := by
  after_results; simp -implicitDefEqProofs only [TRef.toBuf, TRef.ofBuf, cast_eq]; unfold term; rfl

theorem expert2_arg0 : after expert2 W (Proc.devRef .tc main_arg0) = W (Proc.devRef .tc main_arg0) := by after_results
theorem expert2_arg1 : after expert2 W (Proc.devRef .tc main_arg1) = W (Proc.devRef .tc main_arg1) := by after_results
theorem expert2_arg2 : after expert2 W (Proc.devRef .tc main_arg2) = W (Proc.devRef .tc main_arg2) := by after_results
theorem expert2_arg3 : after expert2 W (Proc.devRef .tc main_arg3) = W (Proc.devRef .tc main_arg3) := by after_results
theorem expert2_v0 : after expert2 W (Proc.devRef .tc main_v0) = W (Proc.devRef .tc main_v0) := by after_results
theorem expert2_out : after expert2 W (Proc.devRef .tc main_v43) = addf (W (Proc.devRef .tc main_v29) : Vec F S32768x1024 .f32)
    (term ![2, 0, 0] slices_S8x1024x7168_S1x1024x7168_2_0_0 ![0, 2] slices_S32768x128_S32768x1_0_2 ![2, 0, 0] slices_S8x3584x1024_S1x3584x1024_2_0_0
      (W (Proc.devRef .tc main_v0)) (W (Proc.devRef .tc main_arg1)) (W (Proc.devRef .tc main_arg2)) (W (Proc.devRef .tc main_arg3))) := by
  after_results; simp -implicitDefEqProofs only [TRef.toBuf, TRef.ofBuf, cast_eq]; unfold term; rfl

theorem expert3_arg0 : after expert3 W (Proc.devRef .tc main_arg0) = W (Proc.devRef .tc main_arg0) := by after_results
theorem expert3_arg1 : after expert3 W (Proc.devRef .tc main_arg1) = W (Proc.devRef .tc main_arg1) := by after_results
theorem expert3_arg2 : after expert3 W (Proc.devRef .tc main_arg2) = W (Proc.devRef .tc main_arg2) := by after_results
theorem expert3_arg3 : after expert3 W (Proc.devRef .tc main_arg3) = W (Proc.devRef .tc main_arg3) := by after_results
theorem expert3_v0 : after expert3 W (Proc.devRef .tc main_v0) = W (Proc.devRef .tc main_v0) := by after_results
theorem expert3_out : after expert3 W (Proc.devRef .tc main_v57) = addf (W (Proc.devRef .tc main_v43) : Vec F S32768x1024 .f32)
    (term ![3, 0, 0] slices_S8x1024x7168_S1x1024x7168_3_0_0 ![0, 3] slices_S32768x128_S32768x1_0_3 ![3, 0, 0] slices_S8x3584x1024_S1x3584x1024_3_0_0
      (W (Proc.devRef .tc main_v0)) (W (Proc.devRef .tc main_arg1)) (W (Proc.devRef .tc main_arg2)) (W (Proc.devRef .tc main_arg3))) := by
  after_results; simp -implicitDefEqProofs only [TRef.toBuf, TRef.ofBuf, cast_eq]; unfold term; rfl

theorem expert4_arg0 : after expert4 W (Proc.devRef .tc main_arg0) = W (Proc.devRef .tc main_arg0) := by after_results
theorem expert4_arg1 : after expert4 W (Proc.devRef .tc main_arg1) = W (Proc.devRef .tc main_arg1) := by after_results
theorem expert4_arg2 : after expert4 W (Proc.devRef .tc main_arg2) = W (Proc.devRef .tc main_arg2) := by after_results
theorem expert4_arg3 : after expert4 W (Proc.devRef .tc main_arg3) = W (Proc.devRef .tc main_arg3) := by after_results
theorem expert4_v0 : after expert4 W (Proc.devRef .tc main_v0) = W (Proc.devRef .tc main_v0) := by after_results
theorem expert4_out : after expert4 W (Proc.devRef .tc main_v71) = addf (W (Proc.devRef .tc main_v57) : Vec F S32768x1024 .f32)
    (term ![4, 0, 0] slices_S8x1024x7168_S1x1024x7168_4_0_0 ![0, 4] slices_S32768x128_S32768x1_0_4 ![4, 0, 0] slices_S8x3584x1024_S1x3584x1024_4_0_0
      (W (Proc.devRef .tc main_v0)) (W (Proc.devRef .tc main_arg1)) (W (Proc.devRef .tc main_arg2)) (W (Proc.devRef .tc main_arg3))) := by
  after_results; simp -implicitDefEqProofs only [TRef.toBuf, TRef.ofBuf, cast_eq]; unfold term; rfl

theorem expert5_arg0 : after expert5 W (Proc.devRef .tc main_arg0) = W (Proc.devRef .tc main_arg0) := by after_results
theorem expert5_arg1 : after expert5 W (Proc.devRef .tc main_arg1) = W (Proc.devRef .tc main_arg1) := by after_results
theorem expert5_arg2 : after expert5 W (Proc.devRef .tc main_arg2) = W (Proc.devRef .tc main_arg2) := by after_results
theorem expert5_arg3 : after expert5 W (Proc.devRef .tc main_arg3) = W (Proc.devRef .tc main_arg3) := by after_results
theorem expert5_v0 : after expert5 W (Proc.devRef .tc main_v0) = W (Proc.devRef .tc main_v0) := by after_results
theorem expert5_out : after expert5 W (Proc.devRef .tc main_v85) = addf (W (Proc.devRef .tc main_v71) : Vec F S32768x1024 .f32)
    (term ![5, 0, 0] slices_S8x1024x7168_S1x1024x7168_5_0_0 ![0, 5] slices_S32768x128_S32768x1_0_5 ![5, 0, 0] slices_S8x3584x1024_S1x3584x1024_5_0_0
      (W (Proc.devRef .tc main_v0)) (W (Proc.devRef .tc main_arg1)) (W (Proc.devRef .tc main_arg2)) (W (Proc.devRef .tc main_arg3))) := by
  after_results; simp -implicitDefEqProofs only [TRef.toBuf, TRef.ofBuf, cast_eq]; unfold term; rfl

theorem expert6_arg0 : after expert6 W (Proc.devRef .tc main_arg0) = W (Proc.devRef .tc main_arg0) := by after_results
theorem expert6_arg1 : after expert6 W (Proc.devRef .tc main_arg1) = W (Proc.devRef .tc main_arg1) := by after_results
theorem expert6_arg2 : after expert6 W (Proc.devRef .tc main_arg2) = W (Proc.devRef .tc main_arg2) := by after_results
theorem expert6_arg3 : after expert6 W (Proc.devRef .tc main_arg3) = W (Proc.devRef .tc main_arg3) := by after_results
theorem expert6_v0 : after expert6 W (Proc.devRef .tc main_v0) = W (Proc.devRef .tc main_v0) := by after_results
theorem expert6_out : after expert6 W (Proc.devRef .tc main_v99) = addf (W (Proc.devRef .tc main_v85) : Vec F S32768x1024 .f32)
    (term ![6, 0, 0] slices_S8x1024x7168_S1x1024x7168_6_0_0 ![0, 6] slices_S32768x128_S32768x1_0_6 ![6, 0, 0] slices_S8x3584x1024_S1x3584x1024_6_0_0
      (W (Proc.devRef .tc main_v0)) (W (Proc.devRef .tc main_arg1)) (W (Proc.devRef .tc main_arg2)) (W (Proc.devRef .tc main_arg3))) := by
  after_results; simp -implicitDefEqProofs only [TRef.toBuf, TRef.ofBuf, cast_eq]; unfold term; rfl

theorem expert7_arg0 : after expert7 W (Proc.devRef .tc main_arg0) = W (Proc.devRef .tc main_arg0) := by after_results
theorem expert7_arg1 : after expert7 W (Proc.devRef .tc main_arg1) = W (Proc.devRef .tc main_arg1) := by after_results
theorem expert7_arg2 : after expert7 W (Proc.devRef .tc main_arg2) = W (Proc.devRef .tc main_arg2) := by after_results
theorem expert7_arg3 : after expert7 W (Proc.devRef .tc main_arg3) = W (Proc.devRef .tc main_arg3) := by after_results
theorem expert7_v0 : after expert7 W (Proc.devRef .tc main_v0) = W (Proc.devRef .tc main_v0) := by after_results
theorem expert7_out : after expert7 W (Proc.devRef .tc main_v113) = addf (W (Proc.devRef .tc main_v99) : Vec F S32768x1024 .f32)
    (term ![7, 0, 0] slices_S8x1024x7168_S1x1024x7168_7_0_0 ![0, 7] slices_S32768x128_S32768x1_0_7 ![7, 0, 0] slices_S8x3584x1024_S1x3584x1024_7_0_0
      (W (Proc.devRef .tc main_v0)) (W (Proc.devRef .tc main_arg1)) (W (Proc.devRef .tc main_arg2)) (W (Proc.devRef .tc main_arg3))) := by
  after_results; simp -implicitDefEqProofs only [TRef.toBuf, TRef.ofBuf, cast_eq]; unfold term; rfl

end Cert.Proof.Reference

end
-- ==== Proof.RefRun.lean ====
/-
  The reference's whole run: what it returns, as the sum over the experts in order, and its arguments unchanged.
-/
module

public import proofs.«01_k».proof.Proof.RefLines
public import Idealize.ShloMosaic.Lib.StableHlo.RunRead
public import Idealize.ShloMosaic.Lib.Quiescent

@[expose] public section

set_option maxRecDepth 8192

noncomputable section

namespace Cert.Proof.Reference

open Cert.ReferenceIdeal Cert.ReferenceIdeal.Gen Idealize.ShloMosaic Idealize.ShloMosaic.TcCoe Idealize.SL.Sem Idealize.ShloMosaic.StableHlo

variable {F : FTy → Type} [FloatOps F]

/-- The reference's operations, in order. -/
def ops : List (HloOp τ sig (Elt F)) :=
  start ++ (expert0 ++ (expert1 ++ (expert2 ++ (expert3 ++ (expert4 ++ (expert5 ++ (expert6 ++ expert7)))))))

set_option maxHeartbeats 4000000 in
theorem main_eq (c : Dev nD) : main (F := F) c = seq ops := rfl

theorem refs_unscoped : (Finset.univ.filter fun b : Ref sig .tc => b.isScoped) = ∅ := by decide
theorem sems_unscoped : (Finset.univ.filter fun sm : SemLoc sig => sm.isScoped .tc) = ∅ := by decide

theorem forall_append {α : Type} {p : α → Prop} {l l' : List α} (h : l.Forall p) (h' : l'.Forall p) : (l ++ l').Forall p :=
  List.forall_iff_forall_mem.mpr fun a ha => (List.mem_append.mp ha).elim (List.forall_iff_forall_mem.mp h a) (List.forall_iff_forall_mem.mp h' a)

theorem ops_sub : (ops : List (HloOp τ sig (Elt F))).Forall fun op => op.bufs ⊆ tcRefs τ sig :=
  forall_append start_sub (forall_append expert0_sub (forall_append expert1_sub (forall_append expert2_sub (forall_append expert3_sub
    (forall_append expert4_sub (forall_append expert5_sub (forall_append expert6_sub expert7_sub)))))))

theorem ops_fresh : ∀ op ∈ (ops : List (HloOp τ sig (Elt F))), op.fresh = ∅ := by
  unfold ops
  simp only [List.forall_mem_append]
  refine ⟨?_, ?_, ?_, ?_, ?_, ?_, ?_, ?_, ?_⟩ <;>
    (intro _ h; (repeat (cases h with | head => rfl | tail _ h => ?_)); exact nomatch h)

theorem after_append (l l' : List (HloOp τ sig (Elt F))) (W : Valuation τ sig (Elt F)) : after (l ++ l') W = after l' (after l W) := by
  induction l generalizing W with
  | nil => rfl
  | cons op l ih => exact ih _

variable (W : Valuation τ sig (Elt F))

theorem ops_arg0 : after ops W (Proc.devRef .tc main_arg0) = W (Proc.devRef .tc main_arg0) := by
  unfold ops
  rw [after_append, after_append, after_append, after_append, after_append, after_append, after_append, after_append, expert7_arg0, expert6_arg0, expert5_arg0, expert4_arg0, expert3_arg0, expert2_arg0, expert1_arg0, expert0_arg0, start_arg0]
theorem ops_arg1 : after ops W (Proc.devRef .tc main_arg1) = W (Proc.devRef .tc main_arg1) := by
  unfold ops
  rw [after_append, after_append, after_append, after_append, after_append, after_append, after_append, after_append, expert7_arg1, expert6_arg1, expert5_arg1, expert4_arg1, expert3_arg1, expert2_arg1, expert1_arg1, expert0_arg1, start_arg1]
theorem ops_arg2 : after ops W (Proc.devRef .tc main_arg2) = W (Proc.devRef .tc main_arg2) := by
  unfold ops
  rw [after_append, after_append, after_append, after_append, after_append, after_append, after_append, after_append, expert7_arg2, expert6_arg2, expert5_arg2, expert4_arg2, expert3_arg2, expert2_arg2, expert1_arg2, expert0_arg2, start_arg2]
theorem ops_arg3 : after ops W (Proc.devRef .tc main_arg3) = W (Proc.devRef .tc main_arg3) := by
  unfold ops
  rw [after_append, after_append, after_append, after_append, after_append, after_append, after_append, after_append, expert7_arg3, expert6_arg3, expert5_arg3, expert4_arg3, expert3_arg3, expert2_arg3, expert1_arg3, expert0_arg3, start_arg3]

/-- The experts' products added in order, from zero. -/
def total (u : Vec F S32768x1024 .bf16) (cb : Vec F S32768x128 .f32) (w13 : Vec F S8x1024x7168 .f32) (w2 : Vec F S8x3584x1024 .f32) : Vec F S32768x1024 .f32 :=
  let x : Vec F S32768x1024 .f32 := extf .f32 u bitsLt_bf16_f32
  addf (addf (addf (addf (addf (addf (addf (addf (broadcastInDim S32768x1024 ![] bcast_S_S32768x1024 (constant S_ .f32 0x00000000#32))
    (term ![0, 0, 0] slices_S8x1024x7168_S1x1024x7168_0_0_0 ![0, 0] slices_S32768x128_S32768x1_0_0 ![0, 0, 0] slices_S8x3584x1024_S1x3584x1024_0_0_0 x cb w13 w2))
    (term ![1, 0, 0] slices_S8x1024x7168_S1x1024x7168_1_0_0 ![0, 1] slices_S32768x128_S32768x1_0_1 ![1, 0, 0] slices_S8x3584x1024_S1x3584x1024_1_0_0 x cb w13 w2))
    (term ![2, 0, 0] slices_S8x1024x7168_S1x1024x7168_2_0_0 ![0, 2] slices_S32768x128_S32768x1_0_2 ![2, 0, 0] slices_S8x3584x1024_S1x3584x1024_2_0_0 x cb w13 w2))
    (term ![3, 0, 0] slices_S8x1024x7168_S1x1024x7168_3_0_0 ![0, 3] slices_S32768x128_S32768x1_0_3 ![3, 0, 0] slices_S8x3584x1024_S1x3584x1024_3_0_0 x cb w13 w2))
    (term ![4, 0, 0] slices_S8x1024x7168_S1x1024x7168_4_0_0 ![0, 4] slices_S32768x128_S32768x1_0_4 ![4, 0, 0] slices_S8x3584x1024_S1x3584x1024_4_0_0 x cb w13 w2))
    (term ![5, 0, 0] slices_S8x1024x7168_S1x1024x7168_5_0_0 ![0, 5] slices_S32768x128_S32768x1_0_5 ![5, 0, 0] slices_S8x3584x1024_S1x3584x1024_5_0_0 x cb w13 w2))
    (term ![6, 0, 0] slices_S8x1024x7168_S1x1024x7168_6_0_0 ![0, 6] slices_S32768x128_S32768x1_0_6 ![6, 0, 0] slices_S8x3584x1024_S1x3584x1024_6_0_0 x cb w13 w2))
    (term ![7, 0, 0] slices_S8x1024x7168_S1x1024x7168_7_0_0 ![0, 7] slices_S32768x128_S32768x1_0_7 ![7, 0, 0] slices_S8x3584x1024_S1x3584x1024_7_0_0 x cb w13 w2)

theorem ops_out : after ops W (Proc.devRef .tc main_v113) = total (W (Proc.devRef .tc main_arg0)) (W (Proc.devRef .tc main_arg1)) (W (Proc.devRef .tc main_arg2)) (W (Proc.devRef .tc main_arg3)) := by
  unfold ops
  simp only [after_append, expert0_out, expert0_v0, expert0_arg0, expert0_arg1, expert0_arg2, expert0_arg3, expert1_out, expert1_v0, expert1_arg0, expert1_arg1, expert1_arg2, expert1_arg3, expert2_out, expert2_v0, expert2_arg0, expert2_arg1, expert2_arg2, expert2_arg3, expert3_out, expert3_v0, expert3_arg0, expert3_arg1, expert3_arg2, expert3_arg3, expert4_out, expert4_v0, expert4_arg0, expert4_arg1, expert4_arg2, expert4_arg3, expert5_out, expert5_v0, expert5_arg0, expert5_arg1, expert5_arg2, expert5_arg3, expert6_out, expert6_v0, expert6_arg0, expert6_arg1, expert6_arg2, expert6_arg3, expert7_out, expert7_v0, expert7_arg0, expert7_arg1, expert7_arg2, expert7_arg3, start_v0, start_v1, start_arg0, start_arg1, start_arg2, start_arg3]
  rfl

/-- Every run of the reference ends with its result at `total` of its arguments, and these unchanged. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v113) = total (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => ⟨(h c main_v113).trans (ops_out _), (h c main_arg0).trans (ops_arg0 _),
      (h c main_arg1).trans (ops_arg1 _), (h c main_arg2).trans (ops_arg2 _), (h c main_arg3).trans (ops_arg3 _)⟩,
      sem_eq_zero_of_no_sems (by decide) r.2⟩)
    (run_seq refs_unscoped sems_unscoped defs main (fun _ => ops) main_eq (fun _ => ops_sub) m ρ fun _ => ops_fresh)

end Cert.Proof.Reference

end
-- ==== Proof.Frames.lean ====
/-
  The programs leave their arguments unchanged and end with every counter at zero.
-/
module

public import proofs.«01_k».proof.Defs
public import proofs.«01_k».proof.Proof.Main
public import proofs.«01_k».proof.Proof.Host
public import proofs.«01_k».proof.Proof.Same
public import proofs.«01_k».proof.Proof.RefRun
public import proofs.«01_k».proof.Proof.Gen.Pre_weights_nonnegative

@[expose] public section

set_option maxRecDepth 8192

noncomputable section

namespace Cert.Proof

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

theorem counts_le (i : grid0.Coords) : (countAt i (counts m)).toNat ≤ 1024 := by
  unfold countAt counts
  rw [V_v13]
  exact count_le _ _

/-- What a run of the kernel's program ends with: the result as the pipeline's data says, the arguments as they were. -/
theorem run_ends : θ_run defs (onTc (τ := τ) (main (F := F))) (s₀ m ρ) (fun r => (∀ c : Dev nD,
      r.2.mem ((c.tc : Thread nD τ).loc main_v17) = (dats m 0 c).arrAt 7 (cfgM m).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c =>
    ⟨(h.1 c).1 7,
      ((h.1 c).1 0).trans (((dats m 0 c).arrAt_in 0 rfl _).trans (V_arg0 m c)),
      ((h.1 c).1 1).trans (((dats m 0 c).arrAt_in 1 rfl _).trans (V_arg1 m c)),
      ((h.1 c).2 main_arg2 (show main_arg2 ∈ Pipeline.restRefs sig spec0 by decide)).trans (V_arg2 m c),
      ((h.1 c).2 main_arg3 (show main_arg3 ∈ Pipeline.restRefs sig spec0 by decide)).trans (V_arg3 m c)⟩, h.2⟩) (run_main m ρ (counts_le m))

theorem frame_kernel : Cert.quiescent_Kernel (hKernel := Cert.Kernel.Gen.facts) := fun m ρ _ =>
  run_same _ _ ((θ_run Cert.KernelIdeal.defs _ _).mono (fun _ h => ⟨fun c => (h.1 c).2, h.2⟩) (run_ends (F := Bits) m ρ))

theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (run_ends (F := Ideal) m ρ)

theorem frame_ideal_pre : Cert.quiescent_KernelIdeal_pre_weights_nonnegative (hKernelIdeal := Cert.KernelIdeal.Gen.facts)
    (hPre_weights_nonnegative := Cert.Pre_weights_nonnegative.Gen.facts) := fun m ρ _ => frame_ideal m ρ trivial

theorem frame_reference : Cert.quiescent_ReferenceIdeal (hReferenceIdeal := Cert.ReferenceIdeal.Gen.facts) := fun m ρ _ =>
  (θ_run Cert.ReferenceIdeal.defs _ _).mono (fun _ h => ⟨fun c => (h.1 c).2, h.2⟩) (Reference.run (F := Ideal) m ρ)

theorem frame_reference_pre : Cert.quiescent_ReferenceIdeal_pre_weights_nonnegative (hReferenceIdeal := Cert.ReferenceIdeal.Gen.facts)
    (hPre_weights_nonnegative := Cert.Pre_weights_nonnegative.Gen.facts) := fun m ρ _ => frame_reference m ρ trivial

end Cert.Proof

end
-- ==== Proof.Blocks.lean ====
/-
  Which elements of the arrays the blocks of a grid point are, and which point's block the result's elements come from.
-/
module

public import proofs.«01_k».proof.Proof.Point
public import Idealize.ShloMosaic.Lib.Pointwise
public import Idealize.ShloMosaic.Lib.Pipeline.Value
public import Idealize.ShloMosaic.Lib.Pipeline.Covers

@[expose] public section

set_option maxRecDepth 16384

noncomputable section

namespace Cert.Proof

open Cert.KernelIdeal Cert.KernelIdeal.Gen Idealize.ShloMosaic Idealize.ShloMosaic.TcCoe Idealize.SL.Sem
open Idealize.ShloMosaic.Pipeline (Dat Window)

theorem index_0 : ∀ t : Fin grid0.N, cc0_transform_0 (grid0.coords t) = ![t.val / 16, 0] := by decide +kernel
theorem index_1 : ∀ t : Fin grid0.N, cc0_transform_1 (grid0.coords t) = ![t.val / 16, 0] := by decide +kernel
theorem index_2 : ∀ t : Fin grid0.N, cc0_transform_2 (grid0.coords t) = ![t.val / 16, 0] := by decide +kernel
theorem index_3 : ∀ t : Fin grid0.N, cc0_transform_3 (grid0.coords t) = ![t.val / 16, 0, 0] := by decide +kernel
theorem index_4 : ∀ t : Fin grid0.N, cc0_transform_4 (grid0.coords t) = ![t.val / 2 % 8, 0, t.val % 2] := by decide +kernel
theorem index_5 : ∀ t : Fin grid0.N, cc0_transform_5 (grid0.coords t) = ![t.val / 2 % 8, 0, 2 + t.val % 2] := by decide +kernel
theorem index_6 : ∀ t : Fin grid0.N, cc0_transform_6 (grid0.coords t) = ![t.val / 2 % 8, t.val % 2, 0] := by decide +kernel
theorem index_7 : ∀ t : Fin grid0.N, cc0_transform_7 (grid0.coords t) = ![t.val / 16, 0] := by decide +kernel

variable {F : FTy → Type} [FloatOps F]
variable (m : (ℓ : Loc nD τ sig) → Buf (Elt F) ℓ) (c : Dev nD) (t : Fin grid0.N)

theorem point_lt (t : Fin grid0.N) : t.val < 512 := points_eq ▸ t.isLt

theorem blk0_apply (r d : Fin 1024) : blk0 m c t (ix2 r d)
    = (V m c main_arg0 : Vec F S32768x1024 .bf16) (ix2 ⟨t.val / 16 * 1024 + r.val, by have := point_lt t; omega⟩ d) := by
  refine congrArg (V m c main_arg0) (funext fun a => Fin.ext ?_)
  match a with
  | ⟨0, h⟩ => exact (Window.rect_emb_val ((cfgM m).win 0) t _ ⟨0, h⟩).trans (congrArg (· * 1024 + r.val) (congrFun (index_0 t) 0))
  | ⟨1, h⟩ => exact (Window.rect_emb_val ((cfgM m).win 0) t _ ⟨1, h⟩).trans ((congrArg (· * 1024 + d.val) (congrFun (index_0 t) 1)).trans (by show 0 * 1024 + d.val = d.val; omega))

theorem blk1_apply (r : Fin 1024) (d : Fin 128) : blk1 m c t (ix2 r d)
    = (V m c main_arg1 : Vec F S32768x128 .f32) (ix2 ⟨t.val / 16 * 1024 + r.val, by have := point_lt t; omega⟩ d) := by
  refine congrArg (V m c main_arg1) (funext fun a => Fin.ext ?_)
  match a with
  | ⟨0, h⟩ => exact (Window.rect_emb_val ((cfgM m).win 1) t _ ⟨0, h⟩).trans (congrArg (· * 1024 + r.val) (congrFun (index_1 t) 0))
  | ⟨1, h⟩ => exact (Window.rect_emb_val ((cfgM m).win 1) t _ ⟨1, h⟩).trans ((congrArg (· * 128 + d.val) (congrFun (index_1 t) 1)).trans (by show 0 * 128 + d.val = d.val; omega))

theorem blk2_apply (r : Fin 1024) (d : Fin 128) : blk2 m c t (ix2 r d)
    = (V m c main_v15 : Vec F S32768x128 .f32) (ix2 ⟨t.val / 16 * 1024 + r.val, by have := point_lt t; omega⟩ d) := by
  refine congrArg (V m c main_v15) (funext fun a => Fin.ext ?_)
  match a with
  | ⟨0, h⟩ => exact (Window.rect_emb_val ((cfgM m).win 2) t _ ⟨0, h⟩).trans (congrArg (· * 1024 + r.val) (congrFun (index_2 t) 0))
  | ⟨1, h⟩ => exact (Window.rect_emb_val ((cfgM m).win 2) t _ ⟨1, h⟩).trans ((congrArg (· * 128 + d.val) (congrFun (index_2 t) 1)).trans (by show 0 * 128 + d.val = d.val; omega))

theorem blk3_apply (e : Fin 8) (r : Fin 1024) : blk3 m c t (ix3 0 e r)
    = (V m c main_v16 : Vec F S32x8x1024 .f32) (ix3 ⟨t.val / 16, by have := point_lt t; omega⟩ e r) := by
  refine congrArg (V m c main_v16) (funext fun a => Fin.ext ?_)
  match a with
  | ⟨0, h⟩ => exact (Window.rect_emb_val ((cfgM m).win 3) t _ ⟨0, h⟩).trans ((congrArg (· * 1 + 0) (congrFun (index_3 t) 0)).trans (by show t.val / 16 * 1 + 0 = t.val / 16; omega))
  | ⟨1, h⟩ => exact (Window.rect_emb_val ((cfgM m).win 3) t _ ⟨1, h⟩).trans ((congrArg (· * 8 + e.val) (congrFun (index_3 t) 1)).trans (by show 0 * 8 + e.val = e.val; omega))
  | ⟨2, h⟩ => exact (Window.rect_emb_val ((cfgM m).win 3) t _ ⟨2, h⟩).trans ((congrArg (· * 1024 + r.val) (congrFun (index_3 t) 2)).trans (by show 0 * 1024 + r.val = r.val; omega))

theorem blk4_apply (k : Fin 1024) (j : Fin 1792) : blk4 m c t (ix3 0 k j)
    = (V m c main_v0 : Vec F S8x1024x7168 .bf16) (ix3 ⟨t.val / 2 % 8, by omega⟩ k ⟨t.val % 2 * 1792 + j.val, by omega⟩) := by
  refine congrArg (V m c main_v0) (funext fun a => Fin.ext ?_)
  match a with
  | ⟨0, h⟩ => exact (Window.rect_emb_val ((cfgM m).win 4) t _ ⟨0, h⟩).trans ((congrArg (· * 1 + 0) (congrFun (index_4 t) 0)).trans (by show t.val / 2 % 8 * 1 + 0 = t.val / 2 % 8; omega))
  | ⟨1, h⟩ => exact (Window.rect_emb_val ((cfgM m).win 4) t _ ⟨1, h⟩).trans ((congrArg (· * 1024 + k.val) (congrFun (index_4 t) 1)).trans (by show 0 * 1024 + k.val = k.val; omega))
  | ⟨2, h⟩ => exact (Window.rect_emb_val ((cfgM m).win 4) t _ ⟨2, h⟩).trans (congrArg (· * 1792 + j.val) (congrFun (index_4 t) 2))

theorem blk5_apply (k : Fin 1024) (j : Fin 1792) : blk5 m c t (ix3 0 k j)
    = (V m c main_v0 : Vec F S8x1024x7168 .bf16) (ix3 ⟨t.val / 2 % 8, by omega⟩ k ⟨(2 + t.val % 2) * 1792 + j.val, by omega⟩) := by
  refine congrArg (V m c main_v0) (funext fun a => Fin.ext ?_)
  match a with
  | ⟨0, h⟩ => exact (Window.rect_emb_val ((cfgM m).win 5) t _ ⟨0, h⟩).trans ((congrArg (· * 1 + 0) (congrFun (index_5 t) 0)).trans (by show t.val / 2 % 8 * 1 + 0 = t.val / 2 % 8; omega))
  | ⟨1, h⟩ => exact (Window.rect_emb_val ((cfgM m).win 5) t _ ⟨1, h⟩).trans ((congrArg (· * 1024 + k.val) (congrFun (index_5 t) 1)).trans (by show 0 * 1024 + k.val = k.val; omega))
  | ⟨2, h⟩ => exact (Window.rect_emb_val ((cfgM m).win 5) t _ ⟨2, h⟩).trans (congrArg (· * 1792 + j.val) (congrFun (index_5 t) 2))

theorem blk6_apply (j : Fin 1792) (d : Fin 1024) : blk6 m c t (ix3 0 j d)
    = (V m c main_v1 : Vec F S8x3584x1024 .bf16) (ix3 ⟨t.val / 2 % 8, by omega⟩ ⟨t.val % 2 * 1792 + j.val, by omega⟩ d) := by
  refine congrArg (V m c main_v1) (funext fun a => Fin.ext ?_)
  match a with
  | ⟨0, h⟩ => exact (Window.rect_emb_val ((cfgM m).win 6) t _ ⟨0, h⟩).trans ((congrArg (· * 1 + 0) (congrFun (index_6 t) 0)).trans (by show t.val / 2 % 8 * 1 + 0 = t.val / 2 % 8; omega))
  | ⟨1, h⟩ => exact (Window.rect_emb_val ((cfgM m).win 6) t _ ⟨1, h⟩).trans (congrArg (· * 1792 + j.val) (congrFun (index_6 t) 1))
  | ⟨2, h⟩ => exact (Window.rect_emb_val ((cfgM m).win 6) t _ ⟨2, h⟩).trans ((congrArg (· * 1024 + d.val) (congrFun (index_6 t) 2)).trans (by show 0 * 1024 + d.val = d.val; omega))

/-- Two points that write the result back write different blocks of it. -/
theorem out_disjoint (s t : Fin (cfgM m).N) (hs : ((cfgM m).win 7).flush s = true) (ht : ((cfgM m).win 7).flush t = true) (h : s ≠ t) :
    Disjoint (((cfgM m).win 7).blk s).view.set (((cfgM m).win 7).blk t).view.set := by
  refine Window.disjoint_blk _ fun e => h (Fin.ext ?_)
  have e0 : s.val / 16 = t.val / 16 :=
    (congrFun (index_7 s) 0).symm.trans ((congrFun (show cc0_transform_7 (grid0.coords s) = cc0_transform_7 (grid0.coords t) from e) 0).trans
      (congrFun (index_7 t) 0))
  have := (flush_iff m s).mp hs
  have := (flush_iff m t).mp ht
  omega

/-- The result's row `r` of block `b` is what the block's last point leaves there. -/
theorem result_apply (b : Fin 32) (r d : Fin 1024) :
    ((dats m 0 c).arrAt 7 (cfgM m).N : Vec F S32768x1024 .f32) (ix2 ⟨b.val * 1024 + r.val, by omega⟩ d)
      = outAt m c (16 * b.val + 15) (by have := points_eq; omega) (ix2 r d) := by
  have hn : 16 * b.val + 15 < grid0.N := by have := points_eq; omega
  have h := (dats m 0 c).arrAt_emb_eq_flushed 7 (out_disjoint m) ⟨16 * b.val + 15, hn⟩ ((flush_iff m _).mpr (by show (16 * b.val + 15) % 16 = 15; omega)) (ix2 r d)
  have hi : (((cfgM m).win 7).blk ⟨16 * b.val + 15, hn⟩).view.emb (ix2 r d) = (ix2 ⟨b.val * 1024 + r.val, by omega⟩ d : S32768x1024.Idx) := by
    refine funext fun a => Fin.ext ?_
    match a with
    | ⟨0, h⟩ => exact (Window.rect_emb_val ((cfgM m).win 7) _ _ ⟨0, h⟩).trans ((congrArg (· * 1024 + r.val) (congrFun (index_7 ⟨16 * b.val + 15, hn⟩) 0)).trans
        (by show (16 * b.val + 15) / 16 * 1024 + r.val = b.val * 1024 + r.val; omega))
    | ⟨1, h⟩ => exact (Window.rect_emb_val ((cfgM m).win 7) _ _ ⟨1, h⟩).trans ((congrArg (· * 1024 + d.val) (congrFun (index_7 ⟨16 * b.val + 15, hn⟩) 1)).trans
        (by show 0 * 1024 + d.val = d.val; omega))
  rw [hi] at h
  exact h.trans (congrFun (after_7 m c ⟨16 * b.val + 15, hn⟩) (ix2 r d))

end Cert.Proof

end
-- ==== Proof.Expert.lean ====
/-
  One expert's result for one row, over the extended reals, as one sum over the hidden columns and as the two halves the
  kernel adds, each value weighted before the second product.
-/
module

public import Idealize.ShloMosaic.Lib.Pointwise

@[expose] public section

noncomputable section

namespace Cert.Proof

open Idealize.ShloMosaic

/-- A hidden value of one row, from the gate's column and the up projection's. -/
def hidden (x g u : Fin 1024 → EReal) : EReal := (∑ k, x k * g k) * Ideal.logistic (∑ k, x k * g k) * ∑ k, x k * u k

/-- One expert's result for one row, at one column: `w2` is that column of the second matrix. -/
def expert (x : Fin 1024 → EReal) (w13 : Fin 1024 → Fin 7168 → EReal) (w2 : Fin 3584 → EReal) : EReal :=
  ∑ j : Fin 3584, hidden x (fun k => w13 k ⟨j.val, by omega⟩) (fun k => w13 k ⟨3584 + j.val, by omega⟩) * w2 j

/-- The part of it from half `f` of the hidden columns, each weighted by `c`. -/
def half (x : Fin 1024 → EReal) (w13 : Fin 1024 → Fin 7168 → EReal) (w2 : Fin 3584 → EReal) (c : EReal) (f : Fin 2) : EReal :=
  ∑ j : Fin 1792, hidden x (fun k => w13 k ⟨f.val * 1792 + j.val, by omega⟩) (fun k => w13 k ⟨(2 + f.val) * 1792 + j.val, by omega⟩) * c
    * w2 ⟨f.val * 1792 + j.val, by omega⟩

theorem mul_sum_of_nonneg {ι : Type} (s : Finset ι) (f : ι → EReal) {c : EReal} (h0 : 0 ≤ c) (h1 : c ≠ ⊤) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 h1, ih]

/-- The two halves add up to the weighted result, for a weight that is neither negative nor infinite. -/
theorem halves (x : Fin 1024 → EReal) (w13 : Fin 1024 → Fin 7168 → EReal) (w2 : Fin 3584 → EReal) {c : EReal} (h0 : 0 ≤ c) (h1 : c ≠ ⊤) :
    0 + half x w13 w2 c 0 + half x w13 w2 c 1 = c * expert x w13 w2 := by
  have split : ∀ F : Fin 3584 → EReal, ∑ j, F j = (∑ j : Fin 1792, F ⟨j.val, by omega⟩) + ∑ j : Fin 1792, F ⟨1792 + j.val, by omega⟩ := fun F =>
    Fin.sum_univ_add (a := 1792) (b := 1792) (f := F)
  rw [zero_add, expert, split, EReal.left_distrib_of_nonneg_of_ne_top h0 h1, mul_sum_of_nonneg _ _ h0 h1, mul_sum_of_nonneg _ _ h0 h1]
  refine congrArg₂ (· + ·) (Finset.sum_congr rfl fun j _ => ?_) (Finset.sum_congr rfl fun j _ => ?_)
  · rw [← mul_assoc, mul_comm c]
    have e1 : (⟨(0 : Fin 2).val * 1792 + j.val, by omega⟩ : Fin 3584) = ⟨j.val, by omega⟩ := Fin.ext (by simp)
    have e2 : (⟨(0 : Fin 2).val * 1792 + j.val, by omega⟩ : Fin 7168) = ⟨j.val, by omega⟩ := Fin.ext (by simp)
    rw [e1, e2]
    rfl
  · rw [← mul_assoc, mul_comm c]
    have e3 : (⟨(2 + (1 : Fin 2).val) * 1792 + j.val, by omega⟩ : Fin 7168) = ⟨3584 + (1792 + j.val), by omega⟩ := Fin.ext (by simp; omega)
    rw [e3]
    rfl

end Cert.Proof

end
-- ==== Proof.TileValue.lean ====
/-
  The kernel's tiles at an index, over the extended reals. The rows' ranks are integers `rk`; slot `a` of tile `n` holds the
  row of rank `256 n + a`.
-/
module

public import proofs.«01_k».proof.Proof.Tiles
public import proofs.«01_k».proof.Proof.Expert
public import Idealize.ShloMosaic.Lib.Pointwise
public import Idealize.ShloMosaic.Lib.Pointwise.IndexBridge

@[expose] public section

set_option maxRecDepth 16384

noncomputable section

namespace Cert.Proof

open Cert.KernelIdeal Cert.KernelIdeal.Gen Idealize.ShloMosaic

theorem tile_word : ∀ n : Fin 4, (Scalar.muli (Scf.iv 0#32 1#32 n.val) 256#32).toInt = 256 * (n.val : ℤ) := by decide

theorem slot_word (a : Fin 256) : (BitVec.ofNat 32 a.val).toInt = (a.val : ℤ) := by
  have hm : (BitVec.ofNat 32 a.val).toNat = a.val := by rw [BitVec.toNat_ofNat, Nat.mod_eq_of_lt (by omega)]
  rw [BitVec.toInt_eq_toNat_of_lt (by rw [hm]; omega), hm]

/-- Whether a rank is a slot's, as a factor. -/
theorem hot (rk : ℤ) (n : Fin 4) (a : Fin 256) (v : EReal)
    [Decidable (((rk : ℝ) : EReal) = FloatOps.sitofp (F := Ideal) FTy.f32 (BitVec.ofNat 32 a.val) + (((Scalar.muli (Scf.iv 0#32 1#32 n.val) 256#32).toInt : ℝ) : EReal))] :
    FloatOps.sitofp (F := Ideal) FTy.f32 (BitVec.setWidth 32 (BitVec.ofBool (decide (((rk : ℝ) : EReal) = FloatOps.sitofp (F := Ideal) FTy.f32 (BitVec.ofNat 32 a.val)
        + (((Scalar.muli (Scf.iv 0#32 1#32 n.val) 256#32).toInt : ℝ) : EReal))))) * v
      = if rk = 256 * (n.val : ℤ) + (a.val : ℤ) then v else 0 := by
  have key : (((rk : ℝ) : EReal) = FloatOps.sitofp (F := Ideal) FTy.f32 (BitVec.ofNat 32 a.val) + (((Scalar.muli (Scf.iv 0#32 1#32 n.val) 256#32).toInt : ℝ) : EReal))
      ↔ rk = 256 * (n.val : ℤ) + (a.val : ℤ) := by
    show (((rk : ℝ) : EReal) = (((BitVec.ofNat 32 a.val).toInt : ℝ) : EReal) + _) ↔ _
    rw [tile_word, slot_word, ← EReal.coe_add, EReal.coe_eq_coe_iff, add_comm]
    exact_mod_cast Iff.rfl
  by_cases h : rk = 256 * (n.val : ℤ) + (a.val : ℤ)
  · rw [decide_eq_true (key.mpr h), if_pos h]
    show (((BitVec.setWidth 32 (BitVec.ofBool true)).toInt : ℝ) : EReal) * v = v
    rw [show (BitVec.setWidth 32 (BitVec.ofBool true)).toInt = 1 by decide]
    simp
  · rw [decide_eq_false (fun e => h (key.mp e)), if_neg h]
    show (((BitVec.setWidth 32 (BitVec.ofBool false)).toInt : ℝ) : EReal) * v = 0
    rw [show (BitVec.setWidth 32 (BitVec.ofBool false)).toInt = 0 by decide]
    simp

theorem gatherX_apply (r : Vec Ideal S1x1x1024 .f32) (rk : Fin 1024 → ℤ) (hr : ∀ t, r (ix3 0 0 t) = ((rk t : ℝ) : EReal))
    (x : Vec Ideal S1024x1024 .bf16) (n : Fin 4) (a : Fin 256) (d : Fin 1024) :
    gatherX r x n (ix2 a d) = ∑ t : Fin 1024, if rk t = 256 * (n.val : ℤ) + (a.val : ℤ) then x (ix2 t d) else 0 := by
  unfold gatherX
  pointwise [k0_pay7, k0_pay6, k0_pay5, k0_pay2]
  refine Finset.sum_congr rfl fun t _ => ?_
  rw [hr t]
  exact hot _ _ _ _

theorem gatherC_apply (r : Vec Ideal S1x1x1024 .f32) (rk : Fin 1024 → ℤ) (hr : ∀ t, r (ix3 0 0 t) = ((rk t : ℝ) : EReal))
    (cb : Vec Ideal S1024x128 .f32) (n : Fin 4) (a : Fin 256) (l : Fin 128) :
    gatherC r cb n (ix2 a l) = (∑ t : Fin 1024, if rk t = 256 * (n.val : ℤ) + (a.val : ℤ) then cb (ix2 t l) else 0)
      + ∑ t : Fin 1024, if rk t = 256 * (n.val : ℤ) + (a.val : ℤ) then cb (ix2 t l) - cb (ix2 t l) else 0 := by
  unfold gatherC
  pointwise [k0_pay8, k0_pay6, k0_pay5, k0_pay2, k0_pay3, k0_pay4]
  refine congrArg₂ (· + ·) (Finset.sum_congr rfl fun t _ => ?_) (Finset.sum_congr rfl fun t _ => ?_)
  · rw [hr t]; exact hot _ _ _ _
  · rw [hr t]; exact hot _ _ _ _

/-- A row of weights summed where the lane is the expert's is the expert's weight. -/
theorem lane_sum (i : grid0.Coords) (e : Fin 128) (he : (i 1).val = e.val) (w : Fin 128 → EReal) :
    (∑ l : Fin 128, Scalar.select (IntOp.cmpi CmpIPredicate.eq (BitVec.ofNat 32 l.val) (BitVec.ofNat 32 (i 1).val)) (w l) 0) = w e := by
  rw [Finset.sum_eq_single e]
  · rw [he]
    show Scalar.select (BitVec.ofBool (BitVec.ofNat 32 e.val == BitVec.ofNat 32 e.val)) _ _ = _
    rw [beq_self_eq_true]; rfl
  · intro l _ hl
    rw [he]
    show Scalar.select (BitVec.ofBool (BitVec.ofNat 32 l.val == BitVec.ofNat 32 e.val)) _ _ = _
    have hne : (BitVec.ofNat 32 l.val == BitVec.ofNat 32 e.val) = false := beq_eq_false_iff_ne.mpr fun h => hl (Fin.ext (by
      have := congrArg BitVec.toNat h
      rw [BitVec.toNat_ofNat, BitVec.toNat_ofNat, Nat.mod_eq_of_lt (by omega), Nat.mod_eq_of_lt (by omega)] at this
      exact this))
    rw [hne]; rfl
  · intro h; exact absurd (Finset.mem_univ _) h

theorem scatterTile_apply (i : grid0.Coords) (e : Fin 128) (he : (i 1).val = e.val) (r : Vec Ideal S1024x128 .f32) (t : Fin 1024) (rk : ℤ)
    (hr : r (ix2 t e) = ((rk : ℝ) : EReal)) (n : Fin 4) (y : Vec Ideal S256x1024 .f32) (out : Vec Ideal S1024x1024 .f32) (d : Fin 1024) :
    scatterTile i r n y out (ix2 t d) = out (ix2 t d) + ∑ a : Fin 256, if rk = 256 * (n.val : ℤ) + (a.val : ℤ) then y (ix2 a d) else 0 := by
  unfold scatterTile
  pointwise [k0_pay18, k0_pay17, k0_pay16]
  refine congrArg (out (ix2 t d) + ·) (Finset.sum_congr rfl fun a _ => ?_)
  have hl := (lane_sum i e he fun l => r (ix2 t l)).trans hr
  rw [hl]
  exact hot _ _ _ _

theorem expertTile_apply (i : grid0.Coords) (e : Fin 128) (he : (i 1).val = e.val) (w1 w3 : Vec Ideal S1x1024x1792 .bf16) (w2 : Vec Ideal S1x1792x1024 .bf16)
    (x : Vec Ideal S256x1024 .bf16) (cw : Vec Ideal S256x128 .f32) (y : Vec Ideal S256x1024 .f32) (a : Fin 256) (d : Fin 1024) :
    expertTile i w1 w3 w2 x cw y (ix2 a d) = y (ix2 a d)
      + ∑ j : Fin 1792, hidden (fun k => x (ix2 a k)) (fun k => w1 (ix3 0 k j)) (fun k => w3 (ix3 0 k j)) * cw (ix2 a e) * w2 (ix3 0 j d) := by
  unfold expertTile hidden
  pointwise [k0_pay14]
  rw [lane_sum i e he fun l => cw (ix2 a l)]

end Cert.Proof

end
-- ==== Proof.Rank.lean ====
/-
  Ranks among the routed rows of a block: two rows with one rank are one row, and a rank is below the count.
-/
module

public import Idealize.ShloMosaic.Lib.Pointwise
public import Idealize.ShloMosaic.Lib.Routing.Ops
public import Idealize.ShloMosaic.Lib.Routing.Count

@[expose] public section

noncomputable section

namespace Cert.Proof

open Idealize.ShloMosaic

open Classical in
/-- Row `t`'s rank: how many rows before it have `Q`, or −1 where it has not. -/
def rankOf (Q : ℕ → Prop) (t : ℕ) : ℤ := if Q t then (Nat.count Q t : ℤ) else -1

open Classical in
theorem rankOf_pos {Q : ℕ → Prop} {t : ℕ} (h : Q t) : rankOf Q t = (Nat.count Q t : ℤ) := if_pos h
theorem rankOf_neg {Q : ℕ → Prop} {t : ℕ} (h : ¬ Q t) : rankOf Q t = -1 := if_neg h

/-- Only one row has the rank of a row that has `Q`. -/
theorem rankOf_eq_iff {Q : ℕ → Prop} {s t : ℕ} (h : Q t) : rankOf Q s = rankOf Q t ↔ s = t := by
  classical
  refine ⟨fun e => ?_, fun e => e ▸ rfl⟩
  by_cases hs : Q s
  · rw [rankOf_pos hs, rankOf_pos h] at e
    exact Nat.count_injective hs h (by exact_mod_cast e)
  · rw [rankOf_neg hs, rankOf_pos h] at e
    omega

/-- The rank as a natural number, for a row that has `Q`. -/
def place (Q : ℕ → Prop) (t : ℕ) : ℕ := (rankOf Q t).toNat

theorem place_eq {Q : ℕ → Prop} {t : ℕ} (h : Q t) : rankOf Q t = (place Q t : ℤ) := by
  unfold place; rw [rankOf_pos h, Int.toNat_natCast]

theorem place_le {Q : ℕ → Prop} {t : ℕ} (h : Q t) : place Q t ≤ t := by
  classical
  unfold place; rw [rankOf_pos h, Int.toNat_natCast]; exact Nat.count_le _

theorem place_lt_count {Q : ℕ → Prop} [DecidablePred Q] {t N : ℕ} (h : Q t) (ht : t < N) : place Q t < Nat.count Q N := by
  have e : place Q t = Nat.count Q t := by
    unfold place; rw [rankOf_pos h, Int.toNat_natCast]; congr!
  rw [e]; exact Nat.count_strict_mono h ht

/-- Place `p` as a slot of a tile of 256. -/
theorem rankOf_slot_iff {Q : ℕ → Prop} {s t : ℕ} (h : Q t) : rankOf Q s = 256 * ((place Q t / 256 : ℕ) : ℤ) + ((place Q t % 256 : ℕ) : ℤ) ↔ s = t := by
  have e : 256 * ((place Q t / 256 : ℕ) : ℤ) + ((place Q t % 256 : ℕ) : ℤ) = rankOf Q t := by rw [place_eq h]; omega
  rw [e]; exact rankOf_eq_iff h

/-- A running sum of marks, less the mark, read as a word. -/
theorem rank_word {Q : ℕ → Prop} [DecidablePred Q] {t : ℕ} (ht : t < 1024) :
    (if Q t then BitVec.ofNat 32 ((List.range (t + 1)).map fun i => if Q i then 1 else 0).sum - BitVec.ofNat 32 (if Q t then 1 else 0) else 4294967295#32 : BitVec 32).toInt
      = rankOf Q t := by
  classical
  have hc : Nat.count Q t ≤ t := Nat.count_le _
  by_cases h : Q t
  · rw [if_pos h, if_pos h, rankOf_pos h, Routing.sum_map_ite, Nat.count_succ, if_pos h, BitVec.ofNat_add, BitVec.add_sub_cancel]
    have hm : (BitVec.ofNat 32 (Nat.count Q t)).toNat = Nat.count Q t := by
      rw [BitVec.toNat_ofNat, Nat.mod_eq_of_lt (by omega)]
    rw [BitVec.toInt_eq_toNat_of_lt (by rw [hm]; omega), hm]
    congr!
  · rw [if_neg h, rankOf_neg h]; decide

end Cert.Proof

end
-- ==== Proof.RankValue.lean ====
/-
  The ranks and the counts the host computes, at an index: over the extended reals, a row is routed to an expert when its weight is positive.
-/
module

public import proofs.«01_k».proof.Proof.Host
public import proofs.«01_k».proof.Proof.Rank
public import Idealize.ShloMosaic.Lib.Pointwise

@[expose] public section

set_option maxRecDepth 16384

noncomputable section

namespace Cert.Proof

open Cert.KernelIdeal Cert.KernelIdeal.Gen Idealize.ShloMosaic

/-- Row `n` of block `b` is routed to expert `e`. -/
def Routed (cb : Vec Ideal S32768x128 .f32) (b : Fin 32) (e : Fin 8) (n : ℕ) : Prop :=
  ∃ h : n < 1024, 0 < cb (ix2 ⟨b.val * 1024 + n, by omega⟩ ⟨e.val, by omega⟩)

variable (cb : Vec Ideal S32768x128 .f32) (b : Fin 32) (e : Fin 8)

open Classical in
theorem marks_apply (t : Fin 1024) : marks cb (ix3 b t e) = BitVec.ofNat 32 (if Routed cb b e t.val then 1 else 0) := by
  have h : marks cb (ix3 b t e) = BitVec.setWidth 32 (BitVec.ofBool (decide (0 < cb (ix2 ⟨b.val * 1024 + t.val, by omega⟩ ⟨e.val, by omega⟩)))) := by
    pointwise [marks, routed]
  rw [h]
  by_cases hr : Routed cb b e t.val
  · rw [if_pos hr, decide_eq_true hr.2]; rfl
  · rw [if_neg hr, decide_eq_false fun h => hr ⟨t.isLt, h⟩]; rfl

/-- The window of a running sum: all the rows of one block. -/
abbrev Sw : Shape := ⟨3, ![1, 1024, 1]⟩
theorem Sw_numel : Sw.numel = 1024 := by decide

/-- The window's positions, in order, are its rows. -/
theorem window_row (n : Fin Sw.numel) : Sw.rowMajor.symm n = ix3 (0 : Fin 1) (n.cast Sw_numel) (0 : Fin 1) := by
  refine (Equiv.symm_apply_eq _).mpr (Fin.ext ?_)
  refine Eq.trans ?_ (rowMajor_val3 _ 1024 1 rfl rfl).symm
  show n.val = 0 * 1024 + n.val * 1 + 0
  omega

/-- The running sum of the marks along a block's rows. -/
theorem running (f : ℕ → ℕ) (x : Vec Ideal S32x1024x8 .i32) (hx : ∀ t : Fin 1024, x (ix3 b t e) = BitVec.ofNat 32 (f t.val)) (t : Fin 1024)
    (z : Vec Ideal S_ .i32) (hz : z (Shape.Idx.first h_S_) = 0#32) :
    Host.reduceWindow IntOp.addi ![1, 1024, 1] ![1, 1, 1] ![0, 1023, 0] ![0, 0, 0] x z
        reduceWindows_S32x1024x8_S32x1024x8_w1s1p0_0_w1024s1p1023_0_w1s1p0_0 h_S_ (ix3 b t e)
      = BitVec.ofNat 32 ((List.range (t.val + 1)).map f).sum := by
  have ht := t.isLt
  unfold Host.reduceWindow
  refine (Routing.foldl_addi_ofNat _ _ (fun n => if 1023 ≤ t.val + n.val then f (t.val + n.val - 1023) else 0) (fun n _ => ?_) _ 0 hz).trans ?_
  · have h0 : (Sw.rowMajor.symm n 0).val = 0 := by rw [window_row]; rfl
    have h1 : (Sw.rowMajor.symm n 1).val = n.val := by rw [window_row]; rfl
    have h2 : (Sw.rowMajor.symm n 2).val = 0 := by rw [window_row]; rfl
    have hn : n.val < 1024 := (n.cast Sw_numel).isLt
    have hb := b.isLt
    have he := e.isLt
    have inside : (∀ a : Fin 3, (![0, 1023, 0] : Fin 3 → ℕ) a ≤ ((ix3 b t e : S32x1024x8.Idx) a).val * (![1, 1, 1] : Fin 3 → ℕ) a + (Sw.rowMajor.symm n a).val
        ∧ ((ix3 b t e : S32x1024x8.Idx) a).val * (![1, 1, 1] : Fin 3 → ℕ) a + (Sw.rowMajor.symm n a).val - (![0, 1023, 0] : Fin 3 → ℕ) a < S32x1024x8.size a)
        ↔ 1023 ≤ t.val + n.val := by
      constructor
      · intro h
        have := (h 1).1
        change 1023 ≤ t.val * 1 + (Sw.rowMajor.symm n 1).val at this
        rw [h1] at this
        omega
      · intro h a
        match a with
        | ⟨0, _⟩ =>
          show 0 ≤ b.val * 1 + (Sw.rowMajor.symm n 0).val ∧ b.val * 1 + (Sw.rowMajor.symm n 0).val - 0 < 32
          rw [h0]; omega
        | ⟨1, _⟩ =>
          show 1023 ≤ t.val * 1 + (Sw.rowMajor.symm n 1).val ∧ t.val * 1 + (Sw.rowMajor.symm n 1).val - 1023 < 1024
          rw [h1]; omega
        | ⟨2, _⟩ =>
          show 0 ≤ e.val * 1 + (Sw.rowMajor.symm n 2).val ∧ e.val * 1 + (Sw.rowMajor.symm n 2).val - 0 < 8
          rw [h2]; omega
    dsimp only
    by_cases hin : 1023 ≤ t.val + n.val
    · rw [if_pos hin]
      refine (dif_pos (inside.mpr hin)).trans ?_
      refine (congrArg x (funext fun a => Fin.ext ?_)).trans (hx ⟨t.val + n.val - 1023, by omega⟩)
      match a with
      | ⟨0, _⟩ =>
        show b.val * 1 + (Sw.rowMajor.symm n 0).val - 0 = b.val
        rw [h0]; omega
      | ⟨1, _⟩ =>
        show t.val * 1 + (Sw.rowMajor.symm n 1).val - 1023 = t.val + n.val - 1023
        rw [h1]; omega
      | ⟨2, _⟩ =>
        show e.val * 1 + (Sw.rowMajor.symm n 2).val - 0 = e.val
        rw [h2]; omega
    · rw [if_neg hin]
      exact (dif_neg fun h => hin (inside.mp h)).trans hz
  · rw [Nat.zero_add, Routing.map_finRange_val _ (fun w => if 1023 ≤ t.val + w then f (t.val + w - 1023) else 0)]
    exact congrArg (BitVec.ofNat 32) ((congrArg (fun M => ((List.range M).map fun w => if 1023 ≤ t.val + w then f (t.val + w - 1023) else 0).sum) Sw_numel).trans
      (Routing.sum_window f 1023 t.val (by omega)))

open Classical in
theorem ranks_apply (t : Fin 1024) : (ranks cb (ix3 b t e)).toInt = rankOf (Routed cb b e) t.val := by
  rw [← rank_word t.isLt]
  refine congrArg BitVec.toInt ?_
  have hrun := running b e (fun i => if Routed cb b e i then 1 else 0) (marks cb) (marks_apply cb b e) t
    (broadcastInDim S_ ![] bcast_S_S_ (constantI S_ 32 0#32)) (by pointwise)
  show Scalar.select (IntOp.cmpi .sgt (marks cb (ix3 b t e)) 0#32) (Host.reduceWindow _ _ _ _ _ _ _ _ _ _ - marks cb (ix3 b t e)) 4294967295#32 = _
  rw [hrun, marks_apply]
  by_cases h : Routed cb b e t.val
  · rw [if_pos h, if_pos h]; rfl
  · rw [if_neg h, if_neg h]; rfl

/-- The ranks as floats, by block and expert, and padded to the lanes. -/
theorem rows_float (R : Vec Ideal S32x1024x8 .i32) (t : Fin 1024) :
    transpose S32x8x1024 [0, 2, 1] (sitofp (F := Ideal) .f32 R) transposes_S32x1024x8_S32x8x1024_0_2_1 (ix3 b e t) = (((R (ix3 b t e)).toInt : ℝ) : EReal) := by
  pointwise
  rfl

theorem cols_float (R : Vec Ideal S32x1024x8 .i32) (t : Fin 1024) :
    pad S32768x128 ![0, 0] ![0, 120] ![0, 0] (shapeCast S32768x8 (sitofp (F := Ideal) .f32 R) shapeCasts_S32x1024x8_S32768x8)
      (constant (F := Ideal) S_ .f32 0xBF800000#32) pads_S32768x8_S32768x128_000_01200 h_S_ (ix2 ⟨b.val * 1024 + t.val, by omega⟩ ⟨e.val, by omega⟩)
      = (((R (ix3 b t e)).toInt : ℝ) : EReal) := by
  pointwise
  rw [dif_pos (by omega)]
  rfl

open Classical in
/-- The table of counts: how many rows of the block are routed to the expert. -/
theorem count_apply : (Host.reduce IntOp.addi (marks cb) (constantI S_ 32 0#32) reducesTo_S32x1024x8_S32x8_d1 h_S_ (ix2 b e)).toNat = Nat.count (Routed cb b e) 1024 := by
  rw [Host.reduce_eq_fold_single (s := S32x1024x8) (a := 1) IntOp.addi (marks cb) (constantI S_ 32 0#32) reducesTo_S32x1024x8_S32x8_d1 (by decide) h_S_ (ix2 b e)]
  have h : (marks cb ∘ Shape.Reduces.lift (s := S32x1024x8) (t := S32x8) (a := 1) (by decide) (ix2 b e))
      = fun k : Fin 1024 => (BitVec.ofBool (decide (Routed cb b e k.val))).setWidth 32 := by
    funext k
    have hk : Shape.Reduces.lift (s := S32x1024x8) (t := S32x8) (a := 1) (by decide) (ix2 b e) k = ix3 b k e := by
      funext a
      fin_cases a <;> rfl
    refine (congrArg (marks cb) hk).trans ((marks_apply cb b e k).trans ?_)
    by_cases hr : Routed cb b e k.val
    · rw [if_pos hr, decide_eq_true hr]; rfl
    · rw [if_neg hr, decide_eq_false hr]; rfl
  rw [h]
  show (Finset.fold IntOp.addi (0#32) (fun k : Fin 1024 => (BitVec.ofBool (decide (Routed cb b e k.val))).setWidth 32) (Finset.univ : Finset (Fin 1024))).toNat = _
  rw [IndicatorCount.fold_addi_setWidth_eq_card, BitVec.toNat_ofNat]
  have hs : (Finset.univ.filter fun k : Fin 1024 => BitVec.ofBool (decide (Routed cb b e k.val)) = 1#1) = Finset.univ.filter fun k : Fin 1024 => Routed cb b e k.val := by
    refine Finset.filter_congr fun k _ => ?_
    by_cases hr : Routed cb b e k.val
    · rw [decide_eq_true hr]; exact iff_of_true rfl hr
    · rw [decide_eq_false hr]; exact iff_of_false (by decide) hr
  rw [hs, Routing.card_filter_fin 1024 (Routed cb b e), Nat.mod_eq_of_lt]
  exact lt_of_le_of_lt (Nat.count_le _) (by norm_num)

end Cert.Proof

end
-- ==== Proof.RefValue.lean ====
/-
  The reference's result at an index, over the extended reals: the sum over the experts of the weight times the expert's product.
-/
module

public import proofs.«01_k».proof.Proof.RefRun
public import proofs.«01_k».proof.Proof.Expert
public import Idealize.ShloMosaic.Lib.Pointwise

@[expose] public section

set_option maxRecDepth 16384

noncomputable section

namespace Cert.Proof.Reference

open Cert.ReferenceIdeal Cert.ReferenceIdeal.Gen Idealize.ShloMosaic

theorem term_apply (e : Fin 8) (h1 : S8x1024x7168.Slices ![e.val, 0, 0] S1x1024x7168) (hc : S32768x128.Slices ![0, e.val] S32768x1)
    (h2 : S8x3584x1024.Slices ![e.val, 0, 0] S1x3584x1024)
    (x : Vec Ideal S32768x1024 .f32) (cb : Vec Ideal S32768x128 .f32) (w13 : Vec Ideal S8x1024x7168 .f32) (w2 : Vec Ideal S8x3584x1024 .f32)
    (r : Fin 32768) (d : Fin 1024) :
    term ![e.val, 0, 0] h1 ![0, e.val] hc ![e.val, 0, 0] h2 x cb w13 w2 (ix2 r d)
      = cb (ix2 r ⟨e.val, by omega⟩) * expert (fun k => x (ix2 r k)) (fun k j => w13 (ix3 e k j)) (fun j => w2 (ix3 e j d)) := by
  unfold expert hidden Ideal.logistic
  pointwise [term]

/-- One expert's weighted result for a row. -/
def weighted (u : Vec Ideal S32768x1024 .bf16) (cb : Vec Ideal S32768x128 .f32) (w13 : Vec Ideal S8x1024x7168 .f32) (w2 : Vec Ideal S8x3584x1024 .f32)
    (r : Fin 32768) (d : Fin 1024) (e : Fin 8) : EReal :=
  cb (ix2 r ⟨e.val, by omega⟩) * expert (fun k => u (ix2 r k)) (fun k j => w13 (ix3 e k j)) (fun j => w2 (ix3 e j d))

theorem total_apply (u : Vec Ideal S32768x1024 .bf16) (cb : Vec Ideal S32768x128 .f32) (w13 : Vec Ideal S8x1024x7168 .f32)
    (w2 : Vec Ideal S8x3584x1024 .f32) (r : Fin 32768) (d : Fin 1024) :
    total u cb w13 w2 (ix2 r d) = ∑ e : Fin 8, weighted u cb w13 w2 r d e := by
  have zero : broadcastInDim S32768x1024 ![] bcast_S_S32768x1024 (constant (F := Ideal) S_ .f32 0x00000000#32) (ix2 r d) = (0 : EReal) := by pointwise
  unfold total
  simp only [Fin.sum_univ_eight, Idealize.ShloMosaic.addf_apply, Ideal.addf_def]
  rw [zero, zero_add]
  have t := fun e h1 hc h2 => term_apply e h1 hc h2 (show Vec Ideal S32768x1024 .f32 from extf (F := Ideal) (s := S32768x1024) .f32 u bitsLt_bf16_f32) cb w13 w2 r d
  exact congrArg₂ (· + ·) (congrArg₂ (· + ·) (congrArg₂ (· + ·) (congrArg₂ (· + ·) (congrArg₂ (· + ·) (congrArg₂ (· + ·) (congrArg₂ (· + ·)
    (t 0 _ _ _) (t 1 _ _ _)) (t 2 _ _ _)) (t 3 _ _ _)) (t 4 _ _ _)) (t 5 _ _ _)) (t 6 _ _ _)) (t 7 _ _ _)

end Cert.Proof.Reference

end
-- ==== Proof.Value.lean ====
/-
  The kernel's result at an index, over the extended reals: the reference's. Row `t` of block `b` gains, at the second half of
  each expert it is routed to, that expert's weighted result for it; at an expert it is not routed to its weight is zero.
-/
module

public import proofs.«01_k».proof.Proof.Blocks
public import proofs.«01_k».proof.Proof.TileValue
public import proofs.«01_k».proof.Proof.RankValue
public import proofs.«01_k».proof.Proof.RefValue

@[expose] public section

set_option maxRecDepth 16384

noncomputable section

namespace Cert.Proof

open Cert.KernelIdeal Cert.KernelIdeal.Gen Idealize.ShloMosaic Idealize.ShloMosaic.TcCoe Idealize.SL.Sem

variable (m : (ℓ : Loc nD τ sig) → Buf (Elt Ideal) ℓ) (c : Dev nD)

/-- The arguments. -/
abbrev rowsIn : Vec Ideal S32768x1024 .bf16 := m (c, main_arg0)
abbrev weightsIn : Vec Ideal S32768x128 .f32 := m (c, main_arg1)
abbrev firstIn : Vec Ideal S8x1024x7168 .f32 := m (c, main_arg2)
abbrev secondIn : Vec Ideal S8x3584x1024 .f32 := m (c, main_arg3)

/-- The rank of row `t` of block `b` among the rows routed to expert `e`. -/
abbrev rk (b : Fin 32) (e : Fin 8) (t : Fin 1024) : ℤ := rankOf (Routed (weightsIn m c) b e) t.val

/-- The block and the expert of a grid point. -/
def blockOf (t : Fin grid0.N) : Fin 32 := ⟨t.val / 16, by have := point_lt t; omega⟩
def expertOf (t : Fin grid0.N) : Fin 8 := ⟨t.val / 2 % 8, by omega⟩

theorem rows_rank (t : Fin grid0.N) (r : Fin 1024) :
    rankRow (grid0.coords t) (blk3 m c t) (ix3 0 0 r) = ((rk m c (blockOf t) (expertOf t) r : ℝ) : EReal) := by
  have he : (grid0.coords t 1) = (expertOf t : Fin 8) := Fin.ext (coord1 t)
  have h : rankRow (grid0.coords t) (blk3 m c t) (ix3 0 0 r) = blk3 m c t (ix3 0 (expertOf t) r) := by
    unfold rankRow
    rw [← he]; rfl
  rw [h, blk3_apply, V_v16]
  exact (rows_float (blockOf t) (expertOf t) _ r).trans (congrArg (fun z : ℤ => ((z : ℝ) : EReal)) (ranks_apply _ _ _ _))

theorem cols_rank (t : Fin grid0.N) (r : Fin 1024) :
    blk2 m c t (ix2 r ⟨(expertOf t).val, by omega⟩) = ((rk m c (blockOf t) (expertOf t) r : ℝ) : EReal) := by
  rw [blk2_apply, V_v15]
  exact (cols_float (blockOf t) (expertOf t) _ r).trans (congrArg (fun z : ℤ => ((z : ℝ) : EReal)) (ranks_apply _ _ _ _))

/-! ## The tile and the slot of a routed row -/

/-- Only the row of that rank is in the slot. -/
theorem sum_slot {Q : ℕ → Prop} {t : Fin 1024} (h : Q t.val) (f : Fin 1024 → EReal) :
    (∑ s : Fin 1024, if rankOf Q s.val = 256 * ((place Q t.val / 256 : ℕ) : ℤ) + ((place Q t.val % 256 : ℕ) : ℤ) then f s else 0) = f t := by
  rw [Finset.sum_eq_single t]
  · exact if_pos ((rankOf_slot_iff h).mpr rfl)
  · exact fun s _ hs => if_neg fun e => hs (Fin.ext ((rankOf_slot_iff h).mp e))
  · exact fun hn => absurd (Finset.mem_univ t) hn

theorem place_lt {Q : ℕ → Prop} {t : Fin 1024} (h : Q t.val) : place Q t.val / 256 < 4 := by
  have := place_le h; omega

/-- Whether row `r` of the point's block is routed to the point's expert. -/
abbrev Hit (t : Fin grid0.N) : ℕ → Prop := Routed (weightsIn m c) (blockOf t) (expertOf t)

/-- Row `r` of block `b` in the arguments. -/
def rowOf (b : Fin 32) (r : Fin 1024) : Fin 32768 := ⟨b.val * 1024 + r.val, by omega⟩

theorem rows_at (t : Fin grid0.N) (r d : Fin 1024) (h : Hit m c t r.val) :
    rowsOf m c t ⟨place (Hit m c t) r.val / 256, place_lt h⟩ (ix2 ⟨place (Hit m c t) r.val % 256, Nat.mod_lt _ (by norm_num)⟩ d)
      = rowsIn m c (ix2 (rowOf (blockOf t) r) d) := by
  unfold rowsOf
  rw [gatherX_apply _ _ (rows_rank m c t)]
  refine (sum_slot h fun s => blk0 m c t (ix2 s d)).trans ?_
  rw [blk0_apply, V_arg0]
  rfl

theorem weights_at (t : Fin grid0.N) (r : Fin 1024) (l : Fin 128) (h : Hit m c t r.val)
    (h0 : 0 ≤ weightsIn m c (ix2 (rowOf (blockOf t) r) l)) (h1 : weightsIn m c (ix2 (rowOf (blockOf t) r) l) ≠ ⊤) :
    weightsOf m c t ⟨place (Hit m c t) r.val / 256, place_lt h⟩ (ix2 ⟨place (Hit m c t) r.val % 256, Nat.mod_lt _ (by norm_num)⟩ l)
      = weightsIn m c (ix2 (rowOf (blockOf t) r) l) := by
  have e : blk1 m c t (ix2 r l) = weightsIn m c (ix2 (rowOf (blockOf t) r) l) := by
    rw [blk1_apply, V_arg1]; rfl
  unfold weightsOf
  rw [gatherC_apply _ _ (rows_rank m c t)]
  refine (congrArg₂ (· + ·) (sum_slot h fun s => blk1 m c t (ix2 s l)) (sum_slot h fun s => blk1 m c t (ix2 s l) - blk1 m c t (ix2 s l))).trans ?_
  show blk1 m c t (ix2 r l) + (blk1 m c t (ix2 r l) - blk1 m c t (ix2 r l)) = _
  rw [e, EReal.sub_self h1 (fun hb => by rw [hb] at h0; exact absurd h0 (by simp)), add_zero]

/-! ## A point's part of a routed row's result -/

/-- The weight matrices of expert `e`. -/
abbrev firstOf (e : Fin 8) : Fin 1024 → Fin 7168 → EReal := fun k j => firstIn m c (ix3 e k j)
abbrev secondOf (e : Fin 8) (d : Fin 1024) : Fin 3584 → EReal := fun j => secondIn m c (ix3 e j d)

theorem half_at (t : Fin grid0.N) (x : Fin 1024 → EReal) (w : EReal) (d : Fin 1024) :
    (∑ j : Fin 1792, hidden x (fun k => blk4 m c t (ix3 0 k j)) (fun k => blk5 m c t (ix3 0 k j)) * w * blk6 m c t (ix3 0 j d))
      = half x (firstOf m c (expertOf t)) (secondOf m c (expertOf t) d) w ⟨t.val % 2, Nat.mod_lt _ (by norm_num)⟩ := by
  unfold half
  refine Finset.sum_congr rfl fun j _ => ?_
  rw [blk6_apply, V_v1]
  have e4 : (fun k => blk4 m c t (ix3 0 k j)) = fun k => firstOf m c (expertOf t) k ⟨t.val % 2 * 1792 + j.val, by omega⟩ := by
    funext k; rw [blk4_apply, V_v0]; rfl
  have e5 : (fun k => blk5 m c t (ix3 0 k j)) = fun k => firstOf m c (expertOf t) k ⟨(2 + t.val % 2) * 1792 + j.val, by omega⟩ := by
    funext k; rw [blk5_apply, V_v0]; rfl
  rw [e4, e5]
  rfl

theorem lane_at (t : Fin grid0.N) : (grid0.coords t 1).val = (⟨(expertOf t).val, by omega⟩ : Fin 128).val := coord1 t

theorem result_at (s t : Fin grid0.N) (hs : s.val % 2 = 0) (ht : t.val = s.val + 1) (r d : Fin 1024) (h : Hit m c s r.val)
    (h0 : 0 ≤ weightsIn m c (ix2 (rowOf (blockOf s) r) ⟨(expertOf s).val, by omega⟩))
    (h1 : weightsIn m c (ix2 (rowOf (blockOf s) r) ⟨(expertOf s).val, by omega⟩) ≠ ⊤) :
    resultTile m c s t ⟨place (Hit m c s) r.val / 256, place_lt h⟩ (ix2 ⟨place (Hit m c s) r.val % 256, Nat.mod_lt _ (by norm_num)⟩ d)
      = Reference.weighted (rowsIn m c) (weightsIn m c) (firstIn m c) (secondIn m c) (rowOf (blockOf s) r) d (expertOf s) := by
  have hE : expertOf t = expertOf s := Fin.ext (by show t.val / 2 % 8 = s.val / 2 % 8; omega)
  unfold resultTile
  rw [expertTile_apply _ _ (lane_at t), expertTile_apply _ _ (lane_at s), half_at, half_at]
  simp only [hE]
  rw [weights_at m c s r _ h h0 h1]
  have ex : (fun k => rowsOf m c s ⟨place (Hit m c s) r.val / 256, place_lt h⟩ (ix2 ⟨place (Hit m c s) r.val % 256, Nat.mod_lt _ (by norm_num)⟩ k))
      = fun k => rowsIn m c (ix2 (rowOf (blockOf s) r) k) := funext fun k => rows_at m c s r k h
  rw [ex]
  have ez : (k0_pay9 : FVec Ideal S256x1024 .f32) (ix2 ⟨place (Hit m c s) r.val % 256, Nat.mod_lt _ (by norm_num)⟩ d) = 0 := by
    pointwise [k0_pay9]
  have f0 : (⟨s.val % 2, Nat.mod_lt _ (by norm_num)⟩ : Fin 2) = 0 := Fin.ext hs
  have f1 : (⟨t.val % 2, Nat.mod_lt _ (by norm_num)⟩ : Fin 2) = 1 := Fin.ext (by show t.val % 2 = 1; omega)
  rw [ez, f0, f1]
  exact halves _ _ _ h0 h1

/-! ## The tiles scattered -/

theorem scatterTo_unrouted (i : grid0.Coords) (e : Fin 128) (he : (i 1).val = e.val) (r : Vec Ideal S1024x128 .f32) (t d : Fin 1024)
    (hr : r (ix2 t e) = (((-1 : ℤ) : ℝ) : EReal)) (y : Fin 4 → Vec Ideal S256x1024 .f32) (out : Vec Ideal S1024x1024 .f32) (k : ℕ) (hk : k ≤ 4) :
    scatterTo i r y out k (ix2 t d) = out (ix2 t d) := by
  induction k with
  | zero => rfl
  | succ k ih =>
    have e1 := scatterTo_succ i r y out ⟨k, by omega⟩
    rw [show scatterTo i r y out (k + 1) = _ from e1, scatterTile_apply i e he r t (-1) hr, ih (by omega), Finset.sum_eq_zero, add_zero]
    exact fun a _ => if_neg (by omega)

theorem scatterTo_routed (i : grid0.Coords) (e : Fin 128) (he : (i 1).val = e.val) (r : Vec Ideal S1024x128 .f32) (t d : Fin 1024) (p : ℕ) (hp : p / 256 < 4)
    (hr : r (ix2 t e) = (((p : ℤ) : ℝ) : EReal)) (y : Fin 4 → Vec Ideal S256x1024 .f32) (out : Vec Ideal S1024x1024 .f32) (k : ℕ) (hk : k ≤ 4) :
    scatterTo i r y out k (ix2 t d)
      = if p / 256 < k then out (ix2 t d) + y ⟨p / 256, hp⟩ (ix2 ⟨p % 256, Nat.mod_lt _ (by norm_num)⟩ d) else out (ix2 t d) := by
  induction k with
  | zero => rfl
  | succ k ih =>
    have e1 := scatterTo_succ i r y out ⟨k, by omega⟩
    rw [show scatterTo i r y out (k + 1) = _ from e1, scatterTile_apply i e he r t p hr, ih (by omega)]
    by_cases hpk : p / 256 = k
    · subst hpk
      rw [if_neg (Nat.lt_irrefl _), if_pos (Nat.lt_succ_self _), Finset.sum_eq_single ⟨p % 256, Nat.mod_lt _ (by norm_num)⟩]
      · rw [if_pos]
        show (p : ℤ) = 256 * ((p / 256 : ℕ) : ℤ) + ((p % 256 : ℕ) : ℤ)
        omega
      · intro a _ ha
        refine if_neg fun h => ha (Fin.ext ?_)
        have h : (p : ℤ) = 256 * ((p / 256 : ℕ) : ℤ) + (a.val : ℤ) := h
        show a.val = p % 256
        omega
      · exact fun hn => absurd (Finset.mem_univ _) hn
    · rw [Finset.sum_eq_zero, add_zero]
      · by_cases h : p / 256 < k
        · rw [if_pos h, if_pos (by omega)]
        · rw [if_neg h, if_neg (by omega)]
      · intro a _
        refine if_neg fun h => hpk ?_
        have h : (p : ℤ) = 256 * (k : ℤ) + (a.val : ℤ) := h
        omega

/-! ## The result's block, expert by expert -/

open Classical in
theorem count_at (t : Fin grid0.N) : (countAt (grid0.coords t) (counts m)).toNat = Nat.count (Hit m c t) 1024 := by
  obtain rfl : c = 0 := Subsingleton.elim _ _
  have e0 : grid0.coords t 0 = (blockOf t : Fin 32) := Fin.ext (coord0 t)
  have e1 : grid0.coords t 1 = (expertOf t : Fin 8) := Fin.ext (coord1 t)
  unfold countAt counts
  rw [V_v13, e0, e1]
  exact count_apply _ _ _

/-- The weights are finite and not negative. -/
def Weights (cb : Vec Ideal S32768x128 .f32) : Prop := ∀ (r : Fin 32768) (e : Fin 8), 0 ≤ cb (ix2 r ⟨e.val, by omega⟩) ∧ cb (ix2 r ⟨e.val, by omega⟩) ≠ ⊤

variable {m c} in
/-- An expert's second half adds the reference's term. -/
theorem outAt_second (hw : Weights (weightsIn m c)) (n : ℕ) (hn : n + 1 < grid0.N) (h2 : n % 2 = 0) (r d : Fin 1024) :
    outAt m c (n + 1) hn (ix2 r d) = outAt m c n (Nat.lt_of_succ_lt hn) (ix2 r d)
      + Reference.weighted (rowsIn m c) (weightsIn m c) (firstIn m c) (secondIn m c) (rowOf (blockOf ⟨n, Nat.lt_of_succ_lt hn⟩) r) d (expertOf ⟨n, Nat.lt_of_succ_lt hn⟩) := by
  classical
  rw [outAt_add m c n hn ((cond3_iff _).mpr (by show (n + 1) % 2 = 1; omega))]
  have hH : Hit m c ⟨n + 1, hn⟩ = Hit m c ⟨n, Nat.lt_of_succ_lt hn⟩ := by
    unfold Hit
    rw [show blockOf ⟨n + 1, hn⟩ = blockOf ⟨n, Nat.lt_of_succ_lt hn⟩ from Fin.ext (by show (n + 1) / 16 = n / 16; omega),
      show expertOf ⟨n + 1, hn⟩ = expertOf ⟨n, Nat.lt_of_succ_lt hn⟩ from Fin.ext (by show (n + 1) / 2 % 8 = n / 2 % 8; omega)]
  have hc := cols_rank m c ⟨n + 1, hn⟩ r
  have hk := count_at m c ⟨n + 1, hn⟩
  have hle : Nat.count (Hit m c ⟨n + 1, hn⟩) 1024 ≤ 1024 := Nat.count_le _
  have hg : groups (countAt (grid0.coords ⟨n + 1, hn⟩) (counts m)) = (Nat.count (Hit m c ⟨n + 1, hn⟩) 1024 + 255) / 256 := by
    unfold groups; rw [hk]
  rw [hg]
  have hw' := hw (rowOf (blockOf ⟨n, Nat.lt_of_succ_lt hn⟩) r) (expertOf ⟨n, Nat.lt_of_succ_lt hn⟩)
  by_cases h : Hit m c ⟨n, Nat.lt_of_succ_lt hn⟩ r.val
  · have h' : Hit m c ⟨n + 1, hn⟩ r.val := by rw [hH]; exact h
    have hP : place (Hit m c ⟨n + 1, hn⟩) r.val = place (Hit m c ⟨n, Nat.lt_of_succ_lt hn⟩) r.val := by rw [hH]
    have hlt := place_lt_count h' r.isLt
    rw [show rk m c (blockOf ⟨n + 1, hn⟩) (expertOf ⟨n + 1, hn⟩) r = _ from place_eq h'] at hc
    rw [hP] at hc hlt
    rw [scatterTo_routed _ _ (lane_at _) _ _ _ _ (place_lt h) hc _ _ _ (by omega), if_pos (by omega)]
    exact congrArg₂ (· + ·) rfl (result_at m c ⟨n, Nat.lt_of_succ_lt hn⟩ ⟨n + 1, hn⟩ h2 rfl r d h hw'.1 hw'.2)
  · have h' : ¬ Hit m c ⟨n + 1, hn⟩ r.val := by rw [hH]; exact h
    rw [show rk m c (blockOf ⟨n + 1, hn⟩) (expertOf ⟨n + 1, hn⟩) r = _ from rankOf_neg h'] at hc
    rw [scatterTo_unrouted _ _ (lane_at _) _ _ _ hc _ _ _ (by omega)]
    have hz : weightsIn m c (ix2 (rowOf (blockOf ⟨n, Nat.lt_of_succ_lt hn⟩) r) ⟨(expertOf ⟨n, Nat.lt_of_succ_lt hn⟩).val, by omega⟩) = 0 :=
      le_antisymm (not_lt.mp fun hp => h ⟨r.isLt, hp⟩) hw'.1
    unfold Reference.weighted
    rw [hz, zero_mul, add_zero]

/-- The reference's term of expert `e`, nothing past the last. -/
def termOf (b : Fin 32) (r d : Fin 1024) (e : ℕ) : EReal :=
  if h : e < 8 then Reference.weighted (rowsIn m c) (weightsIn m c) (firstIn m c) (secondIn m c) (rowOf b r) d ⟨e, h⟩ else 0

variable {m c} in
theorem outAt_expert (hw : Weights (weightsIn m c)) (b : Fin 32) (r d : Fin 1024) (e : ℕ) (he : e < 8) (hn : 16 * b.val + 2 * e + 1 < grid0.N) :
    outAt m c (16 * b.val + 2 * e + 1) hn (ix2 r d) = ∑ k ∈ Finset.range (e + 1), termOf m c b r d k := by
  have hb : blockOf ⟨16 * b.val + 2 * e, Nat.lt_of_succ_lt hn⟩ = b := Fin.ext (by show (16 * b.val + 2 * e) / 16 = b.val; omega)
  have hE : expertOf ⟨16 * b.val + 2 * e, Nat.lt_of_succ_lt hn⟩ = ⟨e, he⟩ := Fin.ext (by show (16 * b.val + 2 * e) / 2 % 8 = e; omega)
  rw [outAt_second hw (16 * b.val + 2 * e) hn (by omega), Finset.sum_range_succ, hb, hE]
  refine congrArg₂ (· + ·) ?_ (by unfold termOf; rw [dif_pos he])
  cases e with
  | zero =>
    rw [Finset.range_zero, Finset.sum_empty]
    have h := outAt_clear m c ⟨16 * b.val + 2 * 0, Nat.lt_of_succ_lt hn⟩ ((cond1_iff _).mpr (by show (16 * b.val + 2 * 0) % 16 = 0; omega))
    refine (congrFun h (ix2 r d)).trans ?_
    pointwise [k0_pay1]
  | succ e =>
    have h := outAt_keep m c (16 * b.val + 2 * e + 1) (Nat.lt_of_succ_lt hn)
      (fun h => by have := (cond1_iff _).mp h; have : (16 * b.val + 2 * e + 1 + 1) % 16 = 0 := this; omega)
      (fun h => by have := (cond3_iff _).mp h; have : (16 * b.val + 2 * e + 1 + 1) % 2 = 1 := this; omega)
    exact (congrFun h (ix2 r d)).trans (outAt_expert hw b r d e (by omega) _)

variable {m c} in
/-- The kernel's result is the reference's. -/
theorem result_eq (hw : Weights (weightsIn m c)) :
    ((dats m 0 c).arrAt 7 (cfgM m).N : Vec Ideal S32768x1024 .f32) = Reference.total (rowsIn m c) (weightsIn m c) (firstIn m c) (secondIn m c) := by
  refine funext fun (j : S32768x1024.Idx) => ?_
  obtain ⟨b, q, d, rfl⟩ : ∃ (b : Fin 32) (q d : Fin 1024), j = ix2 ⟨b.val * 1024 + q.val, by omega⟩ d := by
    have h : (j 0).val < 32768 := (j 0).isLt
    refine ⟨⟨(j 0).val / 1024, by omega⟩, ⟨(j 0).val % 1024, by omega⟩, j 1, funext fun a => Fin.ext ?_⟩
    match a with
    | ⟨0, _⟩ => show (j 0).val = (j 0).val / 1024 * 1024 + (j 0).val % 1024; omega
    | ⟨1, _⟩ => rfl
  refine (result_apply m c b q d).trans ?_
  refine (outAt_expert hw b q d 7 (by norm_num) (by have := points_eq; omega)).trans ?_
  rw [Reference.total_apply, Finset.sum_range]
  refine Finset.sum_congr rfl fun e _ => ?_
  unfold termOf
  rw [dif_pos e.isLt]
  rfl

end Cert.Proof

end
-- ==== Proof.Algebraic.lean ====
/-
  The value claim: over the extended reals, from arguments with weights finite and not negative, the kernel and the reference
  end with the same result.
-/
module

public import proofs.«01_k».proof.Proof.Value
public import proofs.«01_k».proof.Proof.Frames

@[expose] public section

set_option maxRecDepth 16384

noncomputable section

namespace Cert.Proof

open Cert.KernelIdeal Cert.KernelIdeal.Gen Idealize.ShloMosaic Idealize.ShloMosaic.TcCoe Idealize.SL.Sem

/-- What the precondition says of the weights. -/
theorem weights_of_pre (cb : Vec Ideal S32768x128 .f32) (x : Vec Ideal S32768x1024 .bf16) (w13 : Vec Ideal S8x1024x7168 .f32) (w2 : Vec Ideal S8x3584x1024 .f32)
    (h0 : (@Cert.Pre_weights_nonnegative.fn Cert.Pre_weights_nonnegative.Gen.facts Ideal _ x cb w13 w2).1 = fun _ => 1#1)
    (h1 : (@Cert.Pre_weights_nonnegative.fn Cert.Pre_weights_nonnegative.Gen.facts Ideal _ x cb w13 w2).2 = fun _ => 1#1) : Weights cb := by
  intro r e
  have a := congrFun h0 (ix2 r e)
  have b := congrFun h1 (ix2 r e)
  unfold Cert.Pre_weights_nonnegative.fn at a b
  pointwise at a
  pointwise at b
  have bit : ∀ q : Bool, BitVec.ofBool q = 1#1 → q = true := by decide
  exact ⟨of_decide_eq_true (bit _ a), ne_top_of_lt (of_decide_eq_true (bit _ b))⟩

theorem algebraic : Cert.algebraic_KernelIdeal_ReferenceIdeal_pre_weights_nonnegative (hKernelIdeal := Cert.KernelIdeal.Gen.facts)
    (hReferenceIdeal := Cert.ReferenceIdeal.Gen.facts) (hPre_weights_nonnegative := Cert.Pre_weights_nonnegative.Gen.facts) := by
  intro m g m' g' hpre hargs
  refine ⟨fun c => Reference.total (rowsIn m c) (weightsIn m c) (firstIn m c) (secondIn m c), ?_, ?_⟩
  · refine (θ_run defs _ _).mono (fun r h c => ⟨(h.1 c).1.trans ?_, (h.1 c).2⟩) (run_ends (F := Ideal) m g)
    exact result_eq (weights_of_pre (weightsIn m c) (rowsIn m c) (firstIn m c) (secondIn m c) (hpre c).1 (hpre c).2)
  · refine (θ_run Cert.ReferenceIdeal.defs _ _).mono (fun r h c => ⟨(h.1 c).1.trans ?_, (h.1 c).2⟩) (Reference.run (F := Ideal) m' g')
    obtain ⟨e0, e1, e2, e3⟩ := hargs c
    rw [e0, e1, e2, e3]

end Cert.Proof

end
-- ==== Proof.Norm.lean ====
/-
  One row of the layer's tail, over the extended reals: the residual sum and the layer norm of it.
-/
module

public import Idealize.ShloMosaic.Lib.Pointwise

@[expose] public section

noncomputable section

namespace Cert.Proof

open Idealize.ShloMosaic

/-- A row's mean. -/
def rowMean (p : Fin 1024 → EReal) : EReal := Ideal.div (∑ k : Fin 1024, p k) (Ideal.ofBits .f32 0x44800000#32)

/-- A row's layer norm at a column: centred, divided by the root of the variance plus a small constant, scaled and shifted. -/
def rowNorm (p g b : Fin 1024 → EReal) (d : Fin 1024) : EReal :=
  (p d - rowMean p) * Ideal.rsqrt (rowMean (fun k => (p k - rowMean p) * (p k - rowMean p)) + Ideal.ofBits .f32 0x3727C5AC#32) * g d + b d

/-- A row's residual sum at a column: a constant times the stream plus the gate times the branch's result. -/
def rowMix (h gate y : Fin 1024 → EReal) (d : Fin 1024) : EReal := Ideal.ofBits .f32 0x3FD744FD#32 * h d + gate d * y d

end Cert.Proof

end
-- ==== Proof.TailRef.lean ====
/-
  The reference of the layer's tail: its result as a residual sum and a layer norm, and both at an index, over the extended reals.
-/
module

public import proofs.«01_k».proof.Proof.Norm
public import proofs.«01_k».proof.Proof.Gen.Reference2Ideal.Run

@[expose] public section

set_option maxRecDepth 16384

noncomputable section

namespace Cert.Proof.Tail

open Cert.Reference2Ideal Cert.Reference2Ideal.Gen Idealize.ShloMosaic Idealize.ShloMosaic.TcCoe Idealize.SL.Sem

variable {F : FTy → Type} [FloatOps F]

/-- The reference's residual sum. -/
def refMix (h : FVec F S32768x1024 .f32) (gate : FVec F S8x1x1024 .f32) (y : FVec F S32768x1024 .f32) : FVec F S8x4096x1024 .f32 :=
  addf (mulf (broadcastInDim S8x4096x1024 ![] bcast_S_S8x4096x1024 (constant S_ .f32 0x3FD744FD#32)) (shapeCast _ h shapeCasts_S32768x1024_S8x4096x1024))
    (mulf (broadcastInDim S8x4096x1024 ![0, 1, 2] bcast_S8x1x1024_S8x4096x1024_0_1_2 gate) (shapeCast _ y shapeCasts_S32768x1024_S8x4096x1024))

/-- The mean of each row, kept as a column of width one. -/
def refMean (x : FVec F S8x4096x1024 .f32) : FVec F S8x4096x1 .f32 :=
  Host.divf (broadcastInDim S8x4096x1 ![0, 1] bcast_S8x4096_S8x4096x1_0_1 (Host.reduceAdd x (constant S_ .f32 0x00000000#32) reducesTo_S8x4096x1024_S8x4096_d2 h_S_))
    (broadcastInDim S8x4096x1 ![] bcast_S_S8x4096x1 (constant S_ .f32 0x44800000#32))

/-- The rows centred. -/
def refCentre (x : FVec F S8x4096x1024 .f32) : FVec F S8x4096x1024 .f32 :=
  subf x (broadcastInDim S8x4096x1024 ![0, 1, 2] bcast_S8x4096x1_S8x4096x1024_0_1_2 (refMean x))

/-- The reference's layer norm. -/
def refNorm (x : FVec F S8x4096x1024 .f32) (g b : FVec F S1024 .f32) : FVec F S8x4096x1024 .f32 :=
  addf (mulf (mulf (refCentre x) (broadcastInDim S8x4096x1024 ![0, 1, 2] bcast_S8x4096x1_S8x4096x1024_0_1_2
    (Host.rsqrt (addf (refMean (mulf (refCentre x) (refCentre x))) (broadcastInDim S8x4096x1 ![] bcast_S_S8x4096x1 (constant S_ .f32 0x3727C5AC#32))))))
    (broadcastInDim S8x4096x1024 ![0, 1, 2] bcast_S1x1x1024_S8x4096x1024_0_1_2 (broadcastInDim S1x1x1024 ![2] bcast_S1024_S1x1x1024_2 g)))
    (broadcastInDim S8x4096x1024 ![0, 1, 2] bcast_S1x1x1024_S8x4096x1024_0_1_2 (broadcastInDim S1x1x1024 ![2] bcast_S1024_S1x1x1024_2 b))

theorem refMix_apply (h : Vec Ideal S32768x1024 .f32) (gate : Vec Ideal S8x1x1024 .f32) (y : Vec Ideal S32768x1024 .f32) (e : Fin 8) (q : Fin 4096) (d : Fin 1024) :
    refMix (F := Ideal) h gate y (ix3 e q d) = rowMix (fun k => h (ix2 ⟨e.val * 4096 + q.val, by omega⟩ k)) (fun k => gate (ix3 e 0 k))
      (fun k => y (ix2 ⟨e.val * 4096 + q.val, by omega⟩ k)) d := by
  unfold rowMix
  pointwise [refMix]

theorem refNorm_apply (x : Vec Ideal S8x4096x1024 .f32) (g b : Vec Ideal S1024 .f32) (e : Fin 8) (q : Fin 4096) (d : Fin 1024) :
    refNorm (F := Ideal) x g b (ix3 e q d) = rowNorm (fun k => x (ix3 e q k)) (fun k => g (ix1 k)) (fun k => b (ix1 k)) d := by
  unfold rowNorm rowMean
  pointwise [refNorm, refCentre, refMean]

/-- The rows of an array of eight sequences, in the order of the flat array. -/
theorem flat_apply (x : Vec Ideal S8x4096x1024 .f32) (e : Fin 8) (q : Fin 4096) (d : Fin 1024) :
    shapeCast S32768x1024 x shapeCasts_S8x4096x1024_S32768x1024 (ix2 ⟨e.val * 4096 + q.val, by omega⟩ d) = x (ix3 e q d) := by
  pointwise

theorem reference_eq (m : (ℓ : Loc nD τ sig) → Buf (Elt Ideal) ℓ) (c : Dev nD) : Value.res_out0 m c
    = shapeCast S32768x1024 (refNorm (F := Ideal) (refMix (m ((c.tc : Thread nD τ).loc main_arg1)) (m ((c.tc : Thread nD τ).loc main_arg2))
      (m ((c.tc : Thread nD τ).loc main_arg0))) (m ((c.tc : Thread nD τ).loc main_arg3)) (m ((c.tc : Thread nD τ).loc main_arg4)))
      shapeCasts_S8x4096x1024_S32768x1024 := rfl

/-- What the tail makes of its arguments, at a row of a sequence and a column. -/
def tail (y h : Vec Ideal S32768x1024 .f32) (gate : Vec Ideal S8x1x1024 .f32) (g b : Vec Ideal S1024 .f32) (e : Fin 8) (q : Fin 4096) (d : Fin 1024) : EReal :=
  rowNorm (rowMix (fun k => h (ix2 ⟨e.val * 4096 + q.val, by omega⟩ k)) (fun k => gate (ix3 e 0 k)) (fun k => y (ix2 ⟨e.val * 4096 + q.val, by omega⟩ k)))
    (fun k => g (ix1 k)) (fun k => b (ix1 k)) d

theorem reference_apply (m : (ℓ : Loc nD τ sig) → Buf (Elt Ideal) ℓ) (c : Dev nD) (e : Fin 8) (q : Fin 4096) (d : Fin 1024) :
    Value.res_out0 m c (ix2 ⟨e.val * 4096 + q.val, by omega⟩ d : S32768x1024.Idx)
      = tail (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) e q d := by
  rw [reference_eq]
  refine (flat_apply _ e q d).trans ((refNorm_apply _ _ _ e q d).trans ?_)
  refine congrArg (fun p => rowNorm p _ _ d) (funext fun k => refMix_apply _ _ _ e q k)

end Cert.Proof.Tail

end
-- ==== Proof.TailValue.lean ====
/-
  The tail's program: what each grid point writes back, at an index, and so what the result's array ends with.
-/
module

public import proofs.«01_k».proof.Proof.Norm
public import proofs.«01_k».proof.Proof.Gen.Kernel2Ideal.Value
public import Idealize.ShloMosaic.Lib.Pipeline.ValueKit.Basic

@[expose] public section

set_option maxRecDepth 16384

noncomputable section

namespace Cert.Proof.Tail

open Cert.Kernel2Ideal Cert.Kernel2Ideal.Gen Idealize.ShloMosaic Idealize.ShloMosaic.TcCoe Idealize.SL.Sem
open Idealize.ShloMosaic.Pipeline (Dat Window)

theorem tail_apply (y h : Vec Ideal S512x1024 .f32) (gate : Vec Ideal S1x1x1024 .f32) (g b : Vec Ideal S1x1024 .f32) (r : Fin 512) (d : Fin 1024) :
    k0_pay1 y h gate g b (ix2 r d)
      = rowNorm (rowMix (fun k => h (ix2 r k)) (fun k => gate (ix3 0 0 k)) (fun k => y (ix2 r k))) (fun k => g (ix2 0 k)) (fun k => b (ix2 0 k)) d := by
  unfold rowNorm rowMean rowMix
  pointwise [k0_pay1]

theorem index_0 : ∀ t : Fin grid0.N, cc0_transform_0 (grid0.coords t) = ![t.val, 0] := by decide +kernel
theorem index_1 : ∀ t : Fin grid0.N, cc0_transform_1 (grid0.coords t) = ![t.val, 0] := by decide +kernel
theorem index_2 : ∀ t : Fin grid0.N, cc0_transform_2 (grid0.coords t) = ![t.val / 8, 0, 0] := by decide +kernel
theorem index_5 : ∀ t : Fin grid0.N, cc0_transform_5 (grid0.coords t) = ![t.val, 0] := by decide +kernel

theorem points : grid0.N = 64 := N_0
theorem point_lt (t : Fin grid0.N) : t.val < 64 := points ▸ t.isLt

section

variable {F : FTy → Type} [FloatOps F]
variable (m : (ℓ : Loc nD τ sig) → Buf (Elt F) ℓ) (c : Dev nD) (t : Fin grid0.N)

theorem V_v0 : V m c main_v0 = shapeCast S1x1024 (m (c, main_arg3) : Vec F S1024 .f32) shapeCasts_S1024_S1x1024 := by
  unfold V hostOps0; after_results; rfl
theorem V_v1 : V m c main_v1 = shapeCast S1x1024 (m (c, main_arg4) : Vec F S1024 .f32) shapeCasts_S1024_S1x1024 := by
  unfold V hostOps0; after_results; rfl

/-- The rows of the branch's result a point stages. -/
abbrev blk0 : Vec F S512x1024 .f32 := iblk m c 0 t
/-- The rows of the stream a point stages. -/
abbrev blk1 : Vec F S512x1024 .f32 := iblk m c 1 t
/-- The gate of a point's sequence. -/
abbrev blk2 : Vec F S1x1x1024 .f32 := iblk m c 2 t
/-- The norm's scale. -/
abbrev blk3 : Vec F S1x1024 .f32 := iblk m c 3 t
/-- The norm's shift. -/
abbrev blk4 : Vec F S1x1024 .f32 := iblk m c 4 t

theorem blk0_apply (r : Fin 512) (d : Fin 1024) : blk0 m c t (ix2 r d)
    = (m (c, main_arg0) : Vec F S32768x1024 .f32) (ix2 ⟨t.val * 512 + r.val, by have := point_lt t; omega⟩ d) := by
  refine (congrArg (V m c main_arg0) (funext fun a => Fin.ext ?_)).trans (congrFun (V_main_arg0 m c) _)
  match a with
  | ⟨0, h⟩ => exact (Window.rect_emb_val (cfg0.win 0) t _ ⟨0, h⟩).trans (congrArg (· * 512 + r.val) (congrFun (index_0 t) 0))
  | ⟨1, h⟩ => exact (Window.rect_emb_val (cfg0.win 0) t _ ⟨1, h⟩).trans ((congrArg (· * 1024 + d.val) (congrFun (index_0 t) 1)).trans (by show 0 * 1024 + d.val = d.val; omega))

theorem blk1_apply (r : Fin 512) (d : Fin 1024) : blk1 m c t (ix2 r d)
    = (m (c, main_arg1) : Vec F S32768x1024 .f32) (ix2 ⟨t.val * 512 + r.val, by have := point_lt t; omega⟩ d) := by
  refine (congrArg (V m c main_arg1) (funext fun a => Fin.ext ?_)).trans (congrFun (V_main_arg1 m c) _)
  match a with
  | ⟨0, h⟩ => exact (Window.rect_emb_val (cfg0.win 1) t _ ⟨0, h⟩).trans (congrArg (· * 512 + r.val) (congrFun (index_1 t) 0))
  | ⟨1, h⟩ => exact (Window.rect_emb_val (cfg0.win 1) t _ ⟨1, h⟩).trans ((congrArg (· * 1024 + d.val) (congrFun (index_1 t) 1)).trans (by show 0 * 1024 + d.val = d.val; omega))

theorem blk2_apply (d : Fin 1024) : blk2 m c t (ix3 0 0 d)
    = (m (c, main_arg2) : Vec F S8x1x1024 .f32) (ix3 ⟨t.val / 8, by have := point_lt t; omega⟩ 0 d) := by
  refine (congrArg (V m c main_arg2) (funext fun a => Fin.ext ?_)).trans (congrFun (V_main_arg2 m c) _)
  match a with
  | ⟨0, h⟩ => exact (Window.rect_emb_val (cfg0.win 2) t _ ⟨0, h⟩).trans ((congrArg (· * 1 + 0) (congrFun (index_2 t) 0)).trans (by show t.val / 8 * 1 + 0 = t.val / 8; omega))
  | ⟨1, h⟩ => exact (Window.rect_emb_val (cfg0.win 2) t _ ⟨1, h⟩).trans (congrArg (· * 1 + 0) (congrFun (index_2 t) 1))
  | ⟨2, h⟩ => exact (Window.rect_emb_val (cfg0.win 2) t _ ⟨2, h⟩).trans ((congrArg (· * 1024 + d.val) (congrFun (index_2 t) 2)).trans (by show 0 * 1024 + d.val = d.val; omega))

theorem blk3_apply (d : Fin 1024) : blk3 m c t (ix2 0 d) = (m (c, main_arg3) : Vec F S1024 .f32) (ix1 d) := by
  refine (congrArg (V m c main_v0) (funext fun a => Fin.ext ?_)).trans ((congrFun (V_v0 m c) (ix2 0 d : S1x1024.Idx)).trans (by pointwise))
  match a with
  | ⟨0, h⟩ => exact Window.rect_emb_val (cfg0.win 3) t _ ⟨0, h⟩
  | ⟨1, h⟩ => exact (Window.rect_emb_val (cfg0.win 3) t _ ⟨1, h⟩).trans (by show 0 * 1024 + d.val = d.val; omega)

theorem blk4_apply (d : Fin 1024) : blk4 m c t (ix2 0 d) = (m (c, main_arg4) : Vec F S1024 .f32) (ix1 d) := by
  refine (congrArg (V m c main_v1) (funext fun a => Fin.ext ?_)).trans ((congrFun (V_v1 m c) (ix2 0 d : S1x1024.Idx)).trans (by pointwise))
  match a with
  | ⟨0, h⟩ => exact Window.rect_emb_val (cfg0.win 4) t _ ⟨0, h⟩
  | ⟨1, h⟩ => exact (Window.rect_emb_val (cfg0.win 4) t _ ⟨1, h⟩).trans (by show 0 * 1024 + d.val = d.val; omega)

/-- A point's stores are the tail's value of its staged blocks. -/
theorem out_eq (x0 x1 : Vec F S512x1024 .f32) (x2 : Vec F S1x1x1024 .f32) (x3 x4 : Vec F S1x1024 .f32) : out0_5 x0 x1 x2 x3 x4 = k0_pay1 x0 x1 x2 x3 x4 := by
  unfold out0_5 r0_0 r0_1 r0_2
  rw [View.canon_cons_unit_lit _ _ _ (by decide), View.ld_unit_lit _ x0 (by decide), View.ld_unit_lit _ x1 (by decide), View.ld_unit_lit _ x2 (by decide),
    View.ld_unit_lit _ x3 (by decide), View.ld_unit_lit _ x4 (by decide)]

/-- The result's row `r` of block `t` is what point `t` leaves there. -/
theorem result_apply (r : Fin 512) (d : Fin 1024) :
    ((dats m 0 c).arrAt 5 cfg0.N : Vec F S32768x1024 .f32) (ix2 ⟨t.val * 512 + r.val, by have := point_lt t; omega⟩ d)
      = k0_pay1 (blk0 m c t) (blk1 m c t) (blk2 m c t) (blk3 m c t) (blk4 m c t) (ix2 r d) := by
  have h := (dats m 0 c).arrAt_emb_eq_flushed 5 Value.disjoint5 t (flush0_5 t) (ix2 r d)
  have hi : ((cfg0.win 5).blk t).view.emb (ix2 r d) = (ix2 ⟨t.val * 512 + r.val, by have := point_lt t; omega⟩ d : S32768x1024.Idx) := by
    refine funext fun a => Fin.ext ?_
    match a with
    | ⟨0, h⟩ => exact (Window.rect_emb_val (cfg0.win 5) _ _ ⟨0, h⟩).trans (congrArg (· * 512 + r.val) (congrFun (index_5 t) 0))
    | ⟨1, h⟩ => exact (Window.rect_emb_val (cfg0.win 5) _ _ ⟨1, h⟩).trans ((congrArg (· * 1024 + d.val) (congrFun (index_5 t) 1)).trans (by show 0 * 1024 + d.val = d.val; omega))
  rw [hi] at h
  exact h.trans ((congrFun (Value.flushed5 m c t) (ix2 r d)).trans (congrFun (out_eq _ _ _ _ _) (ix2 r d)))

end

end Cert.Proof.Tail

end
-- ==== Proof.TailAlgebraic.lean ====
/-
  The claims of the layer's tail: arguments unchanged and counters at zero, and, over the extended reals, the program's and
  the reference's result the same.
-/
module

public import proofs.«01_k».proof.Defs
public import proofs.«01_k».proof.Proof.TailRef
public import proofs.«01_k».proof.Proof.TailValue
public import proofs.«01_k».proof.Proof.Gen.Kernel2.Frame

@[expose] public section

set_option maxRecDepth 16384

noncomputable section

namespace Cert.Proof.Tail

open Cert.Kernel2Ideal Cert.Kernel2Ideal.Gen Idealize.ShloMosaic Idealize.ShloMosaic.TcCoe Idealize.SL.Sem

theorem frame_kernel : Cert.quiescent_Kernel2 (hKernel2 := Cert.Kernel2.Gen.facts) := fun m ρ _ => Cert.Kernel2.Gen.frame m ρ

theorem frame_ideal : Cert.quiescent_Kernel2Ideal (hKernel2Ideal := Cert.Kernel2Ideal.Gen.facts) := fun m ρ _ => Cert.Kernel2Ideal.Gen.frame m ρ

theorem frame_reference : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩) (Cert.Reference2Ideal.Value.run m ρ)

/-- The result's array is the tail of the arguments, at every index. -/
theorem result_eq (m : (ℓ : Loc nD τ sig) → Buf (Elt Ideal) ℓ) (c : Dev nD) (e : Fin 8) (q : Fin 4096) (d : Fin 1024) :
    ((dats m 0 c).arrAt 5 cfg0.N : Vec Ideal S32768x1024 .f32) (ix2 ⟨e.val * 4096 + q.val, by omega⟩ d)
      = tail (m (c, main_arg0)) (m (c, main_arg1)) (m (c, main_arg2)) (m (c, main_arg3)) (m (c, main_arg4)) e q d := by
  have hn : 8 * e.val + q.val / 512 < grid0.N := by rw [points]; omega
  have h := result_apply m c ⟨8 * e.val + q.val / 512, hn⟩ ⟨q.val % 512, Nat.mod_lt _ (by decide)⟩ d
  have row : ∀ p, (⟨(8 * e.val + q.val / 512) * 512 + q.val % 512, p⟩ : Fin 32768) = ⟨e.val * 4096 + q.val, by omega⟩ := fun p => Fin.ext (by show (8 * e.val + q.val / 512) * 512 + q.val % 512 = e.val * 4096 + q.val; omega)
  have seq : ∀ p, (⟨(8 * e.val + q.val / 512) / 8, p⟩ : Fin 8) = e := fun p => Fin.ext (by show (8 * e.val + q.val / 512) / 8 = e.val; omega)
  rw [row] at h
  refine h.trans ((tail_apply _ _ _ _ _ _ d).trans ?_)
  unfold tail
  simp only [blk0_apply, blk1_apply, blk2_apply, blk3_apply, blk4_apply, row, seq]

theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => (dats m 0 c).arrAt 5 cfg0.N, Value.run_blocks m g, ?_⟩
  refine (θ_run Cert.Reference2Ideal.defs _ _).mono (fun r h c => ⟨(h c).1.trans ?_, (h c).2⟩) (Cert.Reference2Ideal.Value.run m' g')
  obtain ⟨e0, e1, e2, e3, e4⟩ := hargs c
  refine funext fun (j : S32768x1024.Idx) => ?_
  have hj : j = ix2 ⟨(j 0).val / 4096 * 4096 + (j 0).val % 4096, by have : (j 0).val < 32768 := (j 0).isLt; omega⟩ (j 1) := by
    refine funext fun a => Fin.ext ?_
    match a with
    | ⟨0, _⟩ => show (j 0).val = (j 0).val / 4096 * 4096 + (j 0).val % 4096; omega
    | ⟨1, _⟩ => rfl
  have lt : (j 0).val < 32768 := (j 0).isLt
  rw [hj]
  refine (reference_apply m' c ⟨(j 0).val / 4096, by omega⟩ ⟨(j 0).val % 4096, by omega⟩ (j 1)).trans ?_
  rw [e0, e1, e2, e3, e4]
  exact (result_eq m c ⟨(j 0).val / 4096, by omega⟩ ⟨(j 0).val % 4096, by omega⟩ (j 1)).symm

end Cert.Proof.Tail

end
-- ==== Proof.Dense.lean ====
/-
  The dense feed-forward of one row, over the extended reals, as one sum over the hidden columns and as the two halves the
  kernel adds.
-/
module

public import proofs.«01_k».proof.Proof.Expert

@[expose] public section

noncomputable section

namespace Cert.Proof.Dense

open Idealize.ShloMosaic

/-- The feed-forward of one row, at one column: `w2` is that column of the second matrix. -/
def dense (x : Fin 1024 → EReal) (w13 : Fin 1024 → Fin 5632 → EReal) (w2 : Fin 2816 → EReal) : EReal :=
  ∑ j : Fin 2816, hidden x (fun k => w13 k ⟨j.val, by omega⟩) (fun k => w13 k ⟨2816 + j.val, by omega⟩) * w2 j

/-- The part of it from half `f` of the hidden columns. -/
def half (x : Fin 1024 → EReal) (w13 : Fin 1024 → Fin 5632 → EReal) (w2 : Fin 2816 → EReal) (f : Fin 2) : EReal :=
  ∑ j : Fin 1408, hidden x (fun k => w13 k ⟨f.val * 1408 + j.val, by omega⟩) (fun k => w13 k ⟨(2 + f.val) * 1408 + j.val, by omega⟩)
    * w2 ⟨f.val * 1408 + j.val, by omega⟩

/-- The two halves add up to it. -/
theorem halves (x : Fin 1024 → EReal) (w13 : Fin 1024 → Fin 5632 → EReal) (w2 : Fin 2816 → EReal) :
    0 + half x w13 w2 0 + half x w13 w2 1 = dense x w13 w2 := by
  have split : ∀ F : Fin 2816 → EReal, ∑ j, F j = (∑ j : Fin 1408, F ⟨j.val, by omega⟩) + ∑ j : Fin 1408, F ⟨1408 + j.val, by omega⟩ := fun F =>
    Fin.sum_univ_add (a := 1408) (b := 1408) (f := F)
  rw [zero_add, dense, split]
  refine congrArg₂ (· + ·) (Finset.sum_congr rfl fun j _ => ?_) (Finset.sum_congr rfl fun j _ => ?_)
  · have e1 : (⟨(0 : Fin 2).val * 1408 + j.val, by omega⟩ : Fin 2816) = ⟨j.val, by omega⟩ := Fin.ext (by simp)
    have e2 : (⟨(0 : Fin 2).val * 1408 + j.val, by omega⟩ : Fin 5632) = ⟨j.val, by omega⟩ := Fin.ext (by simp)
    rw [e1, e2]
    rfl
  · have e3 : (⟨(2 + (1 : Fin 2).val) * 1408 + j.val, by omega⟩ : Fin 5632) = ⟨2816 + (1408 + j.val), by omega⟩ := Fin.ext (by simp; omega)
    rw [e3]
    rfl

end Cert.Proof.Dense

end
-- ==== Proof.DenseRef.lean ====
/-
  The reference of the dense feed-forward with its tail: its two results at an index, over the extended reals.
-/
module

public import proofs.«01_k».proof.Proof.Dense
public import proofs.«01_k».proof.Proof.TailRef
public import proofs.«01_k».proof.Proof.Gen.Reference3Ideal.Run

@[expose] public section

set_option maxRecDepth 16384

noncomputable section

namespace Cert.Proof.Dense

open Cert.Reference3Ideal Cert.Reference3Ideal.Gen Idealize.ShloMosaic Idealize.ShloMosaic.TcCoe Idealize.SL.Sem
open Cert.Proof.Tail (refMix refNorm refMix_apply refNorm_apply flat_apply)

variable {F : FTy → Type} [FloatOps F]

/-- The first product. -/
def refWide (u : FVec F S32768x1024 .bf16) (w13 : FVec F S1024x5632 .f32) : FVec F S32768x5632 .f32 :=
  Host.dotGeneral dot_S32768x1024_S1024x5632_S32768x5632_1_0_0_1_n_n none (extf .f32 u bitsLt_bf16_f32) w13

/-- The gate's half of it. -/
def refGate (u : FVec F S32768x1024 .bf16) (w13 : FVec F S1024x5632 .f32) : FVec F S32768x2816 .f32 :=
  extractStridedSlice S32768x2816 ![0, 0] (refWide u w13) slices_S32768x5632_S32768x2816_0_0

/-- The hidden values. -/
def refHidden (u : FVec F S32768x1024 .bf16) (w13 : FVec F S1024x5632 .f32) : FVec F S32768x2816 .f32 :=
  mulf (mulf (refGate u w13) (Host.divf (broadcastInDim S32768x2816 ![] bcast_S_S32768x2816 (constant S_ .f32 0x3F800000#32))
      (addf (broadcastInDim S32768x2816 ![] bcast_S_S32768x2816 (constant S_ .f32 0x3F800000#32)) (Host.exp (Host.negf (refGate u w13))))))
    (extractStridedSlice S32768x2816 ![0, 2816] (refWide u w13) slices_S32768x5632_S32768x2816_0_2816)

/-- The reference's feed-forward. -/
def refDense (u : FVec F S32768x1024 .bf16) (w13 : FVec F S1024x5632 .f32) (w2 : FVec F S2816x1024 .f32) : FVec F S32768x1024 .f32 :=
  Host.dotGeneral dot_S32768x2816_S2816x1024_S32768x1024_1_0_0_1_n_n none (refHidden u w13) w2

/-- The reference's modulation. -/
def refShift (x : FVec F S8x4096x1024 .f32) (scale shift : FVec F S8x1x1024 .f32) : FVec F S8x4096x1024 .f32 :=
  addf (mulf x (broadcastInDim S8x4096x1024 ![0, 1, 2] bcast_S8x1x1024_S8x4096x1024_0_1_2
      (addf (broadcastInDim S8x1x1024 ![] bcast_S_S8x1x1024 (constant S_ .f32 0x3F800000#32)) scale)))
    (broadcastInDim S8x4096x1024 ![0, 1, 2] bcast_S8x1x1024_S8x4096x1024_0_1_2 shift)

theorem refDense_apply (u : FVec Ideal S32768x1024 .bf16) (w13 : FVec Ideal S1024x5632 .f32) (w2 : FVec Ideal S2816x1024 .f32) (r : Fin 32768) (d : Fin 1024) :
    refDense (F := Ideal) u w13 w2 (ix2 r d) = dense (fun k => u (ix2 r k)) (fun k j => w13 (ix2 k j)) (fun j => w2 (ix2 j d)) := by
  unfold dense hidden Ideal.logistic
  pointwise [refDense, refHidden, refGate, refWide]

theorem refShift_apply (x : FVec Ideal S8x4096x1024 .f32) (scale shift : FVec Ideal S8x1x1024 .f32) (e : Fin 8) (q : Fin 4096) (d : Fin 1024) :
    refShift (F := Ideal) x scale shift (ix3 e q d) = x (ix3 e q d) * (1 + scale (ix3 e 0 d)) + shift (ix3 e 0 d) := by
  pointwise [refShift]

/-- The rows of an array of eight sequences, in the order of the flat array, in the narrow format. -/
theorem narrow_apply (x : FVec Ideal S8x4096x1024 .bf16) (e : Fin 8) (q : Fin 4096) (d : Fin 1024) :
    shapeCast S32768x1024 x shapeCasts_S8x4096x1024_S32768x1024 (ix2 ⟨e.val * 4096 + q.val, by omega⟩ d) = x (ix3 e q d) := by
  pointwise

section

variable (m : (ℓ : Loc nD τ sig) → Buf (Elt Ideal) ℓ) (c : Dev nD)

/-- The normed stream, of the program's arguments. -/
def refStream : FVec Ideal S8x4096x1024 .f32 :=
  refNorm (F := Ideal) (refMix (m ((c.tc : Thread nD τ).loc main_arg3)) (m ((c.tc : Thread nD τ).loc main_arg4))
      (refDense (m ((c.tc : Thread nD τ).loc main_arg0)) (m ((c.tc : Thread nD τ).loc main_arg1)) (m ((c.tc : Thread nD τ).loc main_arg2))))
    (m ((c.tc : Thread nD τ).loc main_arg5)) (m ((c.tc : Thread nD τ).loc main_arg6))

theorem first_eq : Value.res_out0 m c = shapeCast S32768x1024 (refStream m c) shapeCasts_S8x4096x1024_S32768x1024 := rfl

theorem second_eq : Value.res_out1 m c = shapeCast S32768x1024
    (truncf .bf16 (refShift (F := Ideal) (refStream m c) (m ((c.tc : Thread nD τ).loc main_arg7)) (m ((c.tc : Thread nD τ).loc main_arg8))) bitsLt_bf16_f32)
    shapeCasts_S8x4096x1024_S32768x1024 := rfl

end

/-- What the feed-forward and its tail make of their arguments, at a row of a sequence and a column. -/
def stream (u h : Fin 1024 → EReal) (w13 : Fin 1024 → Fin 5632 → EReal) (w2 : Fin 2816 → Fin 1024 → EReal) (gate g b : Fin 1024 → EReal) (d : Fin 1024) : EReal :=
  rowNorm (rowMix h gate (fun k => dense u w13 (fun j => w2 j k))) g b d

section

variable (m : (ℓ : Loc nD τ sig) → Buf (Elt Ideal) ℓ) (c : Dev nD) (e : Fin 8) (q : Fin 4096) (d : Fin 1024)

/-- The normed stream at a row of a sequence, of the program's arguments. -/
def refRow : EReal :=
  stream (fun k => (m ((c.tc : Thread nD τ).loc main_arg0) : FVec Ideal S32768x1024 .bf16) (ix2 ⟨e.val * 4096 + q.val, by omega⟩ k))
    (fun k => (m ((c.tc : Thread nD τ).loc main_arg3) : FVec Ideal S32768x1024 .f32) (ix2 ⟨e.val * 4096 + q.val, by omega⟩ k))
    (fun k j => (m ((c.tc : Thread nD τ).loc main_arg1) : FVec Ideal S1024x5632 .f32) (ix2 k j))
    (fun j k => (m ((c.tc : Thread nD τ).loc main_arg2) : FVec Ideal S2816x1024 .f32) (ix2 j k))
    (fun k => (m ((c.tc : Thread nD τ).loc main_arg4) : FVec Ideal S8x1x1024 .f32) (ix3 e 0 k))
    (fun k => (m ((c.tc : Thread nD τ).loc main_arg5) : FVec Ideal S1024 .f32) (ix1 k))
    (fun k => (m ((c.tc : Thread nD τ).loc main_arg6) : FVec Ideal S1024 .f32) (ix1 k)) d

theorem refStream_apply : refStream m c (ix3 e q d) = refRow m c e q d := by
  unfold refStream refRow stream
  refine (refNorm_apply _ _ _ e q d).trans (congrArg (fun p => rowNorm p _ _ d) (funext fun k => (refMix_apply _ _ _ e q k).trans ?_))
  exact congrArg (fun p => rowMix _ _ p k) (funext fun l => refDense_apply _ _ _ _ l)

theorem first_apply : Value.res_out0 m c (ix2 ⟨e.val * 4096 + q.val, by omega⟩ d : S32768x1024.Idx) = refRow m c e q d := by
  rw [first_eq]
  exact (flat_apply _ e q d).trans (refStream_apply m c e q d)

theorem second_apply : Value.res_out1 m c (ix2 ⟨e.val * 4096 + q.val, by omega⟩ d : S32768x1024.Idx)
    = refRow m c e q d * (1 + (m ((c.tc : Thread nD τ).loc main_arg7) : FVec Ideal S8x1x1024 .f32) (ix3 e 0 d))
      + (m ((c.tc : Thread nD τ).loc main_arg8) : FVec Ideal S8x1x1024 .f32) (ix3 e 0 d) := by
  rw [second_eq]
  refine (narrow_apply _ e q d).trans ((refShift_apply _ _ _ e q d).trans ?_)
  rw [refStream_apply]

end

end Cert.Proof.Dense

end
-- ==== Proof.DenseBlocks.lean ====
/-
  The dense feed-forward's program: what each grid point stores, at an index, and so what the results' arrays end with.
-/
module

public import proofs.«01_k».proof.Proof.Norm
public import proofs.«01_k».proof.Proof.Dense
public import proofs.«01_k».proof.Proof.Gen.Kernel3Ideal.Value
public import Idealize.ShloMosaic.Lib.Pipeline.ValueKit.Acc

@[expose] public section

set_option maxRecDepth 16384

noncomputable section

namespace Cert.Proof.Dense

open Cert.Kernel3Ideal Cert.Kernel3Ideal.Gen Idealize.ShloMosaic Idealize.ShloMosaic.TcCoe Idealize.SL.Sem
open Idealize.ShloMosaic.Pipeline (Dat Window)

theorem zero_apply (r : Fin 512) (d : Fin 1024) : k0_pay1 (F := Ideal) (ix2 r d) = 0 := by
  pointwise [k0_pay1]

theorem step_apply (u : Vec Ideal S512x1024 .bf16) (wg wu : Vec Ideal S1024x1408 .bf16) (acc : Vec Ideal S512x1024 .f32) (w2 : Vec Ideal S1408x1024 .bf16)
    (r : Fin 512) (d : Fin 1024) : k0_pay2 u wg wu acc w2 (ix2 r d)
      = acc (ix2 r d) + ∑ j : Fin 1408, hidden (fun k => u (ix2 r k)) (fun k => wg (ix2 k j)) (fun k => wu (ix2 k j)) * w2 (ix2 j d) := by
  unfold hidden
  pointwise [k0_pay2]

theorem norm_apply (y h : Vec Ideal S512x1024 .f32) (gate : Vec Ideal S1x1x1024 .f32) (g b : Vec Ideal S1x1024 .f32) (r : Fin 512) (d : Fin 1024) :
    k0_pay4 y h gate g b (ix2 r d)
      = rowNorm (rowMix (fun k => h (ix2 r k)) (fun k => gate (ix3 0 0 k)) (fun k => y (ix2 r k))) (fun k => g (ix2 0 k)) (fun k => b (ix2 0 k)) d := by
  unfold rowNorm rowMean rowMix
  pointwise [k0_pay4]

theorem shift_apply (x : Vec Ideal S512x1024 .f32) (scale shift : Vec Ideal S1x1x1024 .f32) (r : Fin 512) (d : Fin 1024) :
    k0_pay3 x (k0_pay5 scale) (Scalar.ofBits .f32 0x3F800000#32) shift (ix2 r d) = x (ix2 r d) * (1 + scale (ix3 0 0 d)) + shift (ix3 0 0 d) := by
  pointwise [k0_pay3, k0_pay5]

theorem index_0 : ∀ t : Fin grid0.N, cc0_transform_0 (grid0.coords t) = ![t.val / 2, 0] := by decide +kernel
theorem index_1 : ∀ t : Fin grid0.N, cc0_transform_1 (grid0.coords t) = ![0, t.val % 2] := by decide +kernel
theorem index_2 : ∀ t : Fin grid0.N, cc0_transform_2 (grid0.coords t) = ![0, 2 + t.val % 2] := by decide +kernel
theorem index_3 : ∀ t : Fin grid0.N, cc0_transform_3 (grid0.coords t) = ![t.val % 2, 0] := by decide +kernel
theorem index_4 : ∀ t : Fin grid0.N, cc0_transform_4 (grid0.coords t) = ![t.val / 2, 0] := by decide +kernel
theorem index_5 : ∀ t : Fin grid0.N, cc0_transform_5 (grid0.coords t) = ![t.val / 16, 0, 0] := by decide +kernel
theorem index_8 : ∀ t : Fin grid0.N, cc0_transform_8 (grid0.coords t) = ![t.val / 16, 0, 0] := by decide +kernel
theorem index_9 : ∀ t : Fin grid0.N, cc0_transform_9 (grid0.coords t) = ![t.val / 16, 0, 0] := by decide +kernel
theorem index_10 : ∀ t : Fin grid0.N, cc0_transform_10 (grid0.coords t) = ![t.val / 2, 0] := by decide +kernel
theorem index_11 : ∀ t : Fin grid0.N, cc0_transform_11 (grid0.coords t) = ![t.val / 2, 0] := by decide +kernel

theorem points : grid0.N = 128 := N_0
theorem point_lt (t : Fin grid0.N) : t.val < 128 := points ▸ t.isLt

section

variable {F : FTy → Type} [FloatOps F]
variable (m : (ℓ : Loc nD τ sig) → Buf (Elt F) ℓ) (c : Dev nD) (t : Fin grid0.N)

theorem V_v0 : V m c main_v0 = truncf .bf16 (m (c, main_arg1) : Vec F S1024x5632 .f32) bitsLt_bf16_f32 := by
  unfold V hostOps0; after_results
theorem V_v1 : V m c main_v1 = truncf .bf16 (m (c, main_arg2) : Vec F S2816x1024 .f32) bitsLt_bf16_f32 := by
  unfold V hostOps0; after_results
theorem V_v2 : V m c main_v2 = shapeCast S1x1024 (m (c, main_arg5) : Vec F S1024 .f32) shapeCasts_S1024_S1x1024 := by
  unfold V hostOps0; after_results; rfl
theorem V_v3 : V m c main_v3 = shapeCast S1x1024 (m (c, main_arg6) : Vec F S1024 .f32) shapeCasts_S1024_S1x1024 := by
  unfold V hostOps0; after_results; rfl

/-- The rows of the branch's input a point stages. -/
abbrev blk0 : Vec F S512x1024 .bf16 := iblk m c 0 t
/-- The gate's columns of a point's half of the first matrix. -/
abbrev blk1 : Vec F S1024x1408 .bf16 := iblk m c 1 t
/-- The other columns of that half. -/
abbrev blk2 : Vec F S1024x1408 .bf16 := iblk m c 2 t
/-- The rows of the second matrix that half meets. -/
abbrev blk3 : Vec F S1408x1024 .bf16 := iblk m c 3 t
/-- The rows of the stream a point stages. -/
abbrev blk4 : Vec F S512x1024 .f32 := iblk m c 4 t
/-- The gate of a point's sequence. -/
abbrev blk5 : Vec F S1x1x1024 .f32 := iblk m c 5 t
/-- The norm's scale. -/
abbrev blk6 : Vec F S1x1024 .f32 := iblk m c 6 t
/-- The norm's shift. -/
abbrev blk7 : Vec F S1x1024 .f32 := iblk m c 7 t
/-- The modulation's scale of a point's sequence. -/
abbrev blk8 : Vec F S1x1x1024 .f32 := iblk m c 8 t
/-- The modulation's shift of a point's sequence. -/
abbrev blk9 : Vec F S1x1x1024 .f32 := iblk m c 9 t

theorem blk0_apply (r : Fin 512) (d : Fin 1024) : blk0 m c t (ix2 r d)
    = (m (c, main_arg0) : Vec F S32768x1024 .bf16) (ix2 ⟨t.val / 2 * 512 + r.val, by have := point_lt t; omega⟩ d) := by
  refine (congrArg (V m c main_arg0) (funext fun a => Fin.ext ?_)).trans (congrFun (V_main_arg0 m c) _)
  match a with
  | ⟨0, h⟩ => exact (Window.rect_emb_val (cfg0.win 0) t _ ⟨0, h⟩).trans (congrArg (· * 512 + r.val) (congrFun (index_0 t) 0))
  | ⟨1, h⟩ => exact (Window.rect_emb_val (cfg0.win 0) t _ ⟨1, h⟩).trans ((congrArg (· * 1024 + d.val) (congrFun (index_0 t) 1)).trans (by show 0 * 1024 + d.val = d.val; omega))

theorem blk4_apply (r : Fin 512) (d : Fin 1024) : blk4 m c t (ix2 r d)
    = (m (c, main_arg3) : Vec F S32768x1024 .f32) (ix2 ⟨t.val / 2 * 512 + r.val, by have := point_lt t; omega⟩ d) := by
  refine (congrArg (V m c main_arg3) (funext fun a => Fin.ext ?_)).trans (congrFun (V_main_arg3 m c) _)
  match a with
  | ⟨0, h⟩ => exact (Window.rect_emb_val (cfg0.win 4) t _ ⟨0, h⟩).trans (congrArg (· * 512 + r.val) (congrFun (index_4 t) 0))
  | ⟨1, h⟩ => exact (Window.rect_emb_val (cfg0.win 4) t _ ⟨1, h⟩).trans ((congrArg (· * 1024 + d.val) (congrFun (index_4 t) 1)).trans (by show 0 * 1024 + d.val = d.val; omega))

theorem blk5_apply (d : Fin 1024) : blk5 m c t (ix3 0 0 d)
    = (m (c, main_arg4) : Vec F S8x1x1024 .f32) (ix3 ⟨t.val / 16, by have := point_lt t; omega⟩ 0 d) := by
  refine (congrArg (V m c main_arg4) (funext fun a => Fin.ext ?_)).trans (congrFun (V_main_arg4 m c) _)
  match a with
  | ⟨0, h⟩ => exact (Window.rect_emb_val (cfg0.win 5) t _ ⟨0, h⟩).trans ((congrArg (· * 1 + 0) (congrFun (index_5 t) 0)).trans (by show t.val / 16 * 1 + 0 = t.val / 16; omega))
  | ⟨1, h⟩ => exact (Window.rect_emb_val (cfg0.win 5) t _ ⟨1, h⟩).trans (congrArg (· * 1 + 0) (congrFun (index_5 t) 1))
  | ⟨2, h⟩ => exact (Window.rect_emb_val (cfg0.win 5) t _ ⟨2, h⟩).trans ((congrArg (· * 1024 + d.val) (congrFun (index_5 t) 2)).trans (by show 0 * 1024 + d.val = d.val; omega))

theorem blk8_apply (d : Fin 1024) : blk8 m c t (ix3 0 0 d)
    = (m (c, main_arg7) : Vec F S8x1x1024 .f32) (ix3 ⟨t.val / 16, by have := point_lt t; omega⟩ 0 d) := by
  refine (congrArg (V m c main_arg7) (funext fun a => Fin.ext ?_)).trans (congrFun (V_main_arg7 m c) _)
  match a with
  | ⟨0, h⟩ => exact (Window.rect_emb_val (cfg0.win 8) t _ ⟨0, h⟩).trans ((congrArg (· * 1 + 0) (congrFun (index_8 t) 0)).trans (by show t.val / 16 * 1 + 0 = t.val / 16; omega))
  | ⟨1, h⟩ => exact (Window.rect_emb_val (cfg0.win 8) t _ ⟨1, h⟩).trans (congrArg (· * 1 + 0) (congrFun (index_8 t) 1))
  | ⟨2, h⟩ => exact (Window.rect_emb_val (cfg0.win 8) t _ ⟨2, h⟩).trans ((congrArg (· * 1024 + d.val) (congrFun (index_8 t) 2)).trans (by show 0 * 1024 + d.val = d.val; omega))

theorem blk9_apply (d : Fin 1024) : blk9 m c t (ix3 0 0 d)
    = (m (c, main_arg8) : Vec F S8x1x1024 .f32) (ix3 ⟨t.val / 16, by have := point_lt t; omega⟩ 0 d) := by
  refine (congrArg (V m c main_arg8) (funext fun a => Fin.ext ?_)).trans (congrFun (V_main_arg8 m c) _)
  match a with
  | ⟨0, h⟩ => exact (Window.rect_emb_val (cfg0.win 9) t _ ⟨0, h⟩).trans ((congrArg (· * 1 + 0) (congrFun (index_9 t) 0)).trans (by show t.val / 16 * 1 + 0 = t.val / 16; omega))
  | ⟨1, h⟩ => exact (Window.rect_emb_val (cfg0.win 9) t _ ⟨1, h⟩).trans (congrArg (· * 1 + 0) (congrFun (index_9 t) 1))
  | ⟨2, h⟩ => exact (Window.rect_emb_val (cfg0.win 9) t _ ⟨2, h⟩).trans ((congrArg (· * 1024 + d.val) (congrFun (index_9 t) 2)).trans (by show 0 * 1024 + d.val = d.val; omega))

theorem blk6_apply (d : Fin 1024) : blk6 m c t (ix2 0 d) = (m (c, main_arg5) : Vec F S1024 .f32) (ix1 d) := by
  refine (congrArg (V m c main_v2) (funext fun a => Fin.ext ?_)).trans ((congrFun (V_v2 m c) (ix2 0 d : S1x1024.Idx)).trans (by pointwise))
  match a with
  | ⟨0, h⟩ => exact Window.rect_emb_val (cfg0.win 6) t _ ⟨0, h⟩
  | ⟨1, h⟩ => exact (Window.rect_emb_val (cfg0.win 6) t _ ⟨1, h⟩).trans (by show 0 * 1024 + d.val = d.val; omega)

theorem blk7_apply (d : Fin 1024) : blk7 m c t (ix2 0 d) = (m (c, main_arg6) : Vec F S1024 .f32) (ix1 d) := by
  refine (congrArg (V m c main_v3) (funext fun a => Fin.ext ?_)).trans ((congrFun (V_v3 m c) (ix2 0 d : S1x1024.Idx)).trans (by pointwise))
  match a with
  | ⟨0, h⟩ => exact Window.rect_emb_val (cfg0.win 7) t _ ⟨0, h⟩
  | ⟨1, h⟩ => exact (Window.rect_emb_val (cfg0.win 7) t _ ⟨1, h⟩).trans (by show 0 * 1024 + d.val = d.val; omega)

end

section

variable (m : (ℓ : Loc nD τ sig) → Buf (Elt Ideal) ℓ) (c : Dev nD) (t : Fin grid0.N)

theorem blk1_apply (k : Fin 1024) (j : Fin 1408) : blk1 m c t (ix2 k j)
    = (m (c, main_arg1) : Vec Ideal S1024x5632 .f32) (ix2 k ⟨t.val % 2 * 1408 + j.val, by omega⟩) := by
  refine (congrArg (V m c main_v0) (funext fun a => Fin.ext ?_)).trans (congrFun (V_v0 m c) (ix2 k ⟨t.val % 2 * 1408 + j.val, by omega⟩ : S1024x5632.Idx))
  match a with
  | ⟨0, h⟩ => exact (Window.rect_emb_val (cfg0.win 1) t _ ⟨0, h⟩).trans ((congrArg (· * 1024 + k.val) (congrFun (index_1 t) 0)).trans (by show 0 * 1024 + k.val = k.val; omega))
  | ⟨1, h⟩ => exact (Window.rect_emb_val (cfg0.win 1) t _ ⟨1, h⟩).trans (congrArg (· * 1408 + j.val) (congrFun (index_1 t) 1))

theorem blk2_apply (k : Fin 1024) (j : Fin 1408) : blk2 m c t (ix2 k j)
    = (m (c, main_arg1) : Vec Ideal S1024x5632 .f32) (ix2 k ⟨(2 + t.val % 2) * 1408 + j.val, by omega⟩) := by
  refine (congrArg (V m c main_v0) (funext fun a => Fin.ext ?_)).trans (congrFun (V_v0 m c) (ix2 k ⟨(2 + t.val % 2) * 1408 + j.val, by omega⟩ : S1024x5632.Idx))
  match a with
  | ⟨0, h⟩ => exact (Window.rect_emb_val (cfg0.win 2) t _ ⟨0, h⟩).trans ((congrArg (· * 1024 + k.val) (congrFun (index_2 t) 0)).trans (by show 0 * 1024 + k.val = k.val; omega))
  | ⟨1, h⟩ => exact (Window.rect_emb_val (cfg0.win 2) t _ ⟨1, h⟩).trans (congrArg (· * 1408 + j.val) (congrFun (index_2 t) 1))

theorem blk3_apply (j : Fin 1408) (d : Fin 1024) : blk3 m c t (ix2 j d)
    = (m (c, main_arg2) : Vec Ideal S2816x1024 .f32) (ix2 ⟨t.val % 2 * 1408 + j.val, by omega⟩ d) := by
  refine (congrArg (V m c main_v1) (funext fun a => Fin.ext ?_)).trans (congrFun (V_v1 m c) (ix2 ⟨t.val % 2 * 1408 + j.val, by omega⟩ d : S2816x1024.Idx))
  match a with
  | ⟨0, h⟩ => exact (Window.rect_emb_val (cfg0.win 3) t _ ⟨0, h⟩).trans (congrArg (· * 1408 + j.val) (congrFun (index_3 t) 0))
  | ⟨1, h⟩ => exact (Window.rect_emb_val (cfg0.win 3) t _ ⟨1, h⟩).trans ((congrArg (· * 1024 + d.val) (congrFun (index_3 t) 1)).trans (by show 0 * 1024 + d.val = d.val; omega))

end

end Cert.Proof.Dense

end
-- ==== Proof.DenseValue.lean ====
/-
  The dense feed-forward's program: what the sum kept between the two points of a block of rows holds, and what the second
  of them leaves in each result.
-/
module

public import proofs.«01_k».proof.Proof.DenseBlocks

@[expose] public section

set_option maxRecDepth 16384

noncomputable section

namespace Cert.Proof.Dense

open Cert.Kernel3Ideal Cert.Kernel3Ideal.Gen Idealize.ShloMosaic Idealize.ShloMosaic.TcCoe Idealize.SL.Sem
open Idealize.ShloMosaic.Pipeline (Dat Window)

section

variable {F : FTy → Type} [FloatOps F]
variable (m : (ℓ : Loc nD τ sig) → Buf (Elt F) ℓ) (c : Dev nD) (t : Fin grid0.N)

/-- The sum after a point, from what it was before. -/
def step (acc : Vec F S512x1024 .f32) : Vec F S512x1024 .f32 := k0_pay2 (blk0 m c t) (blk1 m c t) (blk2 m c t) acc (blk3 m c t)

/-- What a point writes of the first result, from the sum after it. -/
def normed (acc : Vec F S512x1024 .f32) : Vec F S512x1024 .f32 := k0_pay4 acc (blk4 m c t) (blk5 m c t) (blk6 m c t) (blk7 m c t)

/-- What it writes of the second. -/
def shifted (acc : Vec F S512x1024 .f32) : Vec F S512x1024 .bf16 :=
  k0_pay3 (normed m c t acc) (k0_pay5 (blk8 m c t)) (Scalar.ofBits .f32 0x3F800000#32) (blk9 m c t)

theorem sum_first (h0 : t.val % 2 = 0) (h1 : ¬t.val % 2 = 1) : (outsAt0 m c t.val t.isLt).2.2 = step m c t (k0_pay1 (F := F)) := by
  rw [outsAt0_A m c t h0 h1]
  frame_out
  rfl

theorem flushed_first (h0 : ¬t.val % 2 = 0) (h1 : t.val % 2 = 1) : (outsAt0 m c t.val t.isLt).1
    = normed m c t (step m c t (outsAt0 m c (t.val - 1) (Nat.lt_of_le_of_lt (Nat.sub_le _ _) t.isLt)).2.2) := by
  rw [outsAt0_B m c t h0 h1]
  frame_out
  exact congrArg (fun v => normed m c t (step m c t v)) ((Memref.isWhole_whole cc0_scratch0).read_unread _)

theorem flushed_second (h0 : ¬t.val % 2 = 0) (h1 : t.val % 2 = 1) : (outsAt0 m c t.val t.isLt).2.1
    = shifted m c t (step m c t (outsAt0 m c (t.val - 1) (Nat.lt_of_le_of_lt (Nat.sub_le _ _) t.isLt)).2.2) := by
  rw [outsAt0_B m c t h0 h1]
  frame_out
  exact congrArg (fun v => shifted m c t (step m c t v)) ((Memref.isWhole_whole cc0_scratch0).read_unread _)

/-- The point that ends block `b` of rows. -/
def last (b : Fin 64) : Fin grid0.N := ⟨2 * b.val + 1, by have := points; omega⟩

/-- Two points that write the first result back write different blocks of it. -/
theorem disjoint_10 (s t : Fin cfg0.N) (hs : (cfg0.win 10).flush s = true) (ht : (cfg0.win 10).flush t = true) (h : s ≠ t) :
    Disjoint ((cfg0.win 10).blk s).view.set ((cfg0.win 10).blk t).view.set := by
  refine Window.disjoint_blk _ fun e => h (Fin.ext ?_)
  have e0 : s.val / 2 = t.val / 2 :=
    (congrFun (index_10 s) 0).symm.trans ((congrFun (show cc0_transform_10 (grid0.coords s) = cc0_transform_10 (grid0.coords t) from e) 0).trans
      (congrFun (index_10 t) 0))
  have := (flush0_10 s).mp hs
  have := (flush0_10 t).mp ht
  omega

/-- The first result's row `r` of block `b` is what the block's second point leaves there. -/
theorem first_result_apply (b : Fin 64) (r : Fin 512) (d : Fin 1024) :
    ((dats m 0 c).arrAt 10 cfg0.N : Vec F S32768x1024 .f32) (ix2 ⟨b.val * 512 + r.val, by omega⟩ d)
      = (outsAt0 m c (last b).val (last b).isLt).1 (ix2 r d) := by
  have h := (dats m 0 c).arrAt_emb_eq_flushed 10 disjoint_10 (last b) ((flush0_10 _).mpr (by show (2 * b.val + 1) % 2 = 1; omega)) (ix2 r d)
  have hi : ((cfg0.win 10).blk (last b)).view.emb (ix2 r d) = (ix2 ⟨b.val * 512 + r.val, by omega⟩ d : S32768x1024.Idx) := by
    refine funext fun a => Fin.ext ?_
    match a with
    | ⟨0, h⟩ => exact (Window.rect_emb_val (cfg0.win 10) _ _ ⟨0, h⟩).trans ((congrArg (· * 512 + r.val) (congrFun (index_10 (last b)) 0)).trans
        (by show (2 * b.val + 1) / 2 * 512 + r.val = b.val * 512 + r.val; omega))
    | ⟨1, h⟩ => exact (Window.rect_emb_val (cfg0.win 10) _ _ ⟨1, h⟩).trans ((congrArg (· * 1024 + d.val) (congrFun (index_10 (last b)) 1)).trans
        (by show 0 * 1024 + d.val = d.val; omega))
  rw [hi] at h
  exact h.trans (congrFun (Value.flushed10 m c (last b)) (ix2 r d))

/-- Two points that write the second result back write different blocks of it. -/
theorem disjoint_11 (s t : Fin cfg0.N) (hs : (cfg0.win 11).flush s = true) (ht : (cfg0.win 11).flush t = true) (h : s ≠ t) :
    Disjoint ((cfg0.win 11).blk s).view.set ((cfg0.win 11).blk t).view.set := by
  refine Window.disjoint_blk _ fun e => h (Fin.ext ?_)
  have e0 : s.val / 2 = t.val / 2 :=
    (congrFun (index_11 s) 0).symm.trans ((congrFun (show cc0_transform_11 (grid0.coords s) = cc0_transform_11 (grid0.coords t) from e) 0).trans
      (congrFun (index_11 t) 0))
  have := (flush0_11 s).mp hs
  have := (flush0_11 t).mp ht
  omega

/-- The second result's row `r` of block `b` is what the block's second point leaves there. -/
theorem second_result_apply (b : Fin 64) (r : Fin 512) (d : Fin 1024) :
    ((dats m 0 c).arrAt 11 cfg0.N : Vec F S32768x1024 .bf16) (ix2 ⟨b.val * 512 + r.val, by omega⟩ d)
      = (outsAt0 m c (last b).val (last b).isLt).2.1 (ix2 r d) := by
  have h := (dats m 0 c).arrAt_emb_eq_flushed 11 disjoint_11 (last b) ((flush0_11 _).mpr (by show (2 * b.val + 1) % 2 = 1; omega)) (ix2 r d)
  have hi : ((cfg0.win 11).blk (last b)).view.emb (ix2 r d) = (ix2 ⟨b.val * 512 + r.val, by omega⟩ d : S32768x1024.Idx) := by
    refine funext fun a => Fin.ext ?_
    match a with
    | ⟨0, h⟩ => exact (Window.rect_emb_val (cfg0.win 11) _ _ ⟨0, h⟩).trans ((congrArg (· * 512 + r.val) (congrFun (index_11 (last b)) 0)).trans
        (by show (2 * b.val + 1) / 2 * 512 + r.val = b.val * 512 + r.val; omega))
    | ⟨1, h⟩ => exact (Window.rect_emb_val (cfg0.win 11) _ _ ⟨1, h⟩).trans ((congrArg (· * 1024 + d.val) (congrFun (index_11 (last b)) 1)).trans
        (by show 0 * 1024 + d.val = d.val; omega))
  rw [hi] at h
  exact h.trans (congrFun (Value.flushed11 m c (last b)) (ix2 r d))

/-- The point that starts block `b` of rows. -/
def start (b : Fin 64) : Fin grid0.N := ⟨2 * b.val, by have := points; omega⟩

/-- The sum over both halves, for a block of rows. -/
def total (b : Fin 64) : Vec F S512x1024 .f32 := step m c (last b) (step m c (start b) (k0_pay1 (F := F)))

theorem before_last (b : Fin 64) (h : (last b).val - 1 < cfg0.N) : (outsAt0 m c ((last b).val - 1) h).2.2 = step m c (start b) (k0_pay1 (F := F)) :=
  sum_first m c (start b) (by show 2 * b.val % 2 = 0; omega) (by show ¬2 * b.val % 2 = 1; omega)

theorem first_left (b : Fin 64) : (outsAt0 m c (last b).val (last b).isLt).1 = normed m c (last b) (total m c b) := by
  rw [flushed_first m c (last b) (by show ¬(2 * b.val + 1) % 2 = 0; omega) (by show (2 * b.val + 1) % 2 = 1; omega), before_last]
  rfl

theorem second_left (b : Fin 64) : (outsAt0 m c (last b).val (last b).isLt).2.1 = shifted m c (last b) (total m c b) := by
  rw [flushed_second m c (last b) (by show ¬(2 * b.val + 1) % 2 = 0; omega) (by show (2 * b.val + 1) % 2 = 1; omega), before_last]
  rfl

end

end Cert.Proof.Dense

end
-- ==== Proof.DenseAlgebraic.lean ====
/-
  The claims of the dense feed-forward with its tail: arguments unchanged and counters at zero, and, over the extended reals,
  the program's and the reference's results the same.
-/
module

public import proofs.«01_k».proof.Defs
public import proofs.«01_k».proof.Proof.DenseRef
public import proofs.«01_k».proof.Proof.DenseValue
public import proofs.«01_k».proof.Proof.Gen.Kernel3.Frame

@[expose] public section

set_option maxRecDepth 16384

noncomputable section

namespace Cert.Proof.Dense

open Cert.Kernel3Ideal Cert.Kernel3Ideal.Gen Idealize.ShloMosaic Idealize.ShloMosaic.TcCoe Idealize.SL.Sem

theorem frame_kernel : Cert.quiescent_Kernel3 (hKernel3 := Cert.Kernel3.Gen.facts) := fun m ρ _ => Cert.Kernel3.Gen.frame m ρ

theorem frame_ideal : Cert.quiescent_Kernel3Ideal (hKernel3Ideal := Cert.Kernel3Ideal.Gen.facts) := fun m ρ _ => Cert.Kernel3Ideal.Gen.frame m ρ

theorem frame_reference : Cert.quiescent_Reference3Ideal (hReference3Ideal := Cert.Reference3Ideal.Gen.facts) := fun m ρ _ =>
  (θ_run Cert.Reference3Ideal.defs _ _).mono (fun r h => ⟨fun c => (h c).2.2, sem_eq_zero_of_no_sems (by decide) r.2⟩) (Cert.Reference3Ideal.Value.run m ρ)

section

variable (m : (ℓ : Loc nD τ sig) → Buf (Elt Ideal) ℓ) (c : Dev nD)

theorem start_half (b : Fin 64) : (start b).val / 2 = b.val ∧ (start b).val % 2 = 0 := by
  constructor
  · show 2 * b.val / 2 = b.val; omega
  · show 2 * b.val % 2 = 0; omega

theorem last_half (b : Fin 64) : (last b).val / 2 = b.val ∧ (last b).val % 2 = 1 ∧ (last b).val / 16 = b.val / 8 := by
  refine ⟨?_, ?_, ?_⟩
  · show (2 * b.val + 1) / 2 = b.val; omega
  · show (2 * b.val + 1) % 2 = 1; omega
  · show (2 * b.val + 1) / 16 = b.val / 8; omega

/-- The sum over both halves is the feed-forward of the row. -/
theorem total_apply (b : Fin 64) (r : Fin 512) (d : Fin 1024) : total m c b (ix2 r d)
    = dense (fun k => (m (c, main_arg0) : Vec Ideal S32768x1024 .bf16) (ix2 ⟨b.val * 512 + r.val, by omega⟩ k))
        (fun k j => (m (c, main_arg1) : Vec Ideal S1024x5632 .f32) (ix2 k j)) (fun j => (m (c, main_arg2) : Vec Ideal S2816x1024 .f32) (ix2 j d)) := by
  rw [← halves]
  unfold total step half
  obtain ⟨s1, s2⟩ := start_half b
  obtain ⟨l1, l2, -⟩ := last_half b
  rw [step_apply, step_apply, zero_apply]
  simp only [blk0_apply, blk1_apply, blk2_apply, blk3_apply, s1, s2, l1, l2]
  rfl

/-- The normed stream at a row of a sequence, of the program's arguments. -/
def row (e : Fin 8) (q : Fin 4096) (d : Fin 1024) : EReal :=
  stream (fun k => (m (c, main_arg0) : Vec Ideal S32768x1024 .bf16) (ix2 ⟨e.val * 4096 + q.val, by omega⟩ k))
    (fun k => (m (c, main_arg3) : Vec Ideal S32768x1024 .f32) (ix2 ⟨e.val * 4096 + q.val, by omega⟩ k))
    (fun k j => (m (c, main_arg1) : Vec Ideal S1024x5632 .f32) (ix2 k j)) (fun j k => (m (c, main_arg2) : Vec Ideal S2816x1024 .f32) (ix2 j k))
    (fun k => (m (c, main_arg4) : Vec Ideal S8x1x1024 .f32) (ix3 e 0 k)) (fun k => (m (c, main_arg5) : Vec Ideal S1024 .f32) (ix1 k))
    (fun k => (m (c, main_arg6) : Vec Ideal S1024 .f32) (ix1 k)) d

/-- The block of a row of a sequence. -/
def blockOf (e : Fin 8) (q : Fin 4096) : Fin 64 := ⟨8 * e.val + q.val / 512, by omega⟩

/-- Its row within the block. -/
def rowOf (q : Fin 4096) : Fin 512 := ⟨q.val % 512, Nat.mod_lt _ (by decide)⟩

theorem row_eq (e : Fin 8) (q : Fin 4096) (p : (blockOf e q).val * 512 + (rowOf q).val < 32768) :
    (⟨(blockOf e q).val * 512 + (rowOf q).val, p⟩ : Fin 32768) = ⟨e.val * 4096 + q.val, by omega⟩ :=
  Fin.ext (by show (8 * e.val + q.val / 512) * 512 + q.val % 512 = e.val * 4096 + q.val; omega)

theorem seq_eq (e : Fin 8) (q : Fin 4096) (p : (blockOf e q).val / 8 < 8) : (⟨(blockOf e q).val / 8, p⟩ : Fin 8) = e :=
  Fin.ext (by show (8 * e.val + q.val / 512) / 8 = e.val; omega)

theorem normed_apply (e : Fin 8) (q : Fin 4096) (d : Fin 1024) :
    normed m c (last (blockOf e q)) (total m c (blockOf e q)) (ix2 (rowOf q) d) = row m c e q d := by
  obtain ⟨l1, l2, l3⟩ := last_half (blockOf e q)
  unfold normed row stream
  refine (norm_apply _ _ _ _ _ _ d).trans ?_
  simp only [total_apply, blk4_apply, blk5_apply, blk6_apply, blk7_apply, l1, l3, row_eq, seq_eq]

theorem first_program (e : Fin 8) (q : Fin 4096) (d : Fin 1024) :
    ((dats m 0 c).arrAt 10 cfg0.N : Vec Ideal S32768x1024 .f32) (ix2 ⟨e.val * 4096 + q.val, by omega⟩ d) = row m c e q d := by
  have h := first_result_apply m c (blockOf e q) (rowOf q) d
  rw [row_eq] at h
  exact h.trans ((congrFun (first_left m c (blockOf e q)) (ix2 (rowOf q) d)).trans (normed_apply m c e q d))

theorem second_program (e : Fin 8) (q : Fin 4096) (d : Fin 1024) :
    ((dats m 0 c).arrAt 11 cfg0.N : Vec Ideal S32768x1024 .bf16) (ix2 ⟨e.val * 4096 + q.val, by omega⟩ d)
      = row m c e q d * (1 + (m (c, main_arg7) : Vec Ideal S8x1x1024 .f32) (ix3 e 0 d)) + (m (c, main_arg8) : Vec Ideal S8x1x1024 .f32) (ix3 e 0 d) := by
  have h := second_result_apply m c (blockOf e q) (rowOf q) d
  rw [row_eq] at h
  refine h.trans ((congrFun (second_left m c (blockOf e q)) (ix2 (rowOf q) d)).trans ?_)
  obtain ⟨l1, l2, l3⟩ := last_half (blockOf e q)
  refine (shift_apply _ _ _ _ d).trans ?_
  rw [normed_apply]
  simp only [blk8_apply, blk9_apply, l3, seq_eq]

end

theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => (dats m 0 c).arrAt 10 cfg0.N, fun c => (dats m 0 c).arrAt 11 cfg0.N, Value.run_blocks m g, ?_⟩
  refine (θ_run Cert.Reference3Ideal.defs _ _).mono (fun r h c => ⟨(h c).1.trans ?_, (h c).2.1.trans ?_, (h c).2.2⟩) (Cert.Reference3Ideal.Value.run m' g')
  all_goals
    obtain ⟨e0, e1, e2, e3, e4, e5, e6, e7, e8⟩ := hargs c
    refine funext fun (j : S32768x1024.Idx) => ?_
    have lt : (j 0).val < 32768 := (j 0).isLt
    have hj : j = ix2 ⟨(j 0).val / 4096 * 4096 + (j 0).val % 4096, by omega⟩ (j 1) := by
      refine funext fun a => Fin.ext ?_
      match a with
      | ⟨0, _⟩ => show (j 0).val = (j 0).val / 4096 * 4096 + (j 0).val % 4096; omega
      | ⟨1, _⟩ => rfl
    rw [hj]
  · refine (first_apply m' c ⟨(j 0).val / 4096, by omega⟩ ⟨(j 0).val % 4096, by omega⟩ (j 1)).trans ?_
    unfold refRow
    rw [e0, e1, e2, e3, e4, e5, e6]
    exact (first_program m c ⟨(j 0).val / 4096, by omega⟩ ⟨(j 0).val % 4096, by omega⟩ (j 1)).symm
  · refine (second_apply m' c ⟨(j 0).val / 4096, by omega⟩ ⟨(j 0).val % 4096, by omega⟩ (j 1)).trans ?_
    unfold refRow
    rw [e0, e1, e2, e3, e4, e5, e6, e7, e8]
    exact (second_program m c ⟨(j 0).val / 4096, by omega⟩ ⟨(j 0).val % 4096, by omega⟩ (j 1)).symm

end Cert.Proof.Dense

end
-- ==== Proof.Columns.lean ====
/-
  The permutation by a one-hot matrix, over the extended reals: a row of it picks one row of what it multiplies.
-/
module

public import Idealize.ShloMosaic.PureOps.Ideal
public import Idealize.ShloMosaic.Lib.Pointwise

@[expose] public section

noncomputable section

namespace Cert.Proof.Columns

open Idealize.ShloMosaic

/-- The comparison of two small numbers as words, turned into a value. -/
theorem one_hot (q p : Fin 512) :
    FloatOps.uitofp (F := Ideal) FTy.f32 (IntOp.cmpi CmpIPredicate.eq (IntOp.addi (BitVec.ofNat 32 q.val) 0#32) (BitVec.ofNat 32 p.val))
      = if q = p then (1 : EReal) else 0 := by
  show (((BitVec.ofBool (BitVec.ofNat 32 q.val + 0#32 == BitVec.ofNat 32 p.val)).toNat : ℝ) : EReal) = _
  rw [BitVec.add_zero]
  by_cases h : q = p
  · rw [h, beq_self_eq_true, if_pos rfl]
    show (((1 : ℕ) : ℝ) : EReal) = 1
    norm_num
  · have hne : (BitVec.ofNat 32 q.val == BitVec.ofNat 32 p.val) = false := beq_eq_false_iff_ne.mpr fun e => h (Fin.ext (by
      have := congrArg BitVec.toNat e
      rw [BitVec.toNat_ofNat, BitVec.toNat_ofNat, Nat.mod_eq_of_lt (by omega), Nat.mod_eq_of_lt (by omega)] at this
      exact this))
    rw [hne, if_neg h]
    show (((0 : ℕ) : ℝ) : EReal) = 0
    norm_num

/-- A one-hot row picks one entry. -/
theorem pick (f : Fin 512 → EReal) (q : Fin 512) : (∑ p : Fin 512, (if q = p then (1 : EReal) else 0) * f p) = f q := by
  rw [Finset.sum_eq_single q]
  · rw [if_pos rfl, one_mul]
  · intro p _ h
    rw [if_neg (Ne.symm h), zero_mul]
  · intro h
    exact absurd (Finset.mem_univ _) h

/-- A row times a column. -/
def entry (x w : Fin 1024 → EReal) : EReal := ∑ k : Fin 1024, x k * w k

end Cert.Proof.Columns

end
-- ==== Proof.Qkv.lean ====
/-
  The projection to the gated DeltaNet's queries, keys and values: what the program computes. Each block of tokens is
  permuted to column order by a one-hot product, kept, and multiplied by two tiles of the weights.
-/
module

public import proofs.«01_k».proof.Proof.Columns
public import proofs.«01_k».proof.Proof.Gen.Kernel4Ideal.Value
public import Idealize.ShloMosaic.Lib.Pipeline.ValueKit.Acc

@[expose] public section

set_option maxRecDepth 16384

noncomputable section

namespace Cert.Proof.Qkv

open Cert.Kernel4Ideal Cert.Kernel4Ideal.Gen Idealize.ShloMosaic Idealize.ShloMosaic.TcCoe Idealize.SL.Sem
open Idealize.ShloMosaic.Pipeline (Dat Window)

theorem moved_apply (p : Vec Ideal S512x512 .bf16) (x : Vec Ideal S1x16x32x1024 .bf16) (q : Fin 512) (k : Fin 1024) :
    k0_pay1 p x (ix2 q k) = ∑ r : Fin 512, p (ix2 q r) * x (ix4 0 ⟨r.val / 32, by omega⟩ ⟨r.val % 32, by omega⟩ k) := by
  pointwise [k0_pay1]

theorem product_apply (x : Vec Ideal S512x1024 .bf16) (w : Vec Ideal S1024x2048 .bf16) (a : Fin 32) (b : Fin 16) (n : Fin 2048) :
    k0_pay2 x w (ix4 0 a b n) = ∑ k : Fin 1024, x (ix2 ⟨a.val * 16 + b.val, by omega⟩ k) * w (ix2 k n) := by
  pointwise [k0_pay2]

section

variable {F : FTy → Type} [FloatOps F]

/-- The matrix with ones on the diagonal, as the host makes it. -/
def unit : FVec F S512x512 .f32 :=
  uitofp .f32 (cmpi .eq (addi (iotaInDim S512x512 32 0) (broadcastInDim S512x512 ![] bcast_S_S512x512 (constantI S_ 32 0#32))) (iotaInDim S512x512 32 1))

/-- The permutation: the rows of that matrix, 16 rows of 32 taken column by column. -/
def perm : FVec F S512x512 .bf16 :=
  truncf .bf16 (shapeCast S512x512 (transpose S32x16x512 [1, 0, 2] (shapeCast S16x32x512 (unit (F := F)) shapeCasts_S512x512_S16x32x512)
    transposes_S16x32x512_S32x16x512_1_0_2) shapeCasts_S32x16x512_S512x512) bitsLt_bf16_f32

end

theorem unit_apply (q p : Fin 512) : unit (F := Ideal) (ix2 q p) = if q = p then (1 : EReal) else 0 := by
  refine Eq.trans ?_ (Columns.one_hot q p)
  pointwise [unit]

theorem perm_apply (q p : Fin 512) : perm (F := Ideal) (ix2 q p) = if (⟨q.val % 16 * 32 + q.val / 16, by omega⟩ : Fin 512) = p then (1 : EReal) else 0 := by
  refine Eq.trans ?_ (unit_apply _ p)
  pointwise [perm]

theorem index_0 : ∀ t : Fin grid0.N, cc0_transform_0 (grid0.coords t) = ![t.val / 16, t.val / 4 % 4, t.val / 2 % 2, 0] := by decide +kernel
theorem index_1 : ∀ t : Fin grid0.N, cc0_transform_1 (grid0.coords t) = ![0, t.val % 2] := by decide +kernel
theorem index_3 : ∀ t : Fin grid0.N, cc0_transform_3 (grid0.coords t) = ![t.val / 16, t.val / 2 % 2, t.val / 4 % 4, t.val % 2] := by decide +kernel

theorem points : grid0.N = 128 := N_0
theorem point_lt (t : Fin grid0.N) : t.val < 128 := points ▸ t.isLt

section

variable {F : FTy → Type} [FloatOps F]
variable (m : (ℓ : Loc nD τ sig) → Buf (Elt F) ℓ) (c : Dev nD) (t : Fin grid0.N)

theorem V_v1 : V m c main_v1 = truncf .bf16 (extractStridedSlice S1024x4096 ![0, 0] (m (c, main_arg1) : Vec F S1024x6208 .f32)
    slices_S1024x6208_S1024x4096_0_0) bitsLt_bf16_f32 := by
  unfold V hostOps0; after_results
theorem V_v2 : V m c main_v2 = shapeCast S8x64x64x1024 (m (c, main_arg0) : Vec F S32768x1024 .bf16) shapeCasts_S32768x1024_S8x64x64x1024 := by
  unfold V hostOps0; after_results; rfl
theorem V_v12 : V m c main_v12 = perm (F := F) := by
  unfold V hostOps0; after_results; rfl

/-- The block of tokens a point stages. -/
abbrev blk0 : Vec F S1x16x32x1024 .bf16 := iblk m c 0 t
/-- The columns of the weights a point stages. -/
abbrev blk1 : Vec F S1024x2048 .bf16 := iblk m c 1 t
/-- The permutation. -/
abbrev blk2 : Vec F S512x512 .bf16 := iblk m c 2 t

/-- The tokens laid on the grid. -/
theorem grid_apply (u : Vec F S32768x1024 .bf16) (e : Fin 8) (i j : Fin 64) (k : Fin 1024) :
    shapeCast S8x64x64x1024 u shapeCasts_S32768x1024_S8x64x64x1024 (ix4 e i j k) = u (ix2 ⟨e.val * 4096 + i.val * 64 + j.val, by omega⟩ k) := by
  pointwise

theorem blk0_apply (a : Fin 16) (b : Fin 32) (k : Fin 1024) : blk0 m c t (ix4 0 a b k)
    = (m (c, main_arg0) : Vec F S32768x1024 .bf16)
      (ix2 ⟨t.val / 16 * 4096 + (t.val / 4 % 4 * 16 + a.val) * 64 + (t.val / 2 % 2 * 32 + b.val), by have := point_lt t; omega⟩ k) := by
  refine (congrArg (V m c main_v2) (funext fun a => Fin.ext ?_)).trans ((congrFun (V_v2 m c) _).trans
    (grid_apply _ ⟨t.val / 16, by have := point_lt t; omega⟩ ⟨t.val / 4 % 4 * 16 + a.val, by omega⟩ ⟨t.val / 2 % 2 * 32 + b.val, by omega⟩ k))
  match a with
  | ⟨0, h⟩ => exact (Window.rect_emb_val (cfg0.win 0) t _ ⟨0, h⟩).trans ((congrArg (· * 1 + 0) (congrFun (index_0 t) 0)).trans (by show t.val / 16 * 1 + 0 = t.val / 16; omega))
  | ⟨1, h⟩ => exact (Window.rect_emb_val (cfg0.win 0) t _ ⟨1, h⟩).trans (congrArg (· * 16 + _) (congrFun (index_0 t) 1))
  | ⟨2, h⟩ => exact (Window.rect_emb_val (cfg0.win 0) t _ ⟨2, h⟩).trans (congrArg (· * 32 + _) (congrFun (index_0 t) 2))
  | ⟨3, h⟩ => exact (Window.rect_emb_val (cfg0.win 0) t _ ⟨3, h⟩).trans ((congrArg (· * 1024 + k.val) (congrFun (index_0 t) 3)).trans (by show 0 * 1024 + k.val = k.val; omega))

theorem blk2_apply (q p : Fin 512) : blk2 m c t (ix2 q p) = perm (F := F) (ix2 q p) := by
  refine (congrArg (V m c main_v12) (funext fun a => Fin.ext ?_)).trans (congrFun (V_v12 m c) (ix2 q p : S512x512.Idx))
  match a with
  | ⟨0, h⟩ => exact (Window.rect_emb_val (cfg0.win 2) t _ ⟨0, h⟩).trans (by show 0 * 512 + q.val = q.val; omega)
  | ⟨1, h⟩ => exact (Window.rect_emb_val (cfg0.win 2) t _ ⟨1, h⟩).trans (by show 0 * 512 + p.val = p.val; omega)

/-- The permuted block a point keeps. -/
def moved : Vec F S512x1024 .bf16 := k0_pay1 (blk2 m c t) (blk0 m c t)

/-- The first point on a point's block of tokens. -/
def start : Fin grid0.N := ⟨2 * (t.val / 2), by have := t.isLt; omega⟩

theorem kept_first (h0 : t.val % 2 = 0) : (outsAt0 m c t.val t.isLt).2 = moved m c t := by
  rw [outsAt0_A m c t h0]
  frame_out
  rfl

theorem left_first (h0 : t.val % 2 = 0) : (outsAt0 m c t.val t.isLt).1 = k0_pay2 (moved m c t) (blk1 m c t) := by
  rw [outsAt0_A m c t h0]
  frame_out
  rfl

theorem left_second (h0 : ¬t.val % 2 = 0) : (outsAt0 m c t.val t.isLt).1
    = k0_pay2 (outsAt0 m c (t.val - 1) (Nat.lt_of_le_of_lt (Nat.sub_le _ _) t.isLt)).2 (blk1 m c t) := by
  rw [outsAt0_B m c t h0]
  frame_out
  exact congrArg (fun v => k0_pay2 v (blk1 m c t)) ((Memref.isWhole_whole cc0_scratch0).read_unread _)

/-- What a point leaves in its block of the result. -/
theorem left_eq : (outsAt0 m c t.val t.isLt).1 = k0_pay2 (moved m c (start t)) (blk1 m c t) := by
  by_cases h0 : t.val % 2 = 0
  · rw [left_first m c t h0]
    have e : start t = t := Fin.ext (by show 2 * (t.val / 2) = t.val; omega)
    rw [e]
  · rw [left_second m c t h0]
    have e : t.val - 1 = (start t).val := by show t.val - 1 = 2 * (t.val / 2); omega
    have k : ∀ (n : ℕ) (hn : n < cfg0.N), n = (start t).val → (outsAt0 m c n hn).2 = moved m c (start t) := fun n hn en => by
      subst en
      exact kept_first m c (start t) (by show 2 * (t.val / 2) % 2 = 0; omega)
    rw [k _ _ e]

/-- The result's entry of a block is what the block's point leaves there. -/
theorem result_apply (a : Fin 32) (b : Fin 16) (n : Fin 2048) :
    ((dats m 0 c).arrAt 3 cfg0.N : Vec F S8x64x64x4096 .bf16)
        (ix4 ⟨t.val / 16, by have := point_lt t; omega⟩ ⟨t.val / 2 % 2 * 32 + a.val, by omega⟩ ⟨t.val / 4 % 4 * 16 + b.val, by omega⟩
          ⟨t.val % 2 * 2048 + n.val, by omega⟩)
      = k0_pay2 (moved m c (start t)) (blk1 m c t) (ix4 0 a b n) := by
  have h := (dats m 0 c).arrAt_emb_eq_flushed 3 Value.disjoint3 t (flush0_3 t) (ix4 0 a b n)
  have hi : ((cfg0.win 3).blk t).view.emb (ix4 0 a b n)
      = (ix4 ⟨t.val / 16, by have := point_lt t; omega⟩ ⟨t.val / 2 % 2 * 32 + a.val, by omega⟩ ⟨t.val / 4 % 4 * 16 + b.val, by omega⟩
          ⟨t.val % 2 * 2048 + n.val, by omega⟩ : S8x64x64x4096.Idx) := by
    refine funext fun x => Fin.ext ?_
    match x with
    | ⟨0, h⟩ => exact (Window.rect_emb_val (cfg0.win 3) t _ ⟨0, h⟩).trans ((congrArg (· * 1 + 0) (congrFun (index_3 t) 0)).trans (by show t.val / 16 * 1 + 0 = t.val / 16; omega))
    | ⟨1, h⟩ => exact (Window.rect_emb_val (cfg0.win 3) t _ ⟨1, h⟩).trans (congrArg (· * 32 + a.val) (congrFun (index_3 t) 1))
    | ⟨2, h⟩ => exact (Window.rect_emb_val (cfg0.win 3) t _ ⟨2, h⟩).trans (congrArg (· * 16 + b.val) (congrFun (index_3 t) 2))
    | ⟨3, h⟩ => exact (Window.rect_emb_val (cfg0.win 3) t _ ⟨3, h⟩).trans (congrArg (· * 2048 + n.val) (congrFun (index_3 t) 3))
  rw [hi] at h
  exact h.trans ((congrFun (Value.flushed3 m c t) (ix4 0 a b n)).trans (congrFun (left_eq m c t) (ix4 0 a b n)))

end

section

variable (m : (ℓ : Loc nD τ sig) → Buf (Elt Ideal) ℓ) (c : Dev nD) (t : Fin grid0.N)

theorem blk1_apply (k : Fin 1024) (n : Fin 2048) : blk1 m c t (ix2 k n)
    = (m (c, main_arg1) : Vec Ideal S1024x6208 .f32) (ix2 k ⟨t.val % 2 * 2048 + n.val, by omega⟩) := by
  have h : (truncf .bf16 (extractStridedSlice S1024x4096 ![0, 0] (m (c, main_arg1) : Vec Ideal S1024x6208 .f32)
      slices_S1024x6208_S1024x4096_0_0) bitsLt_bf16_f32 : FVec Ideal S1024x4096 .bf16) (ix2 k ⟨t.val % 2 * 2048 + n.val, by omega⟩)
      = (m (c, main_arg1) : Vec Ideal S1024x6208 .f32) (ix2 k ⟨t.val % 2 * 2048 + n.val, by omega⟩) := by
    pointwise
  refine (congrArg (V m c main_v1) (funext fun a => Fin.ext ?_)).trans ((congrFun (V_v1 m c) _).trans h)
  match a with
  | ⟨0, h⟩ => exact (Window.rect_emb_val (cfg0.win 1) t _ ⟨0, h⟩).trans ((congrArg (· * 1024 + k.val) (congrFun (index_1 t) 0)).trans (by show 0 * 1024 + k.val = k.val; omega))
  | ⟨1, h⟩ => exact (Window.rect_emb_val (cfg0.win 1) t _ ⟨1, h⟩).trans (congrArg (· * 2048 + n.val) (congrFun (index_1 t) 1))

/-- The permuted block holds the tokens in column order. -/
theorem moved_eq (a : Fin 32) (b : Fin 16) (k : Fin 1024) : moved m c t (ix2 ⟨a.val * 16 + b.val, by omega⟩ k)
    = (m (c, main_arg0) : Vec Ideal S32768x1024 .bf16)
      (ix2 ⟨t.val / 16 * 4096 + (t.val / 4 % 4 * 16 + b.val) * 64 + (t.val / 2 % 2 * 32 + a.val), by have := point_lt t; omega⟩ k) := by
  unfold moved
  rw [moved_apply]
  simp only [blk2_apply, perm_apply]
  rw [Columns.pick, blk0_apply]
  refine congrArg (m (c, main_arg0) : Vec Ideal S32768x1024 .bf16) (congrArg (ix2 · k) (Fin.ext ?_))
  show t.val / 16 * 4096 + (t.val / 4 % 4 * 16 + ((a.val * 16 + b.val) % 16 * 32 + (a.val * 16 + b.val) / 16) / 32) * 64
      + (t.val / 2 % 2 * 32 + ((a.val * 16 + b.val) % 16 * 32 + (a.val * 16 + b.val) / 16) % 32)
    = t.val / 16 * 4096 + (t.val / 4 % 4 * 16 + b.val) * 64 + (t.val / 2 % 2 * 32 + a.val)
  have e1 : (a.val * 16 + b.val) % 16 = b.val := by omega
  have e2 : (a.val * 16 + b.val) / 16 = a.val := by omega
  rw [e1, e2]
  omega

/-- The program's result: the product of the token at a row and a column of the grid with a column of the weights. -/
theorem program_apply (e : Fin 8) (y x : Fin 64) (n : Fin 4096) : ((dats m 0 c).arrAt 3 cfg0.N : Vec Ideal S8x64x64x4096 .bf16) (ix4 e y x n)
    = Columns.entry (fun k => (m (c, main_arg0) : Vec Ideal S32768x1024 .bf16) (ix2 ⟨e.val * 4096 + x.val * 64 + y.val, by omega⟩ k))
        (fun k => (m (c, main_arg1) : Vec Ideal S1024x6208 .f32) (ix2 k ⟨n.val, by omega⟩)) := by
  let t : Fin grid0.N := ⟨16 * e.val + 4 * (x.val / 16) + 2 * (y.val / 32) + n.val / 2048, by have := points; omega⟩
  have ht : t.val = 16 * e.val + 4 * (x.val / 16) + 2 * (y.val / 32) + n.val / 2048 := rfl
  have h := result_apply m c t ⟨y.val % 32, by omega⟩ ⟨x.val % 16, by omega⟩ ⟨n.val % 2048, by omega⟩
  have hi : (ix4 ⟨t.val / 16, by have := point_lt t; omega⟩ ⟨t.val / 2 % 2 * 32 + y.val % 32, by omega⟩ ⟨t.val / 4 % 4 * 16 + x.val % 16, by omega⟩
      ⟨t.val % 2 * 2048 + n.val % 2048, by omega⟩ : S8x64x64x4096.Idx) = ix4 e y x n := by
    refine funext fun a => Fin.ext ?_
    match a with
    | ⟨0, _⟩ => show t.val / 16 = e.val; omega
    | ⟨1, _⟩ => show t.val / 2 % 2 * 32 + y.val % 32 = y.val; omega
    | ⟨2, _⟩ => show t.val / 4 % 4 * 16 + x.val % 16 = x.val; omega
    | ⟨3, _⟩ => show t.val % 2 * 2048 + n.val % 2048 = n.val; omega
  rw [hi] at h
  refine h.trans ((product_apply _ _ _ _ _).trans (Finset.sum_congr rfl fun k _ => ?_))
  have hs : (start t).val = 2 * (t.val / 2) := rfl
  refine congrArg₂ (· * ·) ((moved_eq m c (start t) _ _ k).trans ?_) ((blk1_apply m c t k _).trans ?_)
  · refine congrArg (m (c, main_arg0) : Vec Ideal S32768x1024 .bf16) (congrArg (ix2 · k) (Fin.ext ?_))
    show (start t).val / 16 * 4096 + ((start t).val / 4 % 4 * 16 + x.val % 16) * 64 + ((start t).val / 2 % 2 * 32 + y.val % 32) = e.val * 4096 + x.val * 64 + y.val
    omega
  · refine congrArg (m (c, main_arg1) : Vec Ideal S1024x6208 .f32) (congrArg (ix2 k) (Fin.ext ?_))
    show t.val % 2 * 2048 + n.val % 2048 = n.val
    omega

end

end Cert.Proof.Qkv

end
-- ==== Proof.QkvAlgebraic.lean ====
/-
  The claims of the projection to the gated DeltaNet's queries, keys and values: arguments unchanged and counters at zero, and,
  over the extended reals, the program's and the reference's results the same.
-/
module

public import proofs.«01_k».proof.Defs
public import proofs.«01_k».proof.Proof.Qkv
public import proofs.«01_k».proof.Proof.Gen.Kernel4.Frame
public import proofs.«01_k».proof.Proof.Gen.Reference4Ideal.Run

@[expose] public section

set_option maxRecDepth 16384

noncomputable section

namespace Cert.Proof.Qkv

open Idealize.ShloMosaic Idealize.ShloMosaic.TcCoe Idealize.SL.Sem

theorem frame_kernel : Cert.quiescent_Kernel4 (hKernel4 := Cert.Kernel4.Gen.facts) := fun m ρ _ => Cert.Kernel4.Gen.frame m ρ

theorem frame_ideal : Cert.quiescent_Kernel4Ideal (hKernel4Ideal := Cert.Kernel4Ideal.Gen.facts) := fun m ρ _ => Cert.Kernel4Ideal.Gen.frame m ρ

theorem frame_reference : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩) (Cert.Reference4Ideal.Value.run m ρ)

section

open Cert.Reference4Ideal Cert.Reference4Ideal.Gen

variable {F : FTy → Type} [FloatOps F]

/-- The tokens in column order. -/
def refTokens (u : FVec F S32768x1024 .bf16) : FVec F S8x4096x1024 .f32 :=
  shapeCast S8x4096x1024 (transpose S8x64x64x1024 [0, 2, 1, 3] (shapeCast S8x64x64x1024 (extf .f32 u bitsLt_bf16_f32) shapeCasts_S32768x1024_S8x64x64x1024)
    transposes_S8x64x64x1024_S8x64x64x1024_0_2_1_3) shapeCasts_S8x64x64x1024_S8x4096x1024

/-- Their products with the weights' columns. -/
def refProduct (u : FVec F S32768x1024 .bf16) (w : FVec F S1024x6208 .f32) : FVec F S8x4096x4096 .bf16 :=
  truncf .bf16 (extractStridedSlice S8x4096x4096 ![0, 0, 0] (Host.dotGeneral dot_S8x4096x1024_S1024x6208_S8x4096x6208_2_0_01_1_n_n none (refTokens u) w)
    slices_S8x4096x6208_S8x4096x4096_0_0_0) bitsLt_bf16_f32

/-- The reference's result. -/
def refResult (u : FVec F S32768x1024 .bf16) (w : FVec F S1024x6208 .f32) : FVec F S8x64x64x4096 .bf16 :=
  shapeCast S8x64x64x4096 (refProduct u w) shapeCasts_S8x4096x4096_S8x64x64x4096

theorem refTokens_apply (u : FVec Ideal S32768x1024 .bf16) (e : Fin 8) (q : Fin 4096) (k : Fin 1024) :
    refTokens (F := Ideal) u (ix3 e q k) = u (ix2 ⟨e.val * 4096 + q.val % 64 * 64 + q.val / 64, by omega⟩ k) := by
  pointwise [refTokens]

theorem refProduct_apply (u : FVec Ideal S32768x1024 .bf16) (w : FVec Ideal S1024x6208 .f32) (e : Fin 8) (q : Fin 4096) (n : Fin 4096) :
    refProduct (F := Ideal) u w (ix3 e q n) = Columns.entry (fun k => refTokens (F := Ideal) u (ix3 e q k)) (fun k => w (ix2 k ⟨n.val, by omega⟩)) := by
  unfold Columns.entry
  pointwise [refProduct]

theorem refResult_apply (u : FVec Ideal S32768x1024 .bf16) (w : FVec Ideal S1024x6208 .f32) (e : Fin 8) (y x : Fin 64) (n : Fin 4096) :
    refResult (F := Ideal) u w (ix4 e y x n)
      = Columns.entry (fun k => u (ix2 ⟨e.val * 4096 + x.val * 64 + y.val, by omega⟩ k)) (fun k => w (ix2 k ⟨n.val, by omega⟩)) := by
  have h : refResult (F := Ideal) u w (ix4 e y x n) = refProduct (F := Ideal) u w (ix3 e ⟨y.val * 64 + x.val, by omega⟩ n) := by
    pointwise [refResult]
  rw [h, refProduct_apply]
  refine congrArg (Columns.entry · _) (funext fun k => (refTokens_apply u e _ k).trans (congrArg (fun r => u (ix2 r k)) (Fin.ext ?_)))
  show e.val * 4096 + (y.val * 64 + x.val) % 64 * 64 + (y.val * 64 + x.val) / 64 = e.val * 4096 + x.val * 64 + y.val
  omega

end

open Cert.Kernel4Ideal Cert.Kernel4Ideal.Gen

theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => (dats m 0 c).arrAt 3 cfg0.N, Value.run_blocks m g, ?_⟩
  refine (θ_run Cert.Reference4Ideal.defs _ _).mono (fun r h c => ⟨(h c).1.trans ?_, (h c).2⟩) (Cert.Reference4Ideal.Value.run m' g')
  obtain ⟨e0, e1⟩ := hargs c
  refine funext fun (j : S8x64x64x4096.Idx) => ?_
  have hj : j = ix4 (j 0) (j 1) (j 2) (j 3) := by
    refine funext fun a => ?_
    match a with
    | ⟨0, _⟩ => rfl
    | ⟨1, _⟩ => rfl
    | ⟨2, _⟩ => rfl
    | ⟨3, _⟩ => rfl
  rw [hj]
  refine (refResult_apply _ _ (j 0) (j 1) (j 2) (j 3)).trans ?_
  rw [e0, e1]
  exact (program_apply m c (j 0) (j 1) (j 2) (j 3)).symm

end Cert.Proof.Qkv

end
-- ==== Proof.Xbc.lean ====
/-
  The projection to the SSD mixer's inputs with its B and C: what the program computes. Each block of tokens is
  permuted to column order by a one-hot product, kept, and multiplied by two tiles of the weights.
-/
module

public import proofs.«01_k».proof.Proof.Columns
public import proofs.«01_k».proof.Proof.Gen.Kernel5Ideal.Value
public import Idealize.ShloMosaic.Lib.Pipeline.ValueKit.Acc

@[expose] public section

set_option maxRecDepth 16384

noncomputable section

namespace Cert.Proof.Xbc

open Cert.Kernel5Ideal Cert.Kernel5Ideal.Gen Idealize.ShloMosaic Idealize.ShloMosaic.TcCoe Idealize.SL.Sem
open Idealize.ShloMosaic.Pipeline (Dat Window)

theorem moved_apply (p : Vec Ideal S512x512 .bf16) (x : Vec Ideal S1x16x32x1024 .bf16) (q : Fin 512) (k : Fin 1024) :
    k0_pay1 p x (ix2 q k) = ∑ r : Fin 512, p (ix2 q r) * x (ix4 0 ⟨r.val / 32, by omega⟩ ⟨r.val % 32, by omega⟩ k) := by
  pointwise [k0_pay1]

theorem product_apply (x : Vec Ideal S512x1024 .bf16) (w : Vec Ideal S1024x1536 .bf16) (a : Fin 32) (b : Fin 16) (n : Fin 1536) :
    k0_pay2 x w (ix4 0 a b n) = ∑ k : Fin 1024, x (ix2 ⟨a.val * 16 + b.val, by omega⟩ k) * w (ix2 k n) := by
  pointwise [k0_pay2]

section

variable {F : FTy → Type} [FloatOps F]

/-- The matrix with ones on the diagonal, as the host makes it. -/
def unit : FVec F S512x512 .f32 :=
  uitofp .f32 (cmpi .eq (addi (iotaInDim S512x512 32 0) (broadcastInDim S512x512 ![] bcast_S_S512x512 (constantI S_ 32 0#32))) (iotaInDim S512x512 32 1))

/-- The permutation: the rows of that matrix, 16 rows of 32 taken column by column. -/
def perm : FVec F S512x512 .bf16 :=
  truncf .bf16 (shapeCast S512x512 (transpose S32x16x512 [1, 0, 2] (shapeCast S16x32x512 (unit (F := F)) shapeCasts_S512x512_S16x32x512)
    transposes_S16x32x512_S32x16x512_1_0_2) shapeCasts_S32x16x512_S512x512) bitsLt_bf16_f32

end

theorem unit_apply (q p : Fin 512) : unit (F := Ideal) (ix2 q p) = if q = p then (1 : EReal) else 0 := by
  refine Eq.trans ?_ (Columns.one_hot q p)
  pointwise [unit]

theorem perm_apply (q p : Fin 512) : perm (F := Ideal) (ix2 q p) = if (⟨q.val % 16 * 32 + q.val / 16, by omega⟩ : Fin 512) = p then (1 : EReal) else 0 := by
  refine Eq.trans ?_ (unit_apply _ p)
  pointwise [perm]

theorem index_0 : ∀ t : Fin grid0.N, cc0_transform_0 (grid0.coords t) = ![t.val / 16, t.val / 4 % 4, t.val / 2 % 2, 0] := by decide +kernel
theorem index_1 : ∀ t : Fin grid0.N, cc0_transform_1 (grid0.coords t) = ![0, t.val % 2] := by decide +kernel
theorem index_3 : ∀ t : Fin grid0.N, cc0_transform_3 (grid0.coords t) = ![t.val / 16, t.val / 2 % 2, t.val / 4 % 4, t.val % 2] := by decide +kernel

theorem points : grid0.N = 128 := N_0
theorem point_lt (t : Fin grid0.N) : t.val < 128 := points ▸ t.isLt

section

variable {F : FTy → Type} [FloatOps F]
variable (m : (ℓ : Loc nD τ sig) → Buf (Elt F) ℓ) (c : Dev nD) (t : Fin grid0.N)

theorem V_v1 : V m c main_v1 = truncf .bf16 (extractStridedSlice S1024x3072 ![0, 2048] (m (c, main_arg1) : Vec F S1024x5184 .f32)
    slices_S1024x5184_S1024x3072_0_2048) bitsLt_bf16_f32 := by
  unfold V hostOps0; after_results
theorem V_v2 : V m c main_v2 = shapeCast S8x64x64x1024 (m (c, main_arg0) : Vec F S32768x1024 .bf16) shapeCasts_S32768x1024_S8x64x64x1024 := by
  unfold V hostOps0; after_results; rfl
theorem V_v12 : V m c main_v12 = perm (F := F) := by
  unfold V hostOps0; after_results; rfl

/-- The block of tokens a point stages. -/
abbrev blk0 : Vec F S1x16x32x1024 .bf16 := iblk m c 0 t
/-- The columns of the weights a point stages. -/
abbrev blk1 : Vec F S1024x1536 .bf16 := iblk m c 1 t
/-- The permutation. -/
abbrev blk2 : Vec F S512x512 .bf16 := iblk m c 2 t

/-- The tokens laid on the grid. -/
theorem grid_apply (u : Vec F S32768x1024 .bf16) (e : Fin 8) (i j : Fin 64) (k : Fin 1024) :
    shapeCast S8x64x64x1024 u shapeCasts_S32768x1024_S8x64x64x1024 (ix4 e i j k) = u (ix2 ⟨e.val * 4096 + i.val * 64 + j.val, by omega⟩ k) := by
  pointwise

theorem blk0_apply (a : Fin 16) (b : Fin 32) (k : Fin 1024) : blk0 m c t (ix4 0 a b k)
    = (m (c, main_arg0) : Vec F S32768x1024 .bf16)
      (ix2 ⟨t.val / 16 * 4096 + (t.val / 4 % 4 * 16 + a.val) * 64 + (t.val / 2 % 2 * 32 + b.val), by have := point_lt t; omega⟩ k) := by
  refine (congrArg (V m c main_v2) (funext fun a => Fin.ext ?_)).trans ((congrFun (V_v2 m c) _).trans
    (grid_apply _ ⟨t.val / 16, by have := point_lt t; omega⟩ ⟨t.val / 4 % 4 * 16 + a.val, by omega⟩ ⟨t.val / 2 % 2 * 32 + b.val, by omega⟩ k))
  match a with
  | ⟨0, h⟩ => exact (Window.rect_emb_val (cfg0.win 0) t _ ⟨0, h⟩).trans ((congrArg (· * 1 + 0) (congrFun (index_0 t) 0)).trans (by show t.val / 16 * 1 + 0 = t.val / 16; omega))
  | ⟨1, h⟩ => exact (Window.rect_emb_val (cfg0.win 0) t _ ⟨1, h⟩).trans (congrArg (· * 16 + _) (congrFun (index_0 t) 1))
  | ⟨2, h⟩ => exact (Window.rect_emb_val (cfg0.win 0) t _ ⟨2, h⟩).trans (congrArg (· * 32 + _) (congrFun (index_0 t) 2))
  | ⟨3, h⟩ => exact (Window.rect_emb_val (cfg0.win 0) t _ ⟨3, h⟩).trans ((congrArg (· * 1024 + k.val) (congrFun (index_0 t) 3)).trans (by show 0 * 1024 + k.val = k.val; omega))

theorem blk2_apply (q p : Fin 512) : blk2 m c t (ix2 q p) = perm (F := F) (ix2 q p) := by
  refine (congrArg (V m c main_v12) (funext fun a => Fin.ext ?_)).trans (congrFun (V_v12 m c) (ix2 q p : S512x512.Idx))
  match a with
  | ⟨0, h⟩ => exact (Window.rect_emb_val (cfg0.win 2) t _ ⟨0, h⟩).trans (by show 0 * 512 + q.val = q.val; omega)
  | ⟨1, h⟩ => exact (Window.rect_emb_val (cfg0.win 2) t _ ⟨1, h⟩).trans (by show 0 * 512 + p.val = p.val; omega)

/-- The permuted block a point keeps. -/
def moved : Vec F S512x1024 .bf16 := k0_pay1 (blk2 m c t) (blk0 m c t)

/-- The first point on a point's block of tokens. -/
def start : Fin grid0.N := ⟨2 * (t.val / 2), by have := t.isLt; omega⟩

theorem kept_first (h0 : t.val % 2 = 0) : (outsAt0 m c t.val t.isLt).2 = moved m c t := by
  rw [outsAt0_A m c t h0]
  frame_out
  rfl

theorem left_first (h0 : t.val % 2 = 0) : (outsAt0 m c t.val t.isLt).1 = k0_pay2 (moved m c t) (blk1 m c t) := by
  rw [outsAt0_A m c t h0]
  frame_out
  rfl

theorem left_second (h0 : ¬t.val % 2 = 0) : (outsAt0 m c t.val t.isLt).1
    = k0_pay2 (outsAt0 m c (t.val - 1) (Nat.lt_of_le_of_lt (Nat.sub_le _ _) t.isLt)).2 (blk1 m c t) := by
  rw [outsAt0_B m c t h0]
  frame_out
  exact congrArg (fun v => k0_pay2 v (blk1 m c t)) ((Memref.isWhole_whole cc0_scratch0).read_unread _)

/-- What a point leaves in its block of the result. -/
theorem left_eq : (outsAt0 m c t.val t.isLt).1 = k0_pay2 (moved m c (start t)) (blk1 m c t) := by
  by_cases h0 : t.val % 2 = 0
  · rw [left_first m c t h0]
    have e : start t = t := Fin.ext (by show 2 * (t.val / 2) = t.val; omega)
    rw [e]
  · rw [left_second m c t h0]
    have e : t.val - 1 = (start t).val := by show t.val - 1 = 2 * (t.val / 2); omega
    have k : ∀ (n : ℕ) (hn : n < cfg0.N), n = (start t).val → (outsAt0 m c n hn).2 = moved m c (start t) := fun n hn en => by
      subst en
      exact kept_first m c (start t) (by show 2 * (t.val / 2) % 2 = 0; omega)
    rw [k _ _ e]

/-- The result's entry of a block is what the block's point leaves there. -/
theorem result_apply (a : Fin 32) (b : Fin 16) (n : Fin 1536) :
    ((dats m 0 c).arrAt 3 cfg0.N : Vec F S8x64x64x3072 .bf16)
        (ix4 ⟨t.val / 16, by have := point_lt t; omega⟩ ⟨t.val / 2 % 2 * 32 + a.val, by omega⟩ ⟨t.val / 4 % 4 * 16 + b.val, by omega⟩
          ⟨t.val % 2 * 1536 + n.val, by omega⟩)
      = k0_pay2 (moved m c (start t)) (blk1 m c t) (ix4 0 a b n) := by
  have h := (dats m 0 c).arrAt_emb_eq_flushed 3 Value.disjoint3 t (flush0_3 t) (ix4 0 a b n)
  have hi : ((cfg0.win 3).blk t).view.emb (ix4 0 a b n)
      = (ix4 ⟨t.val / 16, by have := point_lt t; omega⟩ ⟨t.val / 2 % 2 * 32 + a.val, by omega⟩ ⟨t.val / 4 % 4 * 16 + b.val, by omega⟩
          ⟨t.val % 2 * 1536 + n.val, by omega⟩ : S8x64x64x3072.Idx) := by
    refine funext fun x => Fin.ext ?_
    match x with
    | ⟨0, h⟩ => exact (Window.rect_emb_val (cfg0.win 3) t _ ⟨0, h⟩).trans ((congrArg (· * 1 + 0) (congrFun (index_3 t) 0)).trans (by show t.val / 16 * 1 + 0 = t.val / 16; omega))
    | ⟨1, h⟩ => exact (Window.rect_emb_val (cfg0.win 3) t _ ⟨1, h⟩).trans (congrArg (· * 32 + a.val) (congrFun (index_3 t) 1))
    | ⟨2, h⟩ => exact (Window.rect_emb_val (cfg0.win 3) t _ ⟨2, h⟩).trans (congrArg (· * 16 + b.val) (congrFun (index_3 t) 2))
    | ⟨3, h⟩ => exact (Window.rect_emb_val (cfg0.win 3) t _ ⟨3, h⟩).trans (congrArg (· * 1536 + n.val) (congrFun (index_3 t) 3))
  rw [hi] at h
  exact h.trans ((congrFun (Value.flushed3 m c t) (ix4 0 a b n)).trans (congrFun (left_eq m c t) (ix4 0 a b n)))

end

section

variable (m : (ℓ : Loc nD τ sig) → Buf (Elt Ideal) ℓ) (c : Dev nD) (t : Fin grid0.N)

theorem blk1_apply (k : Fin 1024) (n : Fin 1536) : blk1 m c t (ix2 k n)
    = (m (c, main_arg1) : Vec Ideal S1024x5184 .f32) (ix2 k ⟨2048 + (t.val % 2 * 1536 + n.val), by omega⟩) := by
  have h : (truncf .bf16 (extractStridedSlice S1024x3072 ![0, 2048] (m (c, main_arg1) : Vec Ideal S1024x5184 .f32)
      slices_S1024x5184_S1024x3072_0_2048) bitsLt_bf16_f32 : FVec Ideal S1024x3072 .bf16) (ix2 k ⟨t.val % 2 * 1536 + n.val, by omega⟩)
      = (m (c, main_arg1) : Vec Ideal S1024x5184 .f32) (ix2 k ⟨2048 + (t.val % 2 * 1536 + n.val), by omega⟩) := by
    pointwise
  refine (congrArg (V m c main_v1) (funext fun a => Fin.ext ?_)).trans ((congrFun (V_v1 m c) _).trans h)
  match a with
  | ⟨0, h⟩ => exact (Window.rect_emb_val (cfg0.win 1) t _ ⟨0, h⟩).trans ((congrArg (· * 1024 + k.val) (congrFun (index_1 t) 0)).trans (by show 0 * 1024 + k.val = k.val; omega))
  | ⟨1, h⟩ => exact (Window.rect_emb_val (cfg0.win 1) t _ ⟨1, h⟩).trans (congrArg (· * 1536 + n.val) (congrFun (index_1 t) 1))

/-- The permuted block holds the tokens in column order. -/
theorem moved_eq (a : Fin 32) (b : Fin 16) (k : Fin 1024) : moved m c t (ix2 ⟨a.val * 16 + b.val, by omega⟩ k)
    = (m (c, main_arg0) : Vec Ideal S32768x1024 .bf16)
      (ix2 ⟨t.val / 16 * 4096 + (t.val / 4 % 4 * 16 + b.val) * 64 + (t.val / 2 % 2 * 32 + a.val), by have := point_lt t; omega⟩ k) := by
  unfold moved
  rw [moved_apply]
  simp only [blk2_apply, perm_apply]
  rw [Columns.pick, blk0_apply]
  refine congrArg (m (c, main_arg0) : Vec Ideal S32768x1024 .bf16) (congrArg (ix2 · k) (Fin.ext ?_))
  show t.val / 16 * 4096 + (t.val / 4 % 4 * 16 + ((a.val * 16 + b.val) % 16 * 32 + (a.val * 16 + b.val) / 16) / 32) * 64
      + (t.val / 2 % 2 * 32 + ((a.val * 16 + b.val) % 16 * 32 + (a.val * 16 + b.val) / 16) % 32)
    = t.val / 16 * 4096 + (t.val / 4 % 4 * 16 + b.val) * 64 + (t.val / 2 % 2 * 32 + a.val)
  have e1 : (a.val * 16 + b.val) % 16 = b.val := by omega
  have e2 : (a.val * 16 + b.val) / 16 = a.val := by omega
  rw [e1, e2]
  omega

/-- The program's result: the product of the token at a row and a column of the grid with a column of the weights. -/
theorem program_apply (e : Fin 8) (y x : Fin 64) (n : Fin 3072) : ((dats m 0 c).arrAt 3 cfg0.N : Vec Ideal S8x64x64x3072 .bf16) (ix4 e y x n)
    = Columns.entry (fun k => (m (c, main_arg0) : Vec Ideal S32768x1024 .bf16) (ix2 ⟨e.val * 4096 + x.val * 64 + y.val, by omega⟩ k))
        (fun k => (m (c, main_arg1) : Vec Ideal S1024x5184 .f32) (ix2 k ⟨2048 + n.val, by omega⟩)) := by
  let t : Fin grid0.N := ⟨16 * e.val + 4 * (x.val / 16) + 2 * (y.val / 32) + n.val / 1536, by have := points; omega⟩
  have ht : t.val = 16 * e.val + 4 * (x.val / 16) + 2 * (y.val / 32) + n.val / 1536 := rfl
  have h := result_apply m c t ⟨y.val % 32, by omega⟩ ⟨x.val % 16, by omega⟩ ⟨n.val % 1536, by omega⟩
  have hi : (ix4 ⟨t.val / 16, by have := point_lt t; omega⟩ ⟨t.val / 2 % 2 * 32 + y.val % 32, by omega⟩ ⟨t.val / 4 % 4 * 16 + x.val % 16, by omega⟩
      ⟨t.val % 2 * 1536 + n.val % 1536, by omega⟩ : S8x64x64x3072.Idx) = ix4 e y x n := by
    refine funext fun a => Fin.ext ?_
    match a with
    | ⟨0, _⟩ => show t.val / 16 = e.val; omega
    | ⟨1, _⟩ => show t.val / 2 % 2 * 32 + y.val % 32 = y.val; omega
    | ⟨2, _⟩ => show t.val / 4 % 4 * 16 + x.val % 16 = x.val; omega
    | ⟨3, _⟩ => show t.val % 2 * 1536 + n.val % 1536 = n.val; omega
  rw [hi] at h
  refine h.trans ((product_apply _ _ _ _ _).trans (Finset.sum_congr rfl fun k _ => ?_))
  have hs : (start t).val = 2 * (t.val / 2) := rfl
  refine congrArg₂ (· * ·) ((moved_eq m c (start t) _ _ k).trans ?_) ((blk1_apply m c t k _).trans ?_)
  · refine congrArg (m (c, main_arg0) : Vec Ideal S32768x1024 .bf16) (congrArg (ix2 · k) (Fin.ext ?_))
    show (start t).val / 16 * 4096 + ((start t).val / 4 % 4 * 16 + x.val % 16) * 64 + ((start t).val / 2 % 2 * 32 + y.val % 32) = e.val * 4096 + x.val * 64 + y.val
    omega
  · refine congrArg (m (c, main_arg1) : Vec Ideal S1024x5184 .f32) (congrArg (ix2 k) (Fin.ext ?_))
    show 2048 + (t.val % 2 * 1536 + n.val % 1536) = 2048 + n.val
    omega

end

end Cert.Proof.Xbc

end
-- ==== Proof.XbcAlgebraic.lean ====
/-
  The claims of the projection to the SSD mixer's inputs with its B and C: arguments unchanged and counters at zero, and,
  over the extended reals, the program's and the reference's results the same.
-/
module

public import proofs.«01_k».proof.Defs
public import proofs.«01_k».proof.Proof.Xbc
public import proofs.«01_k».proof.Proof.Gen.Kernel5.Frame
public import proofs.«01_k».proof.Proof.Gen.Reference5Ideal.Run

@[expose] public section

set_option maxRecDepth 16384

noncomputable section

namespace Cert.Proof.Xbc

open Idealize.ShloMosaic Idealize.ShloMosaic.TcCoe Idealize.SL.Sem

theorem frame_kernel : Cert.quiescent_Kernel5 (hKernel5 := Cert.Kernel5.Gen.facts) := fun m ρ _ => Cert.Kernel5.Gen.frame m ρ

theorem frame_ideal : Cert.quiescent_Kernel5Ideal (hKernel5Ideal := Cert.Kernel5Ideal.Gen.facts) := fun m ρ _ => Cert.Kernel5Ideal.Gen.frame m ρ

theorem frame_reference : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩) (Cert.Reference5Ideal.Value.run m ρ)

section

open Cert.Reference5Ideal Cert.Reference5Ideal.Gen

variable {F : FTy → Type} [FloatOps F]

/-- The tokens in column order. -/
def refTokens (u : FVec F S32768x1024 .bf16) : FVec F S8x4096x1024 .f32 :=
  shapeCast S8x4096x1024 (transpose S8x64x64x1024 [0, 2, 1, 3] (shapeCast S8x64x64x1024 (extf .f32 u bitsLt_bf16_f32) shapeCasts_S32768x1024_S8x64x64x1024)
    transposes_S8x64x64x1024_S8x64x64x1024_0_2_1_3) shapeCasts_S8x64x64x1024_S8x4096x1024

/-- Their products with the weights' columns. -/
def refProduct (u : FVec F S32768x1024 .bf16) (w : FVec F S1024x5184 .f32) : FVec F S8x4096x3072 .bf16 :=
  truncf .bf16 (extractStridedSlice S8x4096x3072 ![0, 0, 2048] (Host.dotGeneral dot_S8x4096x1024_S1024x5184_S8x4096x5184_2_0_01_1_n_n none (refTokens u) w)
    slices_S8x4096x5184_S8x4096x3072_0_0_2048) bitsLt_bf16_f32

/-- The reference's result. -/
def refResult (u : FVec F S32768x1024 .bf16) (w : FVec F S1024x5184 .f32) : FVec F S8x64x64x3072 .bf16 :=
  shapeCast S8x64x64x3072 (refProduct u w) shapeCasts_S8x4096x3072_S8x64x64x3072

theorem refTokens_apply (u : FVec Ideal S32768x1024 .bf16) (e : Fin 8) (q : Fin 4096) (k : Fin 1024) :
    refTokens (F := Ideal) u (ix3 e q k) = u (ix2 ⟨e.val * 4096 + q.val % 64 * 64 + q.val / 64, by omega⟩ k) := by
  pointwise [refTokens]

theorem refProduct_apply (u : FVec Ideal S32768x1024 .bf16) (w : FVec Ideal S1024x5184 .f32) (e : Fin 8) (q : Fin 4096) (n : Fin 3072) :
    refProduct (F := Ideal) u w (ix3 e q n) = Columns.entry (fun k => refTokens (F := Ideal) u (ix3 e q k)) (fun k => w (ix2 k ⟨2048 + n.val, by omega⟩)) := by
  unfold Columns.entry
  pointwise [refProduct]

theorem refResult_apply (u : FVec Ideal S32768x1024 .bf16) (w : FVec Ideal S1024x5184 .f32) (e : Fin 8) (y x : Fin 64) (n : Fin 3072) :
    refResult (F := Ideal) u w (ix4 e y x n)
      = Columns.entry (fun k => u (ix2 ⟨e.val * 4096 + x.val * 64 + y.val, by omega⟩ k)) (fun k => w (ix2 k ⟨2048 + n.val, by omega⟩)) := by
  have h : refResult (F := Ideal) u w (ix4 e y x n) = refProduct (F := Ideal) u w (ix3 e ⟨y.val * 64 + x.val, by omega⟩ n) := by
    pointwise [refResult]
  rw [h, refProduct_apply]
  refine congrArg (Columns.entry · _) (funext fun k => (refTokens_apply u e _ k).trans (congrArg (fun r => u (ix2 r k)) (Fin.ext ?_)))
  show e.val * 4096 + (y.val * 64 + x.val) % 64 * 64 + (y.val * 64 + x.val) / 64 = e.val * 4096 + x.val * 64 + y.val
  omega

end

open Cert.Kernel5Ideal Cert.Kernel5Ideal.Gen

theorem algebraic : Cert.algebraic_Kernel5Ideal_Reference5Ideal (hKernel5Ideal := Cert.Kernel5Ideal.Gen.facts)
    (hReference5Ideal := Cert.Reference5Ideal.Gen.facts) := by
  intro m g m' g' _ hargs
  refine ⟨fun c => (dats m 0 c).arrAt 3 cfg0.N, Value.run_blocks m g, ?_⟩
  refine (θ_run Cert.Reference5Ideal.defs _ _).mono (fun r h c => ⟨(h c).1.trans ?_, (h c).2⟩) (Cert.Reference5Ideal.Value.run m' g')
  obtain ⟨e0, e1⟩ := hargs c
  refine funext fun (j : S8x64x64x3072.Idx) => ?_
  have hj : j = ix4 (j 0) (j 1) (j 2) (j 3) := by
    refine funext fun a => ?_
    match a with
    | ⟨0, _⟩ => rfl
    | ⟨1, _⟩ => rfl
    | ⟨2, _⟩ => rfl
    | ⟨3, _⟩ => rfl
  rw [hj]
  refine (refResult_apply _ _ (j 0) (j 1) (j 2) (j 3)).trans ?_
  rw [e0, e1]
  exact (program_apply m c (j 0) (j 1) (j 2) (j 3)).symm

end Cert.Proof.Xbc

end
-- ==== Proof.Gates.lean ====
/-
  The projection to a mixer's gates: what the program computes. Each block of tokens is permuted
  to column order by a one-hot product and multiplied by the weights.
-/
module

public import proofs.«01_k».proof.Proof.Columns
public import proofs.«01_k».proof.Proof.Gen.Kernel6Ideal.Value
public import Idealize.ShloMosaic.Lib.Pipeline.ValueKit.Acc

@[expose] public section

set_option maxRecDepth 16384

noncomputable section

namespace Cert.Proof.Gates

open Cert.Kernel6Ideal Cert.Kernel6Ideal.Gen Idealize.ShloMosaic Idealize.ShloMosaic.TcCoe Idealize.SL.Sem
open Idealize.ShloMosaic.Pipeline (Dat Window)

theorem moved_apply (p : Vec Ideal S512x512 .bf16) (x : Vec Ideal S1x16x32x1024 .bf16) (q : Fin 512) (k : Fin 1024) :
    k0_pay1 p x (ix2 q k) = ∑ r : Fin 512, p (ix2 q r) * x (ix4 0 ⟨r.val / 32, by omega⟩ ⟨r.val % 32, by omega⟩ k) := by
  pointwise [k0_pay1]

theorem product_apply (x : Vec Ideal S512x1024 .bf16) (w : Vec Ideal S1024x2048 .bf16) (a : Fin 32) (b : Fin 16) (n : Fin 2048) :
    k0_pay2 x w (ix4 0 a b n) = ∑ k : Fin 1024, x (ix2 ⟨a.val * 16 + b.val, by omega⟩ k) * w (ix2 k n) := by
  pointwise [k0_pay2]

section

variable {F : FTy → Type} [FloatOps F]

/-- The matrix with ones on the diagonal, as the host makes it. -/
def unit : FVec F S512x512 .f32 :=
  uitofp .f32 (cmpi .eq (addi (iotaInDim S512x512 32 0) (broadcastInDim S512x512 ![] bcast_S_S512x512 (constantI S_ 32 0#32))) (iotaInDim S512x512 32 1))

/-- The permutation: the rows of that matrix, 16 rows of 32 taken column by column. -/
def perm : FVec F S512x512 .bf16 :=
  truncf .bf16 (shapeCast S512x512 (transpose S32x16x512 [1, 0, 2] (shapeCast S16x32x512 (unit (F := F)) shapeCasts_S512x512_S16x32x512)
    transposes_S16x32x512_S32x16x512_1_0_2) shapeCasts_S32x16x512_S512x512) bitsLt_bf16_f32

end

theorem unit_apply (q p : Fin 512) : unit (F := Ideal) (ix2 q p) = if q = p then (1 : EReal) else 0 := by
  refine Eq.trans ?_ (Columns.one_hot q p)
  pointwise [unit]

theorem perm_apply (q p : Fin 512) : perm (F := Ideal) (ix2 q p) = if (⟨q.val % 16 * 32 + q.val / 16, by omega⟩ : Fin 512) = p then (1 : EReal) else 0 := by
  refine Eq.trans ?_ (unit_apply _ p)
  pointwise [perm]

theorem index_0 : ∀ t : Fin grid0.N, cc0_transform_0 (grid0.coords t) = ![t.val / 8, t.val / 2 % 4, t.val % 2, 0] := by decide +kernel
theorem index_1 : ∀ t : Fin grid0.N, cc0_transform_1 (grid0.coords t) = ![0, 0] := by decide +kernel
theorem index_3 : ∀ t : Fin grid0.N, cc0_transform_3 (grid0.coords t) = ![t.val / 8, t.val % 2, t.val / 2 % 4, 0] := by decide +kernel

theorem points : grid0.N = 64 := N_0
theorem point_lt (t : Fin grid0.N) : t.val < 64 := points ▸ t.isLt

section

variable {F : FTy → Type} [FloatOps F]
variable (m : (ℓ : Loc nD τ sig) → Buf (Elt F) ℓ) (c : Dev nD) (t : Fin grid0.N)

theorem V_v0 : V m c main_v0 = truncf .bf16 (m (c, main_arg1) : Vec F S1024x2048 .f32) bitsLt_bf16_f32 := by
  unfold V hostOps0; after_results
theorem V_v1 : V m c main_v1 = shapeCast S8x64x64x1024 (m (c, main_arg0) : Vec F S32768x1024 .bf16) shapeCasts_S32768x1024_S8x64x64x1024 := by
  unfold V hostOps0; after_results; rfl
theorem V_v11 : V m c main_v11 = perm (F := F) := by
  unfold V hostOps0; after_results; rfl

/-- The block of tokens a point stages. -/
abbrev blk0 : Vec F S1x16x32x1024 .bf16 := iblk m c 0 t
/-- The columns of the weights a point stages. -/
abbrev blk1 : Vec F S1024x2048 .bf16 := iblk m c 1 t
/-- The permutation. -/
abbrev blk2 : Vec F S512x512 .bf16 := iblk m c 2 t

/-- The tokens laid on the grid. -/
theorem grid_apply (u : Vec F S32768x1024 .bf16) (e : Fin 8) (i j : Fin 64) (k : Fin 1024) :
    shapeCast S8x64x64x1024 u shapeCasts_S32768x1024_S8x64x64x1024 (ix4 e i j k) = u (ix2 ⟨e.val * 4096 + i.val * 64 + j.val, by omega⟩ k) := by
  pointwise

theorem blk0_apply (a : Fin 16) (b : Fin 32) (k : Fin 1024) : blk0 m c t (ix4 0 a b k)
    = (m (c, main_arg0) : Vec F S32768x1024 .bf16)
      (ix2 ⟨t.val / 8 * 4096 + (t.val / 2 % 4 * 16 + a.val) * 64 + (t.val % 2 * 32 + b.val), by have := point_lt t; omega⟩ k) := by
  refine (congrArg (V m c main_v1) (funext fun a => Fin.ext ?_)).trans ((congrFun (V_v1 m c) _).trans
    (grid_apply _ ⟨t.val / 8, by have := point_lt t; omega⟩ ⟨t.val / 2 % 4 * 16 + a.val, by omega⟩ ⟨t.val % 2 * 32 + b.val, by omega⟩ k))
  match a with
  | ⟨0, h⟩ => exact (Window.rect_emb_val (cfg0.win 0) t _ ⟨0, h⟩).trans ((congrArg (· * 1 + 0) (congrFun (index_0 t) 0)).trans (by show t.val / 8 * 1 + 0 = t.val / 8; omega))
  | ⟨1, h⟩ => exact (Window.rect_emb_val (cfg0.win 0) t _ ⟨1, h⟩).trans (congrArg (· * 16 + _) (congrFun (index_0 t) 1))
  | ⟨2, h⟩ => exact (Window.rect_emb_val (cfg0.win 0) t _ ⟨2, h⟩).trans (congrArg (· * 32 + _) (congrFun (index_0 t) 2))
  | ⟨3, h⟩ => exact (Window.rect_emb_val (cfg0.win 0) t _ ⟨3, h⟩).trans ((congrArg (· * 1024 + k.val) (congrFun (index_0 t) 3)).trans (by show 0 * 1024 + k.val = k.val; omega))

theorem blk2_apply (q p : Fin 512) : blk2 m c t (ix2 q p) = perm (F := F) (ix2 q p) := by
  refine (congrArg (V m c main_v11) (funext fun a => Fin.ext ?_)).trans (congrFun (V_v11 m c) (ix2 q p : S512x512.Idx))
  match a with
  | ⟨0, h⟩ => exact (Window.rect_emb_val (cfg0.win 2) t _ ⟨0, h⟩).trans (by show 0 * 512 + q.val = q.val; omega)
  | ⟨1, h⟩ => exact (Window.rect_emb_val (cfg0.win 2) t _ ⟨1, h⟩).trans (by show 0 * 512 + p.val = p.val; omega)

/-- The permuted block a point multiplies. -/
def moved : Vec F S512x1024 .bf16 := k0_pay1 (blk2 m c t) (blk0 m c t)

/-- What a point leaves in its block of the result. -/
theorem left_eq : outsAt0 m c t = k0_pay2 (moved m c t) (blk1 m c t) := by
  unfold outsAt0
  frame_out
  rfl

/-- The result's entry of a block is what the block's point leaves there. -/
theorem result_apply (a : Fin 32) (b : Fin 16) (n : Fin 2048) :
    ((dats m 0 c).arrAt 3 cfg0.N : Vec F S8x64x64x2048 .bf16)
        (ix4 ⟨t.val / 8, by have := point_lt t; omega⟩ ⟨t.val % 2 * 32 + a.val, by omega⟩ ⟨t.val / 2 % 4 * 16 + b.val, by omega⟩
          n)
      = k0_pay2 (moved m c t) (blk1 m c t) (ix4 0 a b n) := by
  have h := (dats m 0 c).arrAt_emb_eq_flushed 3 Value.disjoint3 t (flush0_3 t) (ix4 0 a b n)
  have hi : ((cfg0.win 3).blk t).view.emb (ix4 0 a b n)
      = (ix4 ⟨t.val / 8, by have := point_lt t; omega⟩ ⟨t.val % 2 * 32 + a.val, by omega⟩ ⟨t.val / 2 % 4 * 16 + b.val, by omega⟩
          n : S8x64x64x2048.Idx) := by
    refine funext fun x => Fin.ext ?_
    match x with
    | ⟨0, h⟩ => exact (Window.rect_emb_val (cfg0.win 3) t _ ⟨0, h⟩).trans ((congrArg (· * 1 + 0) (congrFun (index_3 t) 0)).trans (by show t.val / 8 * 1 + 0 = t.val / 8; omega))
    | ⟨1, h⟩ => exact (Window.rect_emb_val (cfg0.win 3) t _ ⟨1, h⟩).trans (congrArg (· * 32 + a.val) (congrFun (index_3 t) 1))
    | ⟨2, h⟩ => exact (Window.rect_emb_val (cfg0.win 3) t _ ⟨2, h⟩).trans (congrArg (· * 16 + b.val) (congrFun (index_3 t) 2))
    | ⟨3, h⟩ => exact (Window.rect_emb_val (cfg0.win 3) t _ ⟨3, h⟩).trans ((congrArg (· * 2048 + n.val) (congrFun (index_3 t) 3)).trans (by show 0 * 2048 + n.val = n.val; omega))
  rw [hi] at h
  exact h.trans ((congrFun (Value.flushed3 m c t) (ix4 0 a b n)).trans (congrFun (left_eq m c t) (ix4 0 a b n)))

end

section

variable (m : (ℓ : Loc nD τ sig) → Buf (Elt Ideal) ℓ) (c : Dev nD) (t : Fin grid0.N)

theorem blk1_apply (k : Fin 1024) (n : Fin 2048) : blk1 m c t (ix2 k n) = (m (c, main_arg1) : Vec Ideal S1024x2048 .f32) (ix2 k n) := by
  refine (congrArg (V m c main_v0) (funext fun a => Fin.ext ?_)).trans (congrFun (V_v0 m c) (ix2 k n : S1024x2048.Idx))
  match a with
  | ⟨0, h⟩ => exact (Window.rect_emb_val (cfg0.win 1) t _ ⟨0, h⟩).trans ((congrArg (· * 1024 + k.val) (congrFun (index_1 t) 0)).trans (by show 0 * 1024 + k.val = k.val; omega))
  | ⟨1, h⟩ => exact (Window.rect_emb_val (cfg0.win 1) t _ ⟨1, h⟩).trans ((congrArg (· * 2048 + n.val) (congrFun (index_1 t) 1)).trans (by show 0 * 2048 + n.val = n.val; omega))

/-- The permuted block holds the tokens in column order. -/
theorem moved_eq (a : Fin 32) (b : Fin 16) (k : Fin 1024) : moved m c t (ix2 ⟨a.val * 16 + b.val, by omega⟩ k)
    = (m (c, main_arg0) : Vec Ideal S32768x1024 .bf16)
      (ix2 ⟨t.val / 8 * 4096 + (t.val / 2 % 4 * 16 + b.val) * 64 + (t.val % 2 * 32 + a.val), by have := point_lt t; omega⟩ k) := by
  unfold moved
  rw [moved_apply]
  simp only [blk2_apply, perm_apply]
  rw [Columns.pick, blk0_apply]
  refine congrArg (m (c, main_arg0) : Vec Ideal S32768x1024 .bf16) (congrArg (ix2 · k) (Fin.ext ?_))
  show t.val / 8 * 4096 + (t.val / 2 % 4 * 16 + ((a.val * 16 + b.val) % 16 * 32 + (a.val * 16 + b.val) / 16) / 32) * 64
      + (t.val % 2 * 32 + ((a.val * 16 + b.val) % 16 * 32 + (a.val * 16 + b.val) / 16) % 32)
    = t.val / 8 * 4096 + (t.val / 2 % 4 * 16 + b.val) * 64 + (t.val % 2 * 32 + a.val)
  have e1 : (a.val * 16 + b.val) % 16 = b.val := by omega
  have e2 : (a.val * 16 + b.val) / 16 = a.val := by omega
  rw [e1, e2]
  omega

/-- The program's result: the product of the token at a row and a column of the grid with a column of the weights. -/
theorem program_apply (e : Fin 8) (y x : Fin 64) (n : Fin 2048) : ((dats m 0 c).arrAt 3 cfg0.N : Vec Ideal S8x64x64x2048 .bf16) (ix4 e y x n)
    = Columns.entry (fun k => (m (c, main_arg0) : Vec Ideal S32768x1024 .bf16) (ix2 ⟨e.val * 4096 + x.val * 64 + y.val, by omega⟩ k))
        (fun k => (m (c, main_arg1) : Vec Ideal S1024x2048 .f32) (ix2 k n)) := by
  let t : Fin grid0.N := ⟨8 * e.val + 2 * (x.val / 16) + y.val / 32, by have := points; omega⟩
  have ht : t.val = 8 * e.val + 2 * (x.val / 16) + y.val / 32 := rfl
  have h := result_apply m c t ⟨y.val % 32, by omega⟩ ⟨x.val % 16, by omega⟩ n
  have hi : (ix4 ⟨t.val / 8, by have := point_lt t; omega⟩ ⟨t.val % 2 * 32 + y.val % 32, by omega⟩ ⟨t.val / 2 % 4 * 16 + x.val % 16, by omega⟩
      n : S8x64x64x2048.Idx) = ix4 e y x n := by
    refine funext fun a => Fin.ext ?_
    match a with
    | ⟨0, _⟩ => show t.val / 8 = e.val; omega
    | ⟨1, _⟩ => show t.val % 2 * 32 + y.val % 32 = y.val; omega
    | ⟨2, _⟩ => show t.val / 2 % 4 * 16 + x.val % 16 = x.val; omega
    | ⟨3, _⟩ => rfl
  rw [hi] at h
  refine h.trans ((product_apply _ _ _ _ _).trans (Finset.sum_congr rfl fun k _ => ?_))
  refine congrArg₂ (· * ·) ((moved_eq m c t _ _ k).trans ?_) (blk1_apply m c t k n)
  · refine congrArg (m (c, main_arg0) : Vec Ideal S32768x1024 .bf16) (congrArg (ix2 · k) (Fin.ext ?_))
    show t.val / 8 * 4096 + (t.val / 2 % 4 * 16 + x.val % 16) * 64 + (t.val % 2 * 32 + y.val % 32) = e.val * 4096 + x.val * 64 + y.val
    omega

end

end Cert.Proof.Gates

end
-- ==== Proof.GatesAlgebraic.lean ====
/-
  The claims of the projection to a mixer's gates: arguments unchanged and counters at zero, and,
  over the extended reals, the program's and the reference's results the same.
-/
module

public import proofs.«01_k».proof.Defs
public import proofs.«01_k».proof.Proof.Gates
public import proofs.«01_k».proof.Proof.Gen.Kernel6.Frame
public import proofs.«01_k».proof.Proof.Gen.Reference6Ideal.Run

@[expose] public section

set_option maxRecDepth 16384

noncomputable section

namespace Cert.Proof.Gates

open Idealize.ShloMosaic Idealize.ShloMosaic.TcCoe Idealize.SL.Sem

theorem frame_kernel : Cert.quiescent_Kernel6 (hKernel6 := Cert.Kernel6.Gen.facts) := fun m ρ _ => Cert.Kernel6.Gen.frame m ρ

theorem frame_ideal : Cert.quiescent_Kernel6Ideal (hKernel6Ideal := Cert.Kernel6Ideal.Gen.facts) := fun m ρ _ => Cert.Kernel6Ideal.Gen.frame m ρ

theorem frame_reference : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩) (Cert.Reference6Ideal.Value.run m ρ)

section

open Cert.Reference6Ideal Cert.Reference6Ideal.Gen

variable {F : FTy → Type} [FloatOps F]

/-- The tokens in column order. -/
def refTokens (u : FVec F S32768x1024 .bf16) : FVec F S8x4096x1024 .f32 :=
  shapeCast S8x4096x1024 (transpose S8x64x64x1024 [0, 2, 1, 3] (shapeCast S8x64x64x1024 (extf .f32 u bitsLt_bf16_f32) shapeCasts_S32768x1024_S8x64x64x1024)
    transposes_S8x64x64x1024_S8x64x64x1024_0_2_1_3) shapeCasts_S8x64x64x1024_S8x4096x1024

/-- Their products with the weights' columns. -/
def refProduct (u : FVec F S32768x1024 .bf16) (w : FVec F S1024x2048 .f32) : FVec F S8x4096x2048 .bf16 :=
  truncf .bf16 (Host.dotGeneral dot_S8x4096x1024_S1024x2048_S8x4096x2048_2_0_01_1_n_n none (refTokens u) w) bitsLt_bf16_f32

/-- The reference's result. -/
def refResult (u : FVec F S32768x1024 .bf16) (w : FVec F S1024x2048 .f32) : FVec F S8x64x64x2048 .bf16 :=
  shapeCast S8x64x64x2048 (refProduct u w) shapeCasts_S8x4096x2048_S8x64x64x2048

theorem refTokens_apply (u : FVec Ideal S32768x1024 .bf16) (e : Fin 8) (q : Fin 4096) (k : Fin 1024) :
    refTokens (F := Ideal) u (ix3 e q k) = u (ix2 ⟨e.val * 4096 + q.val % 64 * 64 + q.val / 64, by omega⟩ k) := by
  pointwise [refTokens]

theorem refProduct_apply (u : FVec Ideal S32768x1024 .bf16) (w : FVec Ideal S1024x2048 .f32) (e : Fin 8) (q : Fin 4096) (n : Fin 2048) :
    refProduct (F := Ideal) u w (ix3 e q n) = Columns.entry (fun k => refTokens (F := Ideal) u (ix3 e q k)) (fun k => w (ix2 k n)) := by
  unfold Columns.entry
  pointwise [refProduct]

theorem refResult_apply (u : FVec Ideal S32768x1024 .bf16) (w : FVec Ideal S1024x2048 .f32) (e : Fin 8) (y x : Fin 64) (n : Fin 2048) :
    refResult (F := Ideal) u w (ix4 e y x n)
      = Columns.entry (fun k => u (ix2 ⟨e.val * 4096 + x.val * 64 + y.val, by omega⟩ k)) (fun k => w (ix2 k n)) := by
  have h : refResult (F := Ideal) u w (ix4 e y x n) = refProduct (F := Ideal) u w (ix3 e ⟨y.val * 64 + x.val, by omega⟩ n) := by
    pointwise [refResult]
  rw [h, refProduct_apply]
  refine congrArg (Columns.entry · _) (funext fun k => (refTokens_apply u e _ k).trans (congrArg (fun r => u (ix2 r k)) (Fin.ext ?_)))
  show e.val * 4096 + (y.val * 64 + x.val) % 64 * 64 + (y.val * 64 + x.val) / 64 = e.val * 4096 + x.val * 64 + y.val
  omega

end

open Cert.Kernel6Ideal Cert.Kernel6Ideal.Gen

theorem algebraic : Cert.algebraic_Kernel6Ideal_Reference6Ideal (hKernel6Ideal := Cert.Kernel6Ideal.Gen.facts)
    (hReference6Ideal := Cert.Reference6Ideal.Gen.facts) := by
  intro m g m' g' _ hargs
  refine ⟨fun c => (dats m 0 c).arrAt 3 cfg0.N, Value.run_blocks m g, ?_⟩
  refine (θ_run Cert.Reference6Ideal.defs _ _).mono (fun r h c => ⟨(h c).1.trans ?_, (h c).2⟩) (Cert.Reference6Ideal.Value.run m' g')
  obtain ⟨e0, e1⟩ := hargs c
  refine funext fun (j : S8x64x64x2048.Idx) => ?_
  have hj : j = ix4 (j 0) (j 1) (j 2) (j 3) := by
    refine funext fun a => ?_
    match a with
    | ⟨0, _⟩ => rfl
    | ⟨1, _⟩ => rfl
    | ⟨2, _⟩ => rfl
    | ⟨3, _⟩ => rfl
  rw [hj]
  refine (refResult_apply _ _ (j 0) (j 1) (j 2) (j 3)).trans ?_
  rw [e0, e1]
  exact (program_apply m c (j 0) (j 1) (j 2) (j 3)).symm

end Cert.Proof.Gates

end
-- ==== Proof.Hyena.lean ====
/-
  The Hyena mixer's input projection: what the program computes. Each point multiplies a block of rows by a half of the
  weights' columns and adds the bias.
-/
module

public import proofs.«01_k».proof.Proof.Columns
public import proofs.«01_k».proof.Proof.Gen.Kernel7Ideal.Value
public import Idealize.ShloMosaic.Lib.Pipeline.ValueKit.Acc

@[expose] public section

set_option maxRecDepth 16384

noncomputable section

namespace Cert.Proof.Hyena

open Cert.Kernel7Ideal Cert.Kernel7Ideal.Gen Idealize.ShloMosaic Idealize.ShloMosaic.TcCoe Idealize.SL.Sem
open Idealize.ShloMosaic.Pipeline (Dat Window)

theorem product_apply (x : Vec Ideal S512x1024 .bf16) (w : Vec Ideal S1024x1536 .bf16) (b : Vec Ideal S1x1536 .f32) (r : Fin 512) (n : Fin 1536) :
    k0_pay1 x w b (ix2 r n) = Columns.entry (fun k => x (ix2 r k)) (fun k => w (ix2 k n)) + b (ix2 0 n) := by
  unfold Columns.entry
  pointwise [k0_pay1]

theorem index_0 : ∀ t : Fin grid0.N, cc0_transform_0 (grid0.coords t) = ![t.val / 2, 0] := by decide +kernel
theorem index_1 : ∀ t : Fin grid0.N, cc0_transform_1 (grid0.coords t) = ![0, t.val % 2] := by decide +kernel
theorem index_2 : ∀ t : Fin grid0.N, cc0_transform_2 (grid0.coords t) = ![0, t.val % 2] := by decide +kernel
theorem index_3 : ∀ t : Fin grid0.N, cc0_transform_3 (grid0.coords t) = ![t.val / 2, t.val % 2] := by decide +kernel

theorem points : grid0.N = 128 := N_0
theorem point_lt (t : Fin grid0.N) : t.val < 128 := points ▸ t.isLt

section

variable {F : FTy → Type} [FloatOps F]
variable (m : (ℓ : Loc nD τ sig) → Buf (Elt F) ℓ) (c : Dev nD) (t : Fin grid0.N)

theorem V_v0 : V m c main_v0 = truncf .bf16 (m (c, main_arg1) : Vec F S1024x3072 .f32) bitsLt_bf16_f32 := by
  unfold V hostOps0; after_results
theorem V_v1 : V m c main_v1 = shapeCast S1x3072 (m (c, main_arg2) : Vec F S3072 .f32) shapeCasts_S3072_S1x3072 := by
  unfold V hostOps0; after_results; rfl

/-- The rows a point stages. -/
abbrev blk0 : Vec F S512x1024 .bf16 := iblk m c 0 t
/-- The columns of the weights it stages. -/
abbrev blk1 : Vec F S1024x1536 .bf16 := iblk m c 1 t
/-- The bias of those columns. -/
abbrev blk2 : Vec F S1x1536 .f32 := iblk m c 2 t

theorem blk0_apply (r : Fin 512) (k : Fin 1024) : blk0 m c t (ix2 r k)
    = (m (c, main_arg0) : Vec F S32768x1024 .bf16) (ix2 ⟨t.val / 2 * 512 + r.val, by have := point_lt t; omega⟩ k) := by
  refine (congrArg (V m c main_arg0) (funext fun a => Fin.ext ?_)).trans (congrFun (V_main_arg0 m c) _)
  match a with
  | ⟨0, h⟩ => exact (Window.rect_emb_val (cfg0.win 0) t _ ⟨0, h⟩).trans (congrArg (· * 512 + r.val) (congrFun (index_0 t) 0))
  | ⟨1, h⟩ => exact (Window.rect_emb_val (cfg0.win 0) t _ ⟨1, h⟩).trans ((congrArg (· * 1024 + k.val) (congrFun (index_0 t) 1)).trans (by show 0 * 1024 + k.val = k.val; omega))

theorem bias_apply (b : Vec F S3072 .f32) (n : Fin 3072) : shapeCast S1x3072 b shapeCasts_S3072_S1x3072 (ix2 0 n) = b (ix1 n) := by
  pointwise

theorem blk2_apply (n : Fin 1536) : blk2 m c t (ix2 0 n) = (m (c, main_arg2) : Vec F S3072 .f32) (ix1 ⟨t.val % 2 * 1536 + n.val, by omega⟩) := by
  refine (congrArg (V m c main_v1) (funext fun a => Fin.ext ?_)).trans ((congrFun (V_v1 m c) _).trans (bias_apply _ ⟨t.val % 2 * 1536 + n.val, by omega⟩))
  match a with
  | ⟨0, h⟩ => exact (Window.rect_emb_val (cfg0.win 2) t _ ⟨0, h⟩).trans (congrArg (· * 1 + 0) (congrFun (index_2 t) 0))
  | ⟨1, h⟩ => exact (Window.rect_emb_val (cfg0.win 2) t _ ⟨1, h⟩).trans (congrArg (· * 1536 + n.val) (congrFun (index_2 t) 1))

theorem left_eq : out0_3 (blk0 m c t) (blk1 m c t) (blk2 m c t) = k0_pay1 (blk0 m c t) (blk1 m c t) (blk2 m c t) := by
  frame_out

/-- The result's entry of a block is what the block's point leaves there. -/
theorem result_apply (r : Fin 512) (n : Fin 1536) :
    ((dats m 0 c).arrAt 3 cfg0.N : Vec F S32768x3072 .bf16) (ix2 ⟨t.val / 2 * 512 + r.val, by have := point_lt t; omega⟩ ⟨t.val % 2 * 1536 + n.val, by omega⟩)
      = k0_pay1 (blk0 m c t) (blk1 m c t) (blk2 m c t) (ix2 r n) := by
  have h := (dats m 0 c).arrAt_emb_eq_flushed 3 Value.disjoint3 t (flush0_3 t) (ix2 r n)
  have hi : ((cfg0.win 3).blk t).view.emb (ix2 r n)
      = (ix2 ⟨t.val / 2 * 512 + r.val, by have := point_lt t; omega⟩ ⟨t.val % 2 * 1536 + n.val, by omega⟩ : S32768x3072.Idx) := by
    refine funext fun x => Fin.ext ?_
    match x with
    | ⟨0, h⟩ => exact (Window.rect_emb_val (cfg0.win 3) t _ ⟨0, h⟩).trans (congrArg (· * 512 + r.val) (congrFun (index_3 t) 0))
    | ⟨1, h⟩ => exact (Window.rect_emb_val (cfg0.win 3) t _ ⟨1, h⟩).trans (congrArg (· * 1536 + n.val) (congrFun (index_3 t) 1))
  rw [hi] at h
  exact h.trans ((congrFun (Value.flushed3 m c t) (ix2 r n)).trans (congrFun (left_eq m c t) (ix2 r n)))

end

section

variable (m : (ℓ : Loc nD τ sig) → Buf (Elt Ideal) ℓ) (c : Dev nD) (t : Fin grid0.N)

theorem blk1_apply (k : Fin 1024) (n : Fin 1536) : blk1 m c t (ix2 k n)
    = (m (c, main_arg1) : Vec Ideal S1024x3072 .f32) (ix2 k ⟨t.val % 2 * 1536 + n.val, by omega⟩) := by
  refine (congrArg (V m c main_v0) (funext fun a => Fin.ext ?_)).trans (congrFun (V_v0 m c) (ix2 k ⟨t.val % 2 * 1536 + n.val, by omega⟩ : S1024x3072.Idx))
  match a with
  | ⟨0, h⟩ => exact (Window.rect_emb_val (cfg0.win 1) t _ ⟨0, h⟩).trans ((congrArg (· * 1024 + k.val) (congrFun (index_1 t) 0)).trans (by show 0 * 1024 + k.val = k.val; omega))
  | ⟨1, h⟩ => exact (Window.rect_emb_val (cfg0.win 1) t _ ⟨1, h⟩).trans (congrArg (· * 1536 + n.val) (congrFun (index_1 t) 1))

/-- The program's result: a row's product with a column of the weights, and the bias. -/
theorem program_apply (s : Fin 32768) (n : Fin 3072) : ((dats m 0 c).arrAt 3 cfg0.N : Vec Ideal S32768x3072 .bf16) (ix2 s n)
    = Columns.entry (fun k => (m (c, main_arg0) : Vec Ideal S32768x1024 .bf16) (ix2 s k)) (fun k => (m (c, main_arg1) : Vec Ideal S1024x3072 .f32) (ix2 k n))
      + (m (c, main_arg2) : Vec Ideal S3072 .f32) (ix1 n) := by
  let t : Fin grid0.N := ⟨2 * (s.val / 512) + n.val / 1536, by have := points; omega⟩
  have ht : t.val = 2 * (s.val / 512) + n.val / 1536 := rfl
  have h := result_apply m c t ⟨s.val % 512, by omega⟩ ⟨n.val % 1536, by omega⟩
  have hs : ∀ p, (⟨t.val / 2 * 512 + s.val % 512, p⟩ : Fin 32768) = s := fun _ => Fin.ext (by show t.val / 2 * 512 + s.val % 512 = s.val; omega)
  have hn : ∀ p, (⟨t.val % 2 * 1536 + n.val % 1536, p⟩ : Fin 3072) = n := fun _ => Fin.ext (by show t.val % 2 * 1536 + n.val % 1536 = n.val; omega)
  rw [hs, hn] at h
  refine h.trans ((product_apply _ _ _ _ _).trans ?_)
  simp only [blk0_apply, blk1_apply, blk2_apply, hs, hn]

end

end Cert.Proof.Hyena

end
-- ==== Proof.HyenaAlgebraic.lean ====
/-
  The claims of the Hyena mixer's input projection: arguments unchanged and counters at zero, and, over the extended reals, the
  program's and the reference's results the same.
-/
module

public import proofs.«01_k».proof.Defs
public import proofs.«01_k».proof.Proof.Hyena
public import proofs.«01_k».proof.Proof.Gen.Kernel7.Frame
public import proofs.«01_k».proof.Proof.Gen.Reference7Ideal.Run

@[expose] public section

set_option maxRecDepth 16384

noncomputable section

namespace Cert.Proof.Hyena

open Idealize.ShloMosaic Idealize.ShloMosaic.TcCoe Idealize.SL.Sem

theorem frame_kernel : Cert.quiescent_Kernel7 (hKernel7 := Cert.Kernel7.Gen.facts) := fun m ρ _ => Cert.Kernel7.Gen.frame m ρ

theorem frame_ideal : Cert.quiescent_Kernel7Ideal (hKernel7Ideal := Cert.Kernel7Ideal.Gen.facts) := fun m ρ _ => Cert.Kernel7Ideal.Gen.frame m ρ

theorem frame_reference : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩) (Cert.Reference7Ideal.Value.run m ρ)

section

open Cert.Reference7Ideal Cert.Reference7Ideal.Gen

variable {F : FTy → Type} [FloatOps F]

/-- The reference's result. -/
def refResult (u : FVec F S32768x1024 .bf16) (w : FVec F S1024x3072 .f32) (b : FVec F S3072 .f32) : FVec F S32768x3072 .bf16 :=
  truncf .bf16 (addf (Host.dotGeneral dot_S32768x1024_S1024x3072_S32768x3072_1_0_0_1_n_n none (extf .f32 u bitsLt_bf16_f32) w)
    (broadcastInDim S32768x3072 ![0, 1] bcast_S1x3072_S32768x3072_0_1 (broadcastInDim S1x3072 ![1] bcast_S3072_S1x3072_1 b))) bitsLt_bf16_f32

theorem refResult_apply (u : FVec Ideal S32768x1024 .bf16) (w : FVec Ideal S1024x3072 .f32) (b : FVec Ideal S3072 .f32) (s : Fin 32768) (n : Fin 3072) :
    refResult (F := Ideal) u w b (ix2 s n) = Columns.entry (fun k => u (ix2 s k)) (fun k => w (ix2 k n)) + b (ix1 n) := by
  unfold Columns.entry
  pointwise [refResult]

end

open Cert.Kernel7Ideal Cert.Kernel7Ideal.Gen

theorem algebraic : Cert.algebraic_Kernel7Ideal_Reference7Ideal (hKernel7Ideal := Cert.Kernel7Ideal.Gen.facts)
    (hReference7Ideal := Cert.Reference7Ideal.Gen.facts) := by
  intro m g m' g' _ hargs
  refine ⟨fun c => (dats m 0 c).arrAt 3 cfg0.N, Value.run_blocks m g, ?_⟩
  refine (θ_run Cert.Reference7Ideal.defs _ _).mono (fun r h c => ⟨(h c).1.trans ?_, (h c).2⟩) (Cert.Reference7Ideal.Value.run m' g')
  obtain ⟨e0, e1, e2⟩ := hargs c
  refine funext fun (j : S32768x3072.Idx) => ?_
  have hj : j = ix2 (j 0) (j 1) := by
    refine funext fun a => ?_
    match a with
    | ⟨0, _⟩ => rfl
    | ⟨1, _⟩ => rfl
  rw [hj]
  refine (refResult_apply _ _ _ (j 0) (j 1)).trans ?_
  rw [e0, e1, e2]
  exact (program_apply m c (j 0) (j 1)).symm

end Cert.Proof.Hyena

end
-- ==== Proof.HyenaOut.lean ====
/-
  The Hyena mixer's output projection with the layer's first tail: what the program computes. Each point multiplies a block
  of rows of one sequence by the weights, adds the bias and makes both results of the row.
-/
module

public import proofs.«01_k».proof.Proof.Norm
public import proofs.«01_k».proof.Proof.Columns
public import proofs.«01_k».proof.Proof.Gen.Kernel8Ideal.Value
public import Idealize.ShloMosaic.Lib.Pipeline.ValueKit.Acc

@[expose] public section

set_option maxRecDepth 16384

noncomputable section

namespace Cert.Proof.HyenaOut

open Cert.Kernel8Ideal Cert.Kernel8Ideal.Gen Idealize.ShloMosaic Idealize.ShloMosaic.TcCoe Idealize.SL.Sem
open Idealize.ShloMosaic.Pipeline (Dat Window)

/-- What a point makes of its blocks for the first result. -/
def normed {F : FTy → Type} [FloatOps F] (z : Vec F S1x512x1024 .bf16) (w : Vec F S1024x1024 .bf16) (o : Vec F S1x1024 .f32) (h : Vec F S512x1024 .f32)
    (gate : Vec F S1x1x1024 .f32) (g b : Vec F S1x1024 .f32) : Vec F S512x1024 .f32 :=
  k0_pay1 (k0_pay3 g) (k0_pay4 b) (k0_pay5 z w o h gate) (k0_pay6 z w o h gate)

/-- What it makes of them for the second. -/
def shifted {F : FTy → Type} [FloatOps F] (z : Vec F S1x512x1024 .bf16) (w : Vec F S1024x1024 .bf16) (o : Vec F S1x1024 .f32) (h : Vec F S512x1024 .f32)
    (gate : Vec F S1x1x1024 .f32) (g b : Vec F S1x1024 .f32) (scale shift : Vec F S1x1x1024 .f32) : Vec F S512x1024 .bf16 :=
  k0_pay2 (k0_pay3 g) (k0_pay4 b) (k0_pay5 z w o h gate) (k0_pay6 z w o h gate) scale shift

theorem normed_apply (z : Vec Ideal S1x512x1024 .bf16) (w : Vec Ideal S1024x1024 .bf16) (o : Vec Ideal S1x1024 .f32) (h : Vec Ideal S512x1024 .f32)
    (gate : Vec Ideal S1x1x1024 .f32) (g b : Vec Ideal S1x1024 .f32) (r : Fin 512) (d : Fin 1024) :
    normed z w o h gate g b (ix2 r d)
      = rowNorm (rowMix (fun k => h (ix2 r k)) (fun k => gate (ix3 0 0 k))
          (fun n => Columns.entry (fun k => z (ix3 0 r k)) (fun k => w (ix2 k n)) + o (ix2 0 n))) (fun k => g (ix2 0 k)) (fun k => b (ix2 0 k)) d := by
  unfold rowNorm rowMean rowMix Columns.entry
  pointwise [normed, k0_pay1, k0_pay3, k0_pay4, k0_pay5, k0_pay6]

theorem shifted_apply (z : Vec Ideal S1x512x1024 .bf16) (w : Vec Ideal S1024x1024 .bf16) (o : Vec Ideal S1x1024 .f32) (h : Vec Ideal S512x1024 .f32)
    (gate : Vec Ideal S1x1x1024 .f32) (g b : Vec Ideal S1x1024 .f32) (scale shift : Vec Ideal S1x1x1024 .f32) (r : Fin 512) (d : Fin 1024) :
    shifted z w o h gate g b scale shift (ix2 r d) = normed z w o h gate g b (ix2 r d) * (1 + scale (ix3 0 0 d)) + shift (ix3 0 0 d) := by
  unfold normed shifted
  generalize k0_pay3 g = g', k0_pay4 b = b', k0_pay5 z w o h gate = p, k0_pay6 z w o h gate = q
  pointwise [k0_pay2]

theorem index_0 : ∀ t : Fin grid0.N, cc0_transform_0 (grid0.coords t) = ![0, t.val % 8, t.val / 8] := by decide +kernel
theorem index_3 : ∀ t : Fin grid0.N, cc0_transform_3 (grid0.coords t) = ![t.val, 0] := by decide +kernel
theorem index_4 : ∀ t : Fin grid0.N, cc0_transform_4 (grid0.coords t) = ![t.val / 8, 0, 0] := by decide +kernel
theorem index_7 : ∀ t : Fin grid0.N, cc0_transform_7 (grid0.coords t) = ![t.val / 8, 0, 0] := by decide +kernel
theorem index_8 : ∀ t : Fin grid0.N, cc0_transform_8 (grid0.coords t) = ![t.val / 8, 0, 0] := by decide +kernel
theorem index_9 : ∀ t : Fin grid0.N, cc0_transform_9 (grid0.coords t) = ![t.val, 0] := by decide +kernel
theorem index_10 : ∀ t : Fin grid0.N, cc0_transform_10 (grid0.coords t) = ![t.val, 0] := by decide +kernel

theorem points : grid0.N = 64 := N_0
theorem point_lt (t : Fin grid0.N) : t.val < 64 := points ▸ t.isLt

section

variable {F : FTy → Type} [FloatOps F]
variable (m : (ℓ : Loc nD τ sig) → Buf (Elt F) ℓ) (c : Dev nD) (t : Fin grid0.N)

theorem V_v0 : V m c main_v0 = truncf .bf16 (m (c, main_arg1) : Vec F S1024x1024 .f32) bitsLt_bf16_f32 := by
  unfold V hostOps0; after_results
theorem V_v1 : V m c main_v1 = shapeCast S1x1024 (m (c, main_arg2) : Vec F S1024 .f32) shapeCasts_S1024_S1x1024 := by
  unfold V hostOps0; after_results; rfl
theorem V_v2 : V m c main_v2 = shapeCast S1x1024 (m (c, main_arg5) : Vec F S1024 .f32) shapeCasts_S1024_S1x1024 := by
  unfold V hostOps0; after_results; rfl
theorem V_v3 : V m c main_v3 = shapeCast S1x1024 (m (c, main_arg6) : Vec F S1024 .f32) shapeCasts_S1024_S1x1024 := by
  unfold V hostOps0; after_results; rfl

/-- The rows of the mixer's result a point stages. -/
abbrev blk0 : Vec F S1x512x1024 .bf16 := iblk m c 0 t
/-- The weights. -/
abbrev blk1 : Vec F S1024x1024 .bf16 := iblk m c 1 t
/-- The bias. -/
abbrev blk2 : Vec F S1x1024 .f32 := iblk m c 2 t
/-- The rows of the stream a point stages. -/
abbrev blk3 : Vec F S512x1024 .f32 := iblk m c 3 t
/-- The gate of a point's sequence. -/
abbrev blk4 : Vec F S1x1x1024 .f32 := iblk m c 4 t
/-- The norm's scale. -/
abbrev blk5 : Vec F S1x1024 .f32 := iblk m c 5 t
/-- The norm's shift. -/
abbrev blk6 : Vec F S1x1024 .f32 := iblk m c 6 t
/-- The modulation's scale of a point's sequence. -/
abbrev blk7 : Vec F S1x1x1024 .f32 := iblk m c 7 t
/-- The modulation's shift of a point's sequence. -/
abbrev blk8 : Vec F S1x1x1024 .f32 := iblk m c 8 t

theorem blk0_apply (r : Fin 512) (k : Fin 1024) : blk0 m c t (ix3 0 r k)
    = (m (c, main_arg0) : Vec F S1x4096x8192 .bf16) (ix3 0 ⟨t.val % 8 * 512 + r.val, by omega⟩ ⟨t.val / 8 * 1024 + k.val, by have := point_lt t; omega⟩) := by
  refine (congrArg (V m c main_arg0) (funext fun a => Fin.ext ?_)).trans (congrFun (V_main_arg0 m c) _)
  match a with
  | ⟨0, h⟩ => exact (Window.rect_emb_val (cfg0.win 0) t _ ⟨0, h⟩).trans (congrArg (· * 1 + 0) (congrFun (index_0 t) 0))
  | ⟨1, h⟩ => exact (Window.rect_emb_val (cfg0.win 0) t _ ⟨1, h⟩).trans (congrArg (· * 512 + r.val) (congrFun (index_0 t) 1))
  | ⟨2, h⟩ => exact (Window.rect_emb_val (cfg0.win 0) t _ ⟨2, h⟩).trans (congrArg (· * 1024 + k.val) (congrFun (index_0 t) 2))

theorem blk3_apply (r : Fin 512) (d : Fin 1024) : blk3 m c t (ix2 r d)
    = (m (c, main_arg3) : Vec F S32768x1024 .f32) (ix2 ⟨t.val * 512 + r.val, by have := point_lt t; omega⟩ d) := by
  refine (congrArg (V m c main_arg3) (funext fun a => Fin.ext ?_)).trans (congrFun (V_main_arg3 m c) _)
  match a with
  | ⟨0, h⟩ => exact (Window.rect_emb_val (cfg0.win 3) t _ ⟨0, h⟩).trans (congrArg (· * 512 + r.val) (congrFun (index_3 t) 0))
  | ⟨1, h⟩ => exact (Window.rect_emb_val (cfg0.win 3) t _ ⟨1, h⟩).trans ((congrArg (· * 1024 + d.val) (congrFun (index_3 t) 1)).trans (by show 0 * 1024 + d.val = d.val; omega))

theorem blk4_apply (d : Fin 1024) : blk4 m c t (ix3 0 0 d)
    = (m (c, main_arg4) : Vec F S8x1x1024 .f32) (ix3 ⟨t.val / 8, by have := point_lt t; omega⟩ 0 d) := by
  refine (congrArg (V m c main_arg4) (funext fun a => Fin.ext ?_)).trans (congrFun (V_main_arg4 m c) _)
  match a with
  | ⟨0, h⟩ => exact (Window.rect_emb_val (cfg0.win 4) t _ ⟨0, h⟩).trans ((congrArg (· * 1 + 0) (congrFun (index_4 t) 0)).trans (by show t.val / 8 * 1 + 0 = t.val / 8; omega))
  | ⟨1, h⟩ => exact (Window.rect_emb_val (cfg0.win 4) t _ ⟨1, h⟩).trans (congrArg (· * 1 + 0) (congrFun (index_4 t) 1))
  | ⟨2, h⟩ => exact (Window.rect_emb_val (cfg0.win 4) t _ ⟨2, h⟩).trans ((congrArg (· * 1024 + d.val) (congrFun (index_4 t) 2)).trans (by show 0 * 1024 + d.val = d.val; omega))

theorem blk7_apply (d : Fin 1024) : blk7 m c t (ix3 0 0 d)
    = (m (c, main_arg7) : Vec F S8x1x1024 .f32) (ix3 ⟨t.val / 8, by have := point_lt t; omega⟩ 0 d) := by
  refine (congrArg (V m c main_arg7) (funext fun a => Fin.ext ?_)).trans (congrFun (V_main_arg7 m c) _)
  match a with
  | ⟨0, h⟩ => exact (Window.rect_emb_val (cfg0.win 7) t _ ⟨0, h⟩).trans ((congrArg (· * 1 + 0) (congrFun (index_7 t) 0)).trans (by show t.val / 8 * 1 + 0 = t.val / 8; omega))
  | ⟨1, h⟩ => exact (Window.rect_emb_val (cfg0.win 7) t _ ⟨1, h⟩).trans (congrArg (· * 1 + 0) (congrFun (index_7 t) 1))
  | ⟨2, h⟩ => exact (Window.rect_emb_val (cfg0.win 7) t _ ⟨2, h⟩).trans ((congrArg (· * 1024 + d.val) (congrFun (index_7 t) 2)).trans (by show 0 * 1024 + d.val = d.val; omega))

theorem blk8_apply (d : Fin 1024) : blk8 m c t (ix3 0 0 d)
    = (m (c, main_arg8) : Vec F S8x1x1024 .f32) (ix3 ⟨t.val / 8, by have := point_lt t; omega⟩ 0 d) := by
  refine (congrArg (V m c main_arg8) (funext fun a => Fin.ext ?_)).trans (congrFun (V_main_arg8 m c) _)
  match a with
  | ⟨0, h⟩ => exact (Window.rect_emb_val (cfg0.win 8) t _ ⟨0, h⟩).trans ((congrArg (· * 1 + 0) (congrFun (index_8 t) 0)).trans (by show t.val / 8 * 1 + 0 = t.val / 8; omega))
  | ⟨1, h⟩ => exact (Window.rect_emb_val (cfg0.win 8) t _ ⟨1, h⟩).trans (congrArg (· * 1 + 0) (congrFun (index_8 t) 1))
  | ⟨2, h⟩ => exact (Window.rect_emb_val (cfg0.win 8) t _ ⟨2, h⟩).trans ((congrArg (· * 1024 + d.val) (congrFun (index_8 t) 2)).trans (by show 0 * 1024 + d.val = d.val; omega))

/-- A vector as a row. -/
theorem vector_apply (b : Vec F S1024 .f32) (n : Fin 1024) : shapeCast S1x1024 b shapeCasts_S1024_S1x1024 (ix2 0 n) = b (ix1 n) := by
  pointwise

theorem blk2_apply (d : Fin 1024) : blk2 m c t (ix2 0 d) = (m (c, main_arg2) : Vec F S1024 .f32) (ix1 d) := by
  refine (congrArg (V m c main_v1) (funext fun a => Fin.ext ?_)).trans ((congrFun (V_v1 m c) (ix2 0 d : S1x1024.Idx)).trans (vector_apply _ d))
  match a with
  | ⟨0, h⟩ => exact Window.rect_emb_val (cfg0.win 2) t _ ⟨0, h⟩
  | ⟨1, h⟩ => exact (Window.rect_emb_val (cfg0.win 2) t _ ⟨1, h⟩).trans (by show 0 * 1024 + d.val = d.val; omega)

theorem blk5_apply (d : Fin 1024) : blk5 m c t (ix2 0 d) = (m (c, main_arg5) : Vec F S1024 .f32) (ix1 d) := by
  refine (congrArg (V m c main_v2) (funext fun a => Fin.ext ?_)).trans ((congrFun (V_v2 m c) (ix2 0 d : S1x1024.Idx)).trans (vector_apply _ d))
  match a with
  | ⟨0, h⟩ => exact Window.rect_emb_val (cfg0.win 5) t _ ⟨0, h⟩
  | ⟨1, h⟩ => exact (Window.rect_emb_val (cfg0.win 5) t _ ⟨1, h⟩).trans (by show 0 * 1024 + d.val = d.val; omega)

theorem blk6_apply (d : Fin 1024) : blk6 m c t (ix2 0 d) = (m (c, main_arg6) : Vec F S1024 .f32) (ix1 d) := by
  refine (congrArg (V m c main_v3) (funext fun a => Fin.ext ?_)).trans ((congrFun (V_v3 m c) (ix2 0 d : S1x1024.Idx)).trans (vector_apply _ d))
  match a with
  | ⟨0, h⟩ => exact Window.rect_emb_val (cfg0.win 6) t _ ⟨0, h⟩
  | ⟨1, h⟩ => exact (Window.rect_emb_val (cfg0.win 6) t _ ⟨1, h⟩).trans (by show 0 * 1024 + d.val = d.val; omega)

/-- What a point leaves in the first result. -/
theorem first_left (x0 : Vec F S1x512x1024 .bf16) (x1 : Vec F S1024x1024 .bf16) (x2 : Vec F S1x1024 .f32) (x3 : Vec F S512x1024 .f32)
    (x4 : Vec F S1x1x1024 .f32) (x5 x6 : Vec F S1x1024 .f32) (x7 x8 : Vec F S1x1x1024 .f32) : out0_9 x0 x1 x2 x3 x4 x5 x6 x7 x8 = normed x0 x1 x2 x3 x4 x5 x6 := by
  unfold out0_9 k0_pay7 k0_pay8 k0_pay9 k0_pay10 r0_0 r0_1 r0_2 r0_3 r0_4 normed
  rw [View.canon_cons_unit_lit _ _ _ (by decide), View.ld_unit_lit _ x0 (by decide), View.ld_unit_lit _ x1 (by decide), View.ld_unit_lit _ x2 (by decide),
    View.ld_unit_lit _ x3 (by decide), View.ld_unit_lit _ x4 (by decide), View.ld_unit_lit _ x5 (by decide), View.ld_unit_lit _ x6 (by decide)]

/-- What it leaves in the second. -/
theorem second_left (x0 : Vec F S1x512x1024 .bf16) (x1 : Vec F S1024x1024 .bf16) (x2 : Vec F S1x1024 .f32) (x3 : Vec F S512x1024 .f32)
    (x4 : Vec F S1x1x1024 .f32) (x5 x6 : Vec F S1x1024 .f32) (x7 x8 : Vec F S1x1x1024 .f32) : out0_10 x0 x1 x2 x3 x4 x5 x6 x7 x8 = shifted x0 x1 x2 x3 x4 x5 x6 x7 x8 := by
  unfold out0_10 k0_pay7 k0_pay8 k0_pay9 k0_pay10 r0_0 r0_1 r0_2 r0_3 r0_4 shifted
  rw [View.canon_cons_unit_lit _ _ _ (by decide), View.ld_unit_lit _ x0 (by decide), View.ld_unit_lit _ x1 (by decide), View.ld_unit_lit _ x2 (by decide),
    View.ld_unit_lit _ x3 (by decide), View.ld_unit_lit _ x4 (by decide), View.ld_unit_lit _ x5 (by decide), View.ld_unit_lit _ x6 (by decide),
    View.ld_unit_lit _ x7 (by decide), View.ld_unit_lit _ x8 (by decide)]

/-- The first result's row `r` of block `t` is what point `t` leaves there. -/
theorem first_result_apply (r : Fin 512) (d : Fin 1024) :
    ((dats m 0 c).arrAt 9 cfg0.N : Vec F S32768x1024 .f32) (ix2 ⟨t.val * 512 + r.val, by have := point_lt t; omega⟩ d)
      = normed (blk0 m c t) (blk1 m c t) (blk2 m c t) (blk3 m c t) (blk4 m c t) (blk5 m c t) (blk6 m c t) (ix2 r d) := by
  have h := (dats m 0 c).arrAt_emb_eq_flushed 9 Value.disjoint9 t (flush0_9 t) (ix2 r d)
  have hi : ((cfg0.win 9).blk t).view.emb (ix2 r d) = (ix2 ⟨t.val * 512 + r.val, by have := point_lt t; omega⟩ d : S32768x1024.Idx) := by
    refine funext fun a => Fin.ext ?_
    match a with
    | ⟨0, h⟩ => exact (Window.rect_emb_val (cfg0.win 9) _ _ ⟨0, h⟩).trans (congrArg (· * 512 + r.val) (congrFun (index_9 t) 0))
    | ⟨1, h⟩ => exact (Window.rect_emb_val (cfg0.win 9) _ _ ⟨1, h⟩).trans ((congrArg (· * 1024 + d.val) (congrFun (index_9 t) 1)).trans (by show 0 * 1024 + d.val = d.val; omega))
  rw [hi] at h
  exact h.trans ((congrFun (Value.flushed9 m c t) (ix2 r d)).trans (congrFun (first_left _ _ _ _ _ _ _ _ _) (ix2 r d)))

/-- The second result's row `r` of block `t` is what point `t` leaves there. -/
theorem second_result_apply (r : Fin 512) (d : Fin 1024) :
    ((dats m 0 c).arrAt 10 cfg0.N : Vec F S32768x1024 .bf16) (ix2 ⟨t.val * 512 + r.val, by have := point_lt t; omega⟩ d)
      = shifted (blk0 m c t) (blk1 m c t) (blk2 m c t) (blk3 m c t) (blk4 m c t) (blk5 m c t) (blk6 m c t) (blk7 m c t) (blk8 m c t) (ix2 r d) := by
  have h := (dats m 0 c).arrAt_emb_eq_flushed 10 Value.disjoint10 t (flush0_10 t) (ix2 r d)
  have hi : ((cfg0.win 10).blk t).view.emb (ix2 r d) = (ix2 ⟨t.val * 512 + r.val, by have := point_lt t; omega⟩ d : S32768x1024.Idx) := by
    refine funext fun a => Fin.ext ?_
    match a with
    | ⟨0, h⟩ => exact (Window.rect_emb_val (cfg0.win 10) _ _ ⟨0, h⟩).trans (congrArg (· * 512 + r.val) (congrFun (index_10 t) 0))
    | ⟨1, h⟩ => exact (Window.rect_emb_val (cfg0.win 10) _ _ ⟨1, h⟩).trans ((congrArg (· * 1024 + d.val) (congrFun (index_10 t) 1)).trans (by show 0 * 1024 + d.val = d.val; omega))
  rw [hi] at h
  exact h.trans ((congrFun (Value.flushed10 m c t) (ix2 r d)).trans (congrFun (second_left _ _ _ _ _ _ _ _ _) (ix2 r d)))

end

section

variable (m : (ℓ : Loc nD τ sig) → Buf (Elt Ideal) ℓ) (c : Dev nD) (t : Fin grid0.N)

theorem blk1_apply (k n : Fin 1024) : blk1 m c t (ix2 k n) = (m (c, main_arg1) : Vec Ideal S1024x1024 .f32) (ix2 k n) := by
  refine (congrArg (V m c main_v0) (funext fun a => Fin.ext ?_)).trans (congrFun (V_v0 m c) (ix2 k n : S1024x1024.Idx))
  match a with
  | ⟨0, h⟩ => exact (Window.rect_emb_val (cfg0.win 1) t _ ⟨0, h⟩).trans (by show 0 * 1024 + k.val = k.val; omega)
  | ⟨1, h⟩ => exact (Window.rect_emb_val (cfg0.win 1) t _ ⟨1, h⟩).trans (by show 0 * 1024 + n.val = n.val; omega)

end

end Cert.Proof.HyenaOut

end
-- ==== Proof.HyenaOutRef.lean ====
/-
  The reference of the Hyena mixer's output projection with the layer's first tail: its two results at an index, over the
  extended reals.
-/
module

public import proofs.«01_k».proof.Proof.Columns
public import proofs.«01_k».proof.Proof.DenseRef
public import proofs.«01_k».proof.Proof.Gen.Reference8Ideal.Run

@[expose] public section

set_option maxRecDepth 16384

noncomputable section

namespace Cert.Proof.HyenaOut

open Cert.Reference8Ideal Cert.Reference8Ideal.Gen Idealize.ShloMosaic Idealize.ShloMosaic.TcCoe Idealize.SL.Sem
open Cert.Proof.Tail (refNorm refNorm_apply flat_apply)
open Cert.Proof.Dense (refShift refShift_apply narrow_apply)

section

variable {F : FTy → Type} [FloatOps F]

/-- The residual sum with a branch's result that is laid out as eight sequences. -/
def refSum (h : FVec F S32768x1024 .f32) (gate : FVec F S8x1x1024 .f32) (f : FVec F S8x4096x1024 .f32) : FVec F S8x4096x1024 .f32 :=
  addf (mulf (broadcastInDim S8x4096x1024 ![] bcast_S_S8x4096x1024 (constant S_ .f32 0x3FD744FD#32)) (shapeCast _ h shapeCasts_S32768x1024_S8x4096x1024))
    (mulf (broadcastInDim S8x4096x1024 ![0, 1, 2] bcast_S8x1x1024_S8x4096x1024_0_1_2 gate) f)

/-- The mixer's result by sequences. -/
def refSeqs (z : FVec F S1x4096x8192 .bf16) : FVec F S8x4096x1024 .bf16 :=
  transpose S8x4096x1024 [1, 0, 2] (shapeCast _ z shapeCasts_S1x4096x8192_S4096x8x1024) transposes_S4096x8x1024_S8x4096x1024_1_0_2

/-- The projection. -/
def refOut (z : FVec F S1x4096x8192 .bf16) (w : FVec F S1024x1024 .f32) (o : FVec F S1024 .f32) : FVec F S8x4096x1024 .f32 :=
  addf (Host.dotGeneral dot_S8x4096x1024_S1024x1024_S8x4096x1024_2_0_01_1_n_n none (extf .f32 (refSeqs z) bitsLt_bf16_f32) w)
    (broadcastInDim S8x4096x1024 ![0, 1, 2] bcast_S1x1x1024_S8x4096x1024_0_1_2 (broadcastInDim S1x1x1024 ![2] bcast_S1024_S1x1x1024_2 o))

end

theorem refSum_apply (h : FVec Ideal S32768x1024 .f32) (gate : FVec Ideal S8x1x1024 .f32) (f : FVec Ideal S8x4096x1024 .f32) (e : Fin 8) (q : Fin 4096) (d : Fin 1024) :
    refSum (F := Ideal) h gate f (ix3 e q d) = rowMix (fun k => h (ix2 ⟨e.val * 4096 + q.val, by omega⟩ k)) (fun k => gate (ix3 e 0 k)) (fun k => f (ix3 e q k)) d := by
  unfold rowMix
  pointwise [refSum]

theorem refSeqs_apply (z : FVec Ideal S1x4096x8192 .bf16) (e : Fin 8) (q : Fin 4096) (k : Fin 1024) :
    refSeqs (F := Ideal) z (ix3 e q k) = z (ix3 0 q ⟨e.val * 1024 + k.val, by omega⟩) := by
  pointwise [refSeqs]

theorem refOut_apply (z : FVec Ideal S1x4096x8192 .bf16) (w : FVec Ideal S1024x1024 .f32) (o : FVec Ideal S1024 .f32) (e : Fin 8) (q : Fin 4096) (d : Fin 1024) :
    refOut (F := Ideal) z w o (ix3 e q d) = Columns.entry (fun k => z (ix3 0 q ⟨e.val * 1024 + k.val, by omega⟩)) (fun k => w (ix2 k d)) + o (ix1 d) := by
  have h : refOut (F := Ideal) z w o (ix3 e q d) = Columns.entry (fun k => refSeqs (F := Ideal) z (ix3 e q k)) (fun k => w (ix2 k d)) + o (ix1 d) := by
    unfold refOut Columns.entry
    generalize refSeqs (F := Ideal) z = x
    pointwise
  rw [h]
  simp only [refSeqs_apply]

/-- The normed stream at a row of a sequence and a column. -/
def stream (z : FVec Ideal S1x4096x8192 .bf16) (w : FVec Ideal S1024x1024 .f32) (o : FVec Ideal S1024 .f32) (h : FVec Ideal S32768x1024 .f32)
    (gate : FVec Ideal S8x1x1024 .f32) (g b : FVec Ideal S1024 .f32) (e : Fin 8) (q : Fin 4096) (d : Fin 1024) : EReal :=
  rowNorm (rowMix (fun k => h (ix2 ⟨e.val * 4096 + q.val, by omega⟩ k)) (fun k => gate (ix3 e 0 k))
      (fun n => Columns.entry (fun k => z (ix3 0 q ⟨e.val * 1024 + k.val, by omega⟩)) (fun k => w (ix2 k n)) + o (ix1 n)))
    (fun k => g (ix1 k)) (fun k => b (ix1 k)) d

section

variable (m : (ℓ : Loc nD τ sig) → Buf (Elt Ideal) ℓ) (c : Dev nD)

/-- The normed stream, of the program's arguments. -/
def refStream : FVec Ideal S8x4096x1024 .f32 :=
  refNorm (F := Ideal) (refSum (m ((c.tc : Thread nD τ).loc main_arg3)) (m ((c.tc : Thread nD τ).loc main_arg4))
      (refOut (m ((c.tc : Thread nD τ).loc main_arg0)) (m ((c.tc : Thread nD τ).loc main_arg1)) (m ((c.tc : Thread nD τ).loc main_arg2))))
    (m ((c.tc : Thread nD τ).loc main_arg5)) (m ((c.tc : Thread nD τ).loc main_arg6))

theorem first_eq : Value.res_out0 m c = shapeCast S32768x1024 (refStream m c) shapeCasts_S8x4096x1024_S32768x1024 := rfl

theorem second_eq : Value.res_out1 m c = shapeCast S32768x1024
    (truncf .bf16 (refShift (F := Ideal) (refStream m c) (m ((c.tc : Thread nD τ).loc main_arg7)) (m ((c.tc : Thread nD τ).loc main_arg8))) bitsLt_bf16_f32)
    shapeCasts_S8x4096x1024_S32768x1024 := rfl

variable (e : Fin 8) (q : Fin 4096) (d : Fin 1024)

theorem refStream_apply : refStream m c (ix3 e q d) = stream (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) e q d := by
  unfold refStream stream
  refine (refNorm_apply _ _ _ e q d).trans (congrArg (fun p => rowNorm p _ _ d) (funext fun k => (refSum_apply _ _ _ e q k).trans ?_))
  exact congrArg (fun p => rowMix _ _ p k) (funext fun l => refOut_apply _ _ _ e q l)

theorem first_apply : Value.res_out0 m c (ix2 ⟨e.val * 4096 + q.val, by omega⟩ d : S32768x1024.Idx)
    = stream (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) e q d := by
  rw [first_eq]
  exact (flat_apply _ e q d).trans (refStream_apply m c e q d)

theorem second_apply : Value.res_out1 m c (ix2 ⟨e.val * 4096 + q.val, by omega⟩ d : S32768x1024.Idx)
    = stream (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) e q d
        * (1 + (m ((c.tc : Thread nD τ).loc main_arg7) : FVec Ideal S8x1x1024 .f32) (ix3 e 0 d))
      + (m ((c.tc : Thread nD τ).loc main_arg8) : FVec Ideal S8x1x1024 .f32) (ix3 e 0 d) := by
  rw [second_eq]
  refine (narrow_apply _ e q d).trans ((refShift_apply _ _ _ e q d).trans ?_)
  rw [refStream_apply]

end

end Cert.Proof.HyenaOut

end
-- ==== Proof.HyenaOutAlgebraic.lean ====
/-
  The claims of the Hyena mixer's output projection with the layer's first tail: arguments unchanged and counters at zero, and,
  over the extended reals, the program's and the reference's results the same.
-/
module

public import proofs.«01_k».proof.Defs
public import proofs.«01_k».proof.Proof.HyenaOut
public import proofs.«01_k».proof.Proof.HyenaOutRef
public import proofs.«01_k».proof.Proof.Gen.Kernel8.Frame

@[expose] public section

set_option maxRecDepth 16384

noncomputable section

namespace Cert.Proof.HyenaOut

open Cert.Kernel8Ideal Cert.Kernel8Ideal.Gen Idealize.ShloMosaic Idealize.ShloMosaic.TcCoe Idealize.SL.Sem

theorem frame_kernel : Cert.quiescent_Kernel8 (hKernel8 := Cert.Kernel8.Gen.facts) := fun m ρ _ => Cert.Kernel8.Gen.frame m ρ

theorem frame_ideal : Cert.quiescent_Kernel8Ideal (hKernel8Ideal := Cert.Kernel8Ideal.Gen.facts) := fun m ρ _ => Cert.Kernel8Ideal.Gen.frame m ρ

theorem frame_reference : Cert.quiescent_Reference8Ideal (hReference8Ideal := Cert.Reference8Ideal.Gen.facts) := fun m ρ _ =>
  (θ_run Cert.Reference8Ideal.defs _ _).mono (fun r h => ⟨fun c => (h c).2.2, sem_eq_zero_of_no_sems (by decide) r.2⟩) (Cert.Reference8Ideal.Value.run m ρ)

section

variable (m : (ℓ : Loc nD τ sig) → Buf (Elt Ideal) ℓ) (c : Dev nD)

/-- The point of a row of a sequence. -/
def pointOf (e : Fin 8) (q : Fin 4096) : Fin grid0.N := ⟨8 * e.val + q.val / 512, by rw [points]; omega⟩

/-- Its row within the point's block. -/
def rowOf (q : Fin 4096) : Fin 512 := ⟨q.val % 512, Nat.mod_lt _ (by decide)⟩

theorem row_eq (e : Fin 8) (q : Fin 4096) (p : (pointOf e q).val * 512 + (rowOf q).val < 32768) :
    (⟨(pointOf e q).val * 512 + (rowOf q).val, p⟩ : Fin 32768) = ⟨e.val * 4096 + q.val, by omega⟩ :=
  Fin.ext (by show (8 * e.val + q.val / 512) * 512 + q.val % 512 = e.val * 4096 + q.val; omega)

theorem seq_eq (e : Fin 8) (q : Fin 4096) (p : (pointOf e q).val / 8 < 8) : (⟨(pointOf e q).val / 8, p⟩ : Fin 8) = e :=
  Fin.ext (by show (8 * e.val + q.val / 512) / 8 = e.val; omega)

theorem token_eq (e : Fin 8) (q : Fin 4096) (p : (pointOf e q).val % 8 * 512 + (rowOf q).val < 4096) :
    (⟨(pointOf e q).val % 8 * 512 + (rowOf q).val, p⟩ : Fin 4096) = q :=
  Fin.ext (by show (8 * e.val + q.val / 512) % 8 * 512 + q.val % 512 = q.val; omega)

theorem channel_eq (e : Fin 8) (q : Fin 4096) (k : Fin 1024) (p : (pointOf e q).val / 8 * 1024 + k.val < 8192) :
    (⟨(pointOf e q).val / 8 * 1024 + k.val, p⟩ : Fin 8192) = ⟨e.val * 1024 + k.val, by omega⟩ :=
  Fin.ext (by show (8 * e.val + q.val / 512) / 8 * 1024 + k.val = e.val * 1024 + k.val; omega)

variable (e : Fin 8) (q : Fin 4096) (d : Fin 1024)

/-- The normed stream at a row of a sequence, of the program's arguments. -/
def row : EReal :=
  stream (m (c, main_arg0)) (m (c, main_arg1)) (m (c, main_arg2)) (m (c, main_arg3)) (m (c, main_arg4)) (m (c, main_arg5)) (m (c, main_arg6)) e q d

theorem normed_eq : normed (blk0 m c (pointOf e q)) (blk1 m c (pointOf e q)) (blk2 m c (pointOf e q)) (blk3 m c (pointOf e q)) (blk4 m c (pointOf e q))
    (blk5 m c (pointOf e q)) (blk6 m c (pointOf e q)) (ix2 (rowOf q) d) = row m c e q d := by
  refine (normed_apply _ _ _ _ _ _ _ _ d).trans ?_
  unfold row stream
  simp only [blk0_apply, blk1_apply, blk2_apply, blk3_apply, blk4_apply, blk5_apply, blk6_apply, row_eq, seq_eq, token_eq, channel_eq]

theorem first_program : ((dats m 0 c).arrAt 9 cfg0.N : Vec Ideal S32768x1024 .f32) (ix2 ⟨e.val * 4096 + q.val, by omega⟩ d) = row m c e q d := by
  have h := first_result_apply m c (pointOf e q) (rowOf q) d
  rw [row_eq] at h
  exact h.trans (normed_eq m c e q d)

theorem second_program : ((dats m 0 c).arrAt 10 cfg0.N : Vec Ideal S32768x1024 .bf16) (ix2 ⟨e.val * 4096 + q.val, by omega⟩ d)
    = row m c e q d * (1 + (m (c, main_arg7) : Vec Ideal S8x1x1024 .f32) (ix3 e 0 d)) + (m (c, main_arg8) : Vec Ideal S8x1x1024 .f32) (ix3 e 0 d) := by
  have h := second_result_apply m c (pointOf e q) (rowOf q) d
  rw [row_eq] at h
  refine h.trans ((shifted_apply _ _ _ _ _ _ _ _ _ _ d).trans ?_)
  rw [normed_eq, blk7_apply, blk8_apply, seq_eq]

end

theorem algebraic : Cert.algebraic_Kernel8Ideal_Reference8Ideal (hKernel8Ideal := Cert.Kernel8Ideal.Gen.facts)
    (hReference8Ideal := Cert.Reference8Ideal.Gen.facts) := by
  intro m g m' g' _ hargs
  refine ⟨fun c => (dats m 0 c).arrAt 9 cfg0.N, fun c => (dats m 0 c).arrAt 10 cfg0.N, Value.run_blocks m g, ?_⟩
  refine (θ_run Cert.Reference8Ideal.defs _ _).mono (fun r h c => ⟨(h c).1.trans ?_, (h c).2.1.trans ?_, (h c).2.2⟩) (Cert.Reference8Ideal.Value.run m' g')
  all_goals
    obtain ⟨e0, e1, e2, e3, e4, e5, e6, e7, e8⟩ := hargs c
    refine funext fun (j : S32768x1024.Idx) => ?_
    have lt : (j 0).val < 32768 := (j 0).isLt
    have hj : j = ix2 ⟨(j 0).val / 4096 * 4096 + (j 0).val % 4096, by omega⟩ (j 1) := by
      refine funext fun a => Fin.ext ?_
      match a with
      | ⟨0, _⟩ => show (j 0).val = (j 0).val / 4096 * 4096 + (j 0).val % 4096; omega
      | ⟨1, _⟩ => rfl
    rw [hj]
  · refine (first_apply m' c ⟨(j 0).val / 4096, by omega⟩ ⟨(j 0).val % 4096, by omega⟩ (j 1)).trans ?_
    rw [e0, e1, e2, e3, e4, e5, e6]
    exact (first_program m c ⟨(j 0).val / 4096, by omega⟩ ⟨(j 0).val % 4096, by omega⟩ (j 1)).symm
  · refine (second_apply m' c ⟨(j 0).val / 4096, by omega⟩ ⟨(j 0).val % 4096, by omega⟩ (j 1)).trans ?_
    rw [e0, e1, e2, e3, e4, e5, e6, e7, e8]
    exact (second_program m c ⟨(j 0).val / 4096, by omega⟩ ⟨(j 0).val % 4096, by omega⟩ (j 1)).symm

end Cert.Proof.HyenaOut

end
-- ==== Proof.SsdRow.lean ====
/-
  The SSD mixer's output side over the extended reals: the skip and the gate at an entry, the norm of a row in four groups,
  and what the program's block operations are at an index.
-/
module

public import proofs.«01_k».proof.Proof.Norm
public import proofs.«01_k».proof.Proof.Columns
public import proofs.«01_k».proof.Proof.Gen.Kernel9Ideal.Value

@[expose] public section

set_option maxRecDepth 16384

noncomputable section

namespace Cert.Proof.Ssd

open Cert.Kernel9Ideal Cert.Kernel9Ideal.Gen Idealize.ShloMosaic

/-- A row times a column. -/
def entry (x w : Fin 2048 → EReal) : EReal := ∑ k : Fin 2048, x k * w k

/-- The two scans' results with the skip, gated. -/
def mixed (x d a b z : EReal) : EReal := (x * d + a + b) * (z * Ideal.logistic z)

/-- A group of columns over the root of its mean square. -/
def groupNorm (p : Fin 512 → EReal) (n : Fin 512) : EReal :=
  p n * Ideal.rsqrt (Ideal.div (∑ k : Fin 512, p k * p k) (Ideal.ofBits .f32 0x44000000#32) + Ideal.ofBits .f32 0x358637BD#32)

/-- A row normed in four groups and scaled. -/
def normedRow (p g : Fin 2048 → EReal) (k : Fin 2048) : EReal :=
  groupNorm (fun n => p ⟨k.val / 512 * 512 + n.val, by omega⟩) ⟨k.val % 512, Nat.mod_lt _ (by decide)⟩ * g k

theorem mixed_apply (x : Vec Ideal S1x32x16x2048 .bf16) (d : Vec Ideal S1x2048 .f32) (a b : Vec Ideal S1x1x32x16x2048 .bf16) (z : Vec Ideal S1x32x16x2048 .bf16)
    (q : Fin 512) (k : Fin 2048) : k0_pay2 x d a b z (ix2 q k)
      = mixed (x (ix4 0 ⟨q.val / 16, by omega⟩ ⟨q.val % 16, by omega⟩ k)) (d (ix2 0 k)) (a (ix5 0 0 ⟨q.val / 16, by omega⟩ ⟨q.val % 16, by omega⟩ k))
          (b (ix5 0 0 ⟨q.val / 16, by omega⟩ ⟨q.val % 16, by omega⟩ k)) (z (ix4 0 ⟨q.val / 16, by omega⟩ ⟨q.val % 16, by omega⟩ k)) := by
  unfold mixed
  pointwise [k0_pay2]

section

variable {F : FTy → Type} [FloatOps F]

/-- The reciprocal root of each row's mean square. -/
def scale (s : FVec F S512x512 .f32) : FVec F S512x1 .f32 :=
  rsqrt (addf (divf (shapeCast S512x1 (multiReduction .add [1] S512 (mulf s s) 0x00000000#32 reduces_S512x512_S512 (.inl rfl) rfl) shapeCasts_S512_S512x1)
    (broadcast S512x1 (Scalar.ofBits .f32 0x44000000#32))) (broadcast S512x1 (Scalar.ofBits .f32 0x358637BD#32)))

/-- A group of columns normed. -/
def group (s : FVec F S512x512 .f32) : FVec F S512x512 .f32 := mulf s (broadcastTo S512x512 (scale s) broadcasts_S512x1_S512x512)

/-- The groups of columns side by side. -/
def groups (a b c d : FVec F S512x512 .f32) : FVec F S512x2048 .f32 :=
  concatenate S512x2048 1 [⟨S512x512, a⟩, ⟨S512x512, b⟩, ⟨S512x512, c⟩, ⟨S512x512, d⟩] concatenates_S512x512_S512x512_S512x512_S512x512_S512x2048_d1

/-- The rows normed and scaled. -/
def rows (p : FVec F S512x2048 .f32) (g : Vec F S1x2048 .f32) : FVec F S512x2048 .f32 :=
  mulf (groups (group (extractStridedSlice S512x512 ![0, 0] p slices_S512x2048_o0_0_S512x512))
      (group (extractStridedSlice S512x512 ![0, 512] p slices_S512x2048_o0_512_S512x512))
      (group (extractStridedSlice S512x512 ![0, 1024] p slices_S512x2048_o0_1024_S512x512))
      (group (extractStridedSlice S512x512 ![0, 1536] p slices_S512x2048_o0_1536_S512x512)))
    (broadcastTo S512x2048 (shapeCast S1x2048 g shapeCasts_S1x2048_S1x2048) broadcasts_S1x2048_S512x2048)

/-- The rows reordered. -/
def moved (x : FVec F S512x2048 .f32) (p : Vec F S512x512 .bf16) : FVec F S512x2048 .bf16 :=
  truncf .bf16 (matmul dot_S512x512_S512x2048_S512x2048_1_0_0_1_n_n none (shapeCast S512x512 p shapeCasts_S512x512_S512x512) (truncf .bf16 x bitsLt_bf16_f32)
    (constant S512x2048 .f32 0x00000000#32)) bitsLt_bf16_f32

theorem pay5_eq (x : Vec F S1x32x16x2048 .bf16) (d : Vec F S1x2048 .f32) (a b : Vec F S1x1x32x16x2048 .bf16) (z : Vec F S1x32x16x2048 .bf16)
    (g : Vec F S1x2048 .f32) (p : Vec F S512x512 .bf16) :
    k0_pay5 (k0_pay2 x d a b z) (k0_pay3 x d a b z) (k0_pay4 x d a b z) g p = moved (rows (k0_pay2 x d a b z) g) p := rfl

end

theorem group_apply (s : FVec Ideal S512x512 .f32) (q n : Fin 512) : group (F := Ideal) s (ix2 q n) = groupNorm (fun k => s (ix2 q k)) n := by
  unfold groupNorm
  pointwise [group, scale]

/-- The group a column lies in, found by counting down. -/
theorem ladder (a b c d : Fin 512 → EReal) (k : Fin 2048) :
    (if h : k.val < 512 then a ⟨k.val, h⟩ else if h : k.val - 512 < 512 then b ⟨k.val - 512, h⟩
        else if h : k.val - 512 - 512 < 512 then c ⟨k.val - 512 - 512, h⟩ else d ⟨k.val - 512 - 512 - 512, by omega⟩)
      = if k.val / 512 = 0 then a ⟨k.val % 512, Nat.mod_lt _ (by decide)⟩ else if k.val / 512 = 1 then b ⟨k.val % 512, Nat.mod_lt _ (by decide)⟩
        else if k.val / 512 = 2 then c ⟨k.val % 512, Nat.mod_lt _ (by decide)⟩ else d ⟨k.val % 512, Nat.mod_lt _ (by decide)⟩ := by
  have hk := k.isLt
  by_cases h0 : k.val < 512
  · rw [dif_pos h0, if_pos (by omega)]
    exact congrArg a (Fin.ext (by show k.val = k.val % 512; omega))
  · rw [dif_neg h0, if_neg (by omega)]
    by_cases h1 : k.val - 512 < 512
    · rw [dif_pos h1, if_pos (by omega)]
      exact congrArg b (Fin.ext (by show k.val - 512 = k.val % 512; omega))
    · rw [dif_neg h1, if_neg (by omega)]
      by_cases h2 : k.val - 512 - 512 < 512
      · rw [dif_pos h2, if_pos (by omega)]
        exact congrArg c (Fin.ext (by show k.val - 512 - 512 = k.val % 512; omega))
      · rw [dif_neg h2, if_neg (by omega)]
        exact congrArg d (Fin.ext (by show k.val - 512 - 512 - 512 = k.val % 512; omega))

theorem groups_apply (a b c d : FVec Ideal S512x512 .f32) (q : Fin 512) (k : Fin 2048) : groups (F := Ideal) a b c d (ix2 q k)
    = if k.val / 512 = 0 then a (ix2 q ⟨k.val % 512, Nat.mod_lt _ (by decide)⟩) else if k.val / 512 = 1 then b (ix2 q ⟨k.val % 512, Nat.mod_lt _ (by decide)⟩)
      else if k.val / 512 = 2 then c (ix2 q ⟨k.val % 512, Nat.mod_lt _ (by decide)⟩) else d (ix2 q ⟨k.val % 512, Nat.mod_lt _ (by decide)⟩) := by
  refine Eq.trans ?_ (ladder (fun n => a (ix2 q n)) (fun n => b (ix2 q n)) (fun n => c (ix2 q n)) (fun n => d (ix2 q n)) k)
  pointwise [groups]

theorem first_group (p : FVec Ideal S512x2048 .f32) (q n : Fin 512) :
    extractStridedSlice S512x512 ![0, 0] p slices_S512x2048_o0_0_S512x512 (ix2 q n) = p (ix2 q ⟨n.val, by omega⟩) := by
  pointwise
theorem second_group (p : FVec Ideal S512x2048 .f32) (q n : Fin 512) :
    extractStridedSlice S512x512 ![0, 512] p slices_S512x2048_o0_512_S512x512 (ix2 q n) = p (ix2 q ⟨512 + n.val, by omega⟩) := by
  pointwise
theorem third_group (p : FVec Ideal S512x2048 .f32) (q n : Fin 512) :
    extractStridedSlice S512x512 ![0, 1024] p slices_S512x2048_o0_1024_S512x512 (ix2 q n) = p (ix2 q ⟨1024 + n.val, by omega⟩) := by
  pointwise
theorem fourth_group (p : FVec Ideal S512x2048 .f32) (q n : Fin 512) :
    extractStridedSlice S512x512 ![0, 1536] p slices_S512x2048_o0_1536_S512x512 (ix2 q n) = p (ix2 q ⟨1536 + n.val, by omega⟩) := by
  pointwise

theorem rows_apply (p : FVec Ideal S512x2048 .f32) (g : Vec Ideal S1x2048 .f32) (q : Fin 512) (k : Fin 2048) :
    rows (F := Ideal) p g (ix2 q k) = normedRow (fun n => p (ix2 q n)) (fun n => g (ix2 0 n)) k := by
  have hk := k.isLt
  have h : ∀ x : FVec Ideal S512x2048 .f32, (mulf x (broadcastTo S512x2048 (shapeCast S1x2048 g shapeCasts_S1x2048_S1x2048) broadcasts_S1x2048_S512x2048) : FVec Ideal S512x2048 .f32) (ix2 q k)
      = x (ix2 q k) * g (ix2 0 k) := fun x => by pointwise
  refine (h _).trans (congrArg (· * g (ix2 0 k)) ?_)
  rw [groups_apply]
  by_cases h0 : k.val / 512 = 0
  · rw [if_pos h0, group_apply]
    refine congrArg (fun f => groupNorm f _) (funext fun n => (first_group p q n).trans (congrArg p (congrArg (ix2 q) (Fin.ext ?_))))
    show n.val = k.val / 512 * 512 + n.val
    omega
  · rw [if_neg h0]
    by_cases h1 : k.val / 512 = 1
    · rw [if_pos h1, group_apply]
      refine congrArg (fun f => groupNorm f _) (funext fun n => (second_group p q n).trans (congrArg p (congrArg (ix2 q) (Fin.ext ?_))))
      show 512 + n.val = k.val / 512 * 512 + n.val
      omega
    · rw [if_neg h1]
      by_cases h2 : k.val / 512 = 2
      · rw [if_pos h2, group_apply]
        refine congrArg (fun f => groupNorm f _) (funext fun n => (third_group p q n).trans (congrArg p (congrArg (ix2 q) (Fin.ext ?_))))
        show 1024 + n.val = k.val / 512 * 512 + n.val
        omega
      · rw [if_neg h2, group_apply]
        refine congrArg (fun f => groupNorm f _) (funext fun n => (fourth_group p q n).trans (congrArg p (congrArg (ix2 q) (Fin.ext ?_))))
        show 1536 + n.val = k.val / 512 * 512 + n.val
        omega

theorem moved_apply (x : FVec Ideal S512x2048 .f32) (p : Vec Ideal S512x512 .bf16) (q : Fin 512) (k : Fin 2048) :
    moved (F := Ideal) x p (ix2 q k) = ∑ r : Fin 512, p (ix2 q r) * x (ix2 r k) := by
  pointwise [moved]

theorem tail_apply (v : FVec Ideal S512x2048 .bf16) (w : Vec Ideal S2048x1024 .bf16) (h : Vec Ideal S1x16x32x1024 .f32) (gate : Vec Ideal S1x1x1024 .f32)
    (g b : Vec Ideal S1x1024 .f32) (q : Fin 512) (d : Fin 1024) : k0_pay6 v w h gate g b (ix2 q d)
      = rowNorm (rowMix (fun k => h (ix4 0 ⟨q.val / 32, by omega⟩ ⟨q.val % 32, by omega⟩ k)) (fun k => gate (ix3 0 0 k))
          (fun n => entry (fun k => v (ix2 q k)) (fun k => w (ix2 k n)))) (fun k => g (ix2 0 k)) (fun k => b (ix2 0 k)) d := by
  unfold rowNorm rowMean rowMix entry
  pointwise [k0_pay6]

theorem laid_apply (v : FVec Ideal S512x2048 .bf16) (w : Vec Ideal S2048x1024 .bf16) (h : Vec Ideal S1x16x32x1024 .f32) (gate : Vec Ideal S1x1x1024 .f32)
    (g b : Vec Ideal S1x1024 .f32) (i : Fin 16) (j : Fin 32) (d : Fin 1024) : k0_pay7 v w h gate g b (ix4 0 i j d)
      = k0_pay6 v w h gate g b (ix2 ⟨i.val * 32 + j.val, by omega⟩ d) := by
  unfold k0_pay7
  generalize k0_pay6 v w h gate g b = x
  pointwise

theorem shift_apply (x : FVec Ideal S512x1024 .f32) (s t : Vec Ideal S1x1x1024 .f32) (i : Fin 16) (j : Fin 32) (d : Fin 1024) :
    k0_pay1 x s t (ix4 0 i j d) = x (ix2 ⟨i.val * 32 + j.val, by omega⟩ d) * (1 + s (ix3 0 0 d)) + t (ix3 0 0 d) := by
  pointwise [k0_pay1]

end Cert.Proof.Ssd

end
-- ==== Proof.SsdOut.lean ====
/-
  The SSD mixer's output projection with the layer's first tail: what the program computes. Each point gates and norms a block
  of tokens in column order, reorders them to rows by a one-hot product, multiplies by the weights and makes both results.
-/
module

public import proofs.«01_k».proof.Proof.SsdRow
public import Idealize.ShloMosaic.Lib.Pipeline.ValueKit.Acc

@[expose] public section

set_option maxRecDepth 16384

noncomputable section

namespace Cert.Proof.Ssd

open Cert.Kernel9Ideal Cert.Kernel9Ideal.Gen Idealize.ShloMosaic Idealize.ShloMosaic.TcCoe Idealize.SL.Sem
open Idealize.ShloMosaic.Pipeline (Dat Window)

section

variable {F : FTy → Type} [FloatOps F]

/-- The matrix with ones on the diagonal, as the host makes it. -/
def unit : FVec F S512x512 .f32 :=
  uitofp .f32 (cmpi .eq (addi (iotaInDim S512x512 32 0) (broadcastInDim S512x512 ![] bcast_S_S512x512 (constantI S_ 32 0#32))) (iotaInDim S512x512 32 1))

/-- The permutation: the rows of that matrix, 16 rows of 32 taken column by column, turned over. -/
def perm : FVec F S512x512 .bf16 :=
  transpose S512x512 [1, 0] (truncf .bf16 (shapeCast S512x512 (transpose S32x16x512 [1, 0, 2] (shapeCast S16x32x512 (unit (F := F)) shapeCasts_S512x512_S16x32x512)
    transposes_S16x32x512_S32x16x512_1_0_2) shapeCasts_S32x16x512_S512x512) bitsLt_bf16_f32) transposes_S512x512_S512x512_1_0

end

theorem unit_apply (q p : Fin 512) : unit (F := Ideal) (ix2 q p) = if q = p then (1 : EReal) else 0 := by
  refine Eq.trans ?_ (Columns.one_hot q p)
  pointwise [unit]

theorem perm_apply (q p : Fin 512) : perm (F := Ideal) (ix2 q p) = if (⟨q.val % 32 * 16 + q.val / 32, by omega⟩ : Fin 512) = p then (1 : EReal) else 0 := by
  have h : perm (F := Ideal) (ix2 q p) = unit (F := Ideal) (ix2 ⟨p.val % 16 * 32 + p.val / 16, by omega⟩ q) := by
    unfold perm
    generalize unit (F := Ideal) = u
    pointwise
  refine h.trans ((unit_apply _ _).trans (if_congr ⟨fun e => ?_, fun e => ?_⟩ rfl rfl))
  · have e' : p.val % 16 * 32 + p.val / 16 = q.val := congrArg Fin.val e
    exact Fin.ext (by show q.val % 32 * 16 + q.val / 32 = p.val; omega)
  · have e' : q.val % 32 * 16 + q.val / 32 = p.val := congrArg Fin.val e
    exact Fin.ext (by show p.val % 16 * 32 + p.val / 16 = q.val; omega)

theorem index_0 : ∀ t : Fin grid0.N, cc0_transform_0 (grid0.coords t) = ![0, t.val / 8, t.val % 2, t.val / 2 % 4, 0] := by decide +kernel
theorem index_1 : ∀ t : Fin grid0.N, cc0_transform_1 (grid0.coords t) = ![1, t.val / 8, t.val % 2, t.val / 2 % 4, 0] := by decide +kernel
theorem index_2 : ∀ t : Fin grid0.N, cc0_transform_2 (grid0.coords t) = ![t.val / 8, t.val % 2, t.val / 2 % 4, 0] := by decide +kernel
theorem index_3 : ∀ t : Fin grid0.N, cc0_transform_3 (grid0.coords t) = ![t.val / 8, t.val % 2, t.val / 2 % 4, 0] := by decide +kernel
theorem index_8 : ∀ t : Fin grid0.N, cc0_transform_8 (grid0.coords t) = ![t.val / 8, t.val / 2 % 4, t.val % 2, 0] := by decide +kernel
theorem index_9 : ∀ t : Fin grid0.N, cc0_transform_9 (grid0.coords t) = ![t.val / 8, 0, 0] := by decide +kernel
theorem index_12 : ∀ t : Fin grid0.N, cc0_transform_12 (grid0.coords t) = ![t.val / 8, 0, 0] := by decide +kernel
theorem index_13 : ∀ t : Fin grid0.N, cc0_transform_13 (grid0.coords t) = ![t.val / 8, 0, 0] := by decide +kernel
theorem index_14 : ∀ t : Fin grid0.N, cc0_transform_14 (grid0.coords t) = ![t.val / 8, t.val / 2 % 4, t.val % 2, 0] := by decide +kernel
theorem index_15 : ∀ t : Fin grid0.N, cc0_transform_15 (grid0.coords t) = ![t.val / 8, t.val / 2 % 4, t.val % 2, 0] := by decide +kernel

theorem points : grid0.N = 64 := N_0
theorem point_lt (t : Fin grid0.N) : t.val < 64 := points ▸ t.isLt

section

variable {F : FTy → Type} [FloatOps F]
variable (m : (ℓ : Loc nD τ sig) → Buf (Elt F) ℓ) (c : Dev nD) (t : Fin grid0.N)

/-- The skip's weights, one for each head's columns. -/
def skip (d : FVec F S32 .f32) : FVec F S1x2048 .f32 :=
  shapeCast S1x2048 (shapeCast S2048 (broadcastInDim S32x64 ![0] bcast_S32_S32x64_0 d) shapeCasts_S32x64_S2048) shapeCasts_S2048_S1x2048

theorem skip_apply (d : FVec F S32 .f32) (k : Fin 2048) : skip d (ix2 0 k) = d (ix1 ⟨k.val / 64, by omega⟩) := by
  pointwise [skip]

theorem V_v2 : V m c main_v2 = skip (m (c, main_arg3) : Vec F S32 .f32) := by
  unfold V hostOps0; after_results; rfl
theorem V_v3 : V m c main_v3 = shapeCast S1x2048 (m (c, main_arg4) : Vec F S2048 .f32) shapeCasts_S2048_S1x2048 := by
  unfold V hostOps0; after_results; rfl
theorem V_v4 : V m c main_v4 = shapeCast S2x8x64x64x2048 (m (c, main_arg0) : Vec F S2x32768x2048 .bf16) shapeCasts_S2x32768x2048_S2x8x64x64x2048 := by
  unfold V hostOps0; after_results; rfl
theorem V_v5 : V m c main_v5 = shapeCast S2x8x64x64x2048 (m (c, main_arg0) : Vec F S2x32768x2048 .bf16) shapeCasts_S2x32768x2048_S2x8x64x64x2048 := by
  unfold V hostOps0; after_results; rfl
theorem V_v6 : V m c main_v6 = shapeCast S8x64x64x3072 (m (c, main_arg1) : Vec F S32768x3072 .bf16) shapeCasts_S32768x3072_S8x64x64x3072 := by
  unfold V hostOps0; after_results; rfl
theorem V_v7 : V m c main_v7 = shapeCast S8x64x64x2048 (m (c, main_arg2) : Vec F S32768x2048 .bf16) shapeCasts_S32768x2048_S8x64x64x2048 := by
  unfold V hostOps0; after_results; rfl
theorem V_v8 : V m c main_v8 = truncf .bf16 (m (c, main_arg5) : Vec F S2048x1024 .f32) bitsLt_bf16_f32 := by
  unfold V hostOps0; after_results
theorem V_v19 : V m c main_v19 = perm (F := F) := by
  unfold V hostOps0; after_results; rfl
theorem V_v20 : V m c main_v20 = shapeCast S8x64x64x1024 (m (c, main_arg6) : Vec F S32768x1024 .f32) shapeCasts_S32768x1024_S8x64x64x1024 := by
  unfold V hostOps0; after_results; rfl
theorem V_v21 : V m c main_v21 = shapeCast S1x1024 (m (c, main_arg8) : Vec F S1024 .f32) shapeCasts_S1024_S1x1024 := by
  unfold V hostOps0; after_results; rfl
theorem V_v22 : V m c main_v22 = shapeCast S1x1024 (m (c, main_arg9) : Vec F S1024 .f32) shapeCasts_S1024_S1x1024 := by
  unfold V hostOps0; after_results; rfl

/-- What a point stages of the first scan's tokens. -/
abbrev blk0 : Vec F S1x1x32x16x2048 .bf16 := iblk m c 0 t
/-- What a point stages of the second scan's tokens. -/
abbrev blk1 : Vec F S1x1x32x16x2048 .bf16 := iblk m c 1 t
/-- What a point stages of the tokens the skip takes. -/
abbrev blk2 : Vec F S1x32x16x2048 .bf16 := X0_2 m c t
/-- What a point stages of the tokens' gates. -/
abbrev blk3 : Vec F S1x32x16x2048 .bf16 := iblk m c 3 t
/-- What a point stages of the skip's weights. -/
abbrev blk4 : Vec F S1x2048 .f32 := iblk m c 4 t
/-- What a point stages of the groups' scale. -/
abbrev blk5 : Vec F S1x2048 .f32 := iblk m c 5 t
/-- What a point stages of the projection's weights. -/
abbrev blk6 : Vec F S2048x1024 .bf16 := iblk m c 6 t
/-- What a point stages of the permutation. -/
abbrev blk7 : Vec F S512x512 .bf16 := iblk m c 7 t
/-- What a point stages of the tokens of the stream. -/
abbrev blk8 : Vec F S1x16x32x1024 .f32 := iblk m c 8 t
/-- What a point stages of the gate of the point's sequence. -/
abbrev blk9 : Vec F S1x1x1024 .f32 := iblk m c 9 t
/-- What a point stages of the norm's scale. -/
abbrev blk10 : Vec F S1x1024 .f32 := iblk m c 10 t
/-- What a point stages of the norm's shift. -/
abbrev blk11 : Vec F S1x1024 .f32 := iblk m c 11 t
/-- What a point stages of the modulation's scale. -/
abbrev blk12 : Vec F S1x1x1024 .f32 := iblk m c 12 t
/-- What a point stages of the modulation's shift. -/
abbrev blk13 : Vec F S1x1x1024 .f32 := iblk m c 13 t

theorem pairs_apply (y : Vec F S2x32768x2048 .bf16) (l : Fin 2) (e : Fin 8) (a b : Fin 64) (k : Fin 2048) :
    shapeCast S2x8x64x64x2048 y shapeCasts_S2x32768x2048_S2x8x64x64x2048 (ix5 l e a b k) = y (ix3 l ⟨e.val * 4096 + a.val * 64 + b.val, by omega⟩ k) := by
  pointwise
theorem wide_apply (x : Vec F S32768x3072 .bf16) (e : Fin 8) (a b : Fin 64) (k : Fin 3072) :
    shapeCast S8x64x64x3072 x shapeCasts_S32768x3072_S8x64x64x3072 (ix4 e a b k) = x (ix2 ⟨e.val * 4096 + a.val * 64 + b.val, by omega⟩ k) := by
  pointwise
theorem gates_apply (x : Vec F S32768x2048 .bf16) (e : Fin 8) (a b : Fin 64) (k : Fin 2048) :
    shapeCast S8x64x64x2048 x shapeCasts_S32768x2048_S8x64x64x2048 (ix4 e a b k) = x (ix2 ⟨e.val * 4096 + a.val * 64 + b.val, by omega⟩ k) := by
  pointwise
theorem stream_apply (x : Vec F S32768x1024 .f32) (e : Fin 8) (a b : Fin 64) (k : Fin 1024) :
    shapeCast S8x64x64x1024 x shapeCasts_S32768x1024_S8x64x64x1024 (ix4 e a b k) = x (ix2 ⟨e.val * 4096 + a.val * 64 + b.val, by omega⟩ k) := by
  pointwise
theorem vector_apply (b : Vec F S1024 .f32) (n : Fin 1024) : shapeCast S1x1024 b shapeCasts_S1024_S1x1024 (ix2 0 n) = b (ix1 n) := by
  pointwise
theorem long_apply (b : Vec F S2048 .f32) (n : Fin 2048) : shapeCast S1x2048 b shapeCasts_S2048_S1x2048 (ix2 0 n) = b (ix1 n) := by
  pointwise

theorem blk0_apply (a : Fin 32) (b : Fin 16) (k : Fin 2048) : blk0 m c t (ix5 0 0 a b k)
    = (m (c, main_arg0) : Vec F S2x32768x2048 .bf16) (ix3 0 ⟨t.val / 8 * 4096 + (t.val % 2 * 32 + a.val) * 64 + (t.val / 2 % 4 * 16 + b.val), by have := point_lt t; omega⟩ k) := by
  refine (congrArg (V m c main_v4) (funext fun x => Fin.ext ?_)).trans ((congrFun (V_v4 m c) _).trans
    (pairs_apply _ 0 ⟨t.val / 8, by have := point_lt t; omega⟩ ⟨t.val % 2 * 32 + a.val, by omega⟩ ⟨t.val / 2 % 4 * 16 + b.val, by omega⟩ k))
  match x with
  | ⟨0, h⟩ => exact (Window.rect_emb_val (cfg0.win 0) t _ ⟨0, h⟩).trans ((congrArg (· * 1 + 0) (congrFun (index_0 t) 0)).trans (by show 0 * 1 + 0 = 0; omega))
  | ⟨1, h⟩ => exact (Window.rect_emb_val (cfg0.win 0) t _ ⟨1, h⟩).trans ((congrArg (· * 1 + 0) (congrFun (index_0 t) 1)).trans (by show t.val / 8 * 1 + 0 = t.val / 8; omega))
  | ⟨2, h⟩ => exact (Window.rect_emb_val (cfg0.win 0) t _ ⟨2, h⟩).trans ((congrArg (· * 32 + a.val) (congrFun (index_0 t) 2)).trans (by show t.val % 2 * 32 + a.val = t.val % 2 * 32 + a.val; omega))
  | ⟨3, h⟩ => exact (Window.rect_emb_val (cfg0.win 0) t _ ⟨3, h⟩).trans ((congrArg (· * 16 + b.val) (congrFun (index_0 t) 3)).trans (by show t.val / 2 % 4 * 16 + b.val = t.val / 2 % 4 * 16 + b.val; omega))
  | ⟨4, h⟩ => exact (Window.rect_emb_val (cfg0.win 0) t _ ⟨4, h⟩).trans ((congrArg (· * 2048 + k.val) (congrFun (index_0 t) 4)).trans (by show 0 * 2048 + k.val = k.val; omega))

theorem blk1_apply (a : Fin 32) (b : Fin 16) (k : Fin 2048) : blk1 m c t (ix5 0 0 a b k)
    = (m (c, main_arg0) : Vec F S2x32768x2048 .bf16) (ix3 1 ⟨t.val / 8 * 4096 + (t.val % 2 * 32 + a.val) * 64 + (t.val / 2 % 4 * 16 + b.val), by have := point_lt t; omega⟩ k) := by
  refine (congrArg (V m c main_v5) (funext fun x => Fin.ext ?_)).trans ((congrFun (V_v5 m c) _).trans
    (pairs_apply _ 1 ⟨t.val / 8, by have := point_lt t; omega⟩ ⟨t.val % 2 * 32 + a.val, by omega⟩ ⟨t.val / 2 % 4 * 16 + b.val, by omega⟩ k))
  match x with
  | ⟨0, h⟩ => exact (Window.rect_emb_val (cfg0.win 1) t _ ⟨0, h⟩).trans ((congrArg (· * 1 + 0) (congrFun (index_1 t) 0)).trans (by show 1 * 1 + 0 = 1; omega))
  | ⟨1, h⟩ => exact (Window.rect_emb_val (cfg0.win 1) t _ ⟨1, h⟩).trans ((congrArg (· * 1 + 0) (congrFun (index_1 t) 1)).trans (by show t.val / 8 * 1 + 0 = t.val / 8; omega))
  | ⟨2, h⟩ => exact (Window.rect_emb_val (cfg0.win 1) t _ ⟨2, h⟩).trans ((congrArg (· * 32 + a.val) (congrFun (index_1 t) 2)).trans (by show t.val % 2 * 32 + a.val = t.val % 2 * 32 + a.val; omega))
  | ⟨3, h⟩ => exact (Window.rect_emb_val (cfg0.win 1) t _ ⟨3, h⟩).trans ((congrArg (· * 16 + b.val) (congrFun (index_1 t) 3)).trans (by show t.val / 2 % 4 * 16 + b.val = t.val / 2 % 4 * 16 + b.val; omega))
  | ⟨4, h⟩ => exact (Window.rect_emb_val (cfg0.win 1) t _ ⟨4, h⟩).trans ((congrArg (· * 2048 + k.val) (congrFun (index_1 t) 4)).trans (by show 0 * 2048 + k.val = k.val; omega))

theorem blk2_apply (a : Fin 32) (b : Fin 16) (k : Fin 2048) : blk2 m c t (ix4 0 a b k)
    = (m (c, main_arg1) : Vec F S32768x3072 .bf16) (ix2 ⟨t.val / 8 * 4096 + (t.val % 2 * 32 + a.val) * 64 + (t.val / 2 % 4 * 16 + b.val), by have := point_lt t; omega⟩ ⟨k.val, by omega⟩) := by
  refine (dif_pos (moved0_2 t _)).trans ?_
  refine (congrArg (V m c main_v6) (funext fun x => Fin.ext ?_)).trans ((congrFun (V_v6 m c) _).trans
    (wide_apply _ ⟨t.val / 8, by have := point_lt t; omega⟩ ⟨t.val % 2 * 32 + a.val, by omega⟩ ⟨t.val / 2 % 4 * 16 + b.val, by omega⟩ ⟨k.val, by omega⟩))
  match x with
  | ⟨0, h⟩ => exact (Window.rect_emb_val (cfg0.win 2) t _ ⟨0, h⟩).trans ((congrArg (· * 1 + 0) (congrFun (index_2 t) 0)).trans (by show t.val / 8 * 1 + 0 = t.val / 8; omega))
  | ⟨1, h⟩ => exact (Window.rect_emb_val (cfg0.win 2) t _ ⟨1, h⟩).trans ((congrArg (· * 32 + a.val) (congrFun (index_2 t) 1)).trans (by show t.val % 2 * 32 + a.val = t.val % 2 * 32 + a.val; omega))
  | ⟨2, h⟩ => exact (Window.rect_emb_val (cfg0.win 2) t _ ⟨2, h⟩).trans ((congrArg (· * 16 + b.val) (congrFun (index_2 t) 2)).trans (by show t.val / 2 % 4 * 16 + b.val = t.val / 2 % 4 * 16 + b.val; omega))
  | ⟨3, h⟩ => exact (Window.rect_emb_val (cfg0.win 2) t _ ⟨3, h⟩).trans ((congrArg (· * 2048 + k.val) (congrFun (index_2 t) 3)).trans (by show 0 * 2048 + k.val = k.val; omega))

theorem blk3_apply (a : Fin 32) (b : Fin 16) (k : Fin 2048) : blk3 m c t (ix4 0 a b k)
    = (m (c, main_arg2) : Vec F S32768x2048 .bf16) (ix2 ⟨t.val / 8 * 4096 + (t.val % 2 * 32 + a.val) * 64 + (t.val / 2 % 4 * 16 + b.val), by have := point_lt t; omega⟩ k) := by
  refine (congrArg (V m c main_v7) (funext fun x => Fin.ext ?_)).trans ((congrFun (V_v7 m c) _).trans
    (gates_apply _ ⟨t.val / 8, by have := point_lt t; omega⟩ ⟨t.val % 2 * 32 + a.val, by omega⟩ ⟨t.val / 2 % 4 * 16 + b.val, by omega⟩ k))
  match x with
  | ⟨0, h⟩ => exact (Window.rect_emb_val (cfg0.win 3) t _ ⟨0, h⟩).trans ((congrArg (· * 1 + 0) (congrFun (index_3 t) 0)).trans (by show t.val / 8 * 1 + 0 = t.val / 8; omega))
  | ⟨1, h⟩ => exact (Window.rect_emb_val (cfg0.win 3) t _ ⟨1, h⟩).trans ((congrArg (· * 32 + a.val) (congrFun (index_3 t) 1)).trans (by show t.val % 2 * 32 + a.val = t.val % 2 * 32 + a.val; omega))
  | ⟨2, h⟩ => exact (Window.rect_emb_val (cfg0.win 3) t _ ⟨2, h⟩).trans ((congrArg (· * 16 + b.val) (congrFun (index_3 t) 2)).trans (by show t.val / 2 % 4 * 16 + b.val = t.val / 2 % 4 * 16 + b.val; omega))
  | ⟨3, h⟩ => exact (Window.rect_emb_val (cfg0.win 3) t _ ⟨3, h⟩).trans ((congrArg (· * 2048 + k.val) (congrFun (index_3 t) 3)).trans (by show 0 * 2048 + k.val = k.val; omega))

theorem blk8_apply (a : Fin 16) (b : Fin 32) (k : Fin 1024) : blk8 m c t (ix4 0 a b k)
    = (m (c, main_arg6) : Vec F S32768x1024 .f32) (ix2 ⟨t.val / 8 * 4096 + (t.val / 2 % 4 * 16 + a.val) * 64 + (t.val % 2 * 32 + b.val), by have := point_lt t; omega⟩ k) := by
  refine (congrArg (V m c main_v20) (funext fun x => Fin.ext ?_)).trans ((congrFun (V_v20 m c) _).trans
    (stream_apply _ ⟨t.val / 8, by have := point_lt t; omega⟩ ⟨t.val / 2 % 4 * 16 + a.val, by omega⟩ ⟨t.val % 2 * 32 + b.val, by omega⟩ k))
  match x with
  | ⟨0, h⟩ => exact (Window.rect_emb_val (cfg0.win 8) t _ ⟨0, h⟩).trans ((congrArg (· * 1 + 0) (congrFun (index_8 t) 0)).trans (by show t.val / 8 * 1 + 0 = t.val / 8; omega))
  | ⟨1, h⟩ => exact (Window.rect_emb_val (cfg0.win 8) t _ ⟨1, h⟩).trans ((congrArg (· * 16 + a.val) (congrFun (index_8 t) 1)).trans (by show t.val / 2 % 4 * 16 + a.val = t.val / 2 % 4 * 16 + a.val; omega))
  | ⟨2, h⟩ => exact (Window.rect_emb_val (cfg0.win 8) t _ ⟨2, h⟩).trans ((congrArg (· * 32 + b.val) (congrFun (index_8 t) 2)).trans (by show t.val % 2 * 32 + b.val = t.val % 2 * 32 + b.val; omega))
  | ⟨3, h⟩ => exact (Window.rect_emb_val (cfg0.win 8) t _ ⟨3, h⟩).trans ((congrArg (· * 1024 + k.val) (congrFun (index_8 t) 3)).trans (by show 0 * 1024 + k.val = k.val; omega))

theorem blk9_apply (d : Fin 1024) : blk9 m c t (ix3 0 0 d)
    = (m (c, main_arg7) : Vec F S8x1x1024 .f32) (ix3 ⟨t.val / 8, by have := point_lt t; omega⟩ 0 d) := by
  refine (congrArg (V m c main_arg7) (funext fun a => Fin.ext ?_)).trans (congrFun (V_main_arg7 m c) _)
  match a with
  | ⟨0, h⟩ => exact (Window.rect_emb_val (cfg0.win 9) t _ ⟨0, h⟩).trans ((congrArg (· * 1 + 0) (congrFun (index_9 t) 0)).trans (by show t.val / 8 * 1 + 0 = t.val / 8; omega))
  | ⟨1, h⟩ => exact (Window.rect_emb_val (cfg0.win 9) t _ ⟨1, h⟩).trans ((congrArg (· * 1 + 0) (congrFun (index_9 t) 1)).trans (by show 0 * 1 + 0 = 0; omega))
  | ⟨2, h⟩ => exact (Window.rect_emb_val (cfg0.win 9) t _ ⟨2, h⟩).trans ((congrArg (· * 1024 + d.val) (congrFun (index_9 t) 2)).trans (by show 0 * 1024 + d.val = d.val; omega))

theorem blk12_apply (d : Fin 1024) : blk12 m c t (ix3 0 0 d)
    = (m (c, main_arg10) : Vec F S8x1x1024 .f32) (ix3 ⟨t.val / 8, by have := point_lt t; omega⟩ 0 d) := by
  refine (congrArg (V m c main_arg10) (funext fun a => Fin.ext ?_)).trans (congrFun (V_main_arg10 m c) _)
  match a with
  | ⟨0, h⟩ => exact (Window.rect_emb_val (cfg0.win 12) t _ ⟨0, h⟩).trans ((congrArg (· * 1 + 0) (congrFun (index_12 t) 0)).trans (by show t.val / 8 * 1 + 0 = t.val / 8; omega))
  | ⟨1, h⟩ => exact (Window.rect_emb_val (cfg0.win 12) t _ ⟨1, h⟩).trans ((congrArg (· * 1 + 0) (congrFun (index_12 t) 1)).trans (by show 0 * 1 + 0 = 0; omega))
  | ⟨2, h⟩ => exact (Window.rect_emb_val (cfg0.win 12) t _ ⟨2, h⟩).trans ((congrArg (· * 1024 + d.val) (congrFun (index_12 t) 2)).trans (by show 0 * 1024 + d.val = d.val; omega))

theorem blk13_apply (d : Fin 1024) : blk13 m c t (ix3 0 0 d)
    = (m (c, main_arg11) : Vec F S8x1x1024 .f32) (ix3 ⟨t.val / 8, by have := point_lt t; omega⟩ 0 d) := by
  refine (congrArg (V m c main_arg11) (funext fun a => Fin.ext ?_)).trans (congrFun (V_main_arg11 m c) _)
  match a with
  | ⟨0, h⟩ => exact (Window.rect_emb_val (cfg0.win 13) t _ ⟨0, h⟩).trans ((congrArg (· * 1 + 0) (congrFun (index_13 t) 0)).trans (by show t.val / 8 * 1 + 0 = t.val / 8; omega))
  | ⟨1, h⟩ => exact (Window.rect_emb_val (cfg0.win 13) t _ ⟨1, h⟩).trans ((congrArg (· * 1 + 0) (congrFun (index_13 t) 1)).trans (by show 0 * 1 + 0 = 0; omega))
  | ⟨2, h⟩ => exact (Window.rect_emb_val (cfg0.win 13) t _ ⟨2, h⟩).trans ((congrArg (· * 1024 + d.val) (congrFun (index_13 t) 2)).trans (by show 0 * 1024 + d.val = d.val; omega))

theorem blk5_apply (d : Fin 2048) : blk5 m c t (ix2 0 d) = (m (c, main_arg4) : Vec F S2048 .f32) (ix1 d) := by
  refine (congrArg (V m c main_v3) (funext fun a => Fin.ext ?_)).trans ((congrFun (V_v3 m c) (ix2 0 d : S1x2048.Idx)).trans (long_apply _ d))
  match a with
  | ⟨0, h⟩ => exact (Window.rect_emb_val (cfg0.win 5) t _ ⟨0, h⟩).trans (by show 0 * 1 + 0 = 0; omega)
  | ⟨1, h⟩ => exact (Window.rect_emb_val (cfg0.win 5) t _ ⟨1, h⟩).trans (by show 0 * 2048 + d.val = d.val; omega)

theorem blk10_apply (d : Fin 1024) : blk10 m c t (ix2 0 d) = (m (c, main_arg8) : Vec F S1024 .f32) (ix1 d) := by
  refine (congrArg (V m c main_v21) (funext fun a => Fin.ext ?_)).trans ((congrFun (V_v21 m c) (ix2 0 d : S1x1024.Idx)).trans (vector_apply _ d))
  match a with
  | ⟨0, h⟩ => exact (Window.rect_emb_val (cfg0.win 10) t _ ⟨0, h⟩).trans (by show 0 * 1 + 0 = 0; omega)
  | ⟨1, h⟩ => exact (Window.rect_emb_val (cfg0.win 10) t _ ⟨1, h⟩).trans (by show 0 * 1024 + d.val = d.val; omega)

theorem blk11_apply (d : Fin 1024) : blk11 m c t (ix2 0 d) = (m (c, main_arg9) : Vec F S1024 .f32) (ix1 d) := by
  refine (congrArg (V m c main_v22) (funext fun a => Fin.ext ?_)).trans ((congrFun (V_v22 m c) (ix2 0 d : S1x1024.Idx)).trans (vector_apply _ d))
  match a with
  | ⟨0, h⟩ => exact (Window.rect_emb_val (cfg0.win 11) t _ ⟨0, h⟩).trans (by show 0 * 1 + 0 = 0; omega)
  | ⟨1, h⟩ => exact (Window.rect_emb_val (cfg0.win 11) t _ ⟨1, h⟩).trans (by show 0 * 1024 + d.val = d.val; omega)

theorem blk4_apply (d : Fin 2048) : blk4 m c t (ix2 0 d) = (m (c, main_arg3) : Vec F S32 .f32) (ix1 ⟨d.val / 64, by omega⟩) := by
  refine (congrArg (V m c main_v2) (funext fun a => Fin.ext ?_)).trans ((congrFun (V_v2 m c) (ix2 0 d : S1x2048.Idx)).trans (skip_apply _ d))
  match a with
  | ⟨0, h⟩ => exact (Window.rect_emb_val (cfg0.win 4) t _ ⟨0, h⟩).trans (by show 0 * 1 + 0 = 0; omega)
  | ⟨1, h⟩ => exact (Window.rect_emb_val (cfg0.win 4) t _ ⟨1, h⟩).trans (by show 0 * 2048 + d.val = d.val; omega)

theorem blk7_apply (q p : Fin 512) : blk7 m c t (ix2 q p) = perm (F := F) (ix2 q p) := by
  refine (congrArg (V m c main_v19) (funext fun a => Fin.ext ?_)).trans (congrFun (V_v19 m c) (ix2 q p : S512x512.Idx))
  match a with
  | ⟨0, h⟩ => exact (Window.rect_emb_val (cfg0.win 7) t _ ⟨0, h⟩).trans (by show 0 * 512 + q.val = q.val; omega)
  | ⟨1, h⟩ => exact (Window.rect_emb_val (cfg0.win 7) t _ ⟨1, h⟩).trans (by show 0 * 512 + p.val = p.val; omega)

/-- The gated, normed and reordered tokens of a point. -/
def kept : FVec F S512x2048 .bf16 := moved (rows (k0_pay2 (blk2 m c t) (blk4 m c t) (blk0 m c t) (blk1 m c t) (blk3 m c t)) (blk5 m c t)) (blk7 m c t)

/-- What a point leaves in the first result. -/
theorem first_left : (outsAt0 m c t).1 = k0_pay7 (kept m c t) (blk6 m c t) (blk8 m c t) (blk9 m c t) (blk10 m c t) (blk11 m c t) := by
  unfold outsAt0
  frame_out
  rfl

/-- What it leaves in the second. -/
theorem second_left : (outsAt0 m c t).2
    = k0_pay1 (k0_pay6 (kept m c t) (blk6 m c t) (blk8 m c t) (blk9 m c t) (blk10 m c t) (blk11 m c t)) (blk12 m c t) (blk13 m c t) := by
  unfold outsAt0
  frame_out
  rfl

/-- The first result's entry of a block is what the block's point leaves there. -/
theorem first_result_apply (a : Fin 16) (b : Fin 32) (k : Fin 1024) :
    ((dats m 0 c).arrAt 14 cfg0.N : Vec F S8x64x64x1024 .f32) (ix4 ⟨t.val / 8, by have := point_lt t; omega⟩ ⟨t.val / 2 % 4 * 16 + a.val, by omega⟩ ⟨t.val % 2 * 32 + b.val, by omega⟩ k)
      = k0_pay7 (kept m c t) (blk6 m c t) (blk8 m c t) (blk9 m c t) (blk10 m c t) (blk11 m c t) (ix4 0 a b k) := by
  have h := (dats m 0 c).arrAt_emb_eq_flushed 14 Value.disjoint14 t (flush0_14 t) (ix4 0 a b k)
  have hi : ((cfg0.win 14).blk t).view.emb (ix4 0 a b k) = (ix4 ⟨t.val / 8, by have := point_lt t; omega⟩ ⟨t.val / 2 % 4 * 16 + a.val, by omega⟩ ⟨t.val % 2 * 32 + b.val, by omega⟩ k : S8x64x64x1024.Idx) := by
    refine funext fun x => Fin.ext ?_
    match x with
    | ⟨0, h⟩ => exact (Window.rect_emb_val (cfg0.win 14) t _ ⟨0, h⟩).trans ((congrArg (· * 1 + 0) (congrFun (index_14 t) 0)).trans (by show t.val / 8 * 1 + 0 = t.val / 8; omega))
    | ⟨1, h⟩ => exact (Window.rect_emb_val (cfg0.win 14) t _ ⟨1, h⟩).trans ((congrArg (· * 16 + a.val) (congrFun (index_14 t) 1)).trans (by show t.val / 2 % 4 * 16 + a.val = t.val / 2 % 4 * 16 + a.val; omega))
    | ⟨2, h⟩ => exact (Window.rect_emb_val (cfg0.win 14) t _ ⟨2, h⟩).trans ((congrArg (· * 32 + b.val) (congrFun (index_14 t) 2)).trans (by show t.val % 2 * 32 + b.val = t.val % 2 * 32 + b.val; omega))
    | ⟨3, h⟩ => exact (Window.rect_emb_val (cfg0.win 14) t _ ⟨3, h⟩).trans ((congrArg (· * 1024 + k.val) (congrFun (index_14 t) 3)).trans (by show 0 * 1024 + k.val = k.val; omega))
  rw [hi] at h
  exact h.trans ((congrFun (Value.flushed14 m c t) (ix4 0 a b k)).trans (congrFun (first_left m c t) (ix4 0 a b k)))

/-- The second result's entry of a block is what the block's point leaves there. -/
theorem second_result_apply (a : Fin 16) (b : Fin 32) (k : Fin 1024) :
    ((dats m 0 c).arrAt 15 cfg0.N : Vec F S8x64x64x1024 .bf16) (ix4 ⟨t.val / 8, by have := point_lt t; omega⟩ ⟨t.val / 2 % 4 * 16 + a.val, by omega⟩ ⟨t.val % 2 * 32 + b.val, by omega⟩ k)
      = k0_pay1 (k0_pay6 (kept m c t) (blk6 m c t) (blk8 m c t) (blk9 m c t) (blk10 m c t) (blk11 m c t)) (blk12 m c t) (blk13 m c t) (ix4 0 a b k) := by
  have h := (dats m 0 c).arrAt_emb_eq_flushed 15 Value.disjoint15 t (flush0_15 t) (ix4 0 a b k)
  have hi : ((cfg0.win 15).blk t).view.emb (ix4 0 a b k) = (ix4 ⟨t.val / 8, by have := point_lt t; omega⟩ ⟨t.val / 2 % 4 * 16 + a.val, by omega⟩ ⟨t.val % 2 * 32 + b.val, by omega⟩ k : S8x64x64x1024.Idx) := by
    refine funext fun x => Fin.ext ?_
    match x with
    | ⟨0, h⟩ => exact (Window.rect_emb_val (cfg0.win 15) t _ ⟨0, h⟩).trans ((congrArg (· * 1 + 0) (congrFun (index_15 t) 0)).trans (by show t.val / 8 * 1 + 0 = t.val / 8; omega))
    | ⟨1, h⟩ => exact (Window.rect_emb_val (cfg0.win 15) t _ ⟨1, h⟩).trans ((congrArg (· * 16 + a.val) (congrFun (index_15 t) 1)).trans (by show t.val / 2 % 4 * 16 + a.val = t.val / 2 % 4 * 16 + a.val; omega))
    | ⟨2, h⟩ => exact (Window.rect_emb_val (cfg0.win 15) t _ ⟨2, h⟩).trans ((congrArg (· * 32 + b.val) (congrFun (index_15 t) 2)).trans (by show t.val % 2 * 32 + b.val = t.val % 2 * 32 + b.val; omega))
    | ⟨3, h⟩ => exact (Window.rect_emb_val (cfg0.win 15) t _ ⟨3, h⟩).trans ((congrArg (· * 1024 + k.val) (congrFun (index_15 t) 3)).trans (by show 0 * 1024 + k.val = k.val; omega))
  rw [hi] at h
  exact h.trans ((congrFun (Value.flushed15 m c t) (ix4 0 a b k)).trans (congrFun (second_left m c t) (ix4 0 a b k)))

end

section

variable (m : (ℓ : Loc nD τ sig) → Buf (Elt Ideal) ℓ) (c : Dev nD) (t : Fin grid0.N)

theorem blk6_apply (k : Fin 2048) (n : Fin 1024) : blk6 m c t (ix2 k n) = (m (c, main_arg5) : Vec Ideal S2048x1024 .f32) (ix2 k n) := by
  refine (congrArg (V m c main_v8) (funext fun a => Fin.ext ?_)).trans (congrFun (V_v8 m c) (ix2 k n : S2048x1024.Idx))
  match a with
  | ⟨0, h⟩ => exact (Window.rect_emb_val (cfg0.win 6) t _ ⟨0, h⟩).trans (by show 0 * 2048 + k.val = k.val; omega)
  | ⟨1, h⟩ => exact (Window.rect_emb_val (cfg0.win 6) t _ ⟨1, h⟩).trans (by show 0 * 1024 + n.val = n.val; omega)

/-- The gated scans at a token of the array and a column. -/
def gated (s : Fin 32768) (k : Fin 2048) : EReal :=
  mixed ((m (c, main_arg1) : Vec Ideal S32768x3072 .bf16) (ix2 s ⟨k.val, by omega⟩)) ((m (c, main_arg3) : Vec Ideal S32 .f32) (ix1 ⟨k.val / 64, by omega⟩))
    ((m (c, main_arg0) : Vec Ideal S2x32768x2048 .bf16) (ix3 0 s k)) ((m (c, main_arg0) : Vec Ideal S2x32768x2048 .bf16) (ix3 1 s k))
    ((m (c, main_arg2) : Vec Ideal S32768x2048 .bf16) (ix2 s k))

theorem gated_eq (a : Fin 32) (b : Fin 16) (k : Fin 2048) :
    k0_pay2 (blk2 m c t) (blk4 m c t) (blk0 m c t) (blk1 m c t) (blk3 m c t) (ix2 ⟨a.val * 16 + b.val, by omega⟩ k) = gated m c ⟨t.val / 8 * 4096 + (t.val % 2 * 32 + a.val) * 64 + (t.val / 2 % 4 * 16 + b.val), by have := point_lt t; omega⟩ k := by
  rw [mixed_apply]
  have ea : (⟨(a.val * 16 + b.val) / 16, by omega⟩ : Fin 32) = a := Fin.ext (by show (a.val * 16 + b.val) / 16 = a.val; omega)
  have eb : (⟨(a.val * 16 + b.val) % 16, by omega⟩ : Fin 16) = b := Fin.ext (by show (a.val * 16 + b.val) % 16 = b.val; omega)
  rw [ea, eb, blk0_apply, blk1_apply, blk2_apply, blk3_apply, blk4_apply]
  rfl

/-- The kept tokens are in row order. -/
theorem kept_eq (a : Fin 16) (b : Fin 32) (k : Fin 2048) : kept m c t (ix2 ⟨a.val * 32 + b.val, by omega⟩ k)
    = normedRow (gated m c ⟨t.val / 8 * 4096 + (t.val % 2 * 32 + b.val) * 64 + (t.val / 2 % 4 * 16 + a.val), by have := point_lt t; omega⟩)
        (fun n => (m (c, main_arg4) : Vec Ideal S2048 .f32) (ix1 n)) k := by
  unfold kept
  rw [moved_apply]
  simp only [blk7_apply, perm_apply]
  have hq : (⟨(a.val * 32 + b.val) % 32 * 16 + (a.val * 32 + b.val) / 32, by omega⟩ : Fin 512) = ⟨b.val * 16 + a.val, by omega⟩ :=
    Fin.ext (by show (a.val * 32 + b.val) % 32 * 16 + (a.val * 32 + b.val) / 32 = b.val * 16 + a.val; omega)
  rw [Columns.pick, hq, rows_apply]
  exact congrArg₂ (fun p g => normedRow p g k) (funext fun n => gated_eq m c t b a n) (funext fun n => blk5_apply m c t n)

end

end Cert.Proof.Ssd

end
-- ==== Proof.SsdRef.lean ====
/-
  The reference of the SSD mixer's output projection with the layer's first tail: its two results at an index, over the
  extended reals.
-/
module

public import proofs.«01_k».proof.Proof.SsdRow
public import proofs.«01_k».proof.Proof.HyenaOutRef
public import proofs.«01_k».proof.Proof.Gen.Reference9Ideal.Run

@[expose] public section

set_option maxRecDepth 16384

noncomputable section

namespace Cert.Proof.Ssd

open Cert.Reference9Ideal Cert.Reference9Ideal.Gen Idealize.ShloMosaic Idealize.ShloMosaic.TcCoe Idealize.SL.Sem
open Cert.Proof.Tail (refNorm refNorm_apply)
open Cert.Proof.Dense (refShift refShift_apply)
open Cert.Proof.HyenaOut (refSum refSum_apply)

section

variable {F : FTy → Type} [FloatOps F]

/-- The skip. -/
def refSkip (x : FVec F S32768x3072 .bf16) (d : FVec F S32 .f32) : FVec F S8x4096x2048 .f32 :=
  shapeCast _ (mulf (shapeCast S8x4096x32x64 (extf .f32 (extractStridedSlice S32768x2048 ![0, 0] x slices_S32768x3072_S32768x2048_0_0) bitsLt_bf16_f32)
      shapeCasts_S32768x2048_S8x4096x32x64)
    (broadcastInDim S8x4096x32x64 ![0, 1, 2, 3] bcast_S1x1x32x1_S8x4096x32x64_0_1_2_3
      (broadcastInDim S1x1x32x1 ![2, 3] bcast_S32x1_S1x1x32x1_2_3 (broadcastInDim S32x1 ![0] bcast_S32_S32x1_0 d)))) shapeCasts_S8x4096x32x64_S8x4096x2048

/-- The first scan's result by sequences. -/
def refFirst (y : FVec F S2x32768x2048 .bf16) : FVec F S8x4096x2048 .f32 :=
  shapeCast _ (extf .f32 (shapeCast S32768x2048 (extractStridedSlice S1x32768x2048 ![0, 0, 0] y slices_S2x32768x2048_S1x32768x2048_0_0_0)
    shapeCasts_S1x32768x2048_S32768x2048) bitsLt_bf16_f32) shapeCasts_S32768x2048_S8x4096x2048

/-- The second scan's. -/
def refSecond (y : FVec F S2x32768x2048 .bf16) : FVec F S8x4096x2048 .f32 :=
  shapeCast _ (extf .f32 (shapeCast S32768x2048 (extractStridedSlice S1x32768x2048 ![1, 0, 0] y slices_S2x32768x2048_S1x32768x2048_1_0_0)
    shapeCasts_S1x32768x2048_S32768x2048) bitsLt_bf16_f32) shapeCasts_S32768x2048_S8x4096x2048

/-- The gates by sequences. -/
def refZ (z : FVec F S32768x2048 .bf16) : FVec F S8x4096x2048 .f32 :=
  shapeCast _ (extf .f32 z bitsLt_bf16_f32) shapeCasts_S32768x2048_S8x4096x2048

/-- The scans' results with the skip, gated. -/
def refGated (s a b z : FVec F S8x4096x2048 .f32) : FVec F S8x4096x2048 .f32 :=
  mulf (addf (addf s a) b) (mulf z (Host.divf (broadcastInDim S8x4096x2048 ![] bcast_S_S8x4096x2048 (constant S_ .f32 0x3F800000#32))
    (addf (broadcastInDim S8x4096x2048 ![] bcast_S_S8x4096x2048 (constant S_ .f32 0x3F800000#32)) (Host.exp (Host.negf z)))))

/-- The columns in four groups, each over the root of its mean square, scaled. -/
def refGroups (p : FVec F S8x4096x4x512 .f32) (g : FVec F S4x512 .f32) : FVec F S8x4096x4x512 .f32 :=
  mulf (mulf p (broadcastInDim S8x4096x4x512 ![0, 1, 2, 3] bcast_S8x4096x4x1_S8x4096x4x512_0_1_2_3
      (Host.rsqrt (addf (Host.divf (broadcastInDim S8x4096x4x1 ![0, 1, 2] bcast_S8x4096x4_S8x4096x4x1_0_1_2
          (Host.reduceAdd (mulf p p) (constant S_ .f32 0x00000000#32) reducesTo_S8x4096x4x512_S8x4096x4_d3 h_S_))
        (broadcastInDim S8x4096x4x1 ![] bcast_S_S8x4096x4x1 (constant S_ .f32 0x44000000#32)))
        (broadcastInDim S8x4096x4x1 ![] bcast_S_S8x4096x4x1 (constant S_ .f32 0x358637BD#32))))))
    (broadcastInDim S8x4096x4x512 ![0, 1, 2, 3] bcast_S1x1x4x512_S8x4096x4x512_0_1_2_3 (broadcastInDim S1x1x4x512 ![2, 3] bcast_S4x512_S1x1x4x512_2_3 g))

/-- The rows normed. -/
def refRows (p : FVec F S8x4096x2048 .f32) (g : FVec F S2048 .f32) : FVec F S8x4096x2048 .f32 :=
  shapeCast _ (refGroups (shapeCast _ p shapeCasts_S8x4096x2048_S8x4096x4x512) (shapeCast _ g shapeCasts_S2048_S4x512)) shapeCasts_S8x4096x4x512_S8x4096x2048

/-- Columns of the grid to rows. -/
def refTurn (x : FVec F S8x4096x1024 .f32) : FVec F S8x4096x1024 .f32 :=
  shapeCast _ (transpose S8x64x64x1024 [0, 2, 1, 3] (shapeCast S8x64x64x1024 x shapeCasts_S8x4096x1024_S8x64x64x1024) transposes_S8x64x64x1024_S8x64x64x1024_0_2_1_3)
    shapeCasts_S8x64x64x1024_S8x4096x1024

/-- The projection. -/
def refProduct (x : FVec F S8x4096x2048 .f32) (w : FVec F S2048x1024 .f32) : FVec F S8x4096x1024 .f32 :=
  Host.dotGeneral dot_S8x4096x2048_S2048x1024_S8x4096x1024_2_0_01_1_n_n none x w

end

theorem refSkip_apply (x : FVec Ideal S32768x3072 .bf16) (d : FVec Ideal S32 .f32) (e : Fin 8) (q : Fin 4096) (k : Fin 2048) :
    refSkip (F := Ideal) x d (ix3 e q k) = x (ix2 ⟨e.val * 4096 + q.val, by omega⟩ ⟨k.val, by omega⟩) * d (ix1 ⟨k.val / 64, by omega⟩) := by
  pointwise [refSkip]

theorem refFirst_apply (y : FVec Ideal S2x32768x2048 .bf16) (e : Fin 8) (q : Fin 4096) (k : Fin 2048) :
    refFirst (F := Ideal) y (ix3 e q k) = y (ix3 0 ⟨e.val * 4096 + q.val, by omega⟩ k) := by
  pointwise [refFirst]

theorem refSecond_apply (y : FVec Ideal S2x32768x2048 .bf16) (e : Fin 8) (q : Fin 4096) (k : Fin 2048) :
    refSecond (F := Ideal) y (ix3 e q k) = y (ix3 1 ⟨e.val * 4096 + q.val, by omega⟩ k) := by
  pointwise [refSecond]

theorem refZ_apply (z : FVec Ideal S32768x2048 .bf16) (e : Fin 8) (q : Fin 4096) (k : Fin 2048) :
    refZ (F := Ideal) z (ix3 e q k) = z (ix2 ⟨e.val * 4096 + q.val, by omega⟩ k) := by
  pointwise [refZ]

theorem refGated_apply (s a b z : FVec Ideal S8x4096x2048 .f32) (e : Fin 8) (q : Fin 4096) (k : Fin 2048) :
    refGated (F := Ideal) s a b z (ix3 e q k) = (s (ix3 e q k) + a (ix3 e q k) + b (ix3 e q k)) * (z (ix3 e q k) * Ideal.logistic (z (ix3 e q k))) := by
  unfold Ideal.logistic
  pointwise [refGated]

theorem refGroups_apply (p : FVec Ideal S8x4096x4x512 .f32) (g : FVec Ideal S4x512 .f32) (e : Fin 8) (q : Fin 4096) (a : Fin 4) (n : Fin 512) :
    refGroups (F := Ideal) p g (ix4 e q a n) = groupNorm (fun k => p (ix4 e q a k)) n * g (ix2 a n) := by
  unfold groupNorm
  pointwise [refGroups]

/-- The columns in four groups. -/
theorem cut_apply (p : FVec Ideal S8x4096x2048 .f32) (e : Fin 8) (q : Fin 4096) (a : Fin 4) (n : Fin 512) :
    shapeCast S8x4096x4x512 p shapeCasts_S8x4096x2048_S8x4096x4x512 (ix4 e q a n) = p (ix3 e q ⟨a.val * 512 + n.val, by omega⟩) := by
  pointwise

/-- The groups side by side. -/
theorem joined_apply (p : FVec Ideal S8x4096x4x512 .f32) (e : Fin 8) (q : Fin 4096) (k : Fin 2048) :
    shapeCast S8x4096x2048 p shapeCasts_S8x4096x4x512_S8x4096x2048 (ix3 e q k) = p (ix4 e q ⟨k.val / 512, by omega⟩ ⟨k.val % 512, Nat.mod_lt _ (by decide)⟩) := by
  pointwise

/-- The scale in four groups. -/
theorem scale_apply (g : FVec Ideal S2048 .f32) (a : Fin 4) (n : Fin 512) :
    shapeCast S4x512 g shapeCasts_S2048_S4x512 (ix2 a n) = g (ix1 ⟨a.val * 512 + n.val, by omega⟩) := by
  pointwise

theorem refRows_apply (p : FVec Ideal S8x4096x2048 .f32) (g : FVec Ideal S2048 .f32) (e : Fin 8) (q : Fin 4096) (k : Fin 2048) :
    refRows (F := Ideal) p g (ix3 e q k) = normedRow (fun n => p (ix3 e q n)) (fun n => g (ix1 n)) k := by
  unfold refRows normedRow
  rw [joined_apply, refGroups_apply, scale_apply]
  simp only [cut_apply]
  refine congrArg (fun n => groupNorm _ _ * g (ix1 n)) (Fin.ext ?_)
  show k.val / 512 * 512 + k.val % 512 = k.val
  omega

theorem refTurn_apply (x : FVec Ideal S8x4096x1024 .f32) (e : Fin 8) (i j : Fin 64) (d : Fin 1024) :
    refTurn (F := Ideal) x (ix3 e ⟨i.val * 64 + j.val, by omega⟩ d) = x (ix3 e ⟨j.val * 64 + i.val, by omega⟩ d) := by
  have h : ∀ q : Fin 4096, refTurn (F := Ideal) x (ix3 e q d) = x (ix3 e ⟨q.val % 64 * 64 + q.val / 64, by omega⟩ d) := fun q => by pointwise [refTurn]
  refine (h _).trans (congrArg x (congrArg (ix3 e · d) (Fin.ext ?_)))
  show (i.val * 64 + j.val) % 64 * 64 + (i.val * 64 + j.val) / 64 = j.val * 64 + i.val
  omega

theorem refProduct_apply (x : FVec Ideal S8x4096x2048 .f32) (w : FVec Ideal S2048x1024 .f32) (e : Fin 8) (q : Fin 4096) (d : Fin 1024) :
    refProduct (F := Ideal) x w (ix3 e q d) = entry (fun k => x (ix3 e q k)) (fun k => w (ix2 k d)) := by
  unfold entry
  pointwise [refProduct]

/-- The rows of a sequence on the grid. -/
theorem laid_wide_apply (x : FVec Ideal S8x4096x1024 .f32) (e : Fin 8) (i j : Fin 64) (d : Fin 1024) :
    shapeCast S8x64x64x1024 x shapeCasts_S8x4096x1024_S8x64x64x1024 (ix4 e i j d) = x (ix3 e ⟨i.val * 64 + j.val, by omega⟩ d) := by
  pointwise

/-- The same in the narrow format. -/
theorem laid_narrow_apply (x : FVec Ideal S8x4096x1024 .bf16) (e : Fin 8) (i j : Fin 64) (d : Fin 1024) :
    shapeCast S8x64x64x1024 x shapeCasts_S8x4096x1024_S8x64x64x1024 (ix4 e i j d) = x (ix3 e ⟨i.val * 64 + j.val, by omega⟩ d) := by
  pointwise

/-- The gated scans at a token of the array and a column. -/
def token (y : FVec Ideal S2x32768x2048 .bf16) (x : FVec Ideal S32768x3072 .bf16) (z : FVec Ideal S32768x2048 .bf16) (k0 : FVec Ideal S32 .f32)
    (s : Fin 32768) (k : Fin 2048) : EReal :=
  mixed (x (ix2 s ⟨k.val, by omega⟩)) (k0 (ix1 ⟨k.val / 64, by omega⟩)) (y (ix3 0 s k)) (y (ix3 1 s k)) (z (ix2 s k))

/-- The normed stream at a row and a column of the grid. -/
def stream (y : FVec Ideal S2x32768x2048 .bf16) (x : FVec Ideal S32768x3072 .bf16) (z : FVec Ideal S32768x2048 .bf16) (k0 : FVec Ideal S32 .f32)
    (ng : FVec Ideal S2048 .f32) (w : FVec Ideal S2048x1024 .f32) (h : FVec Ideal S32768x1024 .f32) (gate : FVec Ideal S8x1x1024 .f32)
    (g b : FVec Ideal S1024 .f32) (e : Fin 8) (i j : Fin 64) (d : Fin 1024) : EReal :=
  rowNorm (rowMix (fun k => h (ix2 ⟨e.val * 4096 + i.val * 64 + j.val, by omega⟩ k)) (fun k => gate (ix3 e 0 k))
      (fun n => entry (normedRow (token y x z k0 ⟨e.val * 4096 + j.val * 64 + i.val, by omega⟩) (fun k => ng (ix1 k))) (fun k => w (ix2 k n))))
    (fun k => g (ix1 k)) (fun k => b (ix1 k)) d

section

variable (y : FVec Ideal S2x32768x2048 .bf16) (x : FVec Ideal S32768x3072 .bf16) (z : FVec Ideal S32768x2048 .bf16) (k0 : FVec Ideal S32 .f32)
  (ng : FVec Ideal S2048 .f32) (w : FVec Ideal S2048x1024 .f32) (h : FVec Ideal S32768x1024 .f32) (gate : FVec Ideal S8x1x1024 .f32) (g b : FVec Ideal S1024 .f32)

/-- The gated scans. -/
def refTokens : FVec Ideal S8x4096x2048 .f32 := refGated (F := Ideal) (refSkip x k0) (refFirst y) (refSecond y) (refZ z)

theorem refTokens_apply (e : Fin 8) (q : Fin 4096) (k : Fin 2048) : refTokens y x z k0 (ix3 e q k) = token y x z k0 ⟨e.val * 4096 + q.val, by omega⟩ k := by
  unfold refTokens token mixed
  rw [refGated_apply, refSkip_apply, refFirst_apply, refSecond_apply, refZ_apply]

/-- The normed stream. -/
def refStream : FVec Ideal S8x4096x1024 .f32 :=
  refNorm (F := Ideal) (refSum h gate (refTurn (refProduct (refRows (refTokens y x z k0) ng) w))) g b

theorem refStream_apply (e : Fin 8) (i j : Fin 64) (d : Fin 1024) :
    refStream y x z k0 ng w h gate g b (ix3 e ⟨i.val * 64 + j.val, by omega⟩ d) = stream y x z k0 ng w h gate g b e i j d := by
  unfold refStream stream
  refine (refNorm_apply _ _ _ e _ d).trans (congrArg (fun p => rowNorm p _ _ d) (funext fun k => (refSum_apply _ _ _ e _ k).trans ?_))
  have hr : (⟨e.val * 4096 + (i.val * 64 + j.val), by omega⟩ : Fin 32768) = ⟨e.val * 4096 + i.val * 64 + j.val, by omega⟩ := Fin.ext (by
    show e.val * 4096 + (i.val * 64 + j.val) = e.val * 4096 + i.val * 64 + j.val; omega)
  have hc : (⟨e.val * 4096 + (j.val * 64 + i.val), by omega⟩ : Fin 32768) = ⟨e.val * 4096 + j.val * 64 + i.val, by omega⟩ := Fin.ext (by
    show e.val * 4096 + (j.val * 64 + i.val) = e.val * 4096 + j.val * 64 + i.val; omega)
  refine congrArg₂ (fun u p => rowMix u _ p k) (funext fun l => congrArg (fun r => h (ix2 r l)) hr) (funext fun n => ?_)
  refine (refTurn_apply _ e i j n).trans ((refProduct_apply _ _ e _ n).trans (congrArg (fun p => entry p _) (funext fun l => ?_)))
  refine (refRows_apply _ _ e _ l).trans (congrArg (fun p => normedRow p _ l) (funext fun n' => ?_))
  rw [refTokens_apply, hc]

end

section

variable (m : (ℓ : Loc nD τ sig) → Buf (Elt Ideal) ℓ) (c : Dev nD)

/-- The normed stream, of the program's arguments. -/
def refOut : FVec Ideal S8x4096x1024 .f32 :=
  refStream (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

theorem first_eq : Value.res_out0 m c = shapeCast S8x64x64x1024 (refOut m c) shapeCasts_S8x4096x1024_S8x64x64x1024 := rfl

theorem second_eq : Value.res_out1 m c = shapeCast S8x64x64x1024
    (truncf .bf16 (refShift (F := Ideal) (refOut m c) (m ((c.tc : Thread nD τ).loc main_arg10)) (m ((c.tc : Thread nD τ).loc main_arg11))) bitsLt_bf16_f32)
    shapeCasts_S8x4096x1024_S8x64x64x1024 := rfl

variable (e : Fin 8) (i j : Fin 64) (d : Fin 1024)

/-- The normed stream at a row and a column of the grid, of the program's arguments. -/
def refRow : EReal :=
  stream (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) e i j d

theorem refOut_apply : refOut m c (ix3 e ⟨i.val * 64 + j.val, by omega⟩ d) = refRow m c e i j d := refStream_apply _ _ _ _ _ _ _ _ _ _ e i j d

theorem first_apply : Value.res_out0 m c (ix4 e i j d : S8x64x64x1024.Idx) = refRow m c e i j d := by
  rw [first_eq]
  exact (laid_wide_apply _ e i j d).trans (refOut_apply m c e i j d)

theorem second_apply : Value.res_out1 m c (ix4 e i j d : S8x64x64x1024.Idx)
    = refRow m c e i j d * (1 + (m ((c.tc : Thread nD τ).loc main_arg10) : FVec Ideal S8x1x1024 .f32) (ix3 e 0 d))
      + (m ((c.tc : Thread nD τ).loc main_arg11) : FVec Ideal S8x1x1024 .f32) (ix3 e 0 d) := by
  rw [second_eq]
  refine (laid_narrow_apply _ e i j d).trans ((refShift_apply _ _ _ e _ d).trans ?_)
  rw [refOut_apply]

end

end Cert.Proof.Ssd

end
-- ==== Proof.SsdAlgebraic.lean ====
/-
  The claims of the SSD mixer's output projection with the layer's first tail: arguments unchanged and counters at zero, and,
  over the extended reals, the program's and the reference's results the same.
-/
module

public import proofs.«01_k».proof.Defs
public import proofs.«01_k».proof.Proof.SsdOut
public import proofs.«01_k».proof.Proof.SsdRef
public import proofs.«01_k».proof.Proof.Gen.Kernel9.Frame

@[expose] public section

set_option maxRecDepth 16384

noncomputable section

namespace Cert.Proof.Ssd

open Cert.Kernel9Ideal Cert.Kernel9Ideal.Gen Idealize.ShloMosaic Idealize.ShloMosaic.TcCoe Idealize.SL.Sem

theorem frame_kernel : Cert.quiescent_Kernel9 (hKernel9 := Cert.Kernel9.Gen.facts) := fun m ρ _ => Cert.Kernel9.Gen.frame m ρ

theorem frame_ideal : Cert.quiescent_Kernel9Ideal (hKernel9Ideal := Cert.Kernel9Ideal.Gen.facts) := fun m ρ _ => Cert.Kernel9Ideal.Gen.frame m ρ

theorem frame_reference : Cert.quiescent_Reference9Ideal (hReference9Ideal := Cert.Reference9Ideal.Gen.facts) := fun m ρ _ =>
  (θ_run Cert.Reference9Ideal.defs _ _).mono (fun r h => ⟨fun c => (h c).2.2, sem_eq_zero_of_no_sems (by decide) r.2⟩) (Cert.Reference9Ideal.Value.run m ρ)

section

variable (m : (ℓ : Loc nD τ sig) → Buf (Elt Ideal) ℓ) (c : Dev nD)

/-- The point of a row and a column of a sequence's grid. -/
def pointOf (e : Fin 8) (i j : Fin 64) : Fin grid0.N := ⟨8 * e.val + 2 * (i.val / 16) + j.val / 32, by rw [points]; omega⟩

/-- The row within the point's block. -/
def rowOf (i : Fin 64) : Fin 16 := ⟨i.val % 16, Nat.mod_lt _ (by decide)⟩

/-- The column within it. -/
def columnOf (j : Fin 64) : Fin 32 := ⟨j.val % 32, Nat.mod_lt _ (by decide)⟩

variable (e : Fin 8) (i j : Fin 64)

theorem seq_val : (pointOf e i j).val / 8 = e.val := by
  show (8 * e.val + 2 * (i.val / 16) + j.val / 32) / 8 = e.val; omega

theorem row_val : (pointOf e i j).val / 2 % 4 * 16 + (rowOf i).val = i.val := by
  show (8 * e.val + 2 * (i.val / 16) + j.val / 32) / 2 % 4 * 16 + i.val % 16 = i.val; omega

theorem column_val : (pointOf e i j).val % 2 * 32 + (columnOf j).val = j.val := by
  show (8 * e.val + 2 * (i.val / 16) + j.val / 32) % 2 * 32 + j.val % 32 = j.val; omega

theorem seq_eq (p : (pointOf e i j).val / 8 < 8) : (⟨(pointOf e i j).val / 8, p⟩ : Fin 8) = e := Fin.ext (seq_val e i j)

theorem row_eq (p : (pointOf e i j).val / 2 % 4 * 16 + (rowOf i).val < 64) : (⟨(pointOf e i j).val / 2 % 4 * 16 + (rowOf i).val, p⟩ : Fin 64) = i :=
  Fin.ext (row_val e i j)

theorem column_eq (p : (pointOf e i j).val % 2 * 32 + (columnOf j).val < 64) : (⟨(pointOf e i j).val % 2 * 32 + (columnOf j).val, p⟩ : Fin 64) = j :=
  Fin.ext (column_val e i j)

theorem by_rows (p : (pointOf e i j).val / 8 * 4096 + ((pointOf e i j).val / 2 % 4 * 16 + (rowOf i).val) * 64 + ((pointOf e i j).val % 2 * 32 + (columnOf j).val) < 32768) :
    (⟨(pointOf e i j).val / 8 * 4096 + ((pointOf e i j).val / 2 % 4 * 16 + (rowOf i).val) * 64 + ((pointOf e i j).val % 2 * 32 + (columnOf j).val), p⟩ : Fin 32768)
      = ⟨e.val * 4096 + i.val * 64 + j.val, by omega⟩ :=
  Fin.ext (by
    show (pointOf e i j).val / 8 * 4096 + ((pointOf e i j).val / 2 % 4 * 16 + (rowOf i).val) * 64 + ((pointOf e i j).val % 2 * 32 + (columnOf j).val) = e.val * 4096 + i.val * 64 + j.val
    rw [seq_val, row_val, column_val])

theorem by_columns (p : (pointOf e i j).val / 8 * 4096 + ((pointOf e i j).val % 2 * 32 + (columnOf j).val) * 64 + ((pointOf e i j).val / 2 % 4 * 16 + (rowOf i).val) < 32768) :
    (⟨(pointOf e i j).val / 8 * 4096 + ((pointOf e i j).val % 2 * 32 + (columnOf j).val) * 64 + ((pointOf e i j).val / 2 % 4 * 16 + (rowOf i).val), p⟩ : Fin 32768)
      = ⟨e.val * 4096 + j.val * 64 + i.val, by omega⟩ :=
  Fin.ext (by
    show (pointOf e i j).val / 8 * 4096 + ((pointOf e i j).val % 2 * 32 + (columnOf j).val) * 64 + ((pointOf e i j).val / 2 % 4 * 16 + (rowOf i).val) = e.val * 4096 + j.val * 64 + i.val
    rw [seq_val, row_val, column_val])

variable (d : Fin 1024)

/-- The normed stream at a row and a column of the grid, of the program's arguments. -/
def row : EReal :=
  stream (m (c, main_arg0)) (m (c, main_arg1)) (m (c, main_arg2)) (m (c, main_arg3)) (m (c, main_arg4)) (m (c, main_arg5)) (m (c, main_arg6))
    (m (c, main_arg7)) (m (c, main_arg8)) (m (c, main_arg9)) e i j d

theorem tail_eq : k0_pay6 (kept m c (pointOf e i j)) (blk6 m c (pointOf e i j)) (blk8 m c (pointOf e i j)) (blk9 m c (pointOf e i j)) (blk10 m c (pointOf e i j))
    (blk11 m c (pointOf e i j)) (ix2 ⟨(rowOf i).val * 32 + (columnOf j).val, by omega⟩ d) = row m c e i j d := by
  have ha : (⟨((rowOf i).val * 32 + (columnOf j).val) / 32, by omega⟩ : Fin 16) = rowOf i := Fin.ext (by
    show ((rowOf i).val * 32 + (columnOf j).val) / 32 = (rowOf i).val; omega)
  have hb : (⟨((rowOf i).val * 32 + (columnOf j).val) % 32, by omega⟩ : Fin 32) = columnOf j := Fin.ext (by
    show ((rowOf i).val * 32 + (columnOf j).val) % 32 = (columnOf j).val; omega)
  refine (tail_apply _ _ _ _ _ _ _ d).trans ?_
  unfold row stream
  rw [ha, hb]
  simp only [kept_eq, blk6_apply, blk8_apply, blk9_apply, blk10_apply, blk11_apply, by_rows, by_columns, seq_eq]
  rfl

theorem first_program : ((dats m 0 c).arrAt 14 cfg0.N : Vec Ideal S8x64x64x1024 .f32) (ix4 e i j d) = row m c e i j d := by
  have h := first_result_apply m c (pointOf e i j) (rowOf i) (columnOf j) d
  rw [seq_eq, row_eq, column_eq] at h
  exact h.trans ((laid_apply _ _ _ _ _ _ _ _ d).trans (tail_eq m c e i j d))

theorem second_program : ((dats m 0 c).arrAt 15 cfg0.N : Vec Ideal S8x64x64x1024 .bf16) (ix4 e i j d)
    = row m c e i j d * (1 + (m (c, main_arg10) : Vec Ideal S8x1x1024 .f32) (ix3 e 0 d)) + (m (c, main_arg11) : Vec Ideal S8x1x1024 .f32) (ix3 e 0 d) := by
  have h := second_result_apply m c (pointOf e i j) (rowOf i) (columnOf j) d
  rw [seq_eq, row_eq, column_eq] at h
  refine h.trans ((shift_apply _ _ _ _ _ d).trans ?_)
  rw [tail_eq, blk12_apply, blk13_apply, seq_eq]

end

theorem algebraic : Cert.algebraic_Kernel9Ideal_Reference9Ideal (hKernel9Ideal := Cert.Kernel9Ideal.Gen.facts)
    (hReference9Ideal := Cert.Reference9Ideal.Gen.facts) := by
  intro m g m' g' _ hargs
  refine ⟨fun c => (dats m 0 c).arrAt 14 cfg0.N, fun c => (dats m 0 c).arrAt 15 cfg0.N, Value.run_blocks m g, ?_⟩
  refine (θ_run Cert.Reference9Ideal.defs _ _).mono (fun r h c => ⟨(h c).1.trans ?_, (h c).2.1.trans ?_, (h c).2.2⟩) (Cert.Reference9Ideal.Value.run m' g')
  all_goals
    obtain ⟨e0, e1, e2, e3, e4, e5, e6, e7, e8, e9, e10, e11⟩ := hargs c
    refine funext fun (x : S8x64x64x1024.Idx) => ?_
    have hx : x = ix4 (x 0) (x 1) (x 2) (x 3) := by
      refine funext fun a => ?_
      match a with
      | ⟨0, _⟩ => rfl
      | ⟨1, _⟩ => rfl
      | ⟨2, _⟩ => rfl
      | ⟨3, _⟩ => rfl
    rw [hx]
  · refine (first_apply m' c (x 0) (x 1) (x 2) (x 3)).trans ?_
    unfold refRow
    rw [e0, e1, e2, e3, e4, e5, e6, e7, e8, e9]
    exact (first_program m c (x 0) (x 1) (x 2) (x 3)).symm
  · refine (second_apply m' c (x 0) (x 1) (x 2) (x 3)).trans ?_
    unfold refRow
    rw [e0, e1, e2, e3, e4, e5, e6, e7, e8, e9, e10, e11]
    exact (second_program m c (x 0) (x 1) (x 2) (x 3)).symm

end Cert.Proof.Ssd

end
-- ==== Proof.lean ====
/-
  The claims, put together from the modules under Proof/.
-/
module

public import proofs.«01_k».proof.Defs
public import proofs.«01_k».proof.Proof.Frames
public import proofs.«01_k».proof.Proof.Algebraic
public import proofs.«01_k».proof.Proof.TailAlgebraic
public import proofs.«01_k».proof.Proof.DenseAlgebraic
public import proofs.«01_k».proof.Proof.QkvAlgebraic
public import proofs.«01_k».proof.Proof.XbcAlgebraic
public import proofs.«01_k».proof.Proof.GatesAlgebraic
public import proofs.«01_k».proof.Proof.HyenaAlgebraic
public import proofs.«01_k».proof.Proof.HyenaOutAlgebraic
public import proofs.«01_k».proof.Proof.SsdAlgebraic

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Pre_weights_nonnegative.Gen.facts, frame_kernel, frame_ideal, frame_ideal_pre, frame_reference, frame_reference_pre,
    Tail.frame_kernel, Tail.frame_ideal, Tail.frame_reference, Dense.frame_kernel, Dense.frame_ideal, Dense.frame_reference,
    Qkv.frame_kernel, Qkv.frame_ideal, Qkv.frame_reference,
    Xbc.frame_kernel, Xbc.frame_ideal, Xbc.frame_reference,
    Gates.frame_kernel, Gates.frame_ideal, Gates.frame_reference,
    Hyena.frame_kernel, Hyena.frame_ideal, Hyena.frame_reference,
    HyenaOut.frame_kernel, HyenaOut.frame_ideal, HyenaOut.frame_reference,
    Ssd.frame_kernel, Ssd.frame_ideal, Ssd.frame_reference,
    trivial, algebraic, trivial, Tail.algebraic, trivial, Dense.algebraic,
    trivial, Qkv.algebraic, trivial, Xbc.algebraic, trivial, Gates.algebraic, trivial, Hyena.algebraic,
    trivial, HyenaOut.algebraic, trivial, Ssd.algebraic⟩

end Cert.Proof

end
